-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_SguKernel (m : (ℓ : Loc Cert.SguKernel.nD Cert.SguKernel.τ Cert.SguKernel.sig) → Buf (Elt Bits) ℓ) : Prop :=
  True

def Pre_SguKernelIdeal (m : (ℓ : Loc Cert.SguKernelIdeal.nD Cert.SguKernelIdeal.τ Cert.SguKernelIdeal.sig) → Buf (Elt Ideal) ℓ) : Prop :=
  True

def Pre_SguKernelIdeal_sgu_finite [hPre_sgu_finite : Cert.Pre_sgu_finite.Facts] (m : (ℓ : Loc Cert.SguKernelIdeal.nD Cert.SguKernelIdeal.τ Cert.SguKernelIdeal.sig) → Buf (Elt Ideal) ℓ) : Prop :=
  ∀ c : Dev Cert.SguKernelIdeal.nD,
    (Cert.Pre_sgu_finite.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))).1 = (fun _ => 1#1)
    ∧ (Cert.Pre_sgu_finite.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))).2.1 = (fun _ => 1#1)
    ∧ (Cert.Pre_sgu_finite.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))).2.2.1 = (fun _ => 1#1)
    ∧ (Cert.Pre_sgu_finite.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))).2.2.2.1 = (fun _ => 1#1)
    ∧ (Cert.Pre_sgu_finite.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))).2.2.2.2.1 = (fun _ => 1#1)
    ∧ (Cert.Pre_sgu_finite.fn (F := Ideal) (m ((c.tc : Thread Cert.SguKernelIdeal.nD Cert.SguKernelIdeal.τ).loc Cert.SguKernelIdeal.main_arg0)) (m ((c.tc : Thread Cert.SguKernelIdeal.nD Cert.SguKernelIdeal.τ).loc Cert.SguKernelIdeal.main_arg1)) (m ((c.tc : Thread Cert.SguKernelIdeal.nD Cert.SguKernelIdeal.τ).loc Cert.SguKernelIdeal.main_arg2)) (m ((c.tc : Thread Cert.SguKernelIdeal.nD Cert.SguKernelIdeal.τ).loc Cert.SguKernelIdeal.main_arg3)) (m ((c.tc : Thread Cert.SguKernelIdeal.nD Cert.SguKernelIdeal.τ).loc Cert.SguKernelIdeal.main_arg4)) (m ((c.tc : Thread Cert.SguKernelIdeal.nD Cert.SguKernelIdeal.τ).loc Cert.SguKernelIdeal.main_arg5))).2.2.2.2.2 = (fun _ => 1#1)

def Pre_SguReferenceIdeal (m : (ℓ : Loc Cert.SguReferenceIdeal.nD Cert.SguReferenceIdeal.τ Cert.SguReferenceIdeal.sig) → Buf (Elt Ideal) ℓ) : Prop :=
  True

def Pre_SguReferenceIdeal_sgu_finite [hPre_sgu_finite : Cert.Pre_sgu_finite.Facts] (m : (ℓ : Loc Cert.SguReferenceIdeal.nD Cert.SguReferenceIdeal.τ Cert.SguReferenceIdeal.sig) → Buf (Elt Ideal) ℓ) : Prop :=
  ∀ c : Dev Cert.SguReferenceIdeal.nD,
    (Cert.Pre_sgu_finite.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))).1 = (fun _ => 1#1)
    ∧ (Cert.Pre_sgu_finite.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))).2.1 = (fun _ => 1#1)
    ∧ (Cert.Pre_sgu_finite.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))).2.2.1 = (fun _ => 1#1)
    ∧ (Cert.Pre_sgu_finite.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))).2.2.2.1 = (fun _ => 1#1)
    ∧ (Cert.Pre_sgu_finite.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))).2.2.2.2.1 = (fun _ => 1#1)
    ∧ (Cert.Pre_sgu_finite.fn (F := Ideal) (m ((c.tc : Thread Cert.SguReferenceIdeal.nD Cert.SguReferenceIdeal.τ).loc Cert.SguReferenceIdeal.main_arg0)) (m ((c.tc : Thread Cert.SguReferenceIdeal.nD Cert.SguReferenceIdeal.τ).loc Cert.SguReferenceIdeal.main_arg1)) (m ((c.tc : Thread Cert.SguReferenceIdeal.nD Cert.SguReferenceIdeal.τ).loc Cert.SguReferenceIdeal.main_arg2)) (m ((c.tc : Thread Cert.SguReferenceIdeal.nD Cert.SguReferenceIdeal.τ).loc Cert.SguReferenceIdeal.main_arg3)) (m ((c.tc : Thread Cert.SguReferenceIdeal.nD Cert.SguReferenceIdeal.τ).loc Cert.SguReferenceIdeal.main_arg4)) (m ((c.tc : Thread Cert.SguReferenceIdeal.nD Cert.SguReferenceIdeal.τ).loc Cert.SguReferenceIdeal.main_arg5))).2.2.2.2.2 = (fun _ => 1#1)

def Pre_InprojKernel (m : (ℓ : Loc Cert.InprojKernel.nD Cert.InprojKernel.τ Cert.InprojKernel.sig) → Buf (Elt Bits) ℓ) : Prop :=
  True

def Pre_InprojKernelIdeal (m : (ℓ : Loc Cert.InprojKernelIdeal.nD Cert.InprojKernelIdeal.τ Cert.InprojKernelIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_SgufwdKernel (m : (ℓ : Loc Cert.SgufwdKernel.nD Cert.SgufwdKernel.τ Cert.SgufwdKernel.sig) → Buf (Elt Bits) ℓ) : Prop :=
  True

def Pre_SgufwdKernelIdeal (m : (ℓ : Loc Cert.SgufwdKernelIdeal.nD Cert.SgufwdKernelIdeal.τ Cert.SgufwdKernelIdeal.sig) → Buf (Elt Ideal) ℓ) : Prop :=
  True

def Pre_SgufwdReferenceIdeal (m : (ℓ : Loc Cert.SgufwdReferenceIdeal.nD Cert.SgufwdReferenceIdeal.τ Cert.SgufwdReferenceIdeal.sig) → Buf (Elt Ideal) ℓ) : Prop :=
  True

def Pre_RnnfwdKernel (m : (ℓ : Loc Cert.RnnfwdKernel.nD Cert.RnnfwdKernel.τ Cert.RnnfwdKernel.sig) → Buf (Elt Bits) ℓ) : Prop :=
  True

def Pre_RnnfwdKernelIdeal (m : (ℓ : Loc Cert.RnnfwdKernelIdeal.nD Cert.RnnfwdKernelIdeal.τ Cert.RnnfwdKernelIdeal.sig) → Buf (Elt Ideal) ℓ) : Prop :=
  True

def Pre_RnnfwdKernelIdeal_rnn_gap [hPre_rnn_gap : Cert.Pre_rnn_gap.Facts] (m : (ℓ : Loc Cert.RnnfwdKernelIdeal.nD Cert.RnnfwdKernelIdeal.τ Cert.RnnfwdKernelIdeal.sig) → Buf (Elt Ideal) ℓ) : Prop :=
  ∀ c : Dev Cert.RnnfwdKernelIdeal.nD,
    (Cert.Pre_rnn_gap.fn (F := Ideal) (m ((c.tc : Thread Cert.RnnfwdKernelIdeal.nD Cert.RnnfwdKernelIdeal.τ).loc Cert.RnnfwdKernelIdeal.main_arg0)) (m ((c.tc : Thread Cert.RnnfwdKernelIdeal.nD Cert.RnnfwdKernelIdeal.τ).loc Cert.RnnfwdKernelIdeal.main_arg1)) (m ((c.tc : Thread Cert.RnnfwdKernelIdeal.nD Cert.RnnfwdKernelIdeal.τ).loc Cert.RnnfwdKernelIdeal.main_arg2)) (m ((c.tc : Thread Cert.RnnfwdKernelIdeal.nD Cert.RnnfwdKernelIdeal.τ).loc Cert.RnnfwdKernelIdeal.main_arg3)) (m ((c.tc : Thread Cert.RnnfwdKernelIdeal.nD Cert.RnnfwdKernelIdeal.τ).loc Cert.RnnfwdKernelIdeal.main_arg4)) (m ((c.tc : Thread Cert.RnnfwdKernelIdeal.nD Cert.RnnfwdKernelIdeal.τ).loc Cert.RnnfwdKernelIdeal.main_arg5)) (m ((c.tc : Thread Cert.RnnfwdKernelIdeal.nD Cert.RnnfwdKernelIdeal.τ).loc Cert.RnnfwdKernelIdeal.main_arg6)) (m ((c.tc : Thread Cert.RnnfwdKernelIdeal.nD Cert.RnnfwdKernelIdeal.τ).loc Cert.RnnfwdKernelIdeal.main_arg7))) = (fun _ => 1#1)

def Pre_RnnfwdReferenceIdeal (m : (ℓ : Loc Cert.RnnfwdReferenceIdeal.nD Cert.RnnfwdReferenceIdeal.τ Cert.RnnfwdReferenceIdeal.sig) → Buf (Elt Ideal) ℓ) : Prop :=
  True

def Pre_RnnfwdReferenceIdeal_rnn_gap [hPre_rnn_gap : Cert.Pre_rnn_gap.Facts] (m : (ℓ : Loc Cert.RnnfwdReferenceIdeal.nD Cert.RnnfwdReferenceIdeal.τ Cert.RnnfwdReferenceIdeal.sig) → Buf (Elt Ideal) ℓ) : Prop :=
  ∀ c : Dev Cert.RnnfwdReferenceIdeal.nD,
    (Cert.Pre_rnn_gap.fn (F := Ideal) (m ((c.tc : Thread Cert.RnnfwdReferenceIdeal.nD Cert.RnnfwdReferenceIdeal.τ).loc Cert.RnnfwdReferenceIdeal.main_arg0)) (m ((c.tc : Thread Cert.RnnfwdReferenceIdeal.nD Cert.RnnfwdReferenceIdeal.τ).loc Cert.RnnfwdReferenceIdeal.main_arg1)) (m ((c.tc : Thread Cert.RnnfwdReferenceIdeal.nD Cert.RnnfwdReferenceIdeal.τ).loc Cert.RnnfwdReferenceIdeal.main_arg2)) (m ((c.tc : Thread Cert.RnnfwdReferenceIdeal.nD Cert.RnnfwdReferenceIdeal.τ).loc Cert.RnnfwdReferenceIdeal.main_arg3)) (m ((c.tc : Thread Cert.RnnfwdReferenceIdeal.nD Cert.RnnfwdReferenceIdeal.τ).loc Cert.RnnfwdReferenceIdeal.main_arg4)) (m ((c.tc : Thread Cert.RnnfwdReferenceIdeal.nD Cert.RnnfwdReferenceIdeal.τ).loc Cert.RnnfwdReferenceIdeal.main_arg5)) (m ((c.tc : Thread Cert.RnnfwdReferenceIdeal.nD Cert.RnnfwdReferenceIdeal.τ).loc Cert.RnnfwdReferenceIdeal.main_arg6)) (m ((c.tc : Thread Cert.RnnfwdReferenceIdeal.nD Cert.RnnfwdReferenceIdeal.τ).loc Cert.RnnfwdReferenceIdeal.main_arg7))) = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_InpfwdKernel (m : (ℓ : Loc Cert.InpfwdKernel.nD Cert.InpfwdKernel.τ Cert.InpfwdKernel.sig) → Buf (Elt Bits) ℓ) : Prop :=
  True

def Pre_InpfwdKernelIdeal (m : (ℓ : Loc Cert.InpfwdKernelIdeal.nD Cert.InpfwdKernelIdeal.τ Cert.InpfwdKernelIdeal.sig) → Buf (Elt Ideal) ℓ) : Prop :=
  True

def Pre_InpfwdReferenceIdeal (m : (ℓ : Loc Cert.InpfwdReferenceIdeal.nD Cert.InpfwdReferenceIdeal.τ Cert.InpfwdReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_SguKernel [hSguKernel : Cert.SguKernel.Facts] : Prop :=
  ∀ (m : (ℓ : Loc Cert.SguKernel.nD Cert.SguKernel.τ Cert.SguKernel.sig) → Buf (Elt Bits) ℓ) (g : Dev Cert.SguKernel.nD → PrngReg), Pre_SguKernel m →
    θ_run (Cert.SguKernel.defs (F := Bits)) (onTc (τ := Cert.SguKernel.τ) (Cert.SguKernel.main (F := Bits))) ⟨m, fun _ => 0, g⟩ (fun r => (∀ c : Dev Cert.SguKernel.nD,
      r.2.mem ((c.tc : Thread Cert.SguKernel.nD Cert.SguKernel.τ).loc Cert.SguKernel.main_arg0) = m ((c.tc : Thread Cert.SguKernel.nD Cert.SguKernel.τ).loc Cert.SguKernel.main_arg0)
      ∧ r.2.mem ((c.tc : Thread Cert.SguKernel.nD Cert.SguKernel.τ).loc Cert.SguKernel.main_arg1) = m ((c.tc : Thread Cert.SguKernel.nD Cert.SguKernel.τ).loc Cert.SguKernel.main_arg1)
      ∧ r.2.mem ((c.tc : Thread Cert.SguKernel.nD Cert.SguKernel.τ).loc Cert.SguKernel.main_arg2) = m ((c.tc : Thread Cert.SguKernel.nD Cert.SguKernel.τ).loc Cert.SguKernel.main_arg2)
      ∧ r.2.mem ((c.tc : Thread Cert.SguKernel.nD Cert.SguKernel.τ).loc Cert.SguKernel.main_arg3) = m ((c.tc : Thread Cert.SguKernel.nD Cert.SguKernel.τ).loc Cert.SguKernel.main_arg3)
      ∧ r.2.mem ((c.tc : Thread Cert.SguKernel.nD Cert.SguKernel.τ).loc Cert.SguKernel.main_arg4) = m ((c.tc : Thread Cert.SguKernel.nD Cert.SguKernel.τ).loc Cert.SguKernel.main_arg4)
      ∧ r.2.mem ((c.tc : Thread Cert.SguKernel.nD Cert.SguKernel.τ).loc Cert.SguKernel.main_arg5) = m ((c.tc : Thread Cert.SguKernel.nD Cert.SguKernel.τ).loc Cert.SguKernel.main_arg5))
      ∧ r.2.sem = fun _ => 0)

def quiescent_SguKernelIdeal [hSguKernelIdeal : Cert.SguKernelIdeal.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ r.2.sem = fun _ => 0)

def quiescent_SguKernelIdeal_pre_sgu_finite [hSguKernelIdeal : Cert.SguKernelIdeal.Facts] [hPre_sgu_finite : Cert.Pre_sgu_finite.Facts] : Prop :=
  ∀ (m : (ℓ : Loc Cert.SguKernelIdeal.nD Cert.SguKernelIdeal.τ Cert.SguKernelIdeal.sig) → Buf (Elt Ideal) ℓ) (g : Dev Cert.SguKernelIdeal.nD → PrngReg), Pre_SguKernelIdeal_sgu_finite m →
    θ_run (Cert.SguKernelIdeal.defs (F := Ideal)) (onTc (τ := Cert.SguKernelIdeal.τ) (Cert.SguKernelIdeal.main (F := Ideal))) ⟨m, fun _ => 0, g⟩ (fun r => (∀ c : Dev Cert.SguKernelIdeal.nD,
      r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
      ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
      ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
      ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
      ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
      ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5))
      ∧ r.2.sem = fun _ => 0)

def quiescent_SguReferenceIdeal_pre_sgu_finite [hSguReferenceIdeal : Cert.SguReferenceIdeal.Facts] [hPre_sgu_finite : Cert.Pre_sgu_finite.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal_sgu_finite m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4)
      ∧ r.2.mem ((c.tc : Thread Cert.SguReferenceIdeal.nD Cert.SguReferenceIdeal.τ).loc Cert.SguReferenceIdeal.main_arg5) = m ((c.tc : Thread Cert.SguReferenceIdeal.nD Cert.SguReferenceIdeal.τ).loc Cert.SguReferenceIdeal.main_arg5))
      ∧ r.2.sem = fun _ => 0)

def quiescent_InprojKernel [hInprojKernel : Cert.InprojKernel.Facts] : Prop :=
  ∀ (m : (ℓ : Loc Cert.InprojKernel.nD Cert.InprojKernel.τ Cert.InprojKernel.sig) → Buf (Elt Bits) ℓ) (g : Dev Cert.InprojKernel.nD → PrngReg), Pre_InprojKernel m →
    θ_run (Cert.InprojKernel.defs (F := Bits)) (onTc (τ := Cert.InprojKernel.τ) (Cert.InprojKernel.main (F := Bits))) ⟨m, fun _ => 0, g⟩ (fun r => (∀ c : Dev Cert.InprojKernel.nD,
      r.2.mem ((c.tc : Thread Cert.InprojKernel.nD Cert.InprojKernel.τ).loc Cert.InprojKernel.main_arg0) = m ((c.tc : Thread Cert.InprojKernel.nD Cert.InprojKernel.τ).loc Cert.InprojKernel.main_arg0)
      ∧ r.2.mem ((c.tc : Thread Cert.InprojKernel.nD Cert.InprojKernel.τ).loc Cert.InprojKernel.main_arg1) = m ((c.tc : Thread Cert.InprojKernel.nD Cert.InprojKernel.τ).loc Cert.InprojKernel.main_arg1)
      ∧ r.2.mem ((c.tc : Thread Cert.InprojKernel.nD Cert.InprojKernel.τ).loc Cert.InprojKernel.main_arg2) = m ((c.tc : Thread Cert.InprojKernel.nD Cert.InprojKernel.τ).loc Cert.InprojKernel.main_arg2)
      ∧ r.2.mem ((c.tc : Thread Cert.InprojKernel.nD Cert.InprojKernel.τ).loc Cert.InprojKernel.main_arg3) = m ((c.tc : Thread Cert.InprojKernel.nD Cert.InprojKernel.τ).loc Cert.InprojKernel.main_arg3)
      ∧ r.2.mem ((c.tc : Thread Cert.InprojKernel.nD Cert.InprojKernel.τ).loc Cert.InprojKernel.main_arg4) = m ((c.tc : Thread Cert.InprojKernel.nD Cert.InprojKernel.τ).loc Cert.InprojKernel.main_arg4)
      ∧ r.2.mem ((c.tc : Thread Cert.InprojKernel.nD Cert.InprojKernel.τ).loc Cert.InprojKernel.main_arg5) = m ((c.tc : Thread Cert.InprojKernel.nD Cert.InprojKernel.τ).loc Cert.InprojKernel.main_arg5)
      ∧ r.2.mem ((c.tc : Thread Cert.InprojKernel.nD Cert.InprojKernel.τ).loc Cert.InprojKernel.main_arg6) = m ((c.tc : Thread Cert.InprojKernel.nD Cert.InprojKernel.τ).loc Cert.InprojKernel.main_arg6))
      ∧ r.2.sem = fun _ => 0)

def quiescent_InprojKernelIdeal [hInprojKernelIdeal : Cert.InprojKernelIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg), Pre_InprojKernelIdeal m →
    θ_run (Cert.InprojKernelIdeal.defs (F := Ideal)) (onTc (τ := Cert.InprojKernelIdeal.τ) (Cert.InprojKernelIdeal.main (F := Ideal))) ⟨m, fun _ => 0, g⟩ (fun r => (∀ c : Dev Cert.InprojKernelIdeal.nD,
      r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
      ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
      ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
      ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
      ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
      ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
      ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_SgufwdKernel [hSgufwdKernel : Cert.SgufwdKernel.Facts] : Prop :=
  ∀ (m : (ℓ : Loc Cert.SgufwdKernel.nD Cert.SgufwdKernel.τ Cert.SgufwdKernel.sig) → Buf (Elt Bits) ℓ) (g : Dev Cert.SgufwdKernel.nD → PrngReg), Pre_SgufwdKernel m →
    θ_run (Cert.SgufwdKernel.defs (F := Bits)) (onTc (τ := Cert.SgufwdKernel.τ) (Cert.SgufwdKernel.main (F := Bits))) ⟨m, fun _ => 0, g⟩ (fun r => (∀ c : Dev Cert.SgufwdKernel.nD,
      r.2.mem ((c.tc : Thread Cert.SgufwdKernel.nD Cert.SgufwdKernel.τ).loc Cert.SgufwdKernel.main_arg0) = m ((c.tc : Thread Cert.SgufwdKernel.nD Cert.SgufwdKernel.τ).loc Cert.SgufwdKernel.main_arg0)
      ∧ r.2.mem ((c.tc : Thread Cert.SgufwdKernel.nD Cert.SgufwdKernel.τ).loc Cert.SgufwdKernel.main_arg1) = m ((c.tc : Thread Cert.SgufwdKernel.nD Cert.SgufwdKernel.τ).loc Cert.SgufwdKernel.main_arg1)
      ∧ r.2.mem ((c.tc : Thread Cert.SgufwdKernel.nD Cert.SgufwdKernel.τ).loc Cert.SgufwdKernel.main_arg2) = m ((c.tc : Thread Cert.SgufwdKernel.nD Cert.SgufwdKernel.τ).loc Cert.SgufwdKernel.main_arg2)
      ∧ r.2.mem ((c.tc : Thread Cert.SgufwdKernel.nD Cert.SgufwdKernel.τ).loc Cert.SgufwdKernel.main_arg3) = m ((c.tc : Thread Cert.SgufwdKernel.nD Cert.SgufwdKernel.τ).loc Cert.SgufwdKernel.main_arg3)
      ∧ r.2.mem ((c.tc : Thread Cert.SgufwdKernel.nD Cert.SgufwdKernel.τ).loc Cert.SgufwdKernel.main_arg4) = m ((c.tc : Thread Cert.SgufwdKernel.nD Cert.SgufwdKernel.τ).loc Cert.SgufwdKernel.main_arg4))
      ∧ r.2.sem = fun _ => 0)

def quiescent_SgufwdKernelIdeal [hSgufwdKernelIdeal : Cert.SgufwdKernelIdeal.Facts] : Prop :=
  ∀ (m : (ℓ : Loc Cert.SgufwdKernelIdeal.nD Cert.SgufwdKernelIdeal.τ Cert.SgufwdKernelIdeal.sig) → Buf (Elt Ideal) ℓ) (g : Dev Cert.SgufwdKernelIdeal.nD → PrngReg), Pre_SgufwdKernelIdeal m →
    θ_run (Cert.SgufwdKernelIdeal.defs (F := Ideal)) (onTc (τ := Cert.SgufwdKernelIdeal.τ) (Cert.SgufwdKernelIdeal.main (F := Ideal))) ⟨m, fun _ => 0, g⟩ (fun r => (∀ c : Dev Cert.SgufwdKernelIdeal.nD,
      r.2.mem ((c.tc : Thread Cert.SgufwdKernelIdeal.nD Cert.SgufwdKernelIdeal.τ).loc Cert.SgufwdKernelIdeal.main_arg0) = m ((c.tc : Thread Cert.SgufwdKernelIdeal.nD Cert.SgufwdKernelIdeal.τ).loc Cert.SgufwdKernelIdeal.main_arg0)
      ∧ r.2.mem ((c.tc : Thread Cert.SgufwdKernelIdeal.nD Cert.SgufwdKernelIdeal.τ).loc Cert.SgufwdKernelIdeal.main_arg1) = m ((c.tc : Thread Cert.SgufwdKernelIdeal.nD Cert.SgufwdKernelIdeal.τ).loc Cert.SgufwdKernelIdeal.main_arg1)
      ∧ r.2.mem ((c.tc : Thread Cert.SgufwdKernelIdeal.nD Cert.SgufwdKernelIdeal.τ).loc Cert.SgufwdKernelIdeal.main_arg2) = m ((c.tc : Thread Cert.SgufwdKernelIdeal.nD Cert.SgufwdKernelIdeal.τ).loc Cert.SgufwdKernelIdeal.main_arg2)
      ∧ r.2.mem ((c.tc : Thread Cert.SgufwdKernelIdeal.nD Cert.SgufwdKernelIdeal.τ).loc Cert.SgufwdKernelIdeal.main_arg3) = m ((c.tc : Thread Cert.SgufwdKernelIdeal.nD Cert.SgufwdKernelIdeal.τ).loc Cert.SgufwdKernelIdeal.main_arg3)
      ∧ r.2.mem ((c.tc : Thread Cert.SgufwdKernelIdeal.nD Cert.SgufwdKernelIdeal.τ).loc Cert.SgufwdKernelIdeal.main_arg4) = m ((c.tc : Thread Cert.SgufwdKernelIdeal.nD Cert.SgufwdKernelIdeal.τ).loc Cert.SgufwdKernelIdeal.main_arg4))
      ∧ r.2.sem = fun _ => 0)

def quiescent_SgufwdReferenceIdeal [hSgufwdReferenceIdeal : Cert.SgufwdReferenceIdeal.Facts] : Prop :=
  ∀ (m : (ℓ : Loc Cert.SgufwdReferenceIdeal.nD Cert.SgufwdReferenceIdeal.τ Cert.SgufwdReferenceIdeal.sig) → Buf (Elt Ideal) ℓ) (g : Dev Cert.SgufwdReferenceIdeal.nD → PrngReg), Pre_SgufwdReferenceIdeal m →
    θ_run (Cert.SgufwdReferenceIdeal.defs (F := Ideal)) (onTc (τ := Cert.SgufwdReferenceIdeal.τ) (Cert.SgufwdReferenceIdeal.main (F := Ideal))) ⟨m, fun _ => 0, g⟩ (fun r => (∀ c : Dev Cert.SgufwdReferenceIdeal.nD,
      r.2.mem ((c.tc : Thread Cert.SgufwdReferenceIdeal.nD Cert.SgufwdReferenceIdeal.τ).loc Cert.SgufwdReferenceIdeal.main_arg0) = m ((c.tc : Thread Cert.SgufwdReferenceIdeal.nD Cert.SgufwdReferenceIdeal.τ).loc Cert.SgufwdReferenceIdeal.main_arg0)
      ∧ r.2.mem ((c.tc : Thread Cert.SgufwdReferenceIdeal.nD Cert.SgufwdReferenceIdeal.τ).loc Cert.SgufwdReferenceIdeal.main_arg1) = m ((c.tc : Thread Cert.SgufwdReferenceIdeal.nD Cert.SgufwdReferenceIdeal.τ).loc Cert.SgufwdReferenceIdeal.main_arg1)
      ∧ r.2.mem ((c.tc : Thread Cert.SgufwdReferenceIdeal.nD Cert.SgufwdReferenceIdeal.τ).loc Cert.SgufwdReferenceIdeal.main_arg2) = m ((c.tc : Thread Cert.SgufwdReferenceIdeal.nD Cert.SgufwdReferenceIdeal.τ).loc Cert.SgufwdReferenceIdeal.main_arg2)
      ∧ r.2.mem ((c.tc : Thread Cert.SgufwdReferenceIdeal.nD Cert.SgufwdReferenceIdeal.τ).loc Cert.SgufwdReferenceIdeal.main_arg3) = m ((c.tc : Thread Cert.SgufwdReferenceIdeal.nD Cert.SgufwdReferenceIdeal.τ).loc Cert.SgufwdReferenceIdeal.main_arg3)
      ∧ r.2.mem ((c.tc : Thread Cert.SgufwdReferenceIdeal.nD Cert.SgufwdReferenceIdeal.τ).loc Cert.SgufwdReferenceIdeal.main_arg4) = m ((c.tc : Thread Cert.SgufwdReferenceIdeal.nD Cert.SgufwdReferenceIdeal.τ).loc Cert.SgufwdReferenceIdeal.main_arg4))
      ∧ r.2.sem = fun _ => 0)

def quiescent_RnnfwdKernel [hRnnfwdKernel : Cert.RnnfwdKernel.Facts] : Prop :=
  ∀ (m : (ℓ : Loc Cert.RnnfwdKernel.nD Cert.RnnfwdKernel.τ Cert.RnnfwdKernel.sig) → Buf (Elt Bits) ℓ) (g : Dev Cert.RnnfwdKernel.nD → PrngReg), Pre_RnnfwdKernel m →
    θ_run (Cert.RnnfwdKernel.defs (F := Bits)) (onTc (τ := Cert.RnnfwdKernel.τ) (Cert.RnnfwdKernel.main (F := Bits))) ⟨m, fun _ => 0, g⟩ (fun r => (∀ c : Dev Cert.RnnfwdKernel.nD,
      r.2.mem ((c.tc : Thread Cert.RnnfwdKernel.nD Cert.RnnfwdKernel.τ).loc Cert.RnnfwdKernel.main_arg0) = m ((c.tc : Thread Cert.RnnfwdKernel.nD Cert.RnnfwdKernel.τ).loc Cert.RnnfwdKernel.main_arg0)
      ∧ r.2.mem ((c.tc : Thread Cert.RnnfwdKernel.nD Cert.RnnfwdKernel.τ).loc Cert.RnnfwdKernel.main_arg1) = m ((c.tc : Thread Cert.RnnfwdKernel.nD Cert.RnnfwdKernel.τ).loc Cert.RnnfwdKernel.main_arg1)
      ∧ r.2.mem ((c.tc : Thread Cert.RnnfwdKernel.nD Cert.RnnfwdKernel.τ).loc Cert.RnnfwdKernel.main_arg2) = m ((c.tc : Thread Cert.RnnfwdKernel.nD Cert.RnnfwdKernel.τ).loc Cert.RnnfwdKernel.main_arg2)
      ∧ r.2.mem ((c.tc : Thread Cert.RnnfwdKernel.nD Cert.RnnfwdKernel.τ).loc Cert.RnnfwdKernel.main_arg3) = m ((c.tc : Thread Cert.RnnfwdKernel.nD Cert.RnnfwdKernel.τ).loc Cert.RnnfwdKernel.main_arg3)
      ∧ r.2.mem ((c.tc : Thread Cert.RnnfwdKernel.nD Cert.RnnfwdKernel.τ).loc Cert.RnnfwdKernel.main_arg4) = m ((c.tc : Thread Cert.RnnfwdKernel.nD Cert.RnnfwdKernel.τ).loc Cert.RnnfwdKernel.main_arg4)
      ∧ r.2.mem ((c.tc : Thread Cert.RnnfwdKernel.nD Cert.RnnfwdKernel.τ).loc Cert.RnnfwdKernel.main_arg5) = m ((c.tc : Thread Cert.RnnfwdKernel.nD Cert.RnnfwdKernel.τ).loc Cert.RnnfwdKernel.main_arg5)
      ∧ r.2.mem ((c.tc : Thread Cert.RnnfwdKernel.nD Cert.RnnfwdKernel.τ).loc Cert.RnnfwdKernel.main_arg6) = m ((c.tc : Thread Cert.RnnfwdKernel.nD Cert.RnnfwdKernel.τ).loc Cert.RnnfwdKernel.main_arg6)
      ∧ r.2.mem ((c.tc : Thread Cert.RnnfwdKernel.nD Cert.RnnfwdKernel.τ).loc Cert.RnnfwdKernel.main_arg7) = m ((c.tc : Thread Cert.RnnfwdKernel.nD Cert.RnnfwdKernel.τ).loc Cert.RnnfwdKernel.main_arg7))
      ∧ r.2.sem = fun _ => 0)

def quiescent_RnnfwdKernelIdeal [hRnnfwdKernelIdeal : Cert.RnnfwdKernelIdeal.Facts] : Prop :=
  ∀ (m : (ℓ : Loc Cert.RnnfwdKernelIdeal.nD Cert.RnnfwdKernelIdeal.τ Cert.RnnfwdKernelIdeal.sig) → Buf (Elt Ideal) ℓ) (g : Dev Cert.RnnfwdKernelIdeal.nD → PrngReg), Pre_RnnfwdKernelIdeal m →
    θ_run (Cert.RnnfwdKernelIdeal.defs (F := Ideal)) (onTc (τ := Cert.RnnfwdKernelIdeal.τ) (Cert.RnnfwdKernelIdeal.main (F := Ideal))) ⟨m, fun _ => 0, g⟩ (fun r => (∀ c : Dev Cert.RnnfwdKernelIdeal.nD,
      r.2.mem ((c.tc : Thread Cert.RnnfwdKernelIdeal.nD Cert.RnnfwdKernelIdeal.τ).loc Cert.RnnfwdKernelIdeal.main_arg0) = m ((c.tc : Thread Cert.RnnfwdKernelIdeal.nD Cert.RnnfwdKernelIdeal.τ).loc Cert.RnnfwdKernelIdeal.main_arg0)
      ∧ r.2.mem ((c.tc : Thread Cert.RnnfwdKernelIdeal.nD Cert.RnnfwdKernelIdeal.τ).loc Cert.RnnfwdKernelIdeal.main_arg1) = m ((c.tc : Thread Cert.RnnfwdKernelIdeal.nD Cert.RnnfwdKernelIdeal.τ).loc Cert.RnnfwdKernelIdeal.main_arg1)
      ∧ r.2.mem ((c.tc : Thread Cert.RnnfwdKernelIdeal.nD Cert.RnnfwdKernelIdeal.τ).loc Cert.RnnfwdKernelIdeal.main_arg2) = m ((c.tc : Thread Cert.RnnfwdKernelIdeal.nD Cert.RnnfwdKernelIdeal.τ).loc Cert.RnnfwdKernelIdeal.main_arg2)
      ∧ r.2.mem ((c.tc : Thread Cert.RnnfwdKernelIdeal.nD Cert.RnnfwdKernelIdeal.τ).loc Cert.RnnfwdKernelIdeal.main_arg3) = m ((c.tc : Thread Cert.RnnfwdKernelIdeal.nD Cert.RnnfwdKernelIdeal.τ).loc Cert.RnnfwdKernelIdeal.main_arg3)
      ∧ r.2.mem ((c.tc : Thread Cert.RnnfwdKernelIdeal.nD Cert.RnnfwdKernelIdeal.τ).loc Cert.RnnfwdKernelIdeal.main_arg4) = m ((c.tc : Thread Cert.RnnfwdKernelIdeal.nD Cert.RnnfwdKernelIdeal.τ).loc Cert.RnnfwdKernelIdeal.main_arg4)
      ∧ r.2.mem ((c.tc : Thread Cert.RnnfwdKernelIdeal.nD Cert.RnnfwdKernelIdeal.τ).loc Cert.RnnfwdKernelIdeal.main_arg5) = m ((c.tc : Thread Cert.RnnfwdKernelIdeal.nD Cert.RnnfwdKernelIdeal.τ).loc Cert.RnnfwdKernelIdeal.main_arg5)
      ∧ r.2.mem ((c.tc : Thread Cert.RnnfwdKernelIdeal.nD Cert.RnnfwdKernelIdeal.τ).loc Cert.RnnfwdKernelIdeal.main_arg6) = m ((c.tc : Thread Cert.RnnfwdKernelIdeal.nD Cert.RnnfwdKernelIdeal.τ).loc Cert.RnnfwdKernelIdeal.main_arg6)
      ∧ r.2.mem ((c.tc : Thread Cert.RnnfwdKernelIdeal.nD Cert.RnnfwdKernelIdeal.τ).loc Cert.RnnfwdKernelIdeal.main_arg7) = m ((c.tc : Thread Cert.RnnfwdKernelIdeal.nD Cert.RnnfwdKernelIdeal.τ).loc Cert.RnnfwdKernelIdeal.main_arg7))
      ∧ r.2.sem = fun _ => 0)

def quiescent_RnnfwdKernelIdeal_pre_rnn_gap [hRnnfwdKernelIdeal : Cert.RnnfwdKernelIdeal.Facts] [hPre_rnn_gap : Cert.Pre_rnn_gap.Facts] : Prop :=
  ∀ (m : (ℓ : Loc Cert.RnnfwdKernelIdeal.nD Cert.RnnfwdKernelIdeal.τ Cert.RnnfwdKernelIdeal.sig) → Buf (Elt Ideal) ℓ) (g : Dev Cert.RnnfwdKernelIdeal.nD → PrngReg), Pre_RnnfwdKernelIdeal_rnn_gap m →
    θ_run (Cert.RnnfwdKernelIdeal.defs (F := Ideal)) (onTc (τ := Cert.RnnfwdKernelIdeal.τ) (Cert.RnnfwdKernelIdeal.main (F := Ideal))) ⟨m, fun _ => 0, g⟩ (fun r => (∀ c : Dev Cert.RnnfwdKernelIdeal.nD,
      r.2.mem ((c.tc : Thread Cert.RnnfwdKernelIdeal.nD Cert.RnnfwdKernelIdeal.τ).loc Cert.RnnfwdKernelIdeal.main_arg0) = m ((c.tc : Thread Cert.RnnfwdKernelIdeal.nD Cert.RnnfwdKernelIdeal.τ).loc Cert.RnnfwdKernelIdeal.main_arg0)
      ∧ r.2.mem ((c.tc : Thread Cert.RnnfwdKernelIdeal.nD Cert.RnnfwdKernelIdeal.τ).loc Cert.RnnfwdKernelIdeal.main_arg1) = m ((c.tc : Thread Cert.RnnfwdKernelIdeal.nD Cert.RnnfwdKernelIdeal.τ).loc Cert.RnnfwdKernelIdeal.main_arg1)
      ∧ r.2.mem ((c.tc : Thread Cert.RnnfwdKernelIdeal.nD Cert.RnnfwdKernelIdeal.τ).loc Cert.RnnfwdKernelIdeal.main_arg2) = m ((c.tc : Thread Cert.RnnfwdKernelIdeal.nD Cert.RnnfwdKernelIdeal.τ).loc Cert.RnnfwdKernelIdeal.main_arg2)
      ∧ r.2.mem ((c.tc : Thread Cert.RnnfwdKernelIdeal.nD Cert.RnnfwdKernelIdeal.τ).loc Cert.RnnfwdKernelIdeal.main_arg3) = m ((c.tc : Thread Cert.RnnfwdKernelIdeal.nD Cert.RnnfwdKernelIdeal.τ).loc Cert.RnnfwdKernelIdeal.main_arg3)
      ∧ r.2.mem ((c.tc : Thread Cert.RnnfwdKernelIdeal.nD Cert.RnnfwdKernelIdeal.τ).loc Cert.RnnfwdKernelIdeal.main_arg4) = m ((c.tc : Thread Cert.RnnfwdKernelIdeal.nD Cert.RnnfwdKernelIdeal.τ).loc Cert.RnnfwdKernelIdeal.main_arg4)
      ∧ r.2.mem ((c.tc : Thread Cert.RnnfwdKernelIdeal.nD Cert.RnnfwdKernelIdeal.τ).loc Cert.RnnfwdKernelIdeal.main_arg5) = m ((c.tc : Thread Cert.RnnfwdKernelIdeal.nD Cert.RnnfwdKernelIdeal.τ).loc Cert.RnnfwdKernelIdeal.main_arg5)
      ∧ r.2.mem ((c.tc : Thread Cert.RnnfwdKernelIdeal.nD Cert.RnnfwdKernelIdeal.τ).loc Cert.RnnfwdKernelIdeal.main_arg6) = m ((c.tc : Thread Cert.RnnfwdKernelIdeal.nD Cert.RnnfwdKernelIdeal.τ).loc Cert.RnnfwdKernelIdeal.main_arg6)
      ∧ r.2.mem ((c.tc : Thread Cert.RnnfwdKernelIdeal.nD Cert.RnnfwdKernelIdeal.τ).loc Cert.RnnfwdKernelIdeal.main_arg7) = m ((c.tc : Thread Cert.RnnfwdKernelIdeal.nD Cert.RnnfwdKernelIdeal.τ).loc Cert.RnnfwdKernelIdeal.main_arg7))
      ∧ r.2.sem = fun _ => 0)

def quiescent_RnnfwdReferenceIdeal [hRnnfwdReferenceIdeal : Cert.RnnfwdReferenceIdeal.Facts] : Prop :=
  ∀ (m : (ℓ : Loc Cert.RnnfwdReferenceIdeal.nD Cert.RnnfwdReferenceIdeal.τ Cert.RnnfwdReferenceIdeal.sig) → Buf (Elt Ideal) ℓ) (g : Dev Cert.RnnfwdReferenceIdeal.nD → PrngReg), Pre_RnnfwdReferenceIdeal m →
    θ_run (Cert.RnnfwdReferenceIdeal.defs (F := Ideal)) (onTc (τ := Cert.RnnfwdReferenceIdeal.τ) (Cert.RnnfwdReferenceIdeal.main (F := Ideal))) ⟨m, fun _ => 0, g⟩ (fun r => (∀ c : Dev Cert.RnnfwdReferenceIdeal.nD,
      r.2.mem ((c.tc : Thread Cert.RnnfwdReferenceIdeal.nD Cert.RnnfwdReferenceIdeal.τ).loc Cert.RnnfwdReferenceIdeal.main_arg0) = m ((c.tc : Thread Cert.RnnfwdReferenceIdeal.nD Cert.RnnfwdReferenceIdeal.τ).loc Cert.RnnfwdReferenceIdeal.main_arg0)
      ∧ r.2.mem ((c.tc : Thread Cert.RnnfwdReferenceIdeal.nD Cert.RnnfwdReferenceIdeal.τ).loc Cert.RnnfwdReferenceIdeal.main_arg1) = m ((c.tc : Thread Cert.RnnfwdReferenceIdeal.nD Cert.RnnfwdReferenceIdeal.τ).loc Cert.RnnfwdReferenceIdeal.main_arg1)
      ∧ r.2.mem ((c.tc : Thread Cert.RnnfwdReferenceIdeal.nD Cert.RnnfwdReferenceIdeal.τ).loc Cert.RnnfwdReferenceIdeal.main_arg2) = m ((c.tc : Thread Cert.RnnfwdReferenceIdeal.nD Cert.RnnfwdReferenceIdeal.τ).loc Cert.RnnfwdReferenceIdeal.main_arg2)
      ∧ r.2.mem ((c.tc : Thread Cert.RnnfwdReferenceIdeal.nD Cert.RnnfwdReferenceIdeal.τ).loc Cert.RnnfwdReferenceIdeal.main_arg3) = m ((c.tc : Thread Cert.RnnfwdReferenceIdeal.nD Cert.RnnfwdReferenceIdeal.τ).loc Cert.RnnfwdReferenceIdeal.main_arg3)
      ∧ r.2.mem ((c.tc : Thread Cert.RnnfwdReferenceIdeal.nD Cert.RnnfwdReferenceIdeal.τ).loc Cert.RnnfwdReferenceIdeal.main_arg4) = m ((c.tc : Thread Cert.RnnfwdReferenceIdeal.nD Cert.RnnfwdReferenceIdeal.τ).loc Cert.RnnfwdReferenceIdeal.main_arg4)
      ∧ r.2.mem ((c.tc : Thread Cert.RnnfwdReferenceIdeal.nD Cert.RnnfwdReferenceIdeal.τ).loc Cert.RnnfwdReferenceIdeal.main_arg5) = m ((c.tc : Thread Cert.RnnfwdReferenceIdeal.nD Cert.RnnfwdReferenceIdeal.τ).loc Cert.RnnfwdReferenceIdeal.main_arg5)
      ∧ r.2.mem ((c.tc : Thread Cert.RnnfwdReferenceIdeal.nD Cert.RnnfwdReferenceIdeal.τ).loc Cert.RnnfwdReferenceIdeal.main_arg6) = m ((c.tc : Thread Cert.RnnfwdReferenceIdeal.nD Cert.RnnfwdReferenceIdeal.τ).loc Cert.RnnfwdReferenceIdeal.main_arg6)
      ∧ r.2.mem ((c.tc : Thread Cert.RnnfwdReferenceIdeal.nD Cert.RnnfwdReferenceIdeal.τ).loc Cert.RnnfwdReferenceIdeal.main_arg7) = m ((c.tc : Thread Cert.RnnfwdReferenceIdeal.nD Cert.RnnfwdReferenceIdeal.τ).loc Cert.RnnfwdReferenceIdeal.main_arg7))
      ∧ r.2.sem = fun _ => 0)

def quiescent_RnnfwdReferenceIdeal_pre_rnn_gap [hRnnfwdReferenceIdeal : Cert.RnnfwdReferenceIdeal.Facts] [hPre_rnn_gap : Cert.Pre_rnn_gap.Facts] : Prop :=
  ∀ (m : (ℓ : Loc Cert.RnnfwdReferenceIdeal.nD Cert.RnnfwdReferenceIdeal.τ Cert.RnnfwdReferenceIdeal.sig) → Buf (Elt Ideal) ℓ) (g : Dev Cert.RnnfwdReferenceIdeal.nD → PrngReg), Pre_RnnfwdReferenceIdeal_rnn_gap m →
    θ_run (Cert.RnnfwdReferenceIdeal.defs (F := Ideal)) (onTc (τ := Cert.RnnfwdReferenceIdeal.τ) (Cert.RnnfwdReferenceIdeal.main (F := Ideal))) ⟨m, fun _ => 0, g⟩ (fun r => (∀ c : Dev Cert.RnnfwdReferenceIdeal.nD,
      r.2.mem ((c.tc : Thread Cert.RnnfwdReferenceIdeal.nD Cert.RnnfwdReferenceIdeal.τ).loc Cert.RnnfwdReferenceIdeal.main_arg0) = m ((c.tc : Thread Cert.RnnfwdReferenceIdeal.nD Cert.RnnfwdReferenceIdeal.τ).loc Cert.RnnfwdReferenceIdeal.main_arg0)
      ∧ r.2.mem ((c.tc : Thread Cert.RnnfwdReferenceIdeal.nD Cert.RnnfwdReferenceIdeal.τ).loc Cert.RnnfwdReferenceIdeal.main_arg1) = m ((c.tc : Thread Cert.RnnfwdReferenceIdeal.nD Cert.RnnfwdReferenceIdeal.τ).loc Cert.RnnfwdReferenceIdeal.main_arg1)
      ∧ r.2.mem ((c.tc : Thread Cert.RnnfwdReferenceIdeal.nD Cert.RnnfwdReferenceIdeal.τ).loc Cert.RnnfwdReferenceIdeal.main_arg2) = m ((c.tc : Thread Cert.RnnfwdReferenceIdeal.nD Cert.RnnfwdReferenceIdeal.τ).loc Cert.RnnfwdReferenceIdeal.main_arg2)
      ∧ r.2.mem ((c.tc : Thread Cert.RnnfwdReferenceIdeal.nD Cert.RnnfwdReferenceIdeal.τ).loc Cert.RnnfwdReferenceIdeal.main_arg3) = m ((c.tc : Thread Cert.RnnfwdReferenceIdeal.nD Cert.RnnfwdReferenceIdeal.τ).loc Cert.RnnfwdReferenceIdeal.main_arg3)
      ∧ r.2.mem ((c.tc : Thread Cert.RnnfwdReferenceIdeal.nD Cert.RnnfwdReferenceIdeal.τ).loc Cert.RnnfwdReferenceIdeal.main_arg4) = m ((c.tc : Thread Cert.RnnfwdReferenceIdeal.nD Cert.RnnfwdReferenceIdeal.τ).loc Cert.RnnfwdReferenceIdeal.main_arg4)
      ∧ r.2.mem ((c.tc : Thread Cert.RnnfwdReferenceIdeal.nD Cert.RnnfwdReferenceIdeal.τ).loc Cert.RnnfwdReferenceIdeal.main_arg5) = m ((c.tc : Thread Cert.RnnfwdReferenceIdeal.nD Cert.RnnfwdReferenceIdeal.τ).loc Cert.RnnfwdReferenceIdeal.main_arg5)
      ∧ r.2.mem ((c.tc : Thread Cert.RnnfwdReferenceIdeal.nD Cert.RnnfwdReferenceIdeal.τ).loc Cert.RnnfwdReferenceIdeal.main_arg6) = m ((c.tc : Thread Cert.RnnfwdReferenceIdeal.nD Cert.RnnfwdReferenceIdeal.τ).loc Cert.RnnfwdReferenceIdeal.main_arg6)
      ∧ r.2.mem ((c.tc : Thread Cert.RnnfwdReferenceIdeal.nD Cert.RnnfwdReferenceIdeal.τ).loc Cert.RnnfwdReferenceIdeal.main_arg7) = m ((c.tc : Thread Cert.RnnfwdReferenceIdeal.nD Cert.RnnfwdReferenceIdeal.τ).loc Cert.RnnfwdReferenceIdeal.main_arg7))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_InpfwdKernel [hInpfwdKernel : Cert.InpfwdKernel.Facts] : Prop :=
  ∀ (m : (ℓ : Loc Cert.InpfwdKernel.nD Cert.InpfwdKernel.τ Cert.InpfwdKernel.sig) → Buf (Elt Bits) ℓ) (g : Dev Cert.InpfwdKernel.nD → PrngReg), Pre_InpfwdKernel m →
    θ_run (Cert.InpfwdKernel.defs (F := Bits)) (onTc (τ := Cert.InpfwdKernel.τ) (Cert.InpfwdKernel.main (F := Bits))) ⟨m, fun _ => 0, g⟩ (fun r => (∀ c : Dev Cert.InpfwdKernel.nD,
      r.2.mem ((c.tc : Thread Cert.InpfwdKernel.nD Cert.InpfwdKernel.τ).loc Cert.InpfwdKernel.main_arg0) = m ((c.tc : Thread Cert.InpfwdKernel.nD Cert.InpfwdKernel.τ).loc Cert.InpfwdKernel.main_arg0)
      ∧ r.2.mem ((c.tc : Thread Cert.InpfwdKernel.nD Cert.InpfwdKernel.τ).loc Cert.InpfwdKernel.main_arg1) = m ((c.tc : Thread Cert.InpfwdKernel.nD Cert.InpfwdKernel.τ).loc Cert.InpfwdKernel.main_arg1))
      ∧ r.2.sem = fun _ => 0)

def quiescent_InpfwdKernelIdeal [hInpfwdKernelIdeal : Cert.InpfwdKernelIdeal.Facts] : Prop :=
  ∀ (m : (ℓ : Loc Cert.InpfwdKernelIdeal.nD Cert.InpfwdKernelIdeal.τ Cert.InpfwdKernelIdeal.sig) → Buf (Elt Ideal) ℓ) (g : Dev Cert.InpfwdKernelIdeal.nD → PrngReg), Pre_InpfwdKernelIdeal m →
    θ_run (Cert.InpfwdKernelIdeal.defs (F := Ideal)) (onTc (τ := Cert.InpfwdKernelIdeal.τ) (Cert.InpfwdKernelIdeal.main (F := Ideal))) ⟨m, fun _ => 0, g⟩ (fun r => (∀ c : Dev Cert.InpfwdKernelIdeal.nD,
      r.2.mem ((c.tc : Thread Cert.InpfwdKernelIdeal.nD Cert.InpfwdKernelIdeal.τ).loc Cert.InpfwdKernelIdeal.main_arg0) = m ((c.tc : Thread Cert.InpfwdKernelIdeal.nD Cert.InpfwdKernelIdeal.τ).loc Cert.InpfwdKernelIdeal.main_arg0)
      ∧ r.2.mem ((c.tc : Thread Cert.InpfwdKernelIdeal.nD Cert.InpfwdKernelIdeal.τ).loc Cert.InpfwdKernelIdeal.main_arg1) = m ((c.tc : Thread Cert.InpfwdKernelIdeal.nD Cert.InpfwdKernelIdeal.τ).loc Cert.InpfwdKernelIdeal.main_arg1))
      ∧ r.2.sem = fun _ => 0)

def quiescent_InpfwdReferenceIdeal [hInpfwdReferenceIdeal : Cert.InpfwdReferenceIdeal.Facts] : Prop :=
  ∀ (m : (ℓ : Loc Cert.InpfwdReferenceIdeal.nD Cert.InpfwdReferenceIdeal.τ Cert.InpfwdReferenceIdeal.sig) → Buf (Elt Ideal) ℓ) (g : Dev Cert.InpfwdReferenceIdeal.nD → PrngReg), Pre_InpfwdReferenceIdeal m →
    θ_run (Cert.InpfwdReferenceIdeal.defs (F := Ideal)) (onTc (τ := Cert.InpfwdReferenceIdeal.τ) (Cert.InpfwdReferenceIdeal.main (F := Ideal))) ⟨m, fun _ => 0, g⟩ (fun r => (∀ c : Dev Cert.InpfwdReferenceIdeal.nD,
      r.2.mem ((c.tc : Thread Cert.InpfwdReferenceIdeal.nD Cert.InpfwdReferenceIdeal.τ).loc Cert.InpfwdReferenceIdeal.main_arg0) = m ((c.tc : Thread Cert.InpfwdReferenceIdeal.nD Cert.InpfwdReferenceIdeal.τ).loc Cert.InpfwdReferenceIdeal.main_arg0)
      ∧ r.2.mem ((c.tc : Thread Cert.InpfwdReferenceIdeal.nD Cert.InpfwdReferenceIdeal.τ).loc Cert.InpfwdReferenceIdeal.main_arg1) = m ((c.tc : Thread Cert.InpfwdReferenceIdeal.nD Cert.InpfwdReferenceIdeal.τ).loc Cert.InpfwdReferenceIdeal.main_arg1))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v50) = v0 c
          ∧ r.2.mem ((c.tc : Thread Cert.LossReferenceIdeal.nD Cert.LossReferenceIdeal.τ).loc Cert.LossReferenceIdeal.main_v51) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_SguKernel_SguKernelIdeal : Prop :=
  IdealRules.named_const.Statement Cert.SguKernelIdeal.κ "gelu_a" .bf16 0x3D37#16 ((12003091 / 268435456 : ℝ) : EReal)
  ∧ IdealRules.named_const.Statement Cert.SguKernelIdeal.κ "gelu_c" .bf16 0x3F4C#16 ((6693141 / 8388608 : ℝ) : EReal)
  ∧ IdealRules.named_const.Statement Cert.SguKernelIdeal.κ "gelu_3a" .bf16 0x3E09#16 ((36009273 / 268435456 : ℝ) : EReal)

def algebraic_SguKernelIdeal_SguReferenceIdeal_pre_sgu_finite [hSguKernelIdeal : Cert.SguKernelIdeal.Facts] [hSguReferenceIdeal : Cert.SguReferenceIdeal.Facts] [hPre_sgu_finite : Cert.Pre_sgu_finite.Facts] : Prop :=
  ∀ (m : (ℓ : Loc Cert.SguKernelIdeal.nD Cert.SguKernelIdeal.τ Cert.SguKernelIdeal.sig) → Buf (Elt Ideal) ℓ) (g : Dev Cert.SguKernelIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguKernelIdeal_sgu_finite m →
    (∀ c : Dev Cert.SguKernelIdeal.nD,
      m' ((c.tc : Thread Cert.SguReferenceIdeal.nD Cert.SguReferenceIdeal.τ).loc Cert.SguReferenceIdeal.main_arg0) = m ((c.tc : Thread Cert.SguKernelIdeal.nD Cert.SguKernelIdeal.τ).loc Cert.SguKernelIdeal.main_arg0)
      ∧ m' ((c.tc : Thread Cert.SguReferenceIdeal.nD Cert.SguReferenceIdeal.τ).loc Cert.SguReferenceIdeal.main_arg1) = m ((c.tc : Thread Cert.SguKernelIdeal.nD Cert.SguKernelIdeal.τ).loc Cert.SguKernelIdeal.main_arg1)
      ∧ m' ((c.tc : Thread Cert.SguReferenceIdeal.nD Cert.SguReferenceIdeal.τ).loc Cert.SguReferenceIdeal.main_arg2) = m ((c.tc : Thread Cert.SguKernelIdeal.nD Cert.SguKernelIdeal.τ).loc Cert.SguKernelIdeal.main_arg2)
      ∧ m' ((c.tc : Thread Cert.SguReferenceIdeal.nD Cert.SguReferenceIdeal.τ).loc Cert.SguReferenceIdeal.main_arg3) = m ((c.tc : Thread Cert.SguKernelIdeal.nD Cert.SguKernelIdeal.τ).loc Cert.SguKernelIdeal.main_arg3)
      ∧ m' ((c.tc : Thread Cert.SguReferenceIdeal.nD Cert.SguReferenceIdeal.τ).loc Cert.SguReferenceIdeal.main_arg4) = m ((c.tc : Thread Cert.SguKernelIdeal.nD Cert.SguKernelIdeal.τ).loc Cert.SguKernelIdeal.main_arg4)
      ∧ m' ((c.tc : Thread Cert.SguReferenceIdeal.nD Cert.SguReferenceIdeal.τ).loc Cert.SguReferenceIdeal.main_arg5) = m ((c.tc : Thread Cert.SguKernelIdeal.nD Cert.SguKernelIdeal.τ).loc Cert.SguKernelIdeal.main_arg5)) →
    ∃ (v0 : (c : Dev Cert.SguKernelIdeal.nD) → Buf (Elt Ideal) ((c.tc : Thread Cert.SguKernelIdeal.nD Cert.SguKernelIdeal.τ).loc Cert.SguKernelIdeal.main_v24_0)) (v1 : (c : Dev Cert.SguKernelIdeal.nD) → Buf (Elt Ideal) ((c.tc : Thread Cert.SguKernelIdeal.nD Cert.SguKernelIdeal.τ).loc Cert.SguKernelIdeal.main_v24_1)) (v2 : (c : Dev Cert.SguKernelIdeal.nD) → Buf (Elt Ideal) ((c.tc : Thread Cert.SguKernelIdeal.nD Cert.SguKernelIdeal.τ).loc Cert.SguKernelIdeal.main_v24_2)) (v3 : (c : Dev Cert.SguKernelIdeal.nD) → Buf (Elt Ideal) ((c.tc : Thread Cert.SguKernelIdeal.nD Cert.SguKernelIdeal.τ).loc Cert.SguKernelIdeal.main_v24_3)) (v4 : (c : Dev Cert.SguKernelIdeal.nD) → Buf (Elt Ideal) ((c.tc : Thread Cert.SguKernelIdeal.nD Cert.SguKernelIdeal.τ).loc Cert.SguKernelIdeal.main_v24_4)),
      θ_run (Cert.SguKernelIdeal.defs (F := Ideal)) (onTc (τ := Cert.SguKernelIdeal.τ) (Cert.SguKernelIdeal.main (F := Ideal))) ⟨m, fun _ => 0, g⟩ (fun r => ∀ c : Dev Cert.SguKernelIdeal.nD,
          r.2.mem ((c.tc : Thread Cert.SguKernelIdeal.nD Cert.SguKernelIdeal.τ).loc Cert.SguKernelIdeal.main_v24_0) = v0 c
          ∧ r.2.mem ((c.tc : Thread Cert.SguKernelIdeal.nD Cert.SguKernelIdeal.τ).loc Cert.SguKernelIdeal.main_v24_1) = v1 c
          ∧ r.2.mem ((c.tc : Thread Cert.SguKernelIdeal.nD Cert.SguKernelIdeal.τ).loc Cert.SguKernelIdeal.main_v24_2) = v2 c
          ∧ r.2.mem ((c.tc : Thread Cert.SguKernelIdeal.nD Cert.SguKernelIdeal.τ).loc Cert.SguKernelIdeal.main_v24_3) = v3 c
          ∧ r.2.mem ((c.tc : Thread Cert.SguKernelIdeal.nD Cert.SguKernelIdeal.τ).loc Cert.SguKernelIdeal.main_v24_4) = v4 c
          ∧ r.2.mem ((c.tc : Thread Cert.SguKernelIdeal.nD Cert.SguKernelIdeal.τ).loc Cert.SguKernelIdeal.main_arg0) = m ((c.tc : Thread Cert.SguKernelIdeal.nD Cert.SguKernelIdeal.τ).loc Cert.SguKernelIdeal.main_arg0)
          ∧ r.2.mem ((c.tc : Thread Cert.SguKernelIdeal.nD Cert.SguKernelIdeal.τ).loc Cert.SguKernelIdeal.main_arg1) = m ((c.tc : Thread Cert.SguKernelIdeal.nD Cert.SguKernelIdeal.τ).loc Cert.SguKernelIdeal.main_arg1)
          ∧ r.2.mem ((c.tc : Thread Cert.SguKernelIdeal.nD Cert.SguKernelIdeal.τ).loc Cert.SguKernelIdeal.main_arg2) = m ((c.tc : Thread Cert.SguKernelIdeal.nD Cert.SguKernelIdeal.τ).loc Cert.SguKernelIdeal.main_arg2)
          ∧ r.2.mem ((c.tc : Thread Cert.SguKernelIdeal.nD Cert.SguKernelIdeal.τ).loc Cert.SguKernelIdeal.main_arg3) = m ((c.tc : Thread Cert.SguKernelIdeal.nD Cert.SguKernelIdeal.τ).loc Cert.SguKernelIdeal.main_arg3)
          ∧ r.2.mem ((c.tc : Thread Cert.SguKernelIdeal.nD Cert.SguKernelIdeal.τ).loc Cert.SguKernelIdeal.main_arg4) = m ((c.tc : Thread Cert.SguKernelIdeal.nD Cert.SguKernelIdeal.τ).loc Cert.SguKernelIdeal.main_arg4)
          ∧ r.2.mem ((c.tc : Thread Cert.SguKernelIdeal.nD Cert.SguKernelIdeal.τ).loc Cert.SguKernelIdeal.main_arg5) = m ((c.tc : Thread Cert.SguKernelIdeal.nD Cert.SguKernelIdeal.τ).loc Cert.SguKernelIdeal.main_arg5))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v161) = v0 c
          ∧ r.2.mem ((c.tc : Thread Cert.SguReferenceIdeal.nD Cert.SguReferenceIdeal.τ).loc Cert.SguReferenceIdeal.main_v103) = v1 c
          ∧ r.2.mem ((c.tc : Thread Cert.SguReferenceIdeal.nD Cert.SguReferenceIdeal.τ).loc Cert.SguReferenceIdeal.main_v162) = v2 c
          ∧ r.2.mem ((c.tc : Thread Cert.SguReferenceIdeal.nD Cert.SguReferenceIdeal.τ).loc Cert.SguReferenceIdeal.main_v163) = v3 c
          ∧ r.2.mem ((c.tc : Thread Cert.SguReferenceIdeal.nD Cert.SguReferenceIdeal.τ).loc Cert.SguReferenceIdeal.main_v164) = v4 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4)
          ∧ r.2.mem ((c.tc : Thread Cert.SguReferenceIdeal.nD Cert.SguReferenceIdeal.τ).loc Cert.SguReferenceIdeal.main_arg5) = m' ((c.tc : Thread Cert.SguReferenceIdeal.nD Cert.SguReferenceIdeal.τ).loc Cert.SguReferenceIdeal.main_arg5))

def preserves_InprojKernel_InprojKernelIdeal : Prop :=
  True

def algebraic_InprojKernelIdeal_InprojReferenceIdeal [hInprojKernelIdeal : Cert.InprojKernelIdeal.Facts] [hInprojReferenceIdeal : Cert.InprojReferenceIdeal.Facts] : Prop :=
  ∀ (m : (ℓ : Loc Cert.InprojKernelIdeal.nD Cert.InprojKernelIdeal.τ Cert.InprojKernelIdeal.sig) → Buf (Elt Ideal) ℓ) (g : Dev Cert.InprojKernelIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojKernelIdeal m →
    (∀ c : Dev Cert.InprojKernelIdeal.nD,
      m' ((c.tc : Thread Cert.InprojReferenceIdeal.nD Cert.InprojReferenceIdeal.τ).loc Cert.InprojReferenceIdeal.main_arg0) = m ((c.tc : Thread Cert.InprojKernelIdeal.nD Cert.InprojKernelIdeal.τ).loc Cert.InprojKernelIdeal.main_arg0)
      ∧ m' ((c.tc : Thread Cert.InprojReferenceIdeal.nD Cert.InprojReferenceIdeal.τ).loc Cert.InprojReferenceIdeal.main_arg1) = m ((c.tc : Thread Cert.InprojKernelIdeal.nD Cert.InprojKernelIdeal.τ).loc Cert.InprojKernelIdeal.main_arg1)
      ∧ m' ((c.tc : Thread Cert.InprojReferenceIdeal.nD Cert.InprojReferenceIdeal.τ).loc Cert.InprojReferenceIdeal.main_arg2) = m ((c.tc : Thread Cert.InprojKernelIdeal.nD Cert.InprojKernelIdeal.τ).loc Cert.InprojKernelIdeal.main_arg2)
      ∧ m' ((c.tc : Thread Cert.InprojReferenceIdeal.nD Cert.InprojReferenceIdeal.τ).loc Cert.InprojReferenceIdeal.main_arg3) = m ((c.tc : Thread Cert.InprojKernelIdeal.nD Cert.InprojKernelIdeal.τ).loc Cert.InprojKernelIdeal.main_arg3)
      ∧ m' ((c.tc : Thread Cert.InprojReferenceIdeal.nD Cert.InprojReferenceIdeal.τ).loc Cert.InprojReferenceIdeal.main_arg4) = m ((c.tc : Thread Cert.InprojKernelIdeal.nD Cert.InprojKernelIdeal.τ).loc Cert.InprojKernelIdeal.main_arg4)
      ∧ m' ((c.tc : Thread Cert.InprojReferenceIdeal.nD Cert.InprojReferenceIdeal.τ).loc Cert.InprojReferenceIdeal.main_arg5) = m ((c.tc : Thread Cert.InprojKernelIdeal.nD Cert.InprojKernelIdeal.τ).loc Cert.InprojKernelIdeal.main_arg5)
      ∧ m' ((c.tc : Thread Cert.InprojReferenceIdeal.nD Cert.InprojReferenceIdeal.τ).loc Cert.InprojReferenceIdeal.main_arg6) = m ((c.tc : Thread Cert.InprojKernelIdeal.nD Cert.InprojKernelIdeal.τ).loc Cert.InprojKernelIdeal.main_arg6)) →
    ∃ (v0 : (c : Dev Cert.InprojKernelIdeal.nD) → Buf (Elt Ideal) ((c.tc : Thread Cert.InprojKernelIdeal.nD Cert.InprojKernelIdeal.τ).loc Cert.InprojKernelIdeal.main_v5_0)) (v1 : (c : Dev Cert.InprojKernelIdeal.nD) → Buf (Elt Ideal) ((c.tc : Thread Cert.InprojKernelIdeal.nD Cert.InprojKernelIdeal.τ).loc Cert.InprojKernelIdeal.main_v5_1)) (v2 : (c : Dev Cert.InprojKernelIdeal.nD) → Buf (Elt Ideal) ((c.tc : Thread Cert.InprojKernelIdeal.nD Cert.InprojKernelIdeal.τ).loc Cert.InprojKernelIdeal.main_v5_2)),
      θ_run (Cert.InprojKernelIdeal.defs (F := Ideal)) (onTc (τ := Cert.InprojKernelIdeal.τ) (Cert.InprojKernelIdeal.main (F := Ideal))) ⟨m, fun _ => 0, g⟩ (fun r => ∀ c : Dev Cert.InprojKernelIdeal.nD,
          r.2.mem ((c.tc : Thread Cert.InprojKernelIdeal.nD Cert.InprojKernelIdeal.τ).loc Cert.InprojKernelIdeal.main_v5_0) = v0 c
          ∧ r.2.mem ((c.tc : Thread Cert.InprojKernelIdeal.nD Cert.InprojKernelIdeal.τ).loc Cert.InprojKernelIdeal.main_v5_1) = v1 c
          ∧ r.2.mem ((c.tc : Thread Cert.InprojKernelIdeal.nD Cert.InprojKernelIdeal.τ).loc Cert.InprojKernelIdeal.main_v5_2) = v2 c
          ∧ r.2.mem ((c.tc : Thread Cert.InprojKernelIdeal.nD Cert.InprojKernelIdeal.τ).loc Cert.InprojKernelIdeal.main_arg0) = m ((c.tc : Thread Cert.InprojKernelIdeal.nD Cert.InprojKernelIdeal.τ).loc Cert.InprojKernelIdeal.main_arg0)
          ∧ r.2.mem ((c.tc : Thread Cert.InprojKernelIdeal.nD Cert.InprojKernelIdeal.τ).loc Cert.InprojKernelIdeal.main_arg1) = m ((c.tc : Thread Cert.InprojKernelIdeal.nD Cert.InprojKernelIdeal.τ).loc Cert.InprojKernelIdeal.main_arg1)
          ∧ r.2.mem ((c.tc : Thread Cert.InprojKernelIdeal.nD Cert.InprojKernelIdeal.τ).loc Cert.InprojKernelIdeal.main_arg2) = m ((c.tc : Thread Cert.InprojKernelIdeal.nD Cert.InprojKernelIdeal.τ).loc Cert.InprojKernelIdeal.main_arg2)
          ∧ r.2.mem ((c.tc : Thread Cert.InprojKernelIdeal.nD Cert.InprojKernelIdeal.τ).loc Cert.InprojKernelIdeal.main_arg3) = m ((c.tc : Thread Cert.InprojKernelIdeal.nD Cert.InprojKernelIdeal.τ).loc Cert.InprojKernelIdeal.main_arg3)
          ∧ r.2.mem ((c.tc : Thread Cert.InprojKernelIdeal.nD Cert.InprojKernelIdeal.τ).loc Cert.InprojKernelIdeal.main_arg4) = m ((c.tc : Thread Cert.InprojKernelIdeal.nD Cert.InprojKernelIdeal.τ).loc Cert.InprojKernelIdeal.main_arg4)
          ∧ r.2.mem ((c.tc : Thread Cert.InprojKernelIdeal.nD Cert.InprojKernelIdeal.τ).loc Cert.InprojKernelIdeal.main_arg5) = m ((c.tc : Thread Cert.InprojKernelIdeal.nD Cert.InprojKernelIdeal.τ).loc Cert.InprojKernelIdeal.main_arg5)
          ∧ r.2.mem ((c.tc : Thread Cert.InprojKernelIdeal.nD Cert.InprojKernelIdeal.τ).loc Cert.InprojKernelIdeal.main_arg6) = m ((c.tc : Thread Cert.InprojKernelIdeal.nD Cert.InprojKernelIdeal.τ).loc Cert.InprojKernelIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v45) = v0 c
          ∧ r.2.mem ((c.tc : Thread Cert.InprojReferenceIdeal.nD Cert.InprojReferenceIdeal.τ).loc Cert.InprojReferenceIdeal.main_v46) = v1 c
          ∧ r.2.mem ((c.tc : Thread Cert.InprojReferenceIdeal.nD Cert.InprojReferenceIdeal.τ).loc Cert.InprojReferenceIdeal.main_v47) = v2 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)) →
    ∃ (v0 : (c : Dev Cert.MergeKernelIdeal.nD) → Buf (Elt Ideal) ((c.tc : Thread Cert.MergeKernelIdeal.nD Cert.MergeKernelIdeal.τ).loc Cert.MergeKernelIdeal.main_v7_0)) (v1 : (c : Dev Cert.MergeKernelIdeal.nD) → Buf (Elt Ideal) ((c.tc : Thread Cert.MergeKernelIdeal.nD Cert.MergeKernelIdeal.τ).loc Cert.MergeKernelIdeal.main_v7_1)) (v2 : (c : Dev Cert.MergeKernelIdeal.nD) → Buf (Elt Ideal) ((c.tc : Thread Cert.MergeKernelIdeal.nD Cert.MergeKernelIdeal.τ).loc Cert.MergeKernelIdeal.main_v7_2)) (v3 : (c : Dev Cert.MergeKernelIdeal.nD) → Buf (Elt Ideal) ((c.tc : Thread Cert.MergeKernelIdeal.nD Cert.MergeKernelIdeal.τ).loc Cert.MergeKernelIdeal.main_v7_3)) (v4 : (c : Dev Cert.MergeKernelIdeal.nD) → Buf (Elt Ideal) ((c.tc : Thread Cert.MergeKernelIdeal.nD Cert.MergeKernelIdeal.τ).loc Cert.MergeKernelIdeal.main_v7_4)) (v5 : (c : Dev Cert.MergeKernelIdeal.nD) → Buf (Elt Ideal) ((c.tc : Thread Cert.MergeKernelIdeal.nD Cert.MergeKernelIdeal.τ).loc Cert.MergeKernelIdeal.main_v8_0)) (v6 : (c : Dev Cert.MergeKernelIdeal.nD) → Buf (Elt Ideal) ((c.tc : Thread Cert.MergeKernelIdeal.nD Cert.MergeKernelIdeal.τ).loc Cert.MergeKernelIdeal.main_v8_1)) (v7 : (c : Dev Cert.MergeKernelIdeal.nD) → Buf (Elt Ideal) ((c.tc : Thread Cert.MergeKernelIdeal.nD Cert.MergeKernelIdeal.τ).loc Cert.MergeKernelIdeal.main_v8_2)) (v8 : (c : Dev Cert.MergeKernelIdeal.nD) → Buf (Elt Ideal) ((c.tc : Thread Cert.MergeKernelIdeal.nD Cert.MergeKernelIdeal.τ).loc Cert.MergeKernelIdeal.main_v8_3)) (v9 : (c : Dev Cert.MergeKernelIdeal.nD) → Buf (Elt Ideal) ((c.tc : Thread Cert.MergeKernelIdeal.nD Cert.MergeKernelIdeal.τ).loc Cert.MergeKernelIdeal.main_v8_4)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v7_0) = v0 c
          ∧ r.2.mem ((c.tc : Thread Cert.MergeKernelIdeal.nD Cert.MergeKernelIdeal.τ).loc Cert.MergeKernelIdeal.main_v7_1) = v1 c
          ∧ r.2.mem ((c.tc : Thread Cert.MergeKernelIdeal.nD Cert.MergeKernelIdeal.τ).loc Cert.MergeKernelIdeal.main_v7_2) = v2 c
          ∧ r.2.mem ((c.tc : Thread Cert.MergeKernelIdeal.nD Cert.MergeKernelIdeal.τ).loc Cert.MergeKernelIdeal.main_v7_3) = v3 c
          ∧ r.2.mem ((c.tc : Thread Cert.MergeKernelIdeal.nD Cert.MergeKernelIdeal.τ).loc Cert.MergeKernelIdeal.main_v7_4) = v4 c
          ∧ r.2.mem ((c.tc : Thread Cert.MergeKernelIdeal.nD Cert.MergeKernelIdeal.τ).loc Cert.MergeKernelIdeal.main_v8_0) = v5 c
          ∧ r.2.mem ((c.tc : Thread Cert.MergeKernelIdeal.nD Cert.MergeKernelIdeal.τ).loc Cert.MergeKernelIdeal.main_v8_1) = v6 c
          ∧ r.2.mem ((c.tc : Thread Cert.MergeKernelIdeal.nD Cert.MergeKernelIdeal.τ).loc Cert.MergeKernelIdeal.main_v8_2) = v7 c
          ∧ r.2.mem ((c.tc : Thread Cert.MergeKernelIdeal.nD Cert.MergeKernelIdeal.τ).loc Cert.MergeKernelIdeal.main_v8_3) = v8 c
          ∧ r.2.mem ((c.tc : Thread Cert.MergeKernelIdeal.nD Cert.MergeKernelIdeal.τ).loc Cert.MergeKernelIdeal.main_v8_4) = v9 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v29) = v0 c
          ∧ r.2.mem ((c.tc : Thread Cert.MergeReferenceIdeal.nD Cert.MergeReferenceIdeal.τ).loc Cert.MergeReferenceIdeal.main_v53) = v1 c
          ∧ r.2.mem ((c.tc : Thread Cert.MergeReferenceIdeal.nD Cert.MergeReferenceIdeal.τ).loc Cert.MergeReferenceIdeal.main_v54) = v2 c
          ∧ r.2.mem ((c.tc : Thread Cert.MergeReferenceIdeal.nD Cert.MergeReferenceIdeal.τ).loc Cert.MergeReferenceIdeal.main_v55) = v3 c
          ∧ r.2.mem ((c.tc : Thread Cert.MergeReferenceIdeal.nD Cert.MergeReferenceIdeal.τ).loc Cert.MergeReferenceIdeal.main_v56) = v4 c
          ∧ r.2.mem ((c.tc : Thread Cert.MergeReferenceIdeal.nD Cert.MergeReferenceIdeal.τ).loc Cert.MergeReferenceIdeal.main_v57) = v5 c
          ∧ r.2.mem ((c.tc : Thread Cert.MergeReferenceIdeal.nD Cert.MergeReferenceIdeal.τ).loc Cert.MergeReferenceIdeal.main_v58) = v6 c
          ∧ r.2.mem ((c.tc : Thread Cert.MergeReferenceIdeal.nD Cert.MergeReferenceIdeal.τ).loc Cert.MergeReferenceIdeal.main_v59) = v7 c
          ∧ r.2.mem ((c.tc : Thread Cert.MergeReferenceIdeal.nD Cert.MergeReferenceIdeal.τ).loc Cert.MergeReferenceIdeal.main_v60) = v8 c
          ∧ r.2.mem ((c.tc : Thread Cert.MergeReferenceIdeal.nD Cert.MergeReferenceIdeal.τ).loc Cert.MergeReferenceIdeal.main_v61) = v9 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v20_0)) (v1 : (c : Dev Cert.FfnKernelIdeal.nD) → Buf (Elt Ideal) ((c.tc : Thread Cert.FfnKernelIdeal.nD Cert.FfnKernelIdeal.τ).loc Cert.FfnKernelIdeal.main_v20_1)) (v2 : (c : Dev Cert.FfnKernelIdeal.nD) → Buf (Elt Ideal) ((c.tc : Thread Cert.FfnKernelIdeal.nD Cert.FfnKernelIdeal.τ).loc Cert.FfnKernelIdeal.main_v22_0)) (v3 : (c : Dev Cert.FfnKernelIdeal.nD) → Buf (Elt Ideal) ((c.tc : Thread Cert.FfnKernelIdeal.nD Cert.FfnKernelIdeal.τ).loc Cert.FfnKernelIdeal.main_v22_1)) (v4 : (c : Dev Cert.FfnKernelIdeal.nD) → Buf (Elt Ideal) ((c.tc : Thread Cert.FfnKernelIdeal.nD Cert.FfnKernelIdeal.τ).loc Cert.FfnKernelIdeal.main_v22_2)) (v5 : (c : Dev Cert.FfnKernelIdeal.nD) → Buf (Elt Ideal) ((c.tc : Thread Cert.FfnKernelIdeal.nD Cert.FfnKernelIdeal.τ).loc Cert.FfnKernelIdeal.main_v22_3)) (v6 : (c : Dev Cert.FfnKernelIdeal.nD) → Buf (Elt Ideal) ((c.tc : Thread Cert.FfnKernelIdeal.nD Cert.FfnKernelIdeal.τ).loc Cert.FfnKernelIdeal.main_v22_4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v20_0) = v0 c
          ∧ r.2.mem ((c.tc : Thread Cert.FfnKernelIdeal.nD Cert.FfnKernelIdeal.τ).loc Cert.FfnKernelIdeal.main_v20_1) = v1 c
          ∧ r.2.mem ((c.tc : Thread Cert.FfnKernelIdeal.nD Cert.FfnKernelIdeal.τ).loc Cert.FfnKernelIdeal.main_v22_0) = v2 c
          ∧ r.2.mem ((c.tc : Thread Cert.FfnKernelIdeal.nD Cert.FfnKernelIdeal.τ).loc Cert.FfnKernelIdeal.main_v22_1) = v3 c
          ∧ r.2.mem ((c.tc : Thread Cert.FfnKernelIdeal.nD Cert.FfnKernelIdeal.τ).loc Cert.FfnKernelIdeal.main_v22_2) = v4 c
          ∧ r.2.mem ((c.tc : Thread Cert.FfnKernelIdeal.nD Cert.FfnKernelIdeal.τ).loc Cert.FfnKernelIdeal.main_v22_3) = v5 c
          ∧ r.2.mem ((c.tc : Thread Cert.FfnKernelIdeal.nD Cert.FfnKernelIdeal.τ).loc Cert.FfnKernelIdeal.main_v22_4) = v6 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v51) = v0 c
          ∧ r.2.mem ((c.tc : Thread Cert.FfnReferenceIdeal.nD Cert.FfnReferenceIdeal.τ).loc Cert.FfnReferenceIdeal.main_v52) = v1 c
          ∧ r.2.mem ((c.tc : Thread Cert.FfnReferenceIdeal.nD Cert.FfnReferenceIdeal.τ).loc Cert.FfnReferenceIdeal.main_v50) = v2 c
          ∧ r.2.mem ((c.tc : Thread Cert.FfnReferenceIdeal.nD Cert.FfnReferenceIdeal.τ).loc Cert.FfnReferenceIdeal.main_v53) = v3 c
          ∧ r.2.mem ((c.tc : Thread Cert.FfnReferenceIdeal.nD Cert.FfnReferenceIdeal.τ).loc Cert.FfnReferenceIdeal.main_v54) = v4 c
          ∧ r.2.mem ((c.tc : Thread Cert.FfnReferenceIdeal.nD Cert.FfnReferenceIdeal.τ).loc Cert.FfnReferenceIdeal.main_v55) = v5 c
          ∧ r.2.mem ((c.tc : Thread Cert.FfnReferenceIdeal.nD Cert.FfnReferenceIdeal.τ).loc Cert.FfnReferenceIdeal.main_v56) = v6 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_SgufwdKernel_SgufwdKernelIdeal : Prop :=
  IdealRules.named_const.Statement Cert.SgufwdKernelIdeal.κ "gelu_a" .bf16 0x3D37#16 ((12003091 / 268435456 : ℝ) : EReal)
  ∧ IdealRules.named_const.Statement Cert.SgufwdKernelIdeal.κ "gelu_c" .bf16 0x3F4C#16 ((6693141 / 8388608 : ℝ) : EReal)

def algebraic_SgufwdKernelIdeal_SgufwdReferenceIdeal [hSgufwdKernelIdeal : Cert.SgufwdKernelIdeal.Facts] [hSgufwdReferenceIdeal : Cert.SgufwdReferenceIdeal.Facts] : Prop :=
  ∀ (m : (ℓ : Loc Cert.SgufwdKernelIdeal.nD Cert.SgufwdKernelIdeal.τ Cert.SgufwdKernelIdeal.sig) → Buf (Elt Ideal) ℓ) (g : Dev Cert.SgufwdKernelIdeal.nD → PrngReg)
    (m' : (ℓ : Loc Cert.SgufwdReferenceIdeal.nD Cert.SgufwdReferenceIdeal.τ Cert.SgufwdReferenceIdeal.sig) → Buf (Elt Ideal) ℓ) (g' : Dev Cert.SgufwdReferenceIdeal.nD → PrngReg), Pre_SgufwdKernelIdeal m →
    (∀ c : Dev Cert.SgufwdKernelIdeal.nD,
      m' ((c.tc : Thread Cert.SgufwdReferenceIdeal.nD Cert.SgufwdReferenceIdeal.τ).loc Cert.SgufwdReferenceIdeal.main_arg0) = m ((c.tc : Thread Cert.SgufwdKernelIdeal.nD Cert.SgufwdKernelIdeal.τ).loc Cert.SgufwdKernelIdeal.main_arg0)
      ∧ m' ((c.tc : Thread Cert.SgufwdReferenceIdeal.nD Cert.SgufwdReferenceIdeal.τ).loc Cert.SgufwdReferenceIdeal.main_arg1) = m ((c.tc : Thread Cert.SgufwdKernelIdeal.nD Cert.SgufwdKernelIdeal.τ).loc Cert.SgufwdKernelIdeal.main_arg1)
      ∧ m' ((c.tc : Thread Cert.SgufwdReferenceIdeal.nD Cert.SgufwdReferenceIdeal.τ).loc Cert.SgufwdReferenceIdeal.main_arg2) = m ((c.tc : Thread Cert.SgufwdKernelIdeal.nD Cert.SgufwdKernelIdeal.τ).loc Cert.SgufwdKernelIdeal.main_arg2)
      ∧ m' ((c.tc : Thread Cert.SgufwdReferenceIdeal.nD Cert.SgufwdReferenceIdeal.τ).loc Cert.SgufwdReferenceIdeal.main_arg3) = m ((c.tc : Thread Cert.SgufwdKernelIdeal.nD Cert.SgufwdKernelIdeal.τ).loc Cert.SgufwdKernelIdeal.main_arg3)
      ∧ m' ((c.tc : Thread Cert.SgufwdReferenceIdeal.nD Cert.SgufwdReferenceIdeal.τ).loc Cert.SgufwdReferenceIdeal.main_arg4) = m ((c.tc : Thread Cert.SgufwdKernelIdeal.nD Cert.SgufwdKernelIdeal.τ).loc Cert.SgufwdKernelIdeal.main_arg4)) →
    ∃ (v0 : (c : Dev Cert.SgufwdKernelIdeal.nD) → Buf (Elt Ideal) ((c.tc : Thread Cert.SgufwdKernelIdeal.nD Cert.SgufwdKernelIdeal.τ).loc Cert.SgufwdKernelIdeal.main_v16)),
      θ_run (Cert.SgufwdKernelIdeal.defs (F := Ideal)) (onTc (τ := Cert.SgufwdKernelIdeal.τ) (Cert.SgufwdKernelIdeal.main (F := Ideal))) ⟨m, fun _ => 0, g⟩ (fun r => ∀ c : Dev Cert.SgufwdKernelIdeal.nD,
          r.2.mem ((c.tc : Thread Cert.SgufwdKernelIdeal.nD Cert.SgufwdKernelIdeal.τ).loc Cert.SgufwdKernelIdeal.main_v16) = v0 c
          ∧ r.2.mem ((c.tc : Thread Cert.SgufwdKernelIdeal.nD Cert.SgufwdKernelIdeal.τ).loc Cert.SgufwdKernelIdeal.main_arg0) = m ((c.tc : Thread Cert.SgufwdKernelIdeal.nD Cert.SgufwdKernelIdeal.τ).loc Cert.SgufwdKernelIdeal.main_arg0)
          ∧ r.2.mem ((c.tc : Thread Cert.SgufwdKernelIdeal.nD Cert.SgufwdKernelIdeal.τ).loc Cert.SgufwdKernelIdeal.main_arg1) = m ((c.tc : Thread Cert.SgufwdKernelIdeal.nD Cert.SgufwdKernelIdeal.τ).loc Cert.SgufwdKernelIdeal.main_arg1)
          ∧ r.2.mem ((c.tc : Thread Cert.SgufwdKernelIdeal.nD Cert.SgufwdKernelIdeal.τ).loc Cert.SgufwdKernelIdeal.main_arg2) = m ((c.tc : Thread Cert.SgufwdKernelIdeal.nD Cert.SgufwdKernelIdeal.τ).loc Cert.SgufwdKernelIdeal.main_arg2)
          ∧ r.2.mem ((c.tc : Thread Cert.SgufwdKernelIdeal.nD Cert.SgufwdKernelIdeal.τ).loc Cert.SgufwdKernelIdeal.main_arg3) = m ((c.tc : Thread Cert.SgufwdKernelIdeal.nD Cert.SgufwdKernelIdeal.τ).loc Cert.SgufwdKernelIdeal.main_arg3)
          ∧ r.2.mem ((c.tc : Thread Cert.SgufwdKernelIdeal.nD Cert.SgufwdKernelIdeal.τ).loc Cert.SgufwdKernelIdeal.main_arg4) = m ((c.tc : Thread Cert.SgufwdKernelIdeal.nD Cert.SgufwdKernelIdeal.τ).loc Cert.SgufwdKernelIdeal.main_arg4))
      ∧ θ_run (Cert.SgufwdReferenceIdeal.defs (F := Ideal)) (onTc (τ := Cert.SgufwdReferenceIdeal.τ) (Cert.SgufwdReferenceIdeal.main (F := Ideal))) ⟨m', fun _ => 0, g'⟩ (fun r => ∀ c : Dev Cert.SgufwdReferenceIdeal.nD,
          r.2.mem ((c.tc : Thread Cert.SgufwdReferenceIdeal.nD Cert.SgufwdReferenceIdeal.τ).loc Cert.SgufwdReferenceIdeal.main_v71) = v0 c
          ∧ r.2.mem ((c.tc : Thread Cert.SgufwdReferenceIdeal.nD Cert.SgufwdReferenceIdeal.τ).loc Cert.SgufwdReferenceIdeal.main_arg0) = m' ((c.tc : Thread Cert.SgufwdReferenceIdeal.nD Cert.SgufwdReferenceIdeal.τ).loc Cert.SgufwdReferenceIdeal.main_arg0)
          ∧ r.2.mem ((c.tc : Thread Cert.SgufwdReferenceIdeal.nD Cert.SgufwdReferenceIdeal.τ).loc Cert.SgufwdReferenceIdeal.main_arg1) = m' ((c.tc : Thread Cert.SgufwdReferenceIdeal.nD Cert.SgufwdReferenceIdeal.τ).loc Cert.SgufwdReferenceIdeal.main_arg1)
          ∧ r.2.mem ((c.tc : Thread Cert.SgufwdReferenceIdeal.nD Cert.SgufwdReferenceIdeal.τ).loc Cert.SgufwdReferenceIdeal.main_arg2) = m' ((c.tc : Thread Cert.SgufwdReferenceIdeal.nD Cert.SgufwdReferenceIdeal.τ).loc Cert.SgufwdReferenceIdeal.main_arg2)
          ∧ r.2.mem ((c.tc : Thread Cert.SgufwdReferenceIdeal.nD Cert.SgufwdReferenceIdeal.τ).loc Cert.SgufwdReferenceIdeal.main_arg3) = m' ((c.tc : Thread Cert.SgufwdReferenceIdeal.nD Cert.SgufwdReferenceIdeal.τ).loc Cert.SgufwdReferenceIdeal.main_arg3)
          ∧ r.2.mem ((c.tc : Thread Cert.SgufwdReferenceIdeal.nD Cert.SgufwdReferenceIdeal.τ).loc Cert.SgufwdReferenceIdeal.main_arg4) = m' ((c.tc : Thread Cert.SgufwdReferenceIdeal.nD Cert.SgufwdReferenceIdeal.τ).loc Cert.SgufwdReferenceIdeal.main_arg4))

def preserves_RnnfwdKernel_RnnfwdKernelIdeal : Prop :=
  IdealRules.named_const.Statement Cert.RnnfwdKernelIdeal.κ "gelu_a" .bf16 0x3D37#16 ((12003091 / 268435456 : ℝ) : EReal)
  ∧ IdealRules.named_const.Statement Cert.RnnfwdKernelIdeal.κ "gelu_c" .bf16 0x3F4C#16 ((6693141 / 8388608 : ℝ) : EReal)

def algebraic_RnnfwdKernelIdeal_RnnfwdReferenceIdeal_pre_rnn_gap [hRnnfwdKernelIdeal : Cert.RnnfwdKernelIdeal.Facts] [hRnnfwdReferenceIdeal : Cert.RnnfwdReferenceIdeal.Facts] [hPre_rnn_gap : Cert.Pre_rnn_gap.Facts] : Prop :=
  ∀ (m : (ℓ : Loc Cert.RnnfwdKernelIdeal.nD Cert.RnnfwdKernelIdeal.τ Cert.RnnfwdKernelIdeal.sig) → Buf (Elt Ideal) ℓ) (g : Dev Cert.RnnfwdKernelIdeal.nD → PrngReg)
    (m' : (ℓ : Loc Cert.RnnfwdReferenceIdeal.nD Cert.RnnfwdReferenceIdeal.τ Cert.RnnfwdReferenceIdeal.sig) → Buf (Elt Ideal) ℓ) (g' : Dev Cert.RnnfwdReferenceIdeal.nD → PrngReg), Pre_RnnfwdKernelIdeal_rnn_gap m →
    (∀ c : Dev Cert.RnnfwdKernelIdeal.nD,
      m' ((c.tc : Thread Cert.RnnfwdReferenceIdeal.nD Cert.RnnfwdReferenceIdeal.τ).loc Cert.RnnfwdReferenceIdeal.main_arg0) = m ((c.tc : Thread Cert.RnnfwdKernelIdeal.nD Cert.RnnfwdKernelIdeal.τ).loc Cert.RnnfwdKernelIdeal.main_arg0)
      ∧ m' ((c.tc : Thread Cert.RnnfwdReferenceIdeal.nD Cert.RnnfwdReferenceIdeal.τ).loc Cert.RnnfwdReferenceIdeal.main_arg1) = m ((c.tc : Thread Cert.RnnfwdKernelIdeal.nD Cert.RnnfwdKernelIdeal.τ).loc Cert.RnnfwdKernelIdeal.main_arg1)
      ∧ m' ((c.tc : Thread Cert.RnnfwdReferenceIdeal.nD Cert.RnnfwdReferenceIdeal.τ).loc Cert.RnnfwdReferenceIdeal.main_arg2) = m ((c.tc : Thread Cert.RnnfwdKernelIdeal.nD Cert.RnnfwdKernelIdeal.τ).loc Cert.RnnfwdKernelIdeal.main_arg2)
      ∧ m' ((c.tc : Thread Cert.RnnfwdReferenceIdeal.nD Cert.RnnfwdReferenceIdeal.τ).loc Cert.RnnfwdReferenceIdeal.main_arg3) = m ((c.tc : Thread Cert.RnnfwdKernelIdeal.nD Cert.RnnfwdKernelIdeal.τ).loc Cert.RnnfwdKernelIdeal.main_arg3)
      ∧ m' ((c.tc : Thread Cert.RnnfwdReferenceIdeal.nD Cert.RnnfwdReferenceIdeal.τ).loc Cert.RnnfwdReferenceIdeal.main_arg4) = m ((c.tc : Thread Cert.RnnfwdKernelIdeal.nD Cert.RnnfwdKernelIdeal.τ).loc Cert.RnnfwdKernelIdeal.main_arg4)
      ∧ m' ((c.tc : Thread Cert.RnnfwdReferenceIdeal.nD Cert.RnnfwdReferenceIdeal.τ).loc Cert.RnnfwdReferenceIdeal.main_arg5) = m ((c.tc : Thread Cert.RnnfwdKernelIdeal.nD Cert.RnnfwdKernelIdeal.τ).loc Cert.RnnfwdKernelIdeal.main_arg5)
      ∧ m' ((c.tc : Thread Cert.RnnfwdReferenceIdeal.nD Cert.RnnfwdReferenceIdeal.τ).loc Cert.RnnfwdReferenceIdeal.main_arg6) = m ((c.tc : Thread Cert.RnnfwdKernelIdeal.nD Cert.RnnfwdKernelIdeal.τ).loc Cert.RnnfwdKernelIdeal.main_arg6)
      ∧ m' ((c.tc : Thread Cert.RnnfwdReferenceIdeal.nD Cert.RnnfwdReferenceIdeal.τ).loc Cert.RnnfwdReferenceIdeal.main_arg7) = m ((c.tc : Thread Cert.RnnfwdKernelIdeal.nD Cert.RnnfwdKernelIdeal.τ).loc Cert.RnnfwdKernelIdeal.main_arg7)) →
    ∃ (v0 : (c : Dev Cert.RnnfwdKernelIdeal.nD) → Buf (Elt Ideal) ((c.tc : Thread Cert.RnnfwdKernelIdeal.nD Cert.RnnfwdKernelIdeal.τ).loc Cert.RnnfwdKernelIdeal.main_v34_0)) (v1 : (c : Dev Cert.RnnfwdKernelIdeal.nD) → Buf (Elt Ideal) ((c.tc : Thread Cert.RnnfwdKernelIdeal.nD Cert.RnnfwdKernelIdeal.τ).loc Cert.RnnfwdKernelIdeal.main_v34_1)) (v2 : (c : Dev Cert.RnnfwdKernelIdeal.nD) → Buf (Elt Ideal) ((c.tc : Thread Cert.RnnfwdKernelIdeal.nD Cert.RnnfwdKernelIdeal.τ).loc Cert.RnnfwdKernelIdeal.main_v34_2)),
      θ_run (Cert.RnnfwdKernelIdeal.defs (F := Ideal)) (onTc (τ := Cert.RnnfwdKernelIdeal.τ) (Cert.RnnfwdKernelIdeal.main (F := Ideal))) ⟨m, fun _ => 0, g⟩ (fun r => ∀ c : Dev Cert.RnnfwdKernelIdeal.nD,
          r.2.mem ((c.tc : Thread Cert.RnnfwdKernelIdeal.nD Cert.RnnfwdKernelIdeal.τ).loc Cert.RnnfwdKernelIdeal.main_v34_0) = v0 c
          ∧ r.2.mem ((c.tc : Thread Cert.RnnfwdKernelIdeal.nD Cert.RnnfwdKernelIdeal.τ).loc Cert.RnnfwdKernelIdeal.main_v34_1) = v1 c
          ∧ r.2.mem ((c.tc : Thread Cert.RnnfwdKernelIdeal.nD Cert.RnnfwdKernelIdeal.τ).loc Cert.RnnfwdKernelIdeal.main_v34_2) = v2 c
          ∧ r.2.mem ((c.tc : Thread Cert.RnnfwdKernelIdeal.nD Cert.RnnfwdKernelIdeal.τ).loc Cert.RnnfwdKernelIdeal.main_arg0) = m ((c.tc : Thread Cert.RnnfwdKernelIdeal.nD Cert.RnnfwdKernelIdeal.τ).loc Cert.RnnfwdKernelIdeal.main_arg0)
          ∧ r.2.mem ((c.tc : Thread Cert.RnnfwdKernelIdeal.nD Cert.RnnfwdKernelIdeal.τ).loc Cert.RnnfwdKernelIdeal.main_arg1) = m ((c.tc : Thread Cert.RnnfwdKernelIdeal.nD Cert.RnnfwdKernelIdeal.τ).loc Cert.RnnfwdKernelIdeal.main_arg1)
          ∧ r.2.mem ((c.tc : Thread Cert.RnnfwdKernelIdeal.nD Cert.RnnfwdKernelIdeal.τ).loc Cert.RnnfwdKernelIdeal.main_arg2) = m ((c.tc : Thread Cert.RnnfwdKernelIdeal.nD Cert.RnnfwdKernelIdeal.τ).loc Cert.RnnfwdKernelIdeal.main_arg2)
          ∧ r.2.mem ((c.tc : Thread Cert.RnnfwdKernelIdeal.nD Cert.RnnfwdKernelIdeal.τ).loc Cert.RnnfwdKernelIdeal.main_arg3) = m ((c.tc : Thread Cert.RnnfwdKernelIdeal.nD Cert.RnnfwdKernelIdeal.τ).loc Cert.RnnfwdKernelIdeal.main_arg3)
          ∧ r.2.mem ((c.tc : Thread Cert.RnnfwdKernelIdeal.nD Cert.RnnfwdKernelIdeal.τ).loc Cert.RnnfwdKernelIdeal.main_arg4) = m ((c.tc : Thread Cert.RnnfwdKernelIdeal.nD Cert.RnnfwdKernelIdeal.τ).loc Cert.RnnfwdKernelIdeal.main_arg4)
          ∧ r.2.mem ((c.tc : Thread Cert.RnnfwdKernelIdeal.nD Cert.RnnfwdKernelIdeal.τ).loc Cert.RnnfwdKernelIdeal.main_arg5) = m ((c.tc : Thread Cert.RnnfwdKernelIdeal.nD Cert.RnnfwdKernelIdeal.τ).loc Cert.RnnfwdKernelIdeal.main_arg5)
          ∧ r.2.mem ((c.tc : Thread Cert.RnnfwdKernelIdeal.nD Cert.RnnfwdKernelIdeal.τ).loc Cert.RnnfwdKernelIdeal.main_arg6) = m ((c.tc : Thread Cert.RnnfwdKernelIdeal.nD Cert.RnnfwdKernelIdeal.τ).loc Cert.RnnfwdKernelIdeal.main_arg6)
          ∧ r.2.mem ((c.tc : Thread Cert.RnnfwdKernelIdeal.nD Cert.RnnfwdKernelIdeal.τ).loc Cert.RnnfwdKernelIdeal.main_arg7) = m ((c.tc : Thread Cert.RnnfwdKernelIdeal.nD Cert.RnnfwdKernelIdeal.τ).loc Cert.RnnfwdKernelIdeal.main_arg7))
      ∧ θ_run (Cert.RnnfwdReferenceIdeal.defs (F := Ideal)) (onTc (τ := Cert.RnnfwdReferenceIdeal.τ) (Cert.RnnfwdReferenceIdeal.main (F := Ideal))) ⟨m', fun _ => 0, g'⟩ (fun r => ∀ c : Dev Cert.RnnfwdReferenceIdeal.nD,
          r.2.mem ((c.tc : Thread Cert.RnnfwdReferenceIdeal.nD Cert.RnnfwdReferenceIdeal.τ).loc Cert.RnnfwdReferenceIdeal.main_v128) = v0 c
          ∧ r.2.mem ((c.tc : Thread Cert.RnnfwdReferenceIdeal.nD Cert.RnnfwdReferenceIdeal.τ).loc Cert.RnnfwdReferenceIdeal.main_v129) = v1 c
          ∧ r.2.mem ((c.tc : Thread Cert.RnnfwdReferenceIdeal.nD Cert.RnnfwdReferenceIdeal.τ).loc Cert.RnnfwdReferenceIdeal.main_v130) = v2 c
          ∧ r.2.mem ((c.tc : Thread Cert.RnnfwdReferenceIdeal.nD Cert.RnnfwdReferenceIdeal.τ).loc Cert.RnnfwdReferenceIdeal.main_arg0) = m' ((c.tc : Thread Cert.RnnfwdReferenceIdeal.nD Cert.RnnfwdReferenceIdeal.τ).loc Cert.RnnfwdReferenceIdeal.main_arg0)
          ∧ r.2.mem ((c.tc : Thread Cert.RnnfwdReferenceIdeal.nD Cert.RnnfwdReferenceIdeal.τ).loc Cert.RnnfwdReferenceIdeal.main_arg1) = m' ((c.tc : Thread Cert.RnnfwdReferenceIdeal.nD Cert.RnnfwdReferenceIdeal.τ).loc Cert.RnnfwdReferenceIdeal.main_arg1)
          ∧ r.2.mem ((c.tc : Thread Cert.RnnfwdReferenceIdeal.nD Cert.RnnfwdReferenceIdeal.τ).loc Cert.RnnfwdReferenceIdeal.main_arg2) = m' ((c.tc : Thread Cert.RnnfwdReferenceIdeal.nD Cert.RnnfwdReferenceIdeal.τ).loc Cert.RnnfwdReferenceIdeal.main_arg2)
          ∧ r.2.mem ((c.tc : Thread Cert.RnnfwdReferenceIdeal.nD Cert.RnnfwdReferenceIdeal.τ).loc Cert.RnnfwdReferenceIdeal.main_arg3) = m' ((c.tc : Thread Cert.RnnfwdReferenceIdeal.nD Cert.RnnfwdReferenceIdeal.τ).loc Cert.RnnfwdReferenceIdeal.main_arg3)
          ∧ r.2.mem ((c.tc : Thread Cert.RnnfwdReferenceIdeal.nD Cert.RnnfwdReferenceIdeal.τ).loc Cert.RnnfwdReferenceIdeal.main_arg4) = m' ((c.tc : Thread Cert.RnnfwdReferenceIdeal.nD Cert.RnnfwdReferenceIdeal.τ).loc Cert.RnnfwdReferenceIdeal.main_arg4)
          ∧ r.2.mem ((c.tc : Thread Cert.RnnfwdReferenceIdeal.nD Cert.RnnfwdReferenceIdeal.τ).loc Cert.RnnfwdReferenceIdeal.main_arg5) = m' ((c.tc : Thread Cert.RnnfwdReferenceIdeal.nD Cert.RnnfwdReferenceIdeal.τ).loc Cert.RnnfwdReferenceIdeal.main_arg5)
          ∧ r.2.mem ((c.tc : Thread Cert.RnnfwdReferenceIdeal.nD Cert.RnnfwdReferenceIdeal.τ).loc Cert.RnnfwdReferenceIdeal.main_arg6) = m' ((c.tc : Thread Cert.RnnfwdReferenceIdeal.nD Cert.RnnfwdReferenceIdeal.τ).loc Cert.RnnfwdReferenceIdeal.main_arg6)
          ∧ r.2.mem ((c.tc : Thread Cert.RnnfwdReferenceIdeal.nD Cert.RnnfwdReferenceIdeal.τ).loc Cert.RnnfwdReferenceIdeal.main_arg7) = m' ((c.tc : Thread Cert.RnnfwdReferenceIdeal.nD Cert.RnnfwdReferenceIdeal.τ).loc Cert.RnnfwdReferenceIdeal.main_arg7))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1) = v0 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v13) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_InpfwdKernel_InpfwdKernelIdeal : Prop :=
  True

def algebraic_InpfwdKernelIdeal_InpfwdReferenceIdeal [hInpfwdKernelIdeal : Cert.InpfwdKernelIdeal.Facts] [hInpfwdReferenceIdeal : Cert.InpfwdReferenceIdeal.Facts] : Prop :=
  ∀ (m : (ℓ : Loc Cert.InpfwdKernelIdeal.nD Cert.InpfwdKernelIdeal.τ Cert.InpfwdKernelIdeal.sig) → Buf (Elt Ideal) ℓ) (g : Dev Cert.InpfwdKernelIdeal.nD → PrngReg)
    (m' : (ℓ : Loc Cert.InpfwdReferenceIdeal.nD Cert.InpfwdReferenceIdeal.τ Cert.InpfwdReferenceIdeal.sig) → Buf (Elt Ideal) ℓ) (g' : Dev Cert.InpfwdReferenceIdeal.nD → PrngReg), Pre_InpfwdKernelIdeal m →
    (∀ c : Dev Cert.InpfwdKernelIdeal.nD,
      m' ((c.tc : Thread Cert.InpfwdReferenceIdeal.nD Cert.InpfwdReferenceIdeal.τ).loc Cert.InpfwdReferenceIdeal.main_arg0) = m ((c.tc : Thread Cert.InpfwdKernelIdeal.nD Cert.InpfwdKernelIdeal.τ).loc Cert.InpfwdKernelIdeal.main_arg0)
      ∧ m' ((c.tc : Thread Cert.InpfwdReferenceIdeal.nD Cert.InpfwdReferenceIdeal.τ).loc Cert.InpfwdReferenceIdeal.main_arg1) = m ((c.tc : Thread Cert.InpfwdKernelIdeal.nD Cert.InpfwdKernelIdeal.τ).loc Cert.InpfwdKernelIdeal.main_arg1)) →
    ∃ (v0 : (c : Dev Cert.InpfwdKernelIdeal.nD) → Buf (Elt Ideal) ((c.tc : Thread Cert.InpfwdKernelIdeal.nD Cert.InpfwdKernelIdeal.τ).loc Cert.InpfwdKernelIdeal.main_v4)),
      θ_run (Cert.InpfwdKernelIdeal.defs (F := Ideal)) (onTc (τ := Cert.InpfwdKernelIdeal.τ) (Cert.InpfwdKernelIdeal.main (F := Ideal))) ⟨m, fun _ => 0, g⟩ (fun r => ∀ c : Dev Cert.InpfwdKernelIdeal.nD,
          r.2.mem ((c.tc : Thread Cert.InpfwdKernelIdeal.nD Cert.InpfwdKernelIdeal.τ).loc Cert.InpfwdKernelIdeal.main_v4) = v0 c
          ∧ r.2.mem ((c.tc : Thread Cert.InpfwdKernelIdeal.nD Cert.InpfwdKernelIdeal.τ).loc Cert.InpfwdKernelIdeal.main_arg0) = m ((c.tc : Thread Cert.InpfwdKernelIdeal.nD Cert.InpfwdKernelIdeal.τ).loc Cert.InpfwdKernelIdeal.main_arg0)
          ∧ r.2.mem ((c.tc : Thread Cert.InpfwdKernelIdeal.nD Cert.InpfwdKernelIdeal.τ).loc Cert.InpfwdKernelIdeal.main_arg1) = m ((c.tc : Thread Cert.InpfwdKernelIdeal.nD Cert.InpfwdKernelIdeal.τ).loc Cert.InpfwdKernelIdeal.main_arg1))
      ∧ θ_run (Cert.InpfwdReferenceIdeal.defs (F := Ideal)) (onTc (τ := Cert.InpfwdReferenceIdeal.τ) (Cert.InpfwdReferenceIdeal.main (F := Ideal))) ⟨m', fun _ => 0, g'⟩ (fun r => ∀ c : Dev Cert.InpfwdReferenceIdeal.nD,
          r.2.mem ((c.tc : Thread Cert.InpfwdReferenceIdeal.nD Cert.InpfwdReferenceIdeal.τ).loc Cert.InpfwdReferenceIdeal.main_v2) = v0 c
          ∧ r.2.mem ((c.tc : Thread Cert.InpfwdReferenceIdeal.nD Cert.InpfwdReferenceIdeal.τ).loc Cert.InpfwdReferenceIdeal.main_arg0) = m' ((c.tc : Thread Cert.InpfwdReferenceIdeal.nD Cert.InpfwdReferenceIdeal.τ).loc Cert.InpfwdReferenceIdeal.main_arg0)
          ∧ r.2.mem ((c.tc : Thread Cert.InpfwdReferenceIdeal.nD Cert.InpfwdReferenceIdeal.τ).loc Cert.InpfwdReferenceIdeal.main_arg1) = m' ((c.tc : Thread Cert.InpfwdReferenceIdeal.nD Cert.InpfwdReferenceIdeal.τ).loc Cert.InpfwdReferenceIdeal.main_arg1))

def Claim : Prop :=
  ∃ (hLossKernel : Cert.LossKernel.Facts) (hLossKernelIdeal : Cert.LossKernelIdeal.Facts) (hLossReferenceIdeal : Cert.LossReferenceIdeal.Facts) (hSguKernel : Cert.SguKernel.Facts) (hSguKernelIdeal : Cert.SguKernelIdeal.Facts) (hSguReferenceIdeal : Cert.SguReferenceIdeal.Facts) (hInprojKernel : Cert.InprojKernel.Facts) (hInprojKernelIdeal : Cert.InprojKernelIdeal.Facts) (hInprojReferenceIdeal : Cert.InprojReferenceIdeal.Facts) (hMergeKernel : Cert.MergeKernel.Facts) (hMergeKernelIdeal : Cert.MergeKernelIdeal.Facts) (hMergeReferenceIdeal : Cert.MergeReferenceIdeal.Facts) (hFfnKernel : Cert.FfnKernel.Facts) (hFfnKernelIdeal : Cert.FfnKernelIdeal.Facts) (hFfnReferenceIdeal : Cert.FfnReferenceIdeal.Facts) (hSgufwdKernel : Cert.SgufwdKernel.Facts) (hSgufwdKernelIdeal : Cert.SgufwdKernelIdeal.Facts) (hSgufwdReferenceIdeal : Cert.SgufwdReferenceIdeal.Facts) (hRnnfwdKernel : Cert.RnnfwdKernel.Facts) (hRnnfwdKernelIdeal : Cert.RnnfwdKernelIdeal.Facts) (hRnnfwdReferenceIdeal : Cert.RnnfwdReferenceIdeal.Facts) (hNormKernel : Cert.NormKernel.Facts) (hNormKernelIdeal : Cert.NormKernelIdeal.Facts) (hNormReferenceIdeal : Cert.NormReferenceIdeal.Facts) (hInpfwdKernel : Cert.InpfwdKernel.Facts) (hInpfwdKernelIdeal : Cert.InpfwdKernelIdeal.Facts) (hInpfwdReferenceIdeal : Cert.InpfwdReferenceIdeal.Facts) (hPre_sgu_finite : Cert.Pre_sgu_finite.Facts) (hPre_rnn_gap : Cert.Pre_rnn_gap.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_SguKernel (hSguKernel := hSguKernel)
    ∧ quiescent_SguKernelIdeal (hSguKernelIdeal := hSguKernelIdeal)
    ∧ quiescent_SguKernelIdeal_pre_sgu_finite (hSguKernelIdeal := hSguKernelIdeal) (hPre_sgu_finite := hPre_sgu_finite)
    ∧ quiescent_SguReferenceIdeal (hSguReferenceIdeal := hSguReferenceIdeal)
    ∧ quiescent_SguReferenceIdeal_pre_sgu_finite (hSguReferenceIdeal := hSguReferenceIdeal) (hPre_sgu_finite := hPre_sgu_finite)
    ∧ quiescent_InprojKernel (hInprojKernel := hInprojKernel)
    ∧ quiescent_InprojKernelIdeal (hInprojKernelIdeal := hInprojKernelIdeal)
    ∧ quiescent_InprojReferenceIdeal (hInprojReferenceIdeal := hInprojReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_SgufwdKernel (hSgufwdKernel := hSgufwdKernel)
    ∧ quiescent_SgufwdKernelIdeal (hSgufwdKernelIdeal := hSgufwdKernelIdeal)
    ∧ quiescent_SgufwdReferenceIdeal (hSgufwdReferenceIdeal := hSgufwdReferenceIdeal)
    ∧ quiescent_RnnfwdKernel (hRnnfwdKernel := hRnnfwdKernel)
    ∧ quiescent_RnnfwdKernelIdeal (hRnnfwdKernelIdeal := hRnnfwdKernelIdeal)
    ∧ quiescent_RnnfwdKernelIdeal_pre_rnn_gap (hRnnfwdKernelIdeal := hRnnfwdKernelIdeal) (hPre_rnn_gap := hPre_rnn_gap)
    ∧ quiescent_RnnfwdReferenceIdeal (hRnnfwdReferenceIdeal := hRnnfwdReferenceIdeal)
    ∧ quiescent_RnnfwdReferenceIdeal_pre_rnn_gap (hRnnfwdReferenceIdeal := hRnnfwdReferenceIdeal) (hPre_rnn_gap := hPre_rnn_gap)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_InpfwdKernel (hInpfwdKernel := hInpfwdKernel)
    ∧ quiescent_InpfwdKernelIdeal (hInpfwdKernelIdeal := hInpfwdKernelIdeal)
    ∧ quiescent_InpfwdReferenceIdeal (hInpfwdReferenceIdeal := hInpfwdReferenceIdeal)
    ∧ preserves_LossKernel_LossKernelIdeal
    ∧ algebraic_LossKernelIdeal_LossReferenceIdeal (hLossKernelIdeal := hLossKernelIdeal) (hLossReferenceIdeal := hLossReferenceIdeal)
    ∧ preserves_SguKernel_SguKernelIdeal
    ∧ algebraic_SguKernelIdeal_SguReferenceIdeal_pre_sgu_finite (hSguKernelIdeal := hSguKernelIdeal) (hSguReferenceIdeal := hSguReferenceIdeal) (hPre_sgu_finite := hPre_sgu_finite)
    ∧ preserves_InprojKernel_InprojKernelIdeal
    ∧ algebraic_InprojKernelIdeal_InprojReferenceIdeal (hInprojKernelIdeal := hInprojKernelIdeal) (hInprojReferenceIdeal := hInprojReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_SgufwdKernel_SgufwdKernelIdeal
    ∧ algebraic_SgufwdKernelIdeal_SgufwdReferenceIdeal (hSgufwdKernelIdeal := hSgufwdKernelIdeal) (hSgufwdReferenceIdeal := hSgufwdReferenceIdeal)
    ∧ preserves_RnnfwdKernel_RnnfwdKernelIdeal
    ∧ algebraic_RnnfwdKernelIdeal_RnnfwdReferenceIdeal_pre_rnn_gap (hRnnfwdKernelIdeal := hRnnfwdKernelIdeal) (hRnnfwdReferenceIdeal := hRnnfwdReferenceIdeal) (hPre_rnn_gap := hPre_rnn_gap)
    ∧ preserves_NormKernel_NormKernelIdeal
    ∧ algebraic_NormKernelIdeal_NormReferenceIdeal (hNormKernelIdeal := hNormKernelIdeal) (hNormReferenceIdeal := hNormReferenceIdeal)
    ∧ preserves_InpfwdKernel_InpfwdKernelIdeal
    ∧ algebraic_InpfwdKernelIdeal_InpfwdReferenceIdeal (hInpfwdKernelIdeal := hInpfwdKernelIdeal) (hInpfwdReferenceIdeal := hInpfwdReferenceIdeal)
-- ==== Pre_rnn_gap.lean ====
abbrev S4096x6656 : Shape := ⟨2, ![4096, 6656]⟩
abbrev S4x1280 : Shape := ⟨2, ![4, 1280]⟩
abbrev S1280 : Shape := ⟨1, ![1280]⟩
abbrev S20x64x64 : Shape := ⟨3, ![20, 64, 64]⟩
abbrev S20x64 : Shape := ⟨2, ![20, 64]⟩
abbrev S4096x1280 : Shape := ⟨2, ![4096, 1280]⟩
abbrev S_ : Shape := ⟨0, ![]⟩
abbrev S3x1280 : Shape := ⟨2, ![3, 1280]⟩
abbrev S4099x1280 : Shape := ⟨2, ![4099, 1280]⟩
abbrev S1x1280 : Shape := ⟨2, ![1, 1280]⟩
abbrev S4096x20x64 : Shape := ⟨3, ![4096, 20, 64]⟩
abbrev S20x64x4096 : Shape := ⟨3, ![20, 64, 4096]⟩
abbrev S1x20x64 : Shape := ⟨3, ![1, 20, 64]⟩

class Facts : Prop where
  bitsLt_bf16_f32 : FTy.bits .bf16 < FTy.bits .f32
  slices_S4096x6656_S4096x1280_0_0 : S4096x6656.Slices ![0, 0] S4096x1280
  bcast_S_S3x1280 : S_.BroadcastsInDim S3x1280 (![] : Fin 0 → Fin S3x1280.rank)
  concatenates_S3x1280_S4096x1280_S4099x1280_d0 : Shape.Concatenates [S3x1280, S4096x1280] S4099x1280 0
  slices_S4099x1280_S4096x1280_0_0 : S4099x1280.Slices ![0, 0] S4096x1280
  slices_S4x1280_S1x1280_0_0 : S4x1280.Slices ![0, 0] S1x1280
  shapeCasts_S1x1280_S1280 : S1x1280.ShapeCasts S1280
  bcast_S1280_S1x1280_1 : S1280.BroadcastsInDim S1x1280 (![1] : Fin 1 → Fin S1x1280.rank)
  bcast_S1x1280_S4096x1280_0_1 : S1x1280.BroadcastsInDim S4096x1280 (![0, 1] : Fin 2 → Fin S4096x1280.rank)
  slices_S4099x1280_S4096x1280_1_0 : S4099x1280.Slices ![1, 0] S4096x1280
  slices_S4x1280_S1x1280_1_0 : S4x1280.Slices ![1, 0] S1x1280
  slices_S4099x1280_S4096x1280_2_0 : S4099x1280.Slices ![2, 0] S4096x1280
  slices_S4x1280_S1x1280_2_0 : S4x1280.Slices ![2, 0] S1x1280
  slices_S4099x1280_S4096x1280_3_0 : S4099x1280.Slices ![3, 0] S4096x1280
  slices_S4x1280_S1x1280_3_0 : S4x1280.Slices ![3, 0] S1x1280
  shapeCasts_S4096x1280_S4096x20x64 : S4096x1280.ShapeCasts S4096x20x64
  transposes_S20x64x4096_S4096x20x64_2_0_1 : S20x64x4096.Transposes [2, 0, 1] S4096x20x64
  bcast_S20x64_S1x20x64_1_2 : S20x64.BroadcastsInDim S1x20x64 (![1, 2] : Fin 2 → Fin S1x20x64.rank)
  bcast_S1x20x64_S4096x20x64_0_1_2 : S1x20x64.BroadcastsInDim S4096x20x64 (![0, 1, 2] : Fin 3 → Fin S4096x20x64.rank)
  bcast_S_S4096x20x64 : S_.BroadcastsInDim S4096x20x64 (![] : Fin 0 → Fin S4096x20x64.rank)
  shapeCasts_S4096x20x64_S4096x1280 : S4096x20x64.ShapeCasts S4096x1280
  bcast_S_S4096x1280 : S_.BroadcastsInDim S4096x1280 (![] : Fin 0 → Fin S4096x1280.rank)
  bcast_S_S1280 : S_.BroadcastsInDim S1280 (![] : Fin 0 → Fin S1280.rank)
  dot_S20x64x64_S4096x20x64_S20x64x4096_1_2_2_0_0_1_wf : DotDims.WF S20x64x64 S4096x20x64 S20x64x4096 [1] [2] [2] [0] [0] [1]

variable [Facts]

def dot_S20x64x64_S4096x20x64_S20x64x4096_1_2_2_0_0_1 : DotDims S20x64x64 S4096x20x64 S20x64x4096 where
  lhsContracting := [1]
  rhsContracting := [2]
  lhsNonContracting := [2]
  rhsNonContracting := [0]
  lhsBatch := [0]
  rhsBatch := [1]
  wf := dot_S20x64x64_S4096x20x64_S20x64x4096_1_2_2_0_0_1_wf
def fn_softplus {F : FTy → Type} [FloatOps F] (arg0 : FVec F S1280 .f32) : FVec F S1280 .f32 :=
  let cst : FVec F S_ .f32 := constant S_ .f32 0x00000000#32
  let v0 : FVec F S1280 .f32 := broadcastInDim S1280 ![] bcast_S_S1280 cst
  let v1 : FVec F S1280 .f32 := maximumf arg0 v0
  let v2 : FVec F S1280 .f32 := broadcastInDim S1280 ![] bcast_S_S1280 cst
  let v3 : FVec F S1280 .f32 := subf arg0 v2
  let v4 : IVec S1280 1 := cmpf .une v3 v3
  let v5 : FVec F S1280 .f32 := broadcastInDim S1280 ![] bcast_S_S1280 cst
  let v6 : FVec F S1280 .f32 := addf arg0 v5
  let v7 : FVec F S1280 .f32 := Host.absf v3
  let v8 : FVec F S1280 .f32 := Host.negf v7
  let v9 : FVec F S1280 .f32 := Host.exp v8
  let v10 : FVec F S1280 .f32 := Host.log1p v9
  let v11 : FVec F S1280 .f32 := addf v1 v10
  let v12 : FVec F S1280 .f32 := select v4 v6 v11
  v12

def fn_part2 {F : FTy → Type} [FloatOps F] (main_arg7 : FVec F S1280 .f32) (main_v43 : FVec F S4096x20x64 .f32) (main_v44 : FVec F S4096x20x64 .f32) : IVec S4096x1280 1 :=
  let main_v45 : FVec F S4096x20x64 .f32 := Host.divf main_v44 main_v43
  let main_v46 : FVec F S4096x1280 .f32 := shapeCast S4096x1280 main_v45 shapeCasts_S4096x20x64_S4096x1280
  let main_cst_2 : FVec F S_ .f32 := constant S_ .f32 0xC1000000#32
  let main_v47 : FVec F S4096x1280 .f32 := broadcastInDim S4096x1280 ![] bcast_S_S4096x1280 main_cst_2
  let main_v48 : FVec F S4096x1280 .f32 := mulf main_v47 main_v46
  let main_v49 : FVec F S1280 .f32 := Host.negf main_arg7
  let main_v50 : FVec F S1280 .f32 := fn_softplus (F := F) main_v49
  let main_v51 : FVec F S1x1280 .f32 := broadcastInDim S1x1280 ![1] bcast_S1280_S1x1280_1 main_v50
  let main_v52 : FVec F S4096x1280 .f32 := broadcastInDim S4096x1280 ![0, 1] bcast_S1x1280_S4096x1280_0_1 main_v51
  let main_v53 : FVec F S4096x1280 .f32 := mulf main_v48 main_v52
  let main_cst_3 : FVec F S_ .f32 := constant S_ .f32 0x40000000#32
  let main_v54 : FVec F S4096x1280 .f32 := broadcastInDim S4096x1280 ![] bcast_S_S4096x1280 main_cst_3
  let main_v55 : FVec F S4096x1280 .f32 := mulf main_v54 main_v53
  let main_v56 : FVec F S4096x1280 .f32 := Host.expm1 main_v55
  let main_v57 : FVec F S4096x1280 .f32 := Host.negf main_v56
  let main_cst_4 : FVec F S_ .f32 := constant S_ .f32 0x03AA2425#32
  let main_v58 : FVec F S4096x1280 .f32 := broadcastInDim S4096x1280 ![] bcast_S_S4096x1280 main_cst_4
  let main_v59 : IVec S4096x1280 1 := cmpf .oge main_v57 main_v58
  main_v59

def fn_part1 {F : FTy → Type} [FloatOps F] (main_arg1 : FVec F S4x1280 .f32) (main_arg3 : FVec F S20x64x64 .f32) (main_arg4 : FVec F S20x64 .f32) (main_arg7 : FVec F S1280 .f32) (main_v3 : FVec F S4099x1280 .f32) (main_v19 : FVec F S4096x1280 .f32) (main_v20 : FVec F S4096x1280 .f32) (main_v22 : FVec F S1280 .f32) : IVec S4096x1280 1 :=
  let main_v23 : FVec F S1x1280 .f32 := broadcastInDim S1x1280 ![1] bcast_S1280_S1x1280_1 main_v22
  let main_v24 : FVec F S4096x1280 .f32 := broadcastInDim S4096x1280 ![0, 1] bcast_S1x1280_S4096x1280_0_1 main_v23
  let main_v25 : FVec F S4096x1280 .f32 := mulf main_v20 main_v24
  let main_v26 : FVec F S4096x1280 .f32 := addf main_v19 main_v25
  let main_v27 : FVec F S4096x1280 .f32 := (extractStridedSlice S4096x1280 ![3, 0] · slices_S4099x1280_S4096x1280_3_0) main_v3
  let main_v28 : FVec F S1x1280 .f32 := (extractStridedSlice S1x1280 ![3, 0] · slices_S4x1280_S1x1280_3_0) main_arg1
  let main_v29 : FVec F S1280 .f32 := shapeCast S1280 main_v28 shapeCasts_S1x1280_S1280
  let main_v30 : FVec F S1x1280 .f32 := broadcastInDim S1x1280 ![1] bcast_S1280_S1x1280_1 main_v29
  let main_v31 : FVec F S4096x1280 .f32 := broadcastInDim S4096x1280 ![0, 1] bcast_S1x1280_S4096x1280_0_1 main_v30
  let main_v32 : FVec F S4096x1280 .f32 := mulf main_v27 main_v31
  let main_v33 : FVec F S4096x1280 .f32 := addf main_v26 main_v32
  let main_v34 : FVec F S4096x20x64 .f32 := shapeCast S4096x20x64 main_v33 shapeCasts_S4096x1280_S4096x20x64
  let main_v35 : FVec F S20x64x4096 .f32 := (fun l r => Host.dotGeneral dot_S20x64x64_S4096x20x64_S20x64x4096_1_2_2_0_0_1 none l r) main_arg3 main_v34
  let main_v36 : FVec F S4096x20x64 .f32 := (transpose S4096x20x64 [2, 0, 1] · transposes_S20x64x4096_S4096x20x64_2_0_1) main_v35
  let main_v37 : FVec F S1x20x64 .f32 := broadcastInDim S1x20x64 ![1, 2] bcast_S20x64_S1x20x64_1_2 main_arg4
  let main_v38 : FVec F S4096x20x64 .f32 := broadcastInDim S4096x20x64 ![0, 1, 2] bcast_S1x20x64_S4096x20x64_0_1_2 main_v37
  let main_v39 : FVec F S4096x20x64 .f32 := addf main_v36 main_v38
  let main_v40 : FVec F S4096x20x64 .f32 := Host.negf main_v39
  let main_v41 : FVec F S4096x20x64 .f32 := Host.exp main_v40
  let main_cst_0 : FVec F S_ .f32 := constant S_ .f32 0x3F800000#32
  let main_v42 : FVec F S4096x20x64 .f32 := broadcastInDim S4096x20x64 ![] bcast_S_S4096x20x64 main_cst_0
  let main_v43 : FVec F S4096x20x64 .f32 := addf main_v42 main_v41
  let main_cst_1 : FVec F S_ .f32 := constant S_ .f32 0x3F800000#32
  let main_v44 : FVec F S4096x20x64 .f32 := broadcastInDim S4096x20x64 ![] bcast_S_S4096x20x64 main_cst_1
  fn_part2 (F := F) main_arg7 main_v43 main_v44

def fn {F : FTy → Type} [FloatOps F] (main_arg0 : FVec F S4096x6656 .bf16) (main_arg1 : FVec F S4x1280 .f32) (main_arg2 : FVec F S1280 .f32) (main_arg3 : FVec F S20x64x64 .f32) (main_arg4 : FVec F S20x64 .f32) (main_arg5 : FVec F S20x64x64 .f32) (main_arg6 : FVec F S20x64 .f32) (main_arg7 : FVec F S1280 .f32) : IVec S4096x1280 1 :=
  let main_v0 : FVec F S4096x6656 .f32 := (extf .f32 · bitsLt_bf16_f32) main_arg0
  let main_v1 : FVec F S4096x1280 .f32 := (extractStridedSlice S4096x1280 ![0, 0] · slices_S4096x6656_S4096x1280_0_0) main_v0
  let main_cst : FVec F S_ .f32 := constant S_ .f32 0x00000000#32
  let main_v2 : FVec F S3x1280 .f32 := broadcastInDim S3x1280 ![] bcast_S_S3x1280 main_cst
  let main_v3 : FVec F S4099x1280 .f32 := (fun a b => concatenate S4099x1280 0 [⟨S3x1280, a⟩, ⟨S4096x1280, b⟩] concatenates_S3x1280_S4096x1280_S4099x1280_d0) main_v2 main_v1
  let main_v4 : FVec F S4096x1280 .f32 := (extractStridedSlice S4096x1280 ![0, 0] · slices_S4099x1280_S4096x1280_0_0) main_v3
  let main_v5 : FVec F S1x1280 .f32 := (extractStridedSlice S1x1280 ![0, 0] · slices_S4x1280_S1x1280_0_0) main_arg1
  let main_v6 : FVec F S1280 .f32 := shapeCast S1280 main_v5 shapeCasts_S1x1280_S1280
  let main_v7 : FVec F S1x1280 .f32 := broadcastInDim S1x1280 ![1] bcast_S1280_S1x1280_1 main_v6
  let main_v8 : FVec F S4096x1280 .f32 := broadcastInDim S4096x1280 ![0, 1] bcast_S1x1280_S4096x1280_0_1 main_v7
  let main_v9 : FVec F S4096x1280 .f32 := mulf main_v4 main_v8
  let main_v10 : FVec F S1x1280 .f32 := broadcastInDim S1x1280 ![1] bcast_S1280_S1x1280_1 main_arg2
  let main_v11 : FVec F S4096x1280 .f32 := broadcastInDim S4096x1280 ![0, 1] bcast_S1x1280_S4096x1280_0_1 main_v10
  let main_v12 : FVec F S4096x1280 .f32 := addf main_v11 main_v9
  let main_v13 : FVec F S4096x1280 .f32 := (extractStridedSlice S4096x1280 ![1, 0] · slices_S4099x1280_S4096x1280_1_0) main_v3
  let main_v14 : FVec F S1x1280 .f32 := (extractStridedSlice S1x1280 ![1, 0] · slices_S4x1280_S1x1280_1_0) main_arg1
  let main_v15 : FVec F S1280 .f32 := shapeCast S1280 main_v14 shapeCasts_S1x1280_S1280
  let main_v16 : FVec F S1x1280 .f32 := broadcastInDim S1x1280 ![1] bcast_S1280_S1x1280_1 main_v15
  let main_v17 : FVec F S4096x1280 .f32 := broadcastInDim S4096x1280 ![0, 1] bcast_S1x1280_S4096x1280_0_1 main_v16
  let main_v18 : FVec F S4096x1280 .f32 := mulf main_v13 main_v17
  let main_v19 : FVec F S4096x1280 .f32 := addf main_v12 main_v18
  let main_v20 : FVec F S4096x1280 .f32 := (extractStridedSlice S4096x1280 ![2, 0] · slices_S4099x1280_S4096x1280_2_0) main_v3
  let main_v21 : FVec F S1x1280 .f32 := (extractStridedSlice S1x1280 ![2, 0] · slices_S4x1280_S1x1280_2_0) main_arg1
  let main_v22 : FVec F S1280 .f32 := shapeCast S1280 main_v21 shapeCasts_S1x1280_S1280
  fn_part1 (F := F) main_arg1 main_arg3 main_arg4 main_arg7 main_v3 main_v19 main_v20 main_v22
-- ==== Pre_sgu_finite.lean ====
abbrev S4096x6656 : Shape := ⟨2, ![4096, 6656]⟩
abbrev S8x128x128 : Shape := ⟨3, ![8, 128, 128]⟩
abbrev S8x128 : Shape := ⟨2, ![8, 128]⟩
abbrev S1024 : Shape := ⟨1, ![1024]⟩
abbrev S4096x1024 : Shape := ⟨2, ![4096, 1024]⟩
abbrev S4096x2048 : Shape := ⟨2, ![4096, 2048]⟩
abbrev S_ : Shape := ⟨0, ![]⟩

class Facts : Prop where
  bitsLt_bf16_f32 : FTy.bits .bf16 < FTy.bits .f32
  slices_S4096x6656_S4096x2048_0_2560 : S4096x6656.Slices ![0, 2560] S4096x2048
  bcast_S_S4096x2048 : S_.BroadcastsInDim S4096x2048 (![] : Fin 0 → Fin S4096x2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1024 : S_.BroadcastsInDim S1024 (![] : Fin 0 → Fin S1024.rank)
  bcast_S_S4096x1024 : S_.BroadcastsInDim S4096x1024 (![] : Fin 0 → Fin S4096x1024.rank)

variable [Facts]

def fn_part1 {F : FTy → Type} [FloatOps F] (main_v5 : IVec S4096x2048 1) (main_v8 : IVec S8x128x128 1) (main_v11 : IVec S8x128 1) (main_v14 : IVec S1024 1) (main_v17 : IVec S1024 1) (main_v18 : FVec F S4096x1024 .f32) : IVec S4096x2048 1 × IVec S8x128x128 1 × IVec S8x128 1 × IVec S1024 1 × IVec S1024 1 × IVec S4096x1024 1 :=
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  (main_v5, main_v8, main_v11, main_v14, main_v17, main_v20)

def fn {F : FTy → Type} [FloatOps F] (main_arg0 : FVec F S4096x6656 .bf16) (main_arg1 : FVec F S8x128x128 .f32) (main_arg2 : FVec F S8x128 .f32) (main_arg3 : FVec F S1024 .f32) (main_arg4 : FVec F S1024 .f32) (main_arg5 : FVec F S4096x1024 .bf16) : IVec S4096x2048 1 × IVec S8x128x128 1 × IVec S8x128 1 × IVec S1024 1 × IVec S1024 1 × IVec S4096x1024 1 :=
  let main_v0 : FVec F S4096x6656 .f32 := (extf .f32 · bitsLt_bf16_f32) main_arg0
  let main_v1 : FVec F S4096x2048 .f32 := (extractStridedSlice S4096x2048 ![0, 2560] · slices_S4096x6656_S4096x2048_0_2560) main_v0
  let main_v2 : FVec F S4096x1024 .f32 := (extf .f32 · bitsLt_bf16_f32) main_arg5
  let main_v3 : FVec F S4096x2048 .f32 := Host.absf main_v1
  let main_cst : FVec F S_ .f32 := constant S_ .f32 0x7F800000#32
  let main_v4 : FVec F S4096x2048 .f32 := broadcastInDim S4096x2048 ![] bcast_S_S4096x2048 main_cst
  let main_v5 : IVec S4096x2048 1 := cmpf .olt main_v3 main_v4
  let main_v6 : FVec F S8x128x128 .f32 := Host.absf main_arg1
  let main_cst_0 : FVec F S_ .f32 := constant S_ .f32 0x7F800000#32
  let main_v7 : FVec F S8x128x128 .f32 := broadcastInDim S8x128x128 ![] bcast_S_S8x128x128 main_cst_0
  let main_v8 : IVec S8x128x128 1 := cmpf .olt main_v6 main_v7
  let main_v9 : FVec F S8x128 .f32 := Host.absf main_arg2
  let main_cst_1 : FVec F S_ .f32 := constant S_ .f32 0x7F800000#32
  let main_v10 : FVec F S8x128 .f32 := broadcastInDim S8x128 ![] bcast_S_S8x128 main_cst_1
  let main_v11 : IVec S8x128 1 := cmpf .olt main_v9 main_v10
  let main_v12 : FVec F S1024 .f32 := Host.absf main_arg3
  let main_cst_2 : FVec F S_ .f32 := constant S_ .f32 0x7F800000#32
  let main_v13 : FVec F S1024 .f32 := broadcastInDim S1024 ![] bcast_S_S1024 main_cst_2
  let main_v14 : IVec S1024 1 := cmpf .olt main_v12 main_v13
  let main_v15 : FVec F S1024 .f32 := Host.absf main_arg4
  let main_cst_3 : FVec F S_ .f32 := constant S_ .f32 0x7F800000#32
  let main_v16 : FVec F S1024 .f32 := broadcastInDim S1024 ![] bcast_S_S1024 main_cst_3
  let main_v17 : IVec S1024 1 := cmpf .olt main_v15 main_v16
  let main_v18 : FVec F S4096x1024 .f32 := Host.absf main_v2
  fn_part1 (F := F) main_v5 main_v8 main_v11 main_v14 main_v17 main_v18
-- ==== LossKernel.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S1x128, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== SguKernel.lean ====
abbrev S4096x6656 : Shape := ⟨2, ![4096, 6656]⟩
abbrev S8x128x128 : Shape := ⟨3, ![8, 128, 128]⟩
abbrev S8x128 : Shape := ⟨2, ![8, 128]⟩
abbrev S1024 : Shape := ⟨1, ![1024]⟩
abbrev S4096x1024 : Shape := ⟨2, ![4096, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x128x1 : Shape := ⟨3, ![8, 128, 1]⟩
abbrev S1x1024 : Shape := ⟨2, ![1, 1024]⟩
abbrev S4096x2048 : Shape := ⟨2, ![4096, 2048]⟩
abbrev S128x8 : Shape := ⟨2, ![128, 8]⟩
abbrev S512x1024 : Shape := ⟨2, ![512, 1024]⟩
abbrev S512x2560 : Shape := ⟨2, ![512, 2560]⟩
abbrev S512x2048 : Shape := ⟨2, ![512, 2048]⟩
abbrev S128x1024 : Shape := ⟨2, ![128, 1024]⟩
abbrev S512 : Shape := ⟨1, ![512]⟩
abbrev S512x1 : Shape := ⟨2, ![512, 1]⟩

abbrev nBuf : Space → Nat
  | .hbm => 69
  | .vmem => 16
  | .smem => 0
  | _ => 0

abbrev bufTy : (tb : Table) → Fin (tcTables nBuf tb) → BufTy
  | .hbm, ⟨0, _⟩ => ⟨S4096x6656, .bf16⟩
  | .hbm, ⟨1, _⟩ => ⟨S8x128x128, .f32⟩
  | .hbm, ⟨2, _⟩ => ⟨S8x128, .f32⟩
  | .hbm, ⟨3, _⟩ => ⟨S1024, .f32⟩
  | .hbm, ⟨4, _⟩ => ⟨S1024, .f32⟩
  | .hbm, ⟨5, _⟩ => ⟨S4096x1024, .bf16⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S1x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S128x128, .f32⟩
  | .hbm, ⟨31, _⟩ => ⟨S1x128x128, .f32⟩
  | .hbm, ⟨32, _⟩ => ⟨S8x128x128, .f32⟩
  | .hbm, ⟨33, _⟩ => ⟨S8x128x128, .f32⟩
  | .hbm, ⟨34, _⟩ => ⟨S8x128x128, .bf16⟩
  | .hbm, ⟨35, _⟩ => ⟨S8x128x1, .f32⟩
  | .hbm, ⟨36, _⟩ => ⟨S8x128x128, .f32⟩
  | .hbm, ⟨37, _⟩ => ⟨S128, .i32⟩
  | .hbm, ⟨38, _⟩ => ⟨S_, .i32⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S128, .i1⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S128, .i32⟩
  | .hbm, ⟨56, _⟩ => ⟨S128x1, .i32⟩
  | .hbm, ⟨57, _⟩ => ⟨S1x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S128x128, .f32⟩
  | .hbm, ⟨62, _⟩ => ⟨S1x1024, .f32⟩
  | .hbm, ⟨63, _⟩ => ⟨S1x1024, .f32⟩
  | .hbm, ⟨64, _⟩ => ⟨S4096x2048, .bf16⟩
  | .hbm, ⟨65, _⟩ => ⟨S8x128x128, .f32⟩
  | .hbm, ⟨66, _⟩ => ⟨S128x8, .f32⟩
  | .hbm, ⟨67, _⟩ => ⟨S1x1024, .f32⟩
  | .hbm, ⟨68, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x2560, .bf16⟩
  | .local _ .vmem, ⟨3, _⟩ => ⟨S512x2560, .bf16⟩
  | .local _ .vmem, ⟨4, _⟩ => ⟨S8x128x128, .bf16⟩
  | .local _ .vmem, ⟨5, _⟩ => ⟨S8x128x128, .f32⟩
  | .local _ .vmem, ⟨6, _⟩ => ⟨S128x128, .f32⟩
  | .local _ .vmem, ⟨7, _⟩ => ⟨S1x1024, .f32⟩
  | .local _ .vmem, ⟨8, _⟩ => ⟨S1x1024, .f32⟩
  | .local _ .vmem, ⟨9, _⟩ => ⟨S512x2048, .bf16⟩
  | .local _ .vmem, ⟨10, _⟩ => ⟨S512x2048, .bf16⟩
  | .local _ .vmem, ⟨11, _⟩ => ⟨S8x128x128, .f32⟩
  | .local _ .vmem, ⟨12, _⟩ => ⟨S128x8, .f32⟩
  | .local _ .vmem, ⟨13, _⟩ => ⟨S1x1024, .f32⟩
  | .local _ .vmem, ⟨14, _⟩ => ⟨S1x1024, .f32⟩
  | .local _ .vmem, ⟨15, _⟩ => ⟨S128x1024, .f32⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24_0 : Ref sig .tc := ⟨.hbm, 64, rfl⟩
abbrev main_v24_1 : Ref sig .tc := ⟨.hbm, 65, rfl⟩
abbrev main_v24_2 : Ref sig .tc := ⟨.hbm, 66, rfl⟩
abbrev main_v24_3 : Ref sig .tc := ⟨.hbm, 67, rfl⟩
abbrev main_v24_4 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v768 : BitVec 1 := Scalar.cmpi .eq arg0 c7_i32
  let v769 : BitVec 32 := Scalar.extui v768
  let c0_i32_626 : BitVec 32 := 0#32
  let v770 : BitVec 1 := Scalar.cmpi .ne v769 c0_i32_626
  v770

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== SguKernelIdeal.lean ====
variable {F : FTy → Type} [FloatOps F] [Named F]
def κ : String → Option EReal := fun
  | "gelu_3a" => some ((36009273 / 268435456 : ℝ) : EReal)
  | "gelu_a" => some ((12003091 / 268435456 : ℝ) : EReal)
  | "gelu_c" => some ((6693141 / 8388608 : ℝ) : EReal)
  | _ => none
-- ==== SguReferenceIdeal.lean ====
abbrev S4096x6656 : Shape := ⟨2, ![4096, 6656]⟩
abbrev S8x128x128 : Shape := ⟨3, ![8, 128, 128]⟩
abbrev S8x128 : Shape := ⟨2, ![8, 128]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S4096x2048 : Shape := ⟨2, ![4096, 2048]⟩

abbrev nBuf : Space → Nat
  | .hbm => 226
  | .vmem => 0
  | .smem => 0
  | _ => 0

abbrev hbmTy0_0 (i : Nat) : BufTy := match i % 128 with
  | 0 => ⟨S4096x6656, .bf16⟩
  | 1 => ⟨S8x128x128, .f32⟩
  | 2 => ⟨S8x128, .f32⟩
  | 3 => ⟨S1024, .f32⟩
  | 4 => ⟨S1024, .f32⟩
  | 5 => ⟨S4096x1024, .bf16⟩
  | 6 => ⟨S4096x6656, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S4096x1024, .f32⟩
  | 65 => ⟨S_, .f32⟩
  | 66 => ⟨S4096, .f32⟩
  | 67 => ⟨S4096x1, .f32⟩
  | 68 => ⟨S_, .f32⟩
  | 69 => ⟨S4096x1, .f32⟩
  | 70 => ⟨S4096x1, .f32⟩
  | 71 => ⟨S4096x1024, .f32⟩
  | 72 => ⟨S4096x1024, .f32⟩
  | 73 => ⟨S4096x1024, .f32⟩
  | 74 => ⟨S_, .f32⟩
  | 75 => ⟨S4096, .f32⟩
  | 76 => ⟨S4096x1, .f32⟩
  | 77 => ⟨S_, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x1, .f32⟩
  | 84 => ⟨S4096x1, .f32⟩
  | 85 => ⟨S_, .f32⟩
  | 86 => ⟨S4096x1, .f32⟩
  | 87 => ⟨S4096x1, .f32⟩
  | 88 => ⟨S4096x1024, .f32⟩
  | 89 => ⟨S4096x1024, .f32⟩
  | 90 => ⟨S1x1024, .f32⟩
  | 91 => ⟨S4096x1024, .f32⟩
  | 92 => ⟨S4096x1024, .f32⟩
  | 93 => ⟨S1x1024, .f32⟩
  | 94 => ⟨S4096x1024, .f32⟩
  | 95 => ⟨S4096x1024, .f32⟩
  | 96 => ⟨S32x128x8x128, .f32⟩
  | 97 => ⟨S128, .i32⟩
  | 98 => ⟨S_, .i32⟩
  | 99 => ⟨S_, .i32⟩
  | 100 => ⟨S128, .i32⟩
  | 101 => ⟨S128, .i32⟩
  | 102 => ⟨S128, .i32⟩
  | 103 => ⟨S_, .i32⟩
  | 104 => ⟨S128, .i32⟩
  | 105 => ⟨S128, .i1⟩
  | 106 => ⟨S128, .i32⟩
  | 107 => ⟨S128, .i32⟩
  | 108 => ⟨S_, .i32⟩
  | 109 => ⟨S128, .i32⟩
  | 110 => ⟨S128, .i1⟩
  | 111 => ⟨S128, .i1⟩
  | 112 => ⟨S_, .i32⟩
  | 113 => ⟨S128, .i32⟩
  | 114 => ⟨S128, .i32⟩
  | 115 => ⟨S128, .i32⟩
  | 116 => ⟨S128x1, .i32⟩
  | 117 => ⟨S1x128, .i32⟩
  | 118 => ⟨S128x128, .i32⟩
  | 119 => ⟨S128x128, .i32⟩
  | 120 => ⟨S128x128, .i1⟩
  | 121 => ⟨S128x128, .f32⟩
  | 122 => ⟨S1x128x128, .f32⟩
  | 123 => ⟨S8x128x128, .f32⟩
  | 124 => ⟨S8x128x128, .f32⟩
  | 125 => ⟨S8x32x128x128, .f32⟩
  | 126 => ⟨S32x128x8x128, .f32⟩
  | 127 => ⟨S128x8, .f32⟩
  | _ => ⟨S4096x6656, .bf16⟩

abbrev hbmTy0_1 (i : Nat) : BufTy := match i % 128 with
  | 0 => ⟨S1x128x8x1, .f32⟩
  | 1 => ⟨S32x128x8x128, .f32⟩
  | 2 => ⟨S32x128x8x128, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S32x128x8x128, .f32⟩
  | 9 => ⟨S_, .f32⟩
  | 10 => ⟨S128x8, .f32⟩
  | 11 => ⟨S1x128x8x1, .f32⟩
  | 12 => ⟨S_, .f32⟩
  | 13 => ⟨S128x8, .f32⟩
  | 14 => ⟨S8x128, .f32⟩
  | 15 => ⟨S8x32x128x128, .f32⟩
  | 16 => ⟨S8x128x128, .f32⟩
  | 17 => ⟨S8x32x128x128, .f32⟩
  | 18 => ⟨S32x128x8x128, .f32⟩
  | 19 => ⟨S8x128x128, .f32⟩
  | 20 => ⟨S8x128x128, .f32⟩
  | 21 => ⟨S4096x1024, .f32⟩
  | 22 => ⟨S_, .f32⟩
  | 23 => ⟨S1024, .f32⟩
  | 24 => ⟨S1x1024, .f32⟩
  | 25 => ⟨S_, .f32⟩
  | 26 => ⟨S1024, .f32⟩
  | 27 => ⟨S4096x1024, .f32⟩
  | 28 => ⟨S_, .f32⟩
  | 29 => ⟨S1024, .f32⟩
  | 30 => ⟨S1x1024, .f32⟩
  | 31 => ⟨S4096x1024, .f32⟩
  | 32 => ⟨S4096x1024, .f32⟩
  | 33 => ⟨S_, .f32⟩
  | 34 => ⟨S1024, .f32⟩
  | 35 => ⟨S4096x1024, .f32⟩
  | 36 => ⟨S_, .f32⟩
  | 37 => ⟨S4096, .f32⟩
  | 38 => ⟨S4096x1, .f32⟩
  | 39 => ⟨S4096x1024, .f32⟩
  | 40 => ⟨S4096x1024, .f32⟩
  | 41 => ⟨S4096x1, .f32⟩
  | 42 => ⟨S_, .f32⟩
  | 43 => ⟨S4096x1, .f32⟩
  | 44 => ⟨S4096x1, .f32⟩
  | 45 => ⟨S_, .f32⟩
  | 46 => ⟨S4096, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S4096, .f32⟩
  | 55 => ⟨S4096x1, .f32⟩
  | 56 => ⟨S_, .f32⟩
  | 57 => ⟨S4096x1, .f32⟩
  | 58 => ⟨S4096x1, .f32⟩
  | 59 => ⟨S_, .f32⟩
  | 60 => ⟨S4096, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S_, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S4096x1024, .f32⟩
  | 88 => ⟨S_, .f32⟩
  | 89 => ⟨S4096x1024, .f32⟩
  | 90 => ⟨S4096x1024, .f32⟩
  | 91 => ⟨S4096x1024, .f32⟩
  | 92 => ⟨S4096x1024, .f32⟩
  | 93 => ⟨S4096x2048, .f32⟩
  | 94 => ⟨S4096x2048, .bf16⟩
  | 95 => ⟨S128x8, .f32⟩
  | 96 => ⟨S1x1024, .f32⟩
  | 97 => ⟨S1x1024, .f32⟩
  | _ => ⟨S4096x6656, .bf16⟩

abbrev hbmTy (i : Nat) : BufTy := match i / 128 with
  | 0 => hbmTy0_0 i
  | 1 => hbmTy0_1 i
  | _ => ⟨S4096x6656, .bf16⟩

abbrev bufTy : (tb : Table) → Fin (tcTables nBuf tb) → BufTy
  | .hbm, ⟨i, _⟩ => hbmTy i
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_v8 : Ref sig .tc := ⟨.hbm, 107, rfl⟩
abbrev main_call0_c : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_call0_c_0 : Ref sig .tc := ⟨.hbm, 112, rfl⟩
abbrev main_call0_v12 : Ref sig .tc := ⟨.hbm, 113, rfl⟩
abbrev main_call0_v13 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_19 : Ref sig .tc := ⟨.hbm, 137, rfl⟩
abbrev main_v94 : Ref sig .tc := ⟨.hbm, 138, rfl⟩
abbrev main_v95 : Ref sig .tc := ⟨.hbm, 139, rfl⟩
abbrev main_cst_20 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_21 : Ref sig .tc := ⟨.hbm, 150, rfl⟩
abbrev main_v105 : Ref sig .tc := ⟨.hbm, 151, rfl⟩
abbrev main_v106 : Ref sig .tc := ⟨.hbm, 152, rfl⟩
abbrev main_cst_22 : Ref sig .tc := ⟨.hbm, 153, rfl⟩
abbrev main_v107 : Ref sig .tc := ⟨.hbm, 154, rfl⟩
abbrev main_v108 : Ref sig .tc := ⟨.hbm, 155, rfl⟩
abbrev main_cst_23 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_24 : Ref sig .tc := ⟨.hbm, 161, rfl⟩
abbrev main_v113 : Ref sig .tc := ⟨.hbm, 162, rfl⟩
abbrev main_v114 : Ref sig .tc := ⟨.hbm, 163, rfl⟩
abbrev main_cst_25 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_26 : Ref sig .tc := ⟨.hbm, 170, rfl⟩
abbrev main_v120 : Ref sig .tc := ⟨.hbm, 171, rfl⟩
abbrev main_v121 : Ref sig .tc := ⟨.hbm, 172, rfl⟩
abbrev main_cst_27 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_28 : Ref sig .tc := ⟨.hbm, 181, rfl⟩
abbrev main_v129 : Ref sig .tc := ⟨.hbm, 182, rfl⟩
abbrev main_v130 : Ref sig .tc := ⟨.hbm, 183, rfl⟩
abbrev main_cst_29 : Ref sig .tc := ⟨.hbm, 184, rfl⟩
abbrev main_v131 : Ref sig .tc := ⟨.hbm, 185, rfl⟩
abbrev main_v132 : Ref sig .tc := ⟨.hbm, 186, rfl⟩
abbrev main_cst_30 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_31 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_32 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_33 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_34 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_cst_35 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_cst_36 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩

abbrev nD : Nat := 1
abbrev τ : Topo := Topo.v7x

variable {F : FTy → Type} [FloatOps F]
-- ==== InprojKernel.lean ====
abbrev S4096x2560 : Shape := ⟨2, ![4096, 2560]⟩
abbrev S4096x2048 : Shape := ⟨2, ![4096, 2048]⟩
abbrev S4096x1024 : Shape := ⟨2, ![4096, 1024]⟩
abbrev S1024 : Shape := ⟨1, ![1024]⟩
abbrev S1024x6656 : Shape := ⟨2, ![1024, 6656]⟩
abbrev S1024x4x1664 : Shape := ⟨3, ![1024, 4, 1664]⟩
abbrev S4x1024x1664 : Shape := ⟨3, ![4, 1024, 1664]⟩
abbrev S1x4x1024x1664 : Shape := ⟨4, ![1, 4, 1024, 1664]⟩
abbrev S1x1024 : Shape := ⟨2, ![1, 1024]⟩
abbrev S4096x6656 : Shape := ⟨2, ![4096, 6656]⟩
abbrev S512x2560 : Shape := ⟨2, ![512, 2560]⟩
abbrev S512x2048 : Shape := ⟨2, ![512, 2048]⟩
abbrev S512x1024 : Shape := ⟨2, ![512, 1024]⟩
abbrev S512x6656 : Shape := ⟨2, ![512, 6656]⟩
abbrev S512x1664 : Shape := ⟨2, ![512, 1664]⟩
abbrev S1x1x1024x1664 : Shape := ⟨4, ![1, 1, 1024, 1664]⟩
abbrev S1024x1664 : Shape := ⟨2, ![1024, 1664]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x2560, .bf16⟩
  | .hbm, ⟨1, _⟩ => ⟨S4096x2048, .bf16⟩
  | .hbm, ⟨2, _⟩ => ⟨S4096x2048, .bf16⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S1024x6656, .f32⟩
  | .hbm, ⟨7, _⟩ => ⟨S1024x4x1664, .f32⟩
  | .hbm, ⟨8, _⟩ => ⟨S4x1024x1664, .f32⟩
  | .hbm, ⟨9, _⟩ => ⟨S4x1024x1664, .bf16⟩
  | .hbm, ⟨10, _⟩ => ⟨S1x4x1024x1664, .bf16⟩
  | .hbm, ⟨11, _⟩ => ⟨S1x1024, .f32⟩
  | .hbm, ⟨12, _⟩ => ⟨S4096x1024, .f32⟩
  | .hbm, ⟨13, _⟩ => ⟨S4096x6656, .bf16⟩
  | .hbm, ⟨14, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x4x1024x1664, .bf16⟩
  | .local _ .vmem, ⟨12, _⟩ => ⟨S512x1024, .f32⟩
  | .local _ .vmem, ⟨13, _⟩ => ⟨S512x1024, .f32⟩
  | .local _ .vmem, ⟨14, _⟩ => ⟨S512x6656, .bf16⟩
  | .local _ .vmem, ⟨15, _⟩ => ⟨S512x6656, .bf16⟩
  | .local _ .vmem, ⟨16, _⟩ => ⟨S1x1024, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4x1024x1664 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x6656 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InprojReferenceIdeal.lean ====
abbrev S4096x2560 : Shape := ⟨2, ![4096, 2560]⟩
abbrev S4096x2048 : Shape := ⟨2, ![4096, 2048]⟩
abbrev S4096x1024 : Shape := ⟨2, ![4096, 1024]⟩
abbrev S1024 : Shape := ⟨1, ![1024]⟩
abbrev S1024x6656 : Shape := ⟨2, ![1024, 6656]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6656 : Shape := ⟨2, ![4096, 6656]⟩

abbrev nBuf : Space → Nat
  | .hbm => 64
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x2048, .bf16⟩
  | .hbm, ⟨2, _⟩ => ⟨S4096x2048, .bf16⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S1024x6656, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x6656, .f32⟩
  | .hbm, ⟨28, _⟩ => ⟨S4096x2560, .f32⟩
  | .hbm, ⟨29, _⟩ => ⟨S4096x2048, .f32⟩
  | .hbm, ⟨30, _⟩ => ⟨S4096x2048, .f32⟩
  | .hbm, ⟨31, _⟩ => ⟨S4096x2560, .f32⟩
  | .hbm, ⟨32, _⟩ => ⟨S4096x2048, .f32⟩
  | .hbm, ⟨33, _⟩ => ⟨S4096x2048, .f32⟩
  | .hbm, ⟨34, _⟩ => ⟨S4096x6656, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x6656, .bf16⟩
  | .hbm, ⟨63, _⟩ => ⟨S1x1024, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== MergeKernel.lean ====
abbrev S4096x1024 : Shape := ⟨2, ![4096, 1024]⟩
abbrev S4096x6656 : Shape := ⟨2, ![4096, 6656]⟩
abbrev S4096x1280 : Shape := ⟨2, ![4096, 1280]⟩
abbrev S1280x1024 : Shape := ⟨2, ![1280, 1024]⟩
abbrev S1024x1024 : Shape := ⟨2, ![1024, 1024]⟩
abbrev S1024 : Shape := ⟨1, ![1024]⟩
abbrev S1x1280x1024 : Shape := ⟨3, ![1, 1280, 1024]⟩
abbrev S1x1024x1024 : Shape := ⟨3, ![1, 1024, 1024]⟩
abbrev S1x1024 : Shape := ⟨2, ![1, 1024]⟩
abbrev S512x1024 : Shape := ⟨2, ![512, 1024]⟩
abbrev S512x512 : Shape := ⟨2, ![512, 512]⟩
abbrev S512x1280 : Shape := ⟨2, ![512, 1280]⟩
abbrev S512 : Shape := ⟨1, ![512]⟩
abbrev S512x1 : Shape := ⟨2, ![512, 1]⟩
abbrev S4096x2048 : Shape := ⟨2, ![4096, 2048]⟩
abbrev S512x2048 : Shape := ⟨2, ![512, 2048]⟩

abbrev nBuf : Space → Nat
  | .hbm => 26
  | .vmem => 55
  | .smem => 0
  | _ => 0

abbrev bufTy : (tb : Table) → Fin (tcTables nBuf tb) → BufTy
  | .hbm, ⟨0, _⟩ => ⟨S4096x1024, .f32⟩
  | .hbm, ⟨1, _⟩ => ⟨S4096x6656, .bf16⟩
  | .hbm, ⟨2, _⟩ => ⟨S4096x1280, .bf16⟩
  | .hbm, ⟨3, _⟩ => ⟨S4096x1024, .bf16⟩
  | .hbm, ⟨4, _⟩ => ⟨S1280x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S1280x1024, .bf16⟩
  | .hbm, ⟨10, _⟩ => ⟨S1x1280x1024, .bf16⟩
  | .hbm, ⟨11, _⟩ => ⟨S1024x1024, .bf16⟩
  | .hbm, ⟨12, _⟩ => ⟨S1x1024x1024, .bf16⟩
  | .hbm, ⟨13, _⟩ => ⟨S1024x1024, .bf16⟩
  | .hbm, ⟨14, _⟩ => ⟨S1x1024x1024, .bf16⟩
  | .hbm, ⟨15, _⟩ => ⟨S1x1024, .f32⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x2048, .bf16⟩
  | .hbm, ⟨24, _⟩ => ⟨S4096x1280, .bf16⟩
  | .hbm, ⟨25, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1280, .bf16⟩
  | .local _ .vmem, ⟨11, _⟩ => ⟨S512x1280, .bf16⟩
  | .local _ .vmem, ⟨12, _⟩ => ⟨S512x1024, .bf16⟩
  | .local _ .vmem, ⟨13, _⟩ => ⟨S512x1024, .bf16⟩
  | .local _ .vmem, ⟨14, _⟩ => ⟨S1x1280x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | .local _ .vmem, ⟨30, _⟩ => ⟨S512x512, .bf16⟩
  | .local _ .vmem, ⟨31, _⟩ => ⟨S512x512, .bf16⟩
  | .local _ .vmem, ⟨32, _⟩ => ⟨S512x512, .bf16⟩
  | .local _ .vmem, ⟨33, _⟩ => ⟨S512x512, .bf16⟩
  | .local _ .vmem, ⟨34, _⟩ => ⟨S512x512, .bf16⟩
  | .local _ .vmem, ⟨35, _⟩ => ⟨S512x512, .bf16⟩
  | .local _ .vmem, ⟨36, _⟩ => ⟨S512x512, .bf16⟩
  | .local _ .vmem, ⟨37, _⟩ => ⟨S512x512, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S1x1280x1024, .bf16⟩
  | .local _ .vmem, ⟨43, _⟩ => ⟨S1x1024x1024, .bf16⟩
  | .local _ .vmem, ⟨44, _⟩ => ⟨S1x1024x1024, .bf16⟩
  | .local _ .vmem, ⟨45, _⟩ => ⟨S512x1024, .bf16⟩
  | .local _ .vmem, ⟨46, _⟩ => ⟨S512x1024, .bf16⟩
  | .local _ .vmem, ⟨47, _⟩ => ⟨S512x1024, .bf16⟩
  | .local _ .vmem, ⟨48, _⟩ => ⟨S512x1024, .bf16⟩
  | .local _ .vmem, ⟨49, _⟩ => ⟨S512x2048, .bf16⟩
  | .local _ .vmem, ⟨50, _⟩ => ⟨S512x2048, .bf16⟩
  | .local _ .vmem, ⟨51, _⟩ => ⟨S512x1280, .bf16⟩
  | .local _ .vmem, ⟨52, _⟩ => ⟨S512x1280, .bf16⟩
  | .local _ .vmem, ⟨53, _⟩ => ⟨S512x1024, .bf16⟩
  | .local _ .vmem, ⟨54, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc1_stg4_0 : Ref sig .tc := ⟨.vmem, 36, rfl⟩
abbrev cc1_stg4_1 : Ref sig .tc := ⟨.vmem, 37, rfl⟩
abbrev cc1_stg5_0 : Ref sig .tc := ⟨.vmem, 38, rfl⟩
abbrev cc1_stg5_1 : Ref sig .tc := ⟨.vmem, 39, rfl⟩
abbrev cc1_stg6_0 : Ref sig .tc := ⟨.vmem, 40, rfl⟩
abbrev cc1_stg6_1 : Ref sig .tc := ⟨.vmem, 41, rfl⟩
abbrev cc1_stg7_0 : Ref sig .tc := ⟨.vmem, 42, rfl⟩
abbrev cc1_stg8_0 : Ref sig .tc := ⟨.vmem, 43, rfl⟩
abbrev cc1_stg9_0 : Ref sig .tc := ⟨.vmem, 44, rfl⟩
abbrev cc1_stg10_0 : Ref sig .tc := ⟨.vmem, 45, rfl⟩
abbrev cc1_stg10_1 : Ref sig .tc := ⟨.vmem, 46, rfl⟩
abbrev cc1_stg11_0 : Ref sig .tc := ⟨.vmem, 47, rfl⟩
abbrev cc1_stg11_1 : Ref sig .tc := ⟨.vmem, 48, rfl⟩
abbrev cc1_stg12_0 : Ref sig .tc := ⟨.vmem, 49, rfl⟩
abbrev cc1_stg12_1 : Ref sig .tc := ⟨.vmem, 50, rfl⟩
abbrev cc1_stg13_0 : Ref sig .tc := ⟨.vmem, 51, rfl⟩
abbrev cc1_stg13_1 : Ref sig .tc := ⟨.vmem, 52, rfl⟩
abbrev cc1_stg14_0 : Ref sig .tc := ⟨.vmem, 53, rfl⟩
abbrev cc1_stg14_1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem3_1 : DmaSem sig := 35
abbrev cc1_sem4_0 : DmaSem sig := 36
abbrev cc1_sem4_1 : DmaSem sig := 37
abbrev cc1_sem5_0 : DmaSem sig := 38
abbrev cc1_sem5_1 : DmaSem sig := 39
abbrev cc1_sem6_0 : DmaSem sig := 40
abbrev cc1_sem6_1 : DmaSem sig := 41
abbrev cc1_sem7_0 : DmaSem sig := 42
abbrev cc1_sem8_0 : DmaSem sig := 43
abbrev cc1_sem9_0 : DmaSem sig := 44
abbrev cc1_sem10_0 : DmaSem sig := 45
abbrev cc1_sem10_1 : DmaSem sig := 46
abbrev cc1_sem11_0 : DmaSem sig := 47
abbrev cc1_sem11_1 : DmaSem sig := 48
abbrev cc1_sem12_0 : DmaSem sig := 49
abbrev cc1_sem12_1 : DmaSem sig := 50
abbrev cc1_sem13_0 : DmaSem sig := 51
abbrev cc1_sem13_1 : DmaSem sig := 52
abbrev cc1_sem14_0 : DmaSem sig := 53
abbrev cc1_sem14_1 : DmaSem sig := 54

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1280x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c9_i32 : BitVec 32 := 9#32
  let c0_i32 : BitVec 32 := 0#32
  ![arg0.toNat, c9_i32.toNat]

def cc1_transform_2 (i : grid1.Coords) : Fin 2 → Nat :=
  let arg0 : BitVec 32 := BitVec.ofNat 32 (i 0).val
  let c10_i32 : BitVec 32 := 10#32
  let c0_i32 : BitVec 32 := 0#32
  ![arg0.toNat, c10_i32.toNat]

def cc1_transform_3 (i : grid1.Coords) : Fin 2 → Nat :=
  let arg0 : BitVec 32 := BitVec.ofNat 32 (i 0).val
  let c11_i32 : BitVec 32 := 11#32
  let c0_i32 : BitVec 32 := 0#32
  ![arg0.toNat, c11_i32.toNat]

def cc1_transform_4 (i : grid1.Coords) : Fin 2 → Nat :=
  let arg0 : BitVec 32 := BitVec.ofNat 32 (i 0).val
  let c12_i32 : BitVec 32 := 12#32
  let c0_i32 : BitVec 32 := 0#32
  ![arg0.toNat, c12_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1280x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x2048 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x1280 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== MergeReferenceIdeal.lean ====
abbrev S4096x1024 : Shape := ⟨2, ![4096, 1024]⟩
abbrev S4096x6656 : Shape := ⟨2, ![4096, 6656]⟩
abbrev S4096x1280 : Shape := ⟨2, ![4096, 1280]⟩
abbrev S1280x1024 : Shape := ⟨2, ![1280, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6656, .bf16⟩
  | .hbm, ⟨2, _⟩ => ⟨S4096x1280, .bf16⟩
  | .hbm, ⟨3, _⟩ => ⟨S4096x1024, .bf16⟩
  | .hbm, ⟨4, _⟩ => ⟨S1280x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S4096x6656, .f32⟩
  | .hbm, ⟨10, _⟩ => ⟨S4096x1280, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x2048, .f32⟩
  | .hbm, ⟨69, _⟩ => ⟨S4096x1280, .f32⟩
  | .hbm, ⟨70, _⟩ => ⟨S4096x1024, .f32⟩
  | .hbm, ⟨71, _⟩ => ⟨S4096x1024, .bf16⟩
  | .hbm, ⟨72, _⟩ => ⟨S4096x1024, .bf16⟩
  | .hbm, ⟨73, _⟩ => ⟨S4096x1024, .bf16⟩
  | .hbm, ⟨74, _⟩ => ⟨S4096x1024, .bf16⟩
  | .hbm, ⟨75, _⟩ => ⟨S4096x1024, .bf16⟩
  | .hbm, ⟨76, _⟩ => ⟨S4096x1024, .bf16⟩
  | .hbm, ⟨77, _⟩ => ⟨S4096x2048, .bf16⟩
  | .hbm, ⟨78, _⟩ => ⟨S4096x1280, .bf16⟩
  | .hbm, ⟨79, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== FfnKernel.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x4x1024x1024 : Shape := ⟨4, ![1, 4, 1024, 1024]⟩
abbrev S1x4096x1024 : Shape := ⟨3, ![1, 4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S1x1x1024x1024 : Shape := ⟨4, ![1, 1, 1024, 1024]⟩
abbrev S1024x1024 : Shape := ⟨2, ![1024, 1024]⟩
abbrev S1x1024x1024 : Shape := ⟨3, ![1, 1024, 1024]⟩
abbrev S512 : Shape := ⟨1, ![512]⟩
abbrev S512x1 : Shape := ⟨2, ![512, 1]⟩

abbrev nBuf : Space → Nat
  | .hbm => 36
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S1x4x1024x1024, .bf16⟩
  | .hbm, ⟨9, _⟩ => ⟨S4096x1024, .bf16⟩
  | .hbm, ⟨10, _⟩ => ⟨S1x4096x1024, .bf16⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .f32⟩
  | .hbm, ⟨29, _⟩ => ⟨S4096x4096, .bf16⟩
  | .hbm, ⟨30, _⟩ => ⟨S1x1024, .f32⟩
  | .hbm, ⟨31, _⟩ => ⟨S4096x1024, .f32⟩
  | .hbm, ⟨32, _⟩ => ⟨S4096x4096, .bf16⟩
  | .hbm, ⟨33, _⟩ => ⟨S1x1024, .f32⟩
  | .hbm, ⟨34, _⟩ => ⟨S4096x1024, .bf16⟩
  | .hbm, ⟨35, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x4x1024x1024, .bf16⟩
  | .local _ .vmem, ⟨5, _⟩ => ⟨S1x4096x1024, .bf16⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .f32⟩
  | .local _ .vmem, ⟨11, _⟩ => ⟨S512x1024, .f32⟩
  | .local _ .vmem, ⟨12, _⟩ => ⟨S512x4096, .bf16⟩
  | .local _ .vmem, ⟨13, _⟩ => ⟨S512x4096, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x4x1024x1024, .bf16⟩
  | .local _ .vmem, ⟨18, _⟩ => ⟨S1x4096x1024, .bf16⟩
  | .local _ .vmem, ⟨19, _⟩ => ⟨S512x1024, .f32⟩
  | .local _ .vmem, ⟨20, _⟩ => ⟨S512x1024, .f32⟩
  | .local _ .vmem, ⟨21, _⟩ => ⟨S512x4096, .bf16⟩
  | .local _ .vmem, ⟨22, _⟩ => ⟨S512x4096, .bf16⟩
  | .local _ .vmem, ⟨23, _⟩ => ⟨S1x1024, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem9_0 : DmaSem sig := 24
abbrev cc1_sem9_1 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4x1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== FfnReferenceIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 77
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x4096, .bf16⟩
  | .hbm, ⟨73, _⟩ => ⟨S4096x4096, .bf16⟩
  | .hbm, ⟨74, _⟩ => ⟨S1x1024, .f32⟩
  | .hbm, ⟨75, _⟩ => ⟨S4096x1024, .bf16⟩
  | .hbm, ⟨76, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== SgufwdKernel.lean ====
abbrev S4096x6656 : Shape := ⟨2, ![4096, 6656]⟩
abbrev S8x128x128 : Shape := ⟨3, ![8, 128, 128]⟩
abbrev S8x128 : Shape := ⟨2, ![8, 128]⟩
abbrev S1024 : Shape := ⟨1, ![1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x128x1 : Shape := ⟨3, ![8, 128, 1]⟩
abbrev S1x1024 : Shape := ⟨2, ![1, 1024]⟩
abbrev S4096x1024 : Shape := ⟨2, ![4096, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩
abbrev S128x1024 : Shape := ⟨2, ![128, 1024]⟩

abbrev nBuf : Space → Nat
  | .hbm => 39
  | .vmem => 8
  | .smem => 0
  | _ => 0

abbrev bufTy : (tb : Table) → Fin (tcTables nBuf tb) → BufTy
  | .hbm, ⟨0, _⟩ => ⟨S4096x6656, .bf16⟩
  | .hbm, ⟨1, _⟩ => ⟨S8x128x128, .f32⟩
  | .hbm, ⟨2, _⟩ => ⟨S8x128, .f32⟩
  | .hbm, ⟨3, _⟩ => ⟨S1024, .f32⟩
  | .hbm, ⟨4, _⟩ => ⟨S1024, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S1x128, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S128x128, .f32⟩
  | .hbm, ⟨30, _⟩ => ⟨S1x128x128, .f32⟩
  | .hbm, ⟨31, _⟩ => ⟨S8x128x128, .f32⟩
  | .hbm, ⟨32, _⟩ => ⟨S8x128x128, .f32⟩
  | .hbm, ⟨33, _⟩ => ⟨S8x128x128, .bf16⟩
  | .hbm, ⟨34, _⟩ => ⟨S8x128x1, .f32⟩
  | .hbm, ⟨35, _⟩ => ⟨S8x128x128, .f32⟩
  | .hbm, ⟨36, _⟩ => ⟨S1x1024, .f32⟩
  | .hbm, ⟨37, _⟩ => ⟨S1x1024, .f32⟩
  | .hbm, ⟨38, _⟩ => ⟨S4096x1024, .bf16⟩
  | .local _ .vmem, ⟨0, _⟩ => ⟨S512x2560, .bf16⟩
  | .local _ .vmem, ⟨1, _⟩ => ⟨S512x2560, .bf16⟩
  | .local _ .vmem, ⟨2, _⟩ => ⟨S8x128x128, .bf16⟩
  | .local _ .vmem, ⟨3, _⟩ => ⟨S8x128x128, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== SgufwdKernelIdeal.lean ====
variable {F : FTy → Type} [FloatOps F] [Named F]
def κ : String → Option EReal := fun
  | "gelu_3a" => some ((36009273 / 268435456 : ℝ) : EReal)
  | "gelu_a" => some ((12003091 / 268435456 : ℝ) : EReal)
  | "gelu_c" => some ((6693141 / 8388608 : ℝ) : EReal)
  | _ => none
-- ==== SgufwdReferenceIdeal.lean ====
abbrev S4096x6656 : Shape := ⟨2, ![4096, 6656]⟩
abbrev S8x128x128 : Shape := ⟨3, ![8, 128, 128]⟩
abbrev S8x128 : Shape := ⟨2, ![8, 128]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩

abbrev nBuf : Space → Nat
  | .hbm => 107
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S8x128x128, .f32⟩
  | .hbm, ⟨2, _⟩ => ⟨S8x128, .f32⟩
  | .hbm, ⟨3, _⟩ => ⟨S1024, .f32⟩
  | .hbm, ⟨4, _⟩ => ⟨S1024, .f32⟩
  | .hbm, ⟨5, _⟩ => ⟨S4096x6656, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S32x128x8x128, .f32⟩
  | .hbm, ⟨70, _⟩ => ⟨S128, .i32⟩
  | .hbm, ⟨71, _⟩ => ⟨S_, .i32⟩
  | .hbm, ⟨72, _⟩ => ⟨S_, .i32⟩
  | .hbm, ⟨73, _⟩ => ⟨S128, .i32⟩
  | .hbm, ⟨74, _⟩ => ⟨S128, .i32⟩
  | .hbm, ⟨75, _⟩ => ⟨S128, .i32⟩
  | .hbm, ⟨76, _⟩ => ⟨S_, .i32⟩
  | .hbm, ⟨77, _⟩ => ⟨S128, .i32⟩
  | .hbm, ⟨78, _⟩ => ⟨S128, .i1⟩
  | .hbm, ⟨79, _⟩ => ⟨S128, .i32⟩
  | .hbm, ⟨80, _⟩ => ⟨S128, .i32⟩
  | .hbm, ⟨81, _⟩ => ⟨S_, .i32⟩
  | .hbm, ⟨82, _⟩ => ⟨S128, .i32⟩
  | .hbm, ⟨83, _⟩ => ⟨S128, .i1⟩
  | .hbm, ⟨84, _⟩ => ⟨S128, .i1⟩
  | .hbm, ⟨85, _⟩ => ⟨S_, .i32⟩
  | .hbm, ⟨86, _⟩ => ⟨S128, .i32⟩
  | .hbm, ⟨87, _⟩ => ⟨S128, .i32⟩
  | .hbm, ⟨88, _⟩ => ⟨S128, .i32⟩
  | .hbm, ⟨89, _⟩ => ⟨S128x1, .i32⟩
  | .hbm, ⟨90, _⟩ => ⟨S1x128, .i32⟩
  | .hbm, ⟨91, _⟩ => ⟨S128x128, .i32⟩
  | .hbm, ⟨92, _⟩ => ⟨S128x128, .i32⟩
  | .hbm, ⟨93, _⟩ => ⟨S128x128, .i1⟩
  | .hbm, ⟨94, _⟩ => ⟨S128x128, .f32⟩
  | .hbm, ⟨95, _⟩ => ⟨S1x128x128, .f32⟩
  | .hbm, ⟨96, _⟩ => ⟨S8x128x128, .f32⟩
  | .hbm, ⟨97, _⟩ => ⟨S8x128x128, .f32⟩
  | .hbm, ⟨98, _⟩ => ⟨S8x32x128x128, .f32⟩
  | .hbm, ⟨99, _⟩ => ⟨S32x128x8x128, .f32⟩
  | .hbm, ⟨100, _⟩ => ⟨S128x8, .f32⟩
  | .hbm, ⟨101, _⟩ => ⟨S1x128x8x1, .f32⟩
  | .hbm, ⟨102, _⟩ => ⟨S32x128x8x128, .f32⟩
  | .hbm, ⟨103, _⟩ => ⟨S32x128x8x128, .f32⟩
  | .hbm, ⟨104, _⟩ => ⟨S4096x1024, .f32⟩
  | .hbm, ⟨105, _⟩ => ⟨S4096x1024, .f32⟩
  | .hbm, ⟨106, _⟩ => ⟨S4096x1024, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_v8 : Ref sig .tc := ⟨.hbm, 80, rfl⟩
abbrev main_call0_c : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_call0_c_0 : Ref sig .tc := ⟨.hbm, 85, rfl⟩
abbrev main_call0_v12 : Ref sig .tc := ⟨.hbm, 86, rfl⟩
abbrev main_call0_v13 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]
-- ==== RnnfwdKernel.lean ====
abbrev S4096x6656 : Shape := ⟨2, ![4096, 6656]⟩
abbrev S4x1280 : Shape := ⟨2, ![4, 1280]⟩
abbrev S1280 : Shape := ⟨1, ![1280]⟩
abbrev S20x64x64 : Shape := ⟨3, ![20, 64, 64]⟩
abbrev S20x64 : Shape := ⟨2, ![20, 64]⟩
abbrev S5x4x64x64 : Shape := ⟨4, ![5, 4, 64, 64]⟩
abbrev S4x4 : Shape := ⟨2, ![4, 4]⟩
abbrev S_ : Shape := ⟨0, ![]⟩
abbrev S5x4x64x1x64 : Shape := ⟨5, ![5, 4, 64, 1, 64]⟩
abbrev S1x4x1x4x1 : Shape := ⟨5, ![1, 4, 1, 4, 1]⟩
abbrev S5x4x64x4x64 : Shape := ⟨5, ![5, 4, 64, 4, 64]⟩
abbrev S5x256x256 : Shape := ⟨3, ![5, 256, 256]⟩
abbrev S1x1280 : Shape := ⟨2, ![1, 1280]⟩
abbrev S4096x1280 : Shape := ⟨2, ![4096, 1280]⟩
abbrev S512x2560 : Shape := ⟨2, ![512, 2560]⟩
abbrev S512x1280 : Shape := ⟨2, ![512, 1280]⟩
abbrev S8x1280 : Shape := ⟨2, ![8, 1280]⟩
abbrev S504x1280 : Shape := ⟨2, ![504, 1280]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 60
  | .vmem => 20
  | .smem => 0
  | _ => 0

abbrev bufTy : (tb : Table) → Fin (tcTables nBuf tb) → BufTy
  | .hbm, ⟨0, _⟩ => ⟨S4096x6656, .bf16⟩
  | .hbm, ⟨1, _⟩ => ⟨S4x1280, .f32⟩
  | .hbm, ⟨2, _⟩ => ⟨S1280, .f32⟩
  | .hbm, ⟨3, _⟩ => ⟨S20x64x64, .f32⟩
  | .hbm, ⟨4, _⟩ => ⟨S20x64, .f32⟩
  | .hbm, ⟨5, _⟩ => ⟨S20x64x64, .f32⟩
  | .hbm, ⟨6, _⟩ => ⟨S20x64, .f32⟩
  | .hbm, ⟨7, _⟩ => ⟨S1280, .f32⟩
  | .hbm, ⟨8, _⟩ => ⟨S5x4x64x64, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S5x4x64x1x64, .f32⟩
  | .hbm, ⟨17, _⟩ => ⟨S1x4x1x4x1, .f32⟩
  | .hbm, ⟨18, _⟩ => ⟨S5x4x64x4x64, .f32⟩
  | .hbm, ⟨19, _⟩ => ⟨S5x4x64x4x64, .f32⟩
  | .hbm, ⟨20, _⟩ => ⟨S5x4x64x4x64, .f32⟩
  | .hbm, ⟨21, _⟩ => ⟨S5x256x256, .f32⟩
  | .hbm, ⟨22, _⟩ => ⟨S5x256x256, .bf16⟩
  | .hbm, ⟨23, _⟩ => ⟨S5x4x64x64, .f32⟩
  | .hbm, ⟨24, _⟩ => ⟨S4x4, .i32⟩
  | .hbm, ⟨25, _⟩ => ⟨S4x4, .i32⟩
  | .hbm, ⟨26, _⟩ => ⟨S_, .i32⟩
  | .hbm, ⟨27, _⟩ => ⟨S4x4, .i32⟩
  | .hbm, ⟨28, _⟩ => ⟨S4x4, .i32⟩
  | .hbm, ⟨29, _⟩ => ⟨S4x4, .i1⟩
  | .hbm, ⟨30, _⟩ => ⟨S4x4, .f32⟩
  | .hbm, ⟨31, _⟩ => ⟨S5x4x64x1x64, .f32⟩
  | .hbm, ⟨32, _⟩ => ⟨S1x4x1x4x1, .f32⟩
  | .hbm, ⟨33, _⟩ => ⟨S5x4x64x4x64, .f32⟩
  | .hbm, ⟨34, _⟩ => ⟨S5x4x64x4x64, .f32⟩
  | .hbm, ⟨35, _⟩ => ⟨S5x4x64x4x64, .f32⟩
  | .hbm, ⟨36, _⟩ => ⟨S5x256x256, .f32⟩
  | .hbm, ⟨37, _⟩ => ⟨S5x256x256, .bf16⟩
  | .hbm, ⟨38, _⟩ => ⟨S1x1280, .f32⟩
  | .hbm, ⟨39, _⟩ => ⟨S1x1280, .f32⟩
  | .hbm, ⟨40, _⟩ => ⟨S1280, .f32⟩
  | .hbm, ⟨41, _⟩ => ⟨S_, .f32⟩
  | .hbm, ⟨42, _⟩ => ⟨S1280, .f32⟩
  | .hbm, ⟨43, _⟩ => ⟨S1280, .f32⟩
  | .hbm, ⟨44, _⟩ => ⟨S1280, .f32⟩
  | .hbm, ⟨45, _⟩ => ⟨S1280, .f32⟩
  | .hbm, ⟨46, _⟩ => ⟨S1280, .i1⟩
  | .hbm, ⟨47, _⟩ => ⟨S1280, .f32⟩
  | .hbm, ⟨48, _⟩ => ⟨S1280, .f32⟩
  | .hbm, ⟨49, _⟩ => ⟨S1280, .f32⟩
  | .hbm, ⟨50, _⟩ => ⟨S1280, .f32⟩
  | .hbm, ⟨51, _⟩ => ⟨S1280, .f32⟩
  | .hbm, ⟨52, _⟩ => ⟨S1280, .f32⟩
  | .hbm, ⟨53, _⟩ => ⟨S1280, .f32⟩
  | .hbm, ⟨54, _⟩ => ⟨S1280, .f32⟩
  | .hbm, ⟨55, _⟩ => ⟨S1x1280, .f32⟩
  | .hbm, ⟨56, _⟩ => ⟨S1x1280, .f32⟩
  | .hbm, ⟨57, _⟩ => ⟨S4096x1280, .bf16⟩
  | .hbm, ⟨58, _⟩ => ⟨S4096x1280, .bf16⟩
  | .hbm, ⟨59, _⟩ => ⟨S4096x1280, .bf16⟩
  | .local _ .vmem, ⟨0, _⟩ => ⟨S512x2560, .bf16⟩
  | .local _ .vmem, ⟨1, _⟩ => ⟨S512x2560, .bf16⟩
  | .local _ .vmem, ⟨2, _⟩ => ⟨S5x256x256, .bf16⟩
  | .local _ .vmem, ⟨3, _⟩ => ⟨S5x256x256, .bf16⟩
  | .local _ .vmem, ⟨4, _⟩ => ⟨S1x1280, .f32⟩
  | .local _ .vmem, ⟨5, _⟩ => ⟨S1x1280, .f32⟩
  | .local _ .vmem, ⟨6, _⟩ => ⟨S1x1280, .f32⟩
  | .local _ .vmem, ⟨7, _⟩ => ⟨S4x1280, .f32⟩
  | .local _ .vmem, ⟨8, _⟩ => ⟨S1x1280, .f32⟩
  | .local _ .vmem, ⟨9, _⟩ => ⟨S512x1280, .bf16⟩
  | .local _ .vmem, ⟨10, _⟩ => ⟨S512x1280, .bf16⟩
  | .local _ .vmem, ⟨11, _⟩ => ⟨S512x1280, .bf16⟩
  | .local _ .vmem, ⟨12, _⟩ => ⟨S512x1280, .bf16⟩
  | .local _ .vmem, ⟨13, _⟩ => ⟨S512x1280, .bf16⟩
  | .local _ .vmem, ⟨14, _⟩ => ⟨S512x1280, .bf16⟩
  | .local _ .vmem, ⟨15, _⟩ => ⟨S8x1280, .f32⟩
  | .local _ .vmem, ⟨16, _⟩ => ⟨S1x1280, .f32⟩
  | .local _ .vmem, ⟨17, _⟩ => ⟨S512x1280, .f32⟩
  | .local _ .vmem, ⟨18, _⟩ => ⟨S512x1280, .f32⟩
  | .local _ .vmem, ⟨19, _⟩ => ⟨S512x1280, .f32⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34_0 : Ref sig .tc := ⟨.hbm, 57, rfl⟩
abbrev main_v34_1 : Ref sig .tc := ⟨.hbm, 58, rfl⟩
abbrev main_v34_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_90 : BitVec 32 := 0#32
  let c64_i32 : BitVec 32 := 64#32
  let v177 : BitVec 32 := Scalar.addi c0_i32_90 c64_i32
  let c1_i32_91 : BitVec 32 := 1#32
  ⟨c0_i32_90, v177, c1_i32_91⟩
def k0_mult1 (k0_t1 : Fin k0_t1_loop.trips) : BitVec 32 :=
  let c0_i32_90 : BitVec 32 := 0#32
  let c1_i32_91 : BitVec 32 := 1#32
  let arg17 : BitVec 32 := Scf.iv c0_i32_90 c1_i32_91 k0_t1
  let c8_i32 : BitVec 32 := 8#32
  let v203 : BitVec 32 := Scalar.muli arg17 c8_i32
  v203
def k0_off1 (k0_t1 : Fin k0_t1_loop.trips) : Fin 2 → Nat :=
  let c0_i32_90 : BitVec 32 := 0#32
  let c1_i32_91 : BitVec 32 := 1#32
  let arg17 : BitVec 32 := Scf.iv c0_i32_90 c1_i32_91 k0_t1
  let c8_i32 : BitVec 32 := 8#32
  let v203 : BitVec 32 := Scalar.muli arg17 c8_i32
  let v204 : BitVec 32 := v203
  let v205 : Index := Scalar.indexCast v204
  let c0_105 : Index := 0#32
  ![v205.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1280 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1280 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RnnfwdKernelIdeal.lean ====
variable {F : FTy → Type} [FloatOps F] [Named F]
def κ : String → Option EReal := fun
  | "gelu_3a" => some ((36009273 / 268435456 : ℝ) : EReal)
  | "gelu_a" => some ((12003091 / 268435456 : ℝ) : EReal)
  | "gelu_c" => some ((6693141 / 8388608 : ℝ) : EReal)
  | _ => none
-- ==== RnnfwdReferenceIdeal.lean ====
abbrev S4096x6656 : Shape := ⟨2, ![4096, 6656]⟩
abbrev S4x1280 : Shape := ⟨2, ![4, 1280]⟩
abbrev S1280 : Shape := ⟨1, ![1280]⟩
abbrev S20x64x64 : Shape := ⟨3, ![20, 64, 64]⟩
abbrev S20x64 : Shape := ⟨2, ![20, 64]⟩
abbrev S4096x1280 : Shape := ⟨2, ![4096, 1280]⟩
abbrev S_ : Shape := ⟨0, ![]⟩
abbrev S3x1280 : Shape := ⟨2, ![3, 1280]⟩
abbrev S4099x1280 : Shape := ⟨2, ![4099, 1280]⟩
abbrev S1x1280 : Shape := ⟨2, ![1, 1280]⟩
abbrev S4096x20x64 : Shape := ⟨3, ![4096, 20, 64]⟩
abbrev S20x64x4096 : Shape := ⟨3, ![20, 64, 4096]⟩
abbrev S1x20x64 : Shape := ⟨3, ![1, 20, 64]⟩

abbrev nBuf : Space → Nat
  | .hbm => 186
  | .vmem => 0
  | .smem => 0
  | _ => 0

abbrev hbmTy0_0 (i : Nat) : BufTy := match i % 128 with
  | 0 => ⟨S4096x6656, .bf16⟩
  | 1 => ⟨S4x1280, .f32⟩
  | 2 => ⟨S1280, .f32⟩
  | 3 => ⟨S20x64x64, .f32⟩
  | 4 => ⟨S20x64, .f32⟩
  | 5 => ⟨S20x64x64, .f32⟩
  | 6 => ⟨S20x64, .f32⟩
  | 7 => ⟨S1280, .f32⟩
  | 8 => ⟨S4096x6656, .f32⟩
  | 9 => ⟨S4096x1280, .f32⟩
  | 10 => ⟨S_, .f32⟩
  | 11 => ⟨S3x1280, .f32⟩
  | 12 => ⟨S4099x1280, .f32⟩
  | 13 => ⟨S4096x1280, .f32⟩
  | 14 => ⟨S1x1280, .f32⟩
  | 15 => ⟨S1280, .f32⟩
  | 16 => ⟨S1x1280, .f32⟩
  | 17 => ⟨S4096x1280, .f32⟩
  | 18 => ⟨S4096x1280, .f32⟩
  | 19 => ⟨S1x1280, .f32⟩
  | 20 => ⟨S4096x1280, .f32⟩
  | 21 => ⟨S4096x1280, .f32⟩
  | 22 => ⟨S4096x1280, .f32⟩
  | 23 => ⟨S1x1280, .f32⟩
  | 24 => ⟨S1280, .f32⟩
  | 25 => ⟨S1x1280, .f32⟩
  | 26 => ⟨S4096x1280, .f32⟩
  | 27 => ⟨S4096x1280, .f32⟩
  | 28 => ⟨S4096x1280, .f32⟩
  | 29 => ⟨S4096x1280, .f32⟩
  | 30 => ⟨S1x1280, .f32⟩
  | 31 => ⟨S1280, .f32⟩
  | 32 => ⟨S1x1280, .f32⟩
  | 33 => ⟨S4096x1280, .f32⟩
  | 34 => ⟨S4096x1280, .f32⟩
  | 35 => ⟨S4096x1280, .f32⟩
  | 36 => ⟨S4096x1280, .f32⟩
  | 37 => ⟨S1x1280, .f32⟩
  | 38 => ⟨S1280, .f32⟩
  | 39 => ⟨S1x1280, .f32⟩
  | 40 => ⟨S4096x1280, .f32⟩
  | 41 => ⟨S4096x1280, .f32⟩
  | 42 => ⟨S4096x1280, .f32⟩
  | 43 => ⟨S4096x20x64, .f32⟩
  | 44 => ⟨S20x64x4096, .f32⟩
  | 45 => ⟨S4096x20x64, .f32⟩
  | 46 => ⟨S1x20x64, .f32⟩
  | 47 => ⟨S4096x20x64, .f32⟩
  | 48 => ⟨S4096x20x64, .f32⟩
  | 49 => ⟨S4096x20x64, .f32⟩
  | 50 => ⟨S4096x20x64, .f32⟩
  | 51 => ⟨S_, .f32⟩
  | 52 => ⟨S4096x20x64, .f32⟩
  | 53 => ⟨S4096x20x64, .f32⟩
  | 54 => ⟨S_, .f32⟩
  | 55 => ⟨S4096x20x64, .f32⟩
  | 56 => ⟨S4096x20x64, .f32⟩
  | 57 => ⟨S4096x1280, .f32⟩
  | 58 => ⟨S_, .f32⟩
  | 59 => ⟨S4096x1280, .f32⟩
  | 60 => ⟨S4096x1280, .f32⟩
  | 61 => ⟨S1280, .f32⟩
  | 62 => ⟨S_, .f32⟩
  | 63 => ⟨S1280, .f32⟩
  | 64 => ⟨S1280, .f32⟩
  | 65 => ⟨S1280, .f32⟩
  | 66 => ⟨S1280, .f32⟩
  | 67 => ⟨S1280, .i1⟩
  | 68 => ⟨S1280, .f32⟩
  | 69 => ⟨S1280, .f32⟩
  | 70 => ⟨S1280, .f32⟩
  | 71 => ⟨S1280, .f32⟩
  | 72 => ⟨S1280, .f32⟩
  | 73 => ⟨S1280, .f32⟩
  | 74 => ⟨S1280, .f32⟩
  | 75 => ⟨S1280, .f32⟩
  | 76 => ⟨S1x1280, .f32⟩
  | 77 => ⟨S4096x1280, .f32⟩
  | 78 => ⟨S4096x1280, .f32⟩
  | 79 => ⟨S4096x20x64, .f32⟩
  | 80 => ⟨S20x64x4096, .f32⟩
  | 81 => ⟨S4096x20x64, .f32⟩
  | 82 => ⟨S1x20x64, .f32⟩
  | 83 => ⟨S4096x20x64, .f32⟩
  | 84 => ⟨S4096x20x64, .f32⟩
  | 85 => ⟨S4096x20x64, .f32⟩
  | 86 => ⟨S4096x20x64, .f32⟩
  | 87 => ⟨S_, .f32⟩
  | 88 => ⟨S4096x20x64, .f32⟩
  | 89 => ⟨S4096x20x64, .f32⟩
  | 90 => ⟨S_, .f32⟩
  | 91 => ⟨S4096x20x64, .f32⟩
  | 92 => ⟨S4096x20x64, .f32⟩
  | 93 => ⟨S4096x1280, .f32⟩
  | 94 => ⟨S4096x1280, .f32⟩
  | 95 => ⟨S_, .f32⟩
  | 96 => ⟨S4096x1280, .f32⟩
  | 97 => ⟨S4096x1280, .f32⟩
  | 98 => ⟨S4096x1280, .f32⟩
  | 99 => ⟨S4096x1280, .f32⟩
  | 100 => ⟨S4096x1280, .f32⟩
  | 101 => ⟨S4096x1280, .f32⟩
  | 102 => ⟨S4096x1280, .f32⟩
  | 103 => ⟨S_, .f32⟩
  | 104 => ⟨S1280, .f32⟩
  | 105 => ⟨S_, .f32⟩
  | 106 => ⟨S4096x1280, .f32⟩
  | 107 => ⟨S_, .i32⟩
  | 108 => ⟨S4096x1280, .f32⟩
  | 109 => ⟨S4096x1280, .f32⟩
  | 110 => ⟨S_, .i32⟩
  | 111 => ⟨S1280, .f32⟩
  | 112 => ⟨S4096x1280, .f32⟩
  | 113 => ⟨S_, .i32⟩
  | 114 => ⟨S_, .i1⟩
  | 115 => ⟨S_, .i32⟩
  | 116 => ⟨S1x1280, .f32⟩
  | 117 => ⟨S1280, .f32⟩
  | 118 => ⟨S_, .i32⟩
  | 119 => ⟨S1x1280, .f32⟩
  | 120 => ⟨S1280, .f32⟩
  | 121 => ⟨S1280, .f32⟩
  | 122 => ⟨S1280, .f32⟩
  | 123 => ⟨S1x1280, .f32⟩
  | 124 => ⟨S_, .i32⟩
  | 125 => ⟨S4096x1280, .f32⟩
  | 126 => ⟨S_, .i32⟩
  | 127 => ⟨S_, .i32⟩
  | _ => ⟨S4096x6656, .bf16⟩

abbrev hbmTy0_1 (i : Nat) : BufTy := match i % 128 with
  | 0 => ⟨S4096x6656, .f32⟩
  | 1 => ⟨S4096x1280, .f32⟩
  | 2 => ⟨S4096x1280, .f32⟩
  | 3 => ⟨S4096x1280, .f32⟩
  | 4 => ⟨S_, .f32⟩
  | 5 => ⟨S4096x1280, .f32⟩
  | 6 => ⟨S4096x1280, .f32⟩
  | 7 => ⟨S4096x1280, .f32⟩
  | 8 => ⟨S_, .f32⟩
  | 9 => ⟨S4096x1280, .f32⟩
  | 10 => ⟨S4096x1280, .f32⟩
  | 11 => ⟨S4096x1280, .f32⟩
  | 12 => ⟨S_, .f32⟩
  | 13 => ⟨S4096x1280, .f32⟩
  | 14 => ⟨S4096x1280, .f32⟩
  | 15 => ⟨S_, .f32⟩
  | 16 => ⟨S4096x1280, .f32⟩
  | 17 => ⟨S4096x1280, .f32⟩
  | 18 => ⟨S4096x1280, .f32⟩
  | 19 => ⟨S4096x1280, .f32⟩
  | 20 => ⟨S4096x6656, .f32⟩
  | 21 => ⟨S4096x1280, .f32⟩
  | 22 => ⟨S_, .f32⟩
  | 23 => ⟨S3x1280, .f32⟩
  | 24 => ⟨S4099x1280, .f32⟩
  | 25 => ⟨S4096x1280, .f32⟩
  | 26 => ⟨S1x1280, .f32⟩
  | 27 => ⟨S1280, .f32⟩
  | 28 => ⟨S1x1280, .f32⟩
  | 29 => ⟨S4096x1280, .f32⟩
  | 30 => ⟨S4096x1280, .f32⟩
  | 31 => ⟨S1x1280, .f32⟩
  | 32 => ⟨S4096x1280, .f32⟩
  | 33 => ⟨S4096x1280, .f32⟩
  | 34 => ⟨S4096x1280, .f32⟩
  | 35 => ⟨S1x1280, .f32⟩
  | 36 => ⟨S1280, .f32⟩
  | 37 => ⟨S1x1280, .f32⟩
  | 38 => ⟨S4096x1280, .f32⟩
  | 39 => ⟨S4096x1280, .f32⟩
  | 40 => ⟨S4096x1280, .f32⟩
  | 41 => ⟨S4096x1280, .f32⟩
  | 42 => ⟨S1x1280, .f32⟩
  | 43 => ⟨S1280, .f32⟩
  | 44 => ⟨S1x1280, .f32⟩
  | 45 => ⟨S4096x1280, .f32⟩
  | 46 => ⟨S4096x1280, .f32⟩
  | 47 => ⟨S4096x1280, .f32⟩
  | 48 => ⟨S4096x1280, .f32⟩
  | 49 => ⟨S1x1280, .f32⟩
  | 50 => ⟨S1280, .f32⟩
  | 51 => ⟨S1x1280, .f32⟩
  | 52 => ⟨S4096x1280, .f32⟩
  | 53 => ⟨S4096x1280, .f32⟩
  | 54 => ⟨S4096x1280, .f32⟩
  | 55 => ⟨S4096x1280, .bf16⟩
  | 56 => ⟨S4096x1280, .bf16⟩
  | 57 => ⟨S4096x1280, .bf16⟩
  | _ => ⟨S4096x6656, .bf16⟩

abbrev hbmTy (i : Nat) : BufTy := match i / 128 with
  | 0 => hbmTy0_0 i
  | 1 => hbmTy0_1 i
  | _ => ⟨S4096x6656, .bf16⟩

abbrev bufTy : (tb : Table) → Fin (tcTables nBuf tb) → BufTy
  | .hbm, ⟨i, _⟩ => hbmTy i
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_0 : Ref sig .tc := ⟨.hbm, 51, rfl⟩
abbrev main_v42 : Ref sig .tc := ⟨.hbm, 52, rfl⟩
abbrev main_v43 : Ref sig .tc := ⟨.hbm, 53, rfl⟩
abbrev main_cst_1 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_2 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_3 : Ref sig .tc := ⟨.hbm, 87, rfl⟩
abbrev main_v62 : Ref sig .tc := ⟨.hbm, 88, rfl⟩
abbrev main_v63 : Ref sig .tc := ⟨.hbm, 89, rfl⟩
abbrev main_cst_4 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_5 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_6 : Ref sig .tc := ⟨.hbm, 103, rfl⟩
abbrev main_v75 : Ref sig .tc := ⟨.hbm, 104, rfl⟩
abbrev main_cst_7 : Ref sig .tc := ⟨.hbm, 105, rfl⟩
abbrev main_v76 : Ref sig .tc := ⟨.hbm, 106, rfl⟩
abbrev main_c : Ref sig .tc := ⟨.hbm, 107, rfl⟩
abbrev main_v77_0 : Ref sig .tc := ⟨.hbm, 108, rfl⟩
abbrev main_v77_1 : Ref sig .tc := ⟨.hbm, 109, rfl⟩
abbrev main_v77_2 : Ref sig .tc := ⟨.hbm, 110, rfl⟩
abbrev main_v77_3 : Ref sig .tc := ⟨.hbm, 111, rfl⟩
abbrev main_v77_4 : Ref sig .tc := ⟨.hbm, 112, rfl⟩
abbrev main_while0c_c_17 : Ref sig .tc := ⟨.hbm, 113, rfl⟩
abbrev main_while0c_v131 : Ref sig .tc := ⟨.hbm, 114, rfl⟩
abbrev main_while0b_call1_c : Ref sig .tc := ⟨.hbm, 115, rfl⟩
abbrev main_while0b_call1_v0 : Ref sig .tc := ⟨.hbm, 116, rfl⟩
abbrev main_while0b_v131 : Ref sig .tc := ⟨.hbm, 117, rfl⟩
abbrev main_while0b_call2_c : Ref sig .tc := ⟨.hbm, 118, rfl⟩
abbrev main_while0b_call2_v0 : Ref sig .tc := ⟨.hbm, 119, rfl⟩
abbrev main_while0b_v132 : Ref sig .tc := ⟨.hbm, 120, rfl⟩
abbrev main_while0b_v133 : Ref sig .tc := ⟨.hbm, 121, rfl⟩
abbrev main_while0b_v134 : Ref sig .tc := ⟨.hbm, 122, rfl⟩
abbrev main_while0b_call3_v0 : Ref sig .tc := ⟨.hbm, 123, rfl⟩
abbrev main_while0b_call3_c : Ref sig .tc := ⟨.hbm, 124, rfl⟩
abbrev main_while0b_v135 : Ref sig .tc := ⟨.hbm, 125, rfl⟩
abbrev main_while0b_c_17 : Ref sig .tc := ⟨.hbm, 126, rfl⟩
abbrev main_while0b_v136 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_8 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_9 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_cst_10 : Ref sig .tc := ⟨.hbm, 140, rfl⟩
abbrev main_v88 : Ref sig .tc := ⟨.hbm, 141, rfl⟩
abbrev main_v89 : Ref sig .tc := ⟨.hbm, 142, rfl⟩
abbrev main_cst_11 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_12 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩

abbrev nD : Nat := 1
abbrev τ : Topo := Topo.v7x

variable {F : FTy → Type} [FloatOps F]

abbrev main_while0_count : Scf.Loop 32 := ⟨0#32, 4096#32, 1#32⟩
-- ==== NormKernel.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InpfwdKernel.lean ====
abbrev S4096x1024 : Shape := ⟨2, ![4096, 1024]⟩
abbrev S1024x6656 : Shape := ⟨2, ![1024, 6656]⟩
abbrev S1024x4x1664 : Shape := ⟨3, ![1024, 4, 1664]⟩
abbrev S4x1024x1664 : Shape := ⟨3, ![4, 1024, 1664]⟩
abbrev S1x4x1024x1664 : Shape := ⟨4, ![1, 4, 1024, 1664]⟩
abbrev S4096x6656 : Shape := ⟨2, ![4096, 6656]⟩
abbrev S1024x1024 : Shape := ⟨2, ![1024, 1024]⟩
abbrev S1x1x1024x1664 : Shape := ⟨4, ![1, 1, 1024, 1664]⟩
abbrev S1024x1664 : Shape := ⟨2, ![1024, 1664]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6656, .f32⟩
  | .hbm, ⟨2, _⟩ => ⟨S1024x4x1664, .f32⟩
  | .hbm, ⟨3, _⟩ => ⟨S4x1024x1664, .f32⟩
  | .hbm, ⟨4, _⟩ => ⟨S4x1024x1664, .bf16⟩
  | .hbm, ⟨5, _⟩ => ⟨S1x4x1024x1664, .bf16⟩
  | .hbm, ⟨6, _⟩ => ⟨S4096x6656, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1664, .bf16⟩
  | .local _ .vmem, ⟨3, _⟩ => ⟨S1x1x1024x1664, .bf16⟩
  | .local _ .vmem, ⟨4, _⟩ => ⟨S1024x1664, .bf16⟩
  | .local _ .vmem, ⟨5, _⟩ => ⟨S1024x1664, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InpfwdReferenceIdeal.lean ====
abbrev S4096x1024 : Shape := ⟨2, ![4096, 1024]⟩
abbrev S1024x6656 : Shape := ⟨2, ![1024, 6656]⟩
abbrev S4096x6656 : Shape := ⟨2, ![4096, 6656]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6656, .f32⟩
  | .hbm, ⟨2, _⟩ => ⟨S4096x1024, .f32⟩
  | .hbm, ⟨3, _⟩ => ⟨S4096x6656, .f32⟩
  | .hbm, ⟨4, _⟩ => ⟨S4096x6656, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Consts.lean ====
/- The float literals of the programs as extended reals: each pattern's value, stated once. -/
module

public import Idealize.ShloMosaic.PureOps.Ideal
public import Idealize.ShloMosaic.PureOps.Ideal.Laws
public import Idealize.ShloMosaic.Lib.IdealHost
public import Mathlib.Tactic.NormNum

@[expose] public section

noncomputable section

namespace Cert.Consts

open Idealize.ShloMosaic

/-- The norms' ε: the f32 nearest to 10⁻⁶, as a real number. -/
def eps : ℝ := 8796093 * 2 ^ (-43 : ℤ)

theorem eps_pos : 0 < eps := by unfold eps; positivity

theorem eps_eq : Ideal.ofBits .f32 0x358637BD#32 = (eps : EReal) := by
  unfold eps
  simp [Ideal.ofBits, Ideal.ieee, -EReal.coe_mul]

theorem c1024 : Ideal.ofBits .f32 0x44800000#32 = ((1024 : ℝ) : EReal) := by
  simp [Ideal.ofBits, Ideal.ieee, -EReal.coe_mul]; norm_num

theorem cInv1024 : Ideal.ofBits .f32 0x3A800000#32 = ((1 / 1024 : ℝ) : EReal) := by
  simp [Ideal.ofBits, Ideal.ieee, -EReal.coe_mul]; norm_num

theorem cHalf : Ideal.ofBits .f32 0x3F000000#32 = ((1 / 2 : ℝ) : EReal) := by
  simp [Ideal.ofBits, Ideal.ieee, -EReal.coe_mul]; norm_num

theorem cNegHalf : Ideal.ofBits .f32 0xBF000000#32 = ((-(1 / 2) : ℝ) : EReal) := by
  simp [Ideal.ofBits, Ideal.ieee, -EReal.coe_mul]; norm_num

theorem cTwo : Ideal.ofBits .f32 0x40000000#32 = ((2 : ℝ) : EReal) := by
  simp [Ideal.ofBits, Ideal.ieee, -EReal.coe_mul]; norm_num

theorem cThree : Ideal.ofBits .f32 0x40400000#32 = ((3 : ℝ) : EReal) := by
  simp [Ideal.ofBits, Ideal.ieee, -EReal.coe_mul]; norm_num

theorem cOne : Ideal.ofBits .f32 0x3F800000#32 = ((1 : ℝ) : EReal) := by
  simp [Ideal.ofBits, Ideal.ieee, -EReal.coe_mul]; norm_num

theorem cZero : Ideal.ofBits .f32 0x00000000#32 = ((0 : ℝ) : EReal) := by
  simp [Ideal.ofBits, Ideal.ieee, -EReal.coe_mul]

theorem bHalf : Ideal.ofBits .bf16 0x3F00#16 = ((1 / 2 : ℝ) : EReal) := by
  simp [Ideal.ofBits, Ideal.ieee, -EReal.coe_mul]; norm_num

theorem bOne : Ideal.ofBits .bf16 0x3F80#16 = ((1 : ℝ) : EReal) := by
  simp [Ideal.ofBits, Ideal.ieee, -EReal.coe_mul]; norm_num

/-- gelu's two constants, the f32 nearest to √(2/π) and to 0.044715. -/
def geluC : ℝ := 6693141 / 8388608
def geluA : ℝ := 12003091 / 268435456

theorem cGeluC : Ideal.ofBits .f32 0x3F4C422A#32 = (geluC : EReal) := by
  unfold geluC
  simp [Ideal.ofBits, Ideal.ieee, -EReal.coe_mul]; norm_num

theorem cGeluA : Ideal.ofBits .f32 0x3D372713#32 = (geluA : EReal) := by
  unfold geluA
  simp [Ideal.ofBits, Ideal.ieee, -EReal.coe_mul]; norm_num

theorem cInf : Ideal.ofBits .f32 0x7F800000#32 = (⊤ : EReal) := by
  simp [Ideal.ofBits, Ideal.ieee]

end Cert.Consts
-- ==== Proof.RowNorm.lean ====
/- The gradient of the root-mean-square norm of one row, over the extended reals. With `Q` the row's sum of squares,
   `v = Q / 1024 + ε` and `r = 1 / √v`, the two ways the programs write the row's gradient agree for every value of every
   operand: where `v` is finite, `r` is a positive real, which distributes over every sum; where it is not, `r = 0` and both
   gradients are `0`. -/
module

public import proofs.«01_k».proof.Proof.Consts
public import Mathlib.Algebra.BigOperators.Ring.Finset

@[expose] public section

noncomputable section

namespace Cert.RowNorm

open Idealize.ShloMosaic
open scoped BigOperators

/-- A nonnegative real factor distributes over a finite sum of extended reals. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top _) _ _

/-- A square is not negative. -/
theorem mul_self_nonneg (x : EReal) : 0 ≤ x * x := by
  induction x with
  | bot => simp
  | top => simp
  | coe r => rw [← EReal.coe_mul]; exact EReal.coe_nonneg.mpr (_root_.mul_self_nonneg r)

/-- Twice a term as the real factor two. -/
theorem add_self (t : EReal) : t + t = ((2 : ℝ) : EReal) * t := by
  have h : ((2 : ℝ) : EReal) = ((1 : ℝ) : EReal) + ((1 : ℝ) : EReal) := by rw [← EReal.coe_add]; norm_num
  rw [h, EReal.right_distrib_of_nonneg (by simp) (by simp)]
  simp

/-- The norm's denominator: a positive real, or `⊤`. -/
theorem den_cases {Q : EReal} (hQ : 0 ≤ Q) :
    Ideal.div Q ((1024 : ℝ) : EReal) + (Consts.eps : EReal) = ⊤
      ∨ ∃ w : ℝ, 0 < w ∧ Ideal.div Q ((1024 : ℝ) : EReal) + (Consts.eps : EReal) = (w : EReal) := by
  rw [Ideal.div_coe (by norm_num)]
  induction Q with
  | bot => simp at hQ
  | top => left; rw [EReal.top_mul_coe_of_pos (by norm_num)]; rfl
  | coe q =>
    right
    have hq : 0 ≤ q := EReal.coe_nonneg.mp hQ
    refine ⟨q * (1 / 1024) + Consts.eps, by have := Consts.eps_pos; positivity, ?_⟩
    rw [EReal.coe_add, EReal.coe_mul]

/-- The row's gradient, both ways. `a` is the scaled cotangent at the entry whose gradient is taken, `x` the entry, `S`
    the row's sum of scaled cotangents times entries. -/
theorem row_grad {Q : EReal} (hQ : 0 ≤ Q) {n : ℕ} (a x : EReal) (d X : Fin n → EReal)
    {v r : EReal} (hv : v = Ideal.div Q ((1024 : ℝ) : EReal) + (Consts.eps : EReal)) (hr : r = Ideal.rsqrt v) :
    r * (a - (x * r) * Ideal.div (∑ k, d k * (X k * r)) ((1024 : ℝ) : EReal))
      = (a * r + x * Ideal.div ((∑ k, X k * d k) * (((-(1 / 2) : ℝ) : EReal) * Ideal.div r v)) ((1024 : ℝ) : EReal))
        + Ideal.div ((∑ k, X k * d k) * (((-(1 / 2) : ℝ) : EReal) * Ideal.div r v)) ((1024 : ℝ) : EReal) * x := by
  have h1024 : (1024 : ℝ) ≠ 0 := by norm_num
  rw [Ideal.div_coe h1024, Ideal.div_coe h1024]
  rcases den_cases hQ with h | ⟨w, hw, h⟩
  · rw [h] at hv
    subst hv hr
    have : Ideal.div (Ideal.rsqrt ⊤) ⊤ = 0 := by simp [Ideal.div]
    rw [this]; simp
  · rw [h] at hv
    subst hv
    have hs : 0 < Real.sqrt w := Real.sqrt_pos.mpr hw
    obtain ⟨p, hp, hpr⟩ : ∃ p : ℝ, 0 < p ∧ p = (Real.sqrt w)⁻¹ := ⟨_, inv_pos.mpr hs, rfl⟩
    have hr' : r = (p : EReal) := by
      rw [hr, Ideal.rsqrt_coe, if_neg (by linarith), if_neg hw.ne', hpr]
    subst hr'
    have hdiv : Ideal.div (p : EReal) (w : EReal) = ((p * p * p : ℝ) : EReal) := by
      rw [Ideal.div_coe hw.ne', ← EReal.coe_mul]
      congr 1
      have : p * p = 1 / w := by
        rw [hpr, ← mul_inv, Real.mul_self_sqrt hw.le, one_div]
      rw [this]; ring
    rw [hdiv]
    have hS : (∑ k, d k * (X k * (p : EReal))) = (p : EReal) * ∑ k, X k * d k := by
      rw [coe_mul_sum _ hp.le]
      exact Finset.sum_congr rfl fun k _ => by rw [mul_comm (d k), mul_comm (X k) (p : EReal), mul_assoc]
    rw [hS]
    generalize (∑ k, X k * d k) = S
    rw [sub_eq_add_neg, EReal.left_distrib_of_nonneg_of_ne_top (EReal.coe_nonneg.mpr hp.le) (EReal.coe_ne_top _),
      mul_comm a, add_assoc]
    congr 1
    rw [mul_comm _ x, add_self]
    have hneg : ∀ y : EReal, -y = ((2 : ℝ) : EReal) * ((-(1 / 2) : ℝ) : EReal) * y := fun y => by
      rw [← EReal.coe_mul, show (2 : ℝ) * -(1 / 2) = -1 by norm_num, EReal.coe_neg, EReal.coe_one, neg_mul, one_mul]
    rw [hneg, EReal.coe_mul, EReal.coe_mul]
    ac_rfl

end Cert.RowNorm
-- ==== Proof.LossRow.lean ====
/- The loss head on one row of the activations, over the extended reals: the norm's scale, the error, the row's loss, the
   gradient in the row's entries and the row's share of the gradient in the gain. -/
module

public import proofs.«01_k».proof.Proof.RowNorm

@[expose] public section

noncomputable section

namespace Cert.LossRow

open Idealize.ShloMosaic

/-- The norm's denominator under its root. -/
def den (X : Fin 1024 → EReal) : EReal := Ideal.div (∑ k, X k * X k) ((1024 : ℝ) : EReal) + (Consts.eps : EReal)

/-- The norm's scale. -/
def rs (X : Fin 1024 → EReal) : EReal := Ideal.rsqrt (den X)

/-- The error of an entry: the normed entry times its gain, less the target. -/
def err (X G T : Fin 1024 → EReal) (k : Fin 1024) : EReal := X k * rs X * G k - T k

/-- The cotangent of an entry of the normed row. -/
def cot (X G T : Fin 1024 → EReal) (k : Fin 1024) : EReal := err X G T k * ((1 / 1024 : ℝ) : EReal)

/-- The gradient in an entry. -/
def dx (X G T : Fin 1024 → EReal) (l : Fin 1024) : EReal :=
  rs X * (cot X G T l * G l - X l * rs X * Ideal.div (∑ k, cot X G T k * G k * (X k * rs X)) ((1024 : ℝ) : EReal))

/-- The row's mean squared error. -/
def loss (X G T : Fin 1024 → EReal) : EReal := Ideal.div (∑ k, err X G T k * err X G T k) ((1024 : ℝ) : EReal)

/-- The row's share of the gradient in the gain. -/
def dg (X G T : Fin 1024 → EReal) (l : Fin 1024) : EReal := cot X G T l * (X l * rs X)

theorem sum_sq_nonneg (X : Fin 1024 → EReal) : 0 ≤ ∑ k, X k * X k :=
  Finset.sum_nonneg fun k _ => RowNorm.mul_self_nonneg (X k)

/-- The gradient in an entry as differentiating the forward row writes it. -/
theorem dx_eq (X G T : Fin 1024 → EReal) (l : Fin 1024) : dx X G T l
    = (cot X G T l * G l * rs X
        + X l * Ideal.div ((∑ k, X k * (cot X G T k * G k)) * (((-(1 / 2) : ℝ) : EReal) * Ideal.div (rs X) (den X))) ((1024 : ℝ) : EReal))
      + Ideal.div ((∑ k, X k * (cot X G T k * G k)) * (((-(1 / 2) : ℝ) : EReal) * Ideal.div (rs X) (den X))) ((1024 : ℝ) : EReal) * X l :=
  RowNorm.row_grad (sum_sq_nonneg X) _ _ (fun k => cot X G T k * G k) X rfl rfl

/-- The reference's cotangent: half of one, divided by the row's length, times twice the error. -/
theorem cot_eq (X G T : Fin 1024 → EReal) (k : Fin 1024) : cot X G T k
    = Ideal.div (((1 / 2 : ℝ) : EReal) * 1) ((1024 : ℝ) : EReal) * (((2 : ℝ) : EReal) * err X G T k) := by
  rw [mul_one, Ideal.div_coe (by norm_num), ← mul_assoc, ← EReal.coe_mul, ← EReal.coe_mul, cot, mul_comm]
  norm_num

end Cert.LossRow
-- ==== Proof.LossReferenceValue.lean ====
/- What the loss head's reference computes, row by row. -/
module

public import proofs.«01_k».proof.Proof.Gen.LossReferenceIdeal.Read
public import proofs.«01_k».proof.Proof.LossRow
public import Idealize.ShloMosaic.Lib.Pointwise

@[expose] public section

noncomputable section

namespace Cert.LossRef

open Cert.LossReferenceIdeal Cert.LossReferenceIdeal.Read Idealize.ShloMosaic

variable (x t : S4096x1024.Idx → EReal) (g : S1024.Idx → EReal)

/-- A row of an array. -/
def row (x : S4096x1024.Idx → EReal) (i : Fin 4096) (k : Fin 1024) : EReal := x (ix2 i k)
/-- The gain. -/
def gain (g : S1024.Idx → EReal) (k : Fin 1024) : EReal := g (ix1 k)

/-- An array at an index is its row at the index's lane. -/
theorem at_row (x : S4096x1024.Idx → EReal) (i : S4096x1024.Idx) : x i = row x (i 0) (i 1) :=
  congrArg x (funext fun a => by match a with | ⟨0, _⟩ => rfl | ⟨1, _⟩ => rfl)
theorem at_gain (g : S1024.Idx → EReal) (i : S1024.Idx) : g i = gain g (i 0) :=
  congrArg g (funext fun a => by match a with | ⟨0, _⟩ => rfl)

theorem v6_eq (i : S4096x1.Idx) : val_main_v6 (F := Ideal) x i = LossRow.den (row x (i 0)) := by
  simp only [val_main_v6_apply, val_main_v5_apply, val_main_cst_1_apply, val_main_v4_apply, val_main_v3_apply, val_main_cst_0_apply,
    val_main_v2_apply, val_main_v1_apply, val_main_cst_apply, val_main_v0_apply]
  pointwise [Consts.c1024, Consts.eps_eq, at_row x]
  rfl

theorem v7_eq (i : S4096x1.Idx) : val_main_v7 (F := Ideal) x i = LossRow.rs (row x (i 0)) := by
  simp only [val_main_v7_apply, v6_eq]; rfl

theorem v12_eq (i : S4096x1024.Idx) : val_main_v12 (F := Ideal) x i = row x (i 0) (i 1) * LossRow.rs (row x (i 0)) := by
  simp only [val_main_v12_apply, val_main_v11_apply, v7_eq, at_row x]; rfl

theorem v16_eq (i : S4096x1024.Idx) :
    val_main_v16 (F := Ideal) x t g i = LossRow.err (row x (i 0)) (gain g) (row t (i 0)) (i 1) := by
  simp only [val_main_v16_apply, val_main_v15_apply, val_main_v14_apply, val_main_v13_apply, v12_eq, at_row t, at_gain g]; rfl

theorem v30_eq (i : S4096x1024.Idx) :
    val_main_v30 (F := Ideal) x t g i = LossRow.cot (row x (i 0)) (gain g) (row t (i 0)) (i 1) := by
  simp only [val_main_v30_apply, val_main_v29_apply, val_main_v28_apply, val_main_v27_apply, val_main_cst_10_apply, val_main_v26_apply,
    val_main_v25_apply, val_main_cst_8_apply, val_main_cst_9_apply, val_main_v19_apply, val_main_v18_apply, val_main_cst_3_apply, v16_eq]
  pointwise [Consts.c1024, Consts.cHalf, Consts.cTwo, LossRow.cot_eq]

theorem v35_eq (i : S4096x1024.Idx) : val_main_v35 (F := Ideal) x t g i
    = LossRow.cot (row x (i 0)) (gain g) (row t (i 0)) (i 1) * gain g (i 1) := by
  simp only [val_main_v35_apply, val_main_v34_apply, val_main_v13_apply, v30_eq, at_gain g]; rfl

theorem v46_eq (i : S4096x1024.Idx) : val_main_v46 (F := Ideal) x t g i
    = Ideal.div ((∑ k, row x (i 0) k * (LossRow.cot (row x (i 0)) (gain g) (row t (i 0)) k * gain g k))
        * (((-(1 / 2) : ℝ) : EReal) * Ideal.div (LossRow.rs (row x (i 0))) (LossRow.den (row x (i 0))))) ((1024 : ℝ) : EReal) := by
  simp only [val_main_v46_apply, val_main_v45_apply, val_main_v44_apply, val_main_v43_apply, val_main_v42_apply, val_main_v39_apply,
    val_main_v38_apply, val_main_v37_apply, val_main_v10_apply, val_main_v9_apply, val_main_v8_apply, v35_eq, v6_eq, v7_eq,
    val_main_cst_2_apply, val_main_cst_13_apply, val_main_cst_14_apply, val_main_cst_15_apply, at_row x]
  pointwise [Consts.c1024, Consts.cNegHalf]
  rw [Fin.sum_univ_one]
  have e : idx_main_v39 (idx_main_v45 (idx_main_v46 i) 0) = ix1 (i 0) := by
    funext a; match a with | ⟨0, _⟩ => apply Fin.ext; show _ = (i 0).val; simp
  rw [e]
  rfl

/-- The gradient in the activations. -/
theorem dx_eq (i : S4096x1024.Idx) :
    val_main_v50 (F := Ideal) x t g i = LossRow.dx (row x (i 0)) (gain g) (row t (i 0)) (i 1) := by
  refine Eq.trans ?_ (LossRow.dx_eq _ _ _ _).symm
  simp only [val_main_v50_apply, val_main_v49_apply, val_main_v48_apply, val_main_v47_apply, val_main_v41_apply, val_main_v40_apply,
    v46_eq, v35_eq, v7_eq, at_row x]
  pointwise
  rfl

/-- The loss, at every entry of its broadcast. -/
theorem loss_eq (i : S1x128.Idx) : val_main_v51 (F := Ideal) x t g i
    = ((1 / 2 : ℝ) : EReal) * ∑ n : Fin 4096, LossRow.loss (row x n) (gain g) (row t n) := by
  simp only [val_main_v51_apply, val_main_v24_apply, val_main_v23_apply, val_main_v22_apply, val_main_v21_apply, val_main_v20_apply,
    val_main_v17_apply, v16_eq, val_main_cst_4_apply, val_main_cst_5_apply, val_main_cst_6_apply, val_main_cst_7_apply]
  pointwise [Consts.c1024, Consts.cHalf]
  refine congrArg (((1 / 2 : ℝ) : EReal) * ·) ?_
  refine (sum_idx1 _).trans ?_
  exact Finset.sum_congr rfl fun n _ => rfl

/-- The gradient in the gain. -/
theorem dg_eq (i : S1x1024.Idx) : val_main_v52 (F := Ideal) x t g i
    = ∑ n : Fin 4096, LossRow.dg (row x n) (gain g) (row t n) (i 1) := by
  simp only [val_main_v52_apply, val_main_v36_apply, val_main_v33_apply, val_main_v32_apply, val_main_v31_apply, v12_eq, v30_eq,
    val_main_cst_11_apply, val_main_cst_12_apply]
  pointwise
  rw [Fin.sum_univ_one]
  refine Finset.sum_congr rfl fun n _ => ?_
  rw [mul_comm]
  have e : idx_main_v32 (idx_main_v33 (idx_main_v36 (idx_main_v52 i) 0)) n = ix2 n (i 1) := by
    funext a; match a with
    | ⟨0, _⟩ => rfl
    | ⟨1, _⟩ => apply Fin.ext; have : (i 0).val < 1 := (i 0).isLt; show _ = (i 1).val; simp; omega
  rw [e]
  rfl

end Cert.LossRef
-- ==== Proof.LossKernelValue.lean ====
/- The loss head's arrays. -/
module

public import proofs.«01_k».proof.Proof.Gen.LossKernelIdeal.Value
public import proofs.«01_k».proof.Proof.LossReferenceValue
public import Idealize.ShloMosaic.Lib.Pipeline.ValueKit
public import Idealize.ShloMosaic.Lib.Pointwise

@[expose] public section

noncomputable section

namespace Cert.LossValue

open Cert.LossKernelIdeal Cert.LossKernelIdeal.Gen Idealize.ShloMosaic Idealize.ShloMosaic.TcCoe
open Idealize.ShloMosaic.Pipeline (Dat)

variable (m : (ℓ : Loc nD τ sig) → Buf (Elt Ideal) ℓ)

/-! ## One block of 1024 rows -/

/-- A row of a block. -/
def brow (x : Vec Ideal S1024x1024 .f32) (r k : Fin 1024) : EReal := x (ix2 r k)
/-- The gain, as the block reads it. -/
def bgain (g : Vec Ideal S1x1024 .f32) (k : Fin 1024) : EReal := g (ix2 0 k)

variable (x t : Vec Ideal S1024x1024 .f32) (g : Vec Ideal S1x1024 .f32)

theorem pay3 (r l : Fin 1024) : k0_pay3 x (k0_pay7 g) (k0_pay10 x g t) (ix2 r l) = LossRow.dx (brow x r) (bgain g) (brow t r) l := by
  unfold_payloads
  pointwise [Consts.c1024, Consts.eps_eq, Consts.cInv1024]
  rfl

theorem pay9 (a : Vec Ideal S1x128 .f32) (l : Fin 128) : k0_pay9 x g t a (ix2 0 l)
    = a (ix2 0 l) + ((1 / 2 : ℝ) : EReal) * ∑ r : Fin 1024, LossRow.loss (brow x r) (bgain g) (brow t r) := by
  unfold_payloads
  pointwise [Consts.c1024, Consts.eps_eq, Consts.cHalf]
  rfl

theorem pay4 (a : Vec Ideal S1x1024 .f32) (l : Fin 1024) : k0_pay4 x (k0_pay10 x g t) a (ix2 0 l)
    = a (ix2 0 l) + ∑ r : Fin 1024, LossRow.dg (brow x r) (bgain g) (brow t r) l := by
  unfold_payloads
  pointwise [Consts.c1024, Consts.eps_eq, Consts.cInv1024]
  rfl

/-! ## The blocks are blocks of the arguments -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

theorem idx5 : ∀ t : Fin cfg0.N, win0_5.index t = ![0, 0] := (by decide +kernel : ∀ t : Fin grid0.N, _)

/-- The arguments of core `c`. -/
abbrev argX (c : Dev nD) : S4096x1024.Idx → EReal := m ((c : Thread nD τ).loc main_arg0)
abbrev argT (c : Dev nD) : S4096x1024.Idx → EReal := m ((c : Thread nD τ).loc main_arg1)
abbrev argG (c : Dev nD) : S1024.Idx → EReal := m ((c : Thread nD τ).loc main_arg2)

/-- Row `r` of block `t`, in the array. -/
def rowOf (t : Fin cfg0.N) (r : Fin 1024) : Fin 4096 := ⟨t.val * 1024 + r.val, by have := t.isLt; have h : cfg0.N = 4 := N_0; omega⟩

theorem blkX (c : Dev nD) (t : Fin cfg0.N) (r : Fin 1024) : brow (iblk m c 0 t) r = LossRef.row (argX m c) (rowOf t r) := by
  funext k
  unfold brow LossRef.row
  blk_ext [iblk, V, idx0 t, rowOf]

theorem blkT (c : Dev nD) (t : Fin cfg0.N) (r : Fin 1024) : brow (iblk m c 1 t) r = LossRef.row (argT m c) (rowOf t r) := by
  funext k
  unfold brow LossRef.row
  blk_ext [iblk, V, idx1 t, rowOf]

theorem blkG (c : Dev nD) (t : Fin cfg0.N) : bgain (iblk m c 2 t) = LossRef.gain (argG m c) := by
  funext k
  unfold bgain LossRef.gain
  blk_ext! [iblk, V, idx2 t]

/-! ## What each point leaves -/

theorem out3 (c : Dev nD) (t : Fin cfg0.N) (r l : Fin 1024) : (outsAt0 m c t.val t.isLt).1 (ix2 r l)
    = LossRow.dx (LossRef.row (argX m c) (rowOf t r)) (LossRef.gain (argG m c)) (LossRef.row (argT m c) (rowOf t r)) l := by
  rw [← blkX, ← blkT, ← blkG m c t, ← pay3]
  by_cases h : t.val % 4 = 0
  · rw [outsAt0_A m c t h]; frame_out
  · rw [outsAt0_B m c t h]; frame_out

/-- The gradient in the activations. -/
theorem final3 (c : Dev nD) : (dats m 0 c).arrAt 3 cfg0.N
    = LossReferenceIdeal.Read.val_main_v50 (F := Ideal) (argX m c) (argT m c) (argG m c) := by
  refine (dats m 0 c).arrAt_eq_of_covers 3 _ (by decide +kernel) fun t hf y => ?_
  blk_simp
  rw [after0_3]
  obtain ⟨r, l, rfl⟩ : ∃ (r l : Fin 1024), y = ix2 r l := ⟨y 0, y 1, (ValueIdx.eq_ix2 y)⟩
  have e : (win0_3.blk t).view.emb (ix2 r l) = ix2 (rowOf t r) l := by blk_ext [idx3 t, rowOf]
  rw [out3, e, LossRef.dx_eq]
  rfl

theorem out4 (c : Dev nD) (t : Fin cfg0.N) (ht : t.val + 1 = cfg0.N) (l : Fin 128) : (outsAt0 m c t.val t.isLt).2.1 (ix2 0 l)
    = ∑ p : Fin cfg0.N, ((1 / 2 : ℝ) : EReal) * ∑ r : Fin 1024,
      LossRow.loss (LossRef.row (argX m c) (rowOf p r)) (LossRef.gain (argG m c)) (LossRef.row (argT m c) (rowOf p r)) := by
  rw [Pipeline.eq_sum_fin_of_reset_step_apply_last (fun n h => fun l => (outsAt0 m c n h).2.1 (ix2 0 l)) 4 (fun _ => 0)
    (fun p _ => ((1 / 2 : ℝ) : EReal) * ∑ r : Fin 1024,
      LossRow.loss (LossRef.row (argX m c) (rowOf p r)) (LossRef.gain (argG m c)) (LossRef.row (argT m c) (rowOf p r)))
    (fun t h j => by
      simp only [← blkX, ← blkT, ← blkG m c t]
      rw [outsAt0_A m c t h]; frame_out; rw [pay9]; unfold_payloads; pointwise)
    (fun t h j => by
      simp only [← blkX, ← blkT, ← blkG m c t]
      rw [outsAt0_B m c t h]; frame_out; rw [pay9])
    (le_of_eq N_0) t ht l, zero_add]

theorem out5 (c : Dev nD) (t : Fin cfg0.N) (ht : t.val + 1 = cfg0.N) (l : Fin 1024) : (outsAt0 m c t.val t.isLt).2.2 (ix2 0 l)
    = ∑ p : Fin cfg0.N, ∑ r : Fin 1024,
      LossRow.dg (LossRef.row (argX m c) (rowOf p r)) (LossRef.gain (argG m c)) (LossRef.row (argT m c) (rowOf p r)) l := by
  rw [Pipeline.eq_sum_fin_of_reset_step_apply_last (fun n h => fun l => (outsAt0 m c n h).2.2 (ix2 0 l)) 4 (fun _ => 0)
    (fun p l => ∑ r : Fin 1024,
      LossRow.dg (LossRef.row (argX m c) (rowOf p r)) (LossRef.gain (argG m c)) (LossRef.row (argT m c) (rowOf p r)) l)
    (fun t h j => by
      simp only [← blkX, ← blkT, ← blkG m c t]
      rw [outsAt0_A m c t h]; frame_out; rw [pay4]; unfold_payloads; pointwise)
    (fun t h j => by
      simp only [← blkX, ← blkT, ← blkG m c t]
      rw [outsAt0_B m c t h]; frame_out; rw [pay4])
    (le_of_eq N_0) t ht l, zero_add]

/-- A sum over the points' rows is the sum over all rows. -/
theorem sum_rows (f : Fin 4096 → EReal) : ∑ p : Fin cfg0.N, ∑ r : Fin 1024, f (rowOf p r) = ∑ n : Fin 4096, f n :=
  Fin.sum_mul_add_fin (S := cfg0.N) (n := 1024) f

/-- The loss. -/
theorem final4 (c : Dev nD) : (dats m 0 c).arrAt 4 cfg0.N
    = LossReferenceIdeal.Read.val_main_v51 (F := Ideal) (argX m c) (argT m c) (argG m c) := by
  refine (dats m 0 c).arrAt_eq_of_covers 4 _ (by decide +kernel) fun t hf y => ?_
  blk_simp
  rw [after0_4]
  obtain ⟨r, l, rfl⟩ : ∃ (r : Fin 1) (l : Fin 128), y = ix2 r l := ⟨y 0, y 1, (ValueIdx.eq_ix2 y)⟩
  obtain rfl : r = 0 := Subsingleton.elim _ _
  have hN : cfg0.N = 4 := N_0
  have hl := (flush0_4 t).mp hf
  rw [out4 m c t (by have := t.isLt; omega), LossRef.loss_eq, ← RowNorm.coe_mul_sum _ (by norm_num), sum_rows fun n => LossRow.loss
    (LossRef.row (argX m c) n) (LossRef.gain (argG m c)) (LossRef.row (argT m c) n)]

/-- The gradient in the gain. -/
theorem final5 (c : Dev nD) : (dats m 0 c).arrAt 5 cfg0.N
    = LossReferenceIdeal.Read.val_main_v52 (F := Ideal) (argX m c) (argT m c) (argG m c) := by
  refine (dats m 0 c).arrAt_eq_of_covers 5 _ (by decide +kernel) fun t hf y => ?_
  blk_simp
  rw [after0_5]
  obtain ⟨r, l, rfl⟩ : ∃ (r : Fin 1) (l : Fin 1024), y = ix2 r l := ⟨y 0, y 1, (ValueIdx.eq_ix2 y)⟩
  obtain rfl : r = 0 := Subsingleton.elim _ _
  have hN : cfg0.N = 4 := N_0
  have hl := (flush0_5 t).mp hf
  have e : (win0_5.blk t).view.emb (ix2 (0 : Fin 1) l) = ix2 0 l := by blk_ext [idx5 t]
  rw [out5 m c t (by have := t.isLt; omega), e, LossRef.dg_eq, sum_rows fun n => LossRow.dg
    (LossRef.row (argX m c) n) (LossRef.gain (argG m c)) (LossRef.row (argT m c) n) l]
  rfl

end Cert.LossValue
-- ==== Proof.LossClaims.lean ====
/- The claims about the loss head: its frame at both readings, the reference's frame, and the equation of the three
   results (the gradient of the input rows, the loss, the gradient of the final norm's gain). -/
module

public import proofs.«01_k».proof.Defs
public import proofs.«01_k».proof.Proof.Gen.LossKernel.Frame
public import proofs.«01_k».proof.Proof.LossKernelValue

@[expose] public section

noncomputable section

namespace Cert.LossClaims

open Idealize.ShloMosaic Idealize.SL.Sem

/-- The kernel runs, keeps its arguments and leaves no signal pending: at bit patterns, and at extended reals. -/
theorem frame_k : Cert.quiescent_LossKernel := fun m ρ _ => Cert.LossKernel.Gen.frame m ρ
theorem frame_ki : Cert.quiescent_LossKernelIdeal := fun m ρ _ => Cert.LossKernelIdeal.Gen.frame m ρ

/-- The reference runs, keeps its arguments and leaves no signal pending. -/
theorem frame_r : Cert.quiescent_LossReferenceIdeal := fun m ρ _ =>
  (θ_run Cert.LossReferenceIdeal.defs _ _).mono
    (fun r h => ⟨fun c => (h c).2.2.2, sem_eq_zero_of_no_sems (by decide) r.2⟩)
    (Cert.LossReferenceIdeal.Value.run (F := Ideal) m ρ)

open Cert.LossReferenceIdeal.Read in
/-- On agreeing arguments the kernel's three result arrays are the reference's. -/
theorem algebraic : Cert.algebraic_LossKernelIdeal_LossReferenceIdeal := by
  intro m g m' g' _ hagree
  refine ⟨_, _, _, Cert.LossKernelIdeal.Value.run_blocks m g, ?_⟩
  refine (θ_run Cert.LossReferenceIdeal.defs _ _).mono (fun _ h c => ?_)
    (Cert.LossReferenceIdeal.Value.run (F := Ideal) m' g')
  obtain ⟨h0, h1, h2⟩ := hagree c
  refine ⟨(h c).1.trans ?_, (h c).2.1.trans ?_, (h c).2.2.1.trans ?_, (h c).2.2.2⟩
  · rw [val_main_v50_eq, h0, h1, h2]
    exact (LossValue.final3 m c).symm
  · rw [h0, h1, h2]
    exact (val_main_v51_eq ..).trans (LossValue.final4 m c).symm
  · rw [h0, h1, h2]
    exact (val_main_v52_eq ..).trans (LossValue.final5 m c).symm

end Cert.LossClaims

end
-- ==== Proof.Reals.lean ====
/- Extended-real operations at real numbers, and gelu with its derivative as real functions. -/
module

public import proofs.«01_k».proof.Proof.Consts

@[expose] public section

noncomputable section

namespace Cert.Reals

open Idealize.ShloMosaic Cert.Consts

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

theorem rsqrt_real (x : ℝ) (h : 0 < x) : Ideal.rsqrt (x : EReal) = (((√x)⁻¹ : ℝ) : EReal) := by
  rw [Ideal.rsqrt_coe, if_neg h.le.not_gt, if_neg h.ne']

/-- A finite extended real is its real part. -/
theorem eq_coe {x : EReal} (h : max x (-x) < ⊤) : x = (x.toReal : EReal) := by
  refine (EReal.coe_toReal ?_ ?_).symm
  · rintro rfl; simp at h
  · rintro rfl; simp at h

/-- gelu in its tanh form. -/
def gelu (x : ℝ) : ℝ := 1 / 2 * x * (1 + Real.tanh (geluC * (x + geluA * (x * x) * x)))

/-- Its derivative. -/
def dgelu (x : ℝ) : ℝ :=
  1 / 2 * (1 + Real.tanh (geluC * (x + geluA * (x * x) * x)))
    + 1 / 2 * x * (1 - Real.tanh (geluC * (x + geluA * (x * x) * x)) * Real.tanh (geluC * (x + geluA * (x * x) * x)))
      * (geluC * (1 + 3 * geluA * (x * x)))

end Cert.Reals

end
-- ==== Proof.SguSpec.lean ====
/- The gradient of the spatial gating unit as real numbers, on one block of 128 tokens: the blocks do not meet. -/
module

public import proofs.«01_k».proof.Proof.Reals

@[expose] public section

noncomputable section

namespace Cert.Sgu

open Cert.Consts Cert.Reals

/-- The group of a column, its place in the group, and the column of a place. -/
def grp (l : Fin 1024) : Fin 8 := ⟨l.val / 128, by omega⟩
def lane (l : Fin 1024) : Fin 128 := ⟨l.val % 128, by omega⟩
def col (g : Fin 8) (k : Fin 128) : Fin 1024 := ⟨g.val * 128 + k.val, by omega⟩

theorem grp_col (g : Fin 8) (k : Fin 128) : grp (col g k) = g := Fin.ext (by simp only [grp, col]; omega)
theorem lane_col (g : Fin 8) (k : Fin 128) : lane (col g k) = k := Fin.ext (by simp only [lane, col]; omega)
theorem col_grp (l : Fin 1024) : col (grp l) (lane l) = l := Fin.ext (by simp only [grp, lane, col]; omega)

/-- A position lets tokens of a later or the same chunk of 64 see those of an earlier or the same. -/
def mask (i j : Fin 128) : ℝ := if j.val / 64 ≤ i.val / 64 then 1 else 0

def mean (x : Fin 1024 → ℝ) : ℝ := (∑ k, x k) / 1024
def cen (x : Fin 1024 → ℝ) (l : Fin 1024) : ℝ := x l - mean x
def var (x : Fin 1024 → ℝ) : ℝ := (∑ k, cen x k * cen x k) / 1024 + eps
def rstd (x : Fin 1024 → ℝ) : ℝ := (√(var x))⁻¹
def nh (x : Fin 1024 → ℝ) (l : Fin 1024) : ℝ := cen x l * rstd x

/-- The layer norm's gradient in its input, from the cotangent of the normalised row. -/
def lnGrad (d x : Fin 1024 → ℝ) (l : Fin 1024) : ℝ := rstd x * (d l - mean d - nh x l * mean fun k => d k * nh x k)

theorem var_pos (x : Fin 1024 → ℝ) : 0 < var x :=
  add_pos_of_nonneg_of_pos (div_nonneg (Finset.sum_nonneg fun k _ => mul_self_nonneg _) (by norm_num)) eps_pos

/-- A block's two halves of the projection, its cotangent, and the layer's parameters (the weights masked). -/
structure Args where
  u : Fin 128 → Fin 1024 → ℝ
  v : Fin 128 → Fin 1024 → ℝ
  d : Fin 128 → Fin 1024 → ℝ
  w : Fin 8 → Fin 128 → Fin 128 → ℝ
  bs : Fin 8 → Fin 128 → ℝ
  g : Fin 1024 → ℝ
  b : Fin 1024 → ℝ

namespace Args

variable (A : Args)

def gv (i : Fin 128) (l : Fin 1024) : ℝ := gelu (A.v i l)
def vn (i : Fin 128) (l : Fin 1024) : ℝ := nh (A.gv i) l * A.g l + A.b l
/-- The tokens mixed, group by group of columns. -/
def mixed (i : Fin 128) (l : Fin 1024) : ℝ := (∑ k, A.w (grp l) i k * A.vn k l) + A.bs (grp l) i
def du (i : Fin 128) (l : Fin 1024) : ℝ := A.d i l * A.mixed i l * dgelu (A.u i l)
def dmix (i : Fin 128) (l : Fin 1024) : ℝ := A.d i l * gelu (A.u i l)
def dvn (i : Fin 128) (l : Fin 1024) : ℝ := ∑ k, A.w (grp l) k i * A.dmix k l
/-- The block's parts of the parameters' gradients. -/
def dw (g : Fin 8) (i j : Fin 128) : ℝ := ∑ k, A.dmix i (col g k) * A.vn j (col g k)
def dbs (i : Fin 128) (g : Fin 8) : ℝ := ∑ k, A.dmix i (col g k)
def dg (l : Fin 1024) : ℝ := ∑ i, A.dvn i l * nh (A.gv i) l
def db (l : Fin 1024) : ℝ := ∑ i, A.dvn i l
def dv (i : Fin 128) (l : Fin 1024) : ℝ := lnGrad (fun k => A.dvn i k * A.g k) (A.gv i) l * dgelu (A.v i l)

end Args

end Cert.Sgu

end
-- ==== Proof.SguBody.lean ====
/- One tile of the spatial gating unit's backward kernel, at real arguments: gelu, the layer norm. -/
module

public import proofs.«01_k».proof.Proof.SguSpec
public import proofs.«01_k».proof.Proof.Gen.SguKernelIdeal.Value
public import Idealize.ShloMosaic.Lib.Pipeline.ValueKit
public import Idealize.ShloMosaic.Lib.Pointwise

@[expose] public section

noncomputable section

namespace Cert.SguValue

open Cert.SguKernelIdeal Cert.SguKernelIdeal.Gen Idealize.ShloMosaic Cert.Reals

theorem nA : (Named.named (F := Idealize.ShloMosaic.Ideal) κ "gelu_a" (φ := .bf16) 0x3D37#16 : EReal) = (Consts.geluA : EReal) := by
  refine (IdealRules.named_const.ideal_named_scalar _ _ _ _ rfl).trans ?_
  unfold Consts.geluA; norm_num
theorem nC : (Named.named (F := Idealize.ShloMosaic.Ideal) κ "gelu_c" (φ := .bf16) 0x3F4C#16 : EReal) = (Consts.geluC : EReal) := by
  refine (IdealRules.named_const.ideal_named_scalar _ _ _ _ rfl).trans ?_
  unfold Consts.geluC; norm_num
theorem n3A : (Named.named (F := Idealize.ShloMosaic.Ideal) κ "gelu_3a" (φ := .bf16) 0x3E09#16 : EReal) = ((3 * Consts.geluA : ℝ) : EReal) := by
  refine (IdealRules.named_const.ideal_named_scalar _ _ _ _ rfl).trans ?_
  unfold Consts.geluA; norm_num

theorem gelu_at (X : Vec Ideal S512x1024 .bf16) (r : Fin 512) (l : Fin 1024) (x : ℝ) (h : X (ix2 r l) = (x : EReal)) :
    k0_pay26 X (ix2 r l) = (gelu x : EReal) := by
  unfold_payloads
  pointwise [Consts.bHalf, Consts.bOne, nA, nC, h]
  simp only [← EReal.coe_mul, ← EReal.coe_add, Ideal.tanh_coe]
  rfl

theorem dgelu_at (X : Vec Ideal S512x1024 .bf16) (r : Fin 512) (l : Fin 1024) (x : ℝ) (h : X (ix2 r l) = (x : EReal)) :
    k0_pay27 X (ix2 r l) = (dgelu x : EReal) := by
  unfold_payloads
  pointwise [Consts.bHalf, Consts.bOne, nA, nC, n3A, h]
  simp only [← EReal.coe_mul, ← EReal.coe_add, ← EReal.coe_sub, Ideal.tanh_coe]
  rfl

theorem dgelu_at' (X : Vec Ideal S512x1024 .bf16) (r : Fin 512) (l : Fin 1024) (x : ℝ) (h : X (ix2 r l) = (x : EReal)) :
    k0_pay31 X (k0_pay28 X) (k0_pay29 X) (ix2 r l) = (dgelu x : EReal) := by
  unfold_payloads
  pointwise [Consts.bHalf, Consts.bOne, nA, nC, n3A, h]
  simp only [← EReal.coe_mul, ← EReal.coe_add, ← EReal.coe_sub, Ideal.tanh_coe]
  rfl

section norm

variable (V : Vec Ideal S512x1024 .bf16) (r : Fin 512) (v : Fin 1024 → ℝ) (hv : ∀ k, V (ix2 r k) = (v k : EReal))
include hv

/-- The normalised row of gelu(v). -/
theorem cen_at (l : Fin 1024) : k0_pay32 V (k0_pay29 V) (ix2 r l) = (Sgu.cen (fun k => gelu (v k)) l : EReal) := by
  unfold_payloads
  pointwise [Consts.bHalf, Consts.bOne, Consts.c1024, nA, nC, hv]
  simp only [← EReal.coe_mul, ← EReal.coe_add, ← EReal.coe_sub, Ideal.tanh_coe, sum_coe, div_real _ _ (by norm_num : (1024 : ℝ) ≠ 0)]
  rfl

theorem rstd_at : k0_pay33 V (k0_pay29 V) (ix2 r 0) = (Sgu.rstd (fun k => gelu (v k)) : EReal) := by
  unfold k0_pay33
  pointwise [Consts.c1024, Consts.eps_eq, cen_at V r v hv]
  simp only [← EReal.coe_mul, ← EReal.coe_add, sum_coe, div_real _ _ (by norm_num : (1024 : ℝ) ≠ 0)]
  exact rsqrt_real _ (Sgu.var_pos _)

theorem nh_at (l : Fin 1024) : k0_pay34 V (k0_pay29 V) (ix2 r l) = (Sgu.nh (fun k => gelu (v k)) l : EReal) := by
  unfold k0_pay34
  pointwise [cen_at V r v hv, rstd_at V r v hv]
  rw [← EReal.coe_mul]; rfl

theorem vn_at (G B : Vec Ideal S1x1024 .f32) (g b : Fin 1024 → ℝ) (hg : ∀ k, G (ix2 0 k) = (g k : EReal))
    (hb : ∀ k, B (ix2 0 k) = (b k : EReal)) (l : Fin 1024) :
    k0_pay36 (k0_pay34 V (k0_pay29 V)) G B (ix2 r l) = ((Sgu.nh (fun k => gelu (v k)) l * g l + b l : ℝ) : EReal) := by
  unfold k0_pay36 k0_pay35
  pointwise [nh_at V r v hv, hg, hb]
  rw [EReal.coe_add, EReal.coe_mul]

end norm

end Cert.SguValue

end
-- ==== Proof.SguPieces.lean ====
/- The tile's products, piece by piece: 128 tokens of one group of 128 columns each. -/
module

public import proofs.«01_k».proof.Proof.SguBody

@[expose] public section

noncomputable section

namespace Cert.SguValue

open Cert.SguKernelIdeal Cert.SguKernelIdeal.Gen Idealize.ShloMosaic Cert.Reals Cert.Sgu

/-- The block of 128 rows a tile's row is in, its place there, and the row of a place. -/
def br (r : Fin 512) : Fin 4 := ⟨r.val / 128, by omega⟩
def ln (r : Fin 512) : Fin 128 := ⟨r.val % 128, by omega⟩
def tr (q : Fin 4) (i : Fin 128) : Fin 512 := ⟨q.val * 128 + i.val, by omega⟩
theorem br_tr (q : Fin 4) (i : Fin 128) : br (tr q i) = q := Fin.ext (by simp only [br, tr]; omega)
theorem ln_tr (q : Fin 4) (i : Fin 128) : ln (tr q i) = i := Fin.ext (by simp only [ln, tr]; omega)
theorem tr_br (r : Fin 512) : tr (br r) (ln r) = r := Fin.ext (by simp only [br, ln, tr]; omega)

/-- Eight groups of columns side by side. -/
theorem cols_at {α : Type} (v0 v1 v2 v3 v4 v5 v6 v7 : S128x128.Idx → α) (h) (f : Fin 128 → Fin 1024 → α)
    (h0 : ∀ i k, v0 (ix2 i k) = f i (col 0 k)) (h1 : ∀ i k, v1 (ix2 i k) = f i (col 1 k))
    (h2 : ∀ i k, v2 (ix2 i k) = f i (col 2 k)) (h3 : ∀ i k, v3 (ix2 i k) = f i (col 3 k))
    (h4 : ∀ i k, v4 (ix2 i k) = f i (col 4 k)) (h5 : ∀ i k, v5 (ix2 i k) = f i (col 5 k))
    (h6 : ∀ i k, v6 (ix2 i k) = f i (col 6 k)) (h7 : ∀ i k, v7 (ix2 i k) = f i (col 7 k)) (i : Fin 128) (l : Fin 1024) :
    concatenate S128x1024 1 [⟨S128x128, v0⟩, ⟨S128x128, v1⟩, ⟨S128x128, v2⟩, ⟨S128x128, v3⟩, ⟨S128x128, v4⟩, ⟨S128x128, v5⟩,
      ⟨S128x128, v6⟩, ⟨S128x128, v7⟩] h (ix2 i l) = f i l := by
  refine (concatenate_ofFn_apply (t := S128x1024) (s₁ := S128x128) 1 (N := 8) ![v0, v1, v2, v3, v4, v5, v6, v7] h rfl 128 rfl
    (ix2 i l) (grp l) rfl (ix2 i (lane l)) rfl (fun b hb => ?_)).trans ?_
  · match b, hb with
    | ⟨0, _⟩, _ => rfl
    | ⟨1, _⟩, hb => exact absurd rfl hb
  · have key : ∀ g : Fin 8, ∀ k, (![v0, v1, v2, v3, v4, v5, v6, v7] g) (ix2 i k) = f i (col g k) := by
      intro g k
      fin_cases g
      exacts [h0 i k, h1 i k, h2 i k, h3 i k, h4 i k, h5 i k, h6 i k, h7 i k]
    rw [key, col_grp]

/-- Four blocks of rows one below the other. -/
theorem rows_at {α : Type} (v0 v1 v2 v3 : S128x1024.Idx → α) (h) (f : Fin 4 → Fin 128 → Fin 1024 → α)
    (h0 : ∀ i l, v0 (ix2 i l) = f 0 i l) (h1 : ∀ i l, v1 (ix2 i l) = f 1 i l)
    (h2 : ∀ i l, v2 (ix2 i l) = f 2 i l) (h3 : ∀ i l, v3 (ix2 i l) = f 3 i l) (r : Fin 512) (l : Fin 1024) :
    concatenate S512x1024 0 [⟨S128x1024, v0⟩, ⟨S128x1024, v1⟩, ⟨S128x1024, v2⟩, ⟨S128x1024, v3⟩] h (ix2 r l) = f (br r) (ln r) l := by
  refine (concatenate_ofFn_apply (t := S512x1024) (s₁ := S128x1024) 0 (N := 4) ![v0, v1, v2, v3] h rfl 128 rfl
    (ix2 r l) (br r) rfl (ix2 (ln r) l) rfl (fun b hb => ?_)).trans ?_
  · match b, hb with
    | ⟨0, _⟩, hb => exact absurd rfl hb
    | ⟨1, _⟩, _ => rfl
  · have key : ∀ g : Fin 4, ∀ k, (![v0, v1, v2, v3] g) (ix2 k l) = f g k l := by
      intro g k
      fin_cases g
      exacts [h0 k l, h1 k l, h2 k l, h3 k l]
    exact key _ _

/-! ## Products of one piece -/

section

variable (x y : FVec Ideal S128x128 .bf16) (i k : Fin 128)

theorem mm_nn : matmul (F := Idealize.ShloMosaic.Ideal) (φ₁ := .bf16) (φ₂ := .bf16) dot_S128x128_S128x128_S128x128_1_0_0_1_n_n none x y
    (constant S128x128 .f32 0x00000000#32) (ix2 i k) = (∑ j, x (ix2 i j) * y (ix2 j k) : EReal) := by pointwise
theorem mm_tn : matmul (F := Idealize.ShloMosaic.Ideal) (φ₁ := .bf16) (φ₂ := .bf16) dot_S128x128_S128x128_S128x128_0_0_1_1_n_n none x y
    (constant S128x128 .f32 0x00000000#32) (ix2 i k) = (∑ j, x (ix2 j i) * y (ix2 j k) : EReal) := by pointwise
theorem mm_nt : matmul (F := Idealize.ShloMosaic.Ideal) (φ₁ := .bf16) (φ₂ := .bf16) dot_S128x128_S128x128_S128x128_1_1_0_0_n_n none x y
    (constant S128x128 .f32 0x00000000#32) (ix2 i k) = (∑ j, x (ix2 i j) * y (ix2 k j) : EReal) := by pointwise

end

/-- One group's matrix, read of the array of the eight. -/
theorem ld_group {e : EltTy} (W : Vec Ideal S8x128x128 e) (g : Fin 8) (o0 : ℕ) (e0 : o0 = g.val) (hw) (c1) (i k : Fin 128) :
    shapeCast S128x128 (View.ld W (Rect.unit (s := S8x128x128) ![o0, 0, 0] ![1, 128, 128] hw)) c1 (ix2 i k) = W (ix3 g i k) := by
  subst e0
  refine (shapeCast_dropUnit_apply (n := 2) ![128, 128] _ c1 (ix2 i k)).trans ?_
  refine View.ld_unit_apply_of _ _ _ _ _ _ fun a => ?_
  match a with
  | ⟨0, _⟩ => rfl
  | ⟨1, _⟩ => exact (Nat.zero_add _).symm
  | ⟨2, _⟩ => exact (Nat.zero_add _).symm

/-- One block's rows and one group's columns, read of a tile. -/
theorem slice_tile {ι : Type} (Y : S512x1024.Idx → ι) (q : Fin 4) (g : Fin 8) (o1 o2 : ℕ) (e1 : o1 = q.val * 128) (e2 : o2 = g.val * 128)
    (hs : Shape.Slices S512x1024 ![o1, o2] S128x128) (i k : Fin 128) :
    extractStridedSlice S128x128 ![o1, o2] Y hs (ix2 i k) = Y (ix2 (tr q i) (col g k)) := by
  subst e1 e2
  refine extractStridedSlice_apply _ _ _ _ _ fun a => ?_
  match a with
  | ⟨0, _⟩ => rfl
  | ⟨1, _⟩ => rfl

/-- A tile's arguments: four blocks of one launch, the parameters the same. -/
structure Tile (T : Fin 4 → Args) (W : Vec Ideal S8x128x128 .bf16) (B : Vec Ideal S8x128x128 .f32)
    (Y D : Vec Ideal S512x1024 .bf16) : Prop where
  hW : ∀ q g i k, W (ix3 g i k) = ((T q).w g i k : EReal)
  hB : ∀ q g i k, B (ix3 g i k) = ((T q).bs g i : EReal)
  hY : ∀ q i l, Y (ix2 (tr q i) l) = ((T q).vn i l : EReal)
  hD : ∀ q i l, D (ix2 (tr q i) l) = ((T q).dmix i l : EReal)

variable {T : Fin 4 → Args} {W : Vec Ideal S8x128x128 .bf16} {B : Vec Ideal S8x128x128 .f32} {Y D : Vec Ideal S512x1024 .bf16}
  (X : Tile T W B Y D)
include X

/-- One group of one block, mixed. -/
theorem mix_piece (q : Fin 4) (g : Fin 8) (o0 o1 o2 : ℕ) (e0 : o0 = g.val) (e1 : o1 = q.val * 128) (e2 : o2 = g.val * 128)
    (hw hb) (hs : Shape.Slices S512x1024 ![o1, o2] S128x128) (c1 c2) (i k : Fin 128) :
    addf (F := Ideal) (φ := .f32) (matmul (φ₁ := .bf16) (φ₂ := .bf16) dot_S128x128_S128x128_S128x128_1_0_0_1_n_n none
        (shapeCast S128x128 (View.ld W (Rect.unit ![o0, 0, 0] ![1, 128, 128] hw)) c1)
        (extractStridedSlice S128x128 ![o1, o2] Y hs) (constant S128x128 .f32 0x00000000#32))
      (shapeCast S128x128 (View.ld B (Rect.unit ![o0, 0, 0] ![1, 128, 128] hb)) c2) (ix2 i k)
      = ((T q).mixed i (col g k) : EReal) := by
  have e : ∀ f g : S128x128.Idx → EReal, addf (F := Ideal) (φ := .f32) f g (ix2 i k) = f (ix2 i k) + g (ix2 i k) := fun _ _ => rfl
  rw [e, mm_nn, ld_group _ g o0 e0, X.hB q]
  simp only [ld_group _ g o0 e0, slice_tile _ q g o1 o2 e1 e2, X.hW q, X.hY q]
  unfold Args.mixed
  simp only [grp_col, ← EReal.coe_mul, sum_coe, ← EReal.coe_add]

/-- One group of one block's cotangent, mixed back. -/
theorem dvn_piece (q : Fin 4) (g : Fin 8) (o0 o1 o2 : ℕ) (e0 : o0 = g.val) (e1 : o1 = q.val * 128) (e2 : o2 = g.val * 128)
    (hw) (hs : Shape.Slices S512x1024 ![o1, o2] S128x128) (c1) (i k : Fin 128) :
    matmul (F := Idealize.ShloMosaic.Ideal) (φ₁ := .bf16) (φ₂ := .bf16) dot_S128x128_S128x128_S128x128_0_0_1_1_n_n none
        (shapeCast S128x128 (View.ld W (Rect.unit ![o0, 0, 0] ![1, 128, 128] hw)) c1)
        (extractStridedSlice S128x128 ![o1, o2] D hs) (constant S128x128 .f32 0x00000000#32) (ix2 i k)
      = ((T q).dvn i (col g k) : EReal) := by
  rw [mm_tn]
  simp only [ld_group _ g o0 e0, slice_tile _ q g o1 o2 e1 e2, X.hW q, X.hD q]
  unfold Args.dvn
  simp only [grp_col, ← EReal.coe_mul, sum_coe]

/-- One block's part of one group's weight gradient. -/
theorem dw_piece (q : Fin 4) (g : Fin 8) (o1 o2 : ℕ) (e1 : o1 = q.val * 128) (e2 : o2 = g.val * 128)
    (hs hs' : Shape.Slices S512x1024 ![o1, o2] S128x128) (i j : Fin 128) :
    matmul (F := Idealize.ShloMosaic.Ideal) (φ₁ := .bf16) (φ₂ := .bf16) dot_S128x128_S128x128_S128x128_1_1_0_0_n_n none
        (extractStridedSlice S128x128 ![o1, o2] D hs) (extractStridedSlice S128x128 ![o1, o2] Y hs')
        (constant S128x128 .f32 0x00000000#32) (ix2 i j)
      = ((T q).dw g i j : EReal) := by
  rw [mm_nt]
  simp only [slice_tile _ q g o1 o2 e1 e2, X.hD q, X.hY q]
  unfold Args.dw
  simp only [← EReal.coe_mul, sum_coe]

end Cert.SguValue

end
-- ==== Proof.SguInput.lean ====
/- The spatial gating unit's arguments as real numbers, and its blocks of 128 tokens. -/
module

public import proofs.«01_k».proof.Proof.SguSpec
public import Idealize.ShloMosaic.Lib.Pipeline.ValueKit
public import Idealize.ShloMosaic.Lib.Pointwise

@[expose] public section

noncomputable section

namespace Cert.Sgu

open Idealize.ShloMosaic Cert.Reals

/-- The arguments of the two programs. -/
structure In where
  p : (⟨2, ![4096, 6656]⟩ : Shape).Idx → EReal
  ws : (⟨3, ![8, 128, 128]⟩ : Shape).Idx → EReal
  bs : (⟨2, ![8, 128]⟩ : Shape).Idx → EReal
  g : (⟨1, ![1024]⟩ : Shape).Idx → EReal
  b : (⟨1, ![1024]⟩ : Shape).Idx → EReal
  dy : (⟨2, ![4096, 1024]⟩ : Shape).Idx → EReal

/-- Row `i` of block `q`; the block of a row and its place there. -/
def row (q : Fin 32) (i : Fin 128) : Fin 4096 := ⟨q.val * 128 + i.val, by omega⟩
def blk (n : Fin 4096) : Fin 32 := ⟨n.val / 128, by omega⟩
def pos (n : Fin 4096) : Fin 128 := ⟨n.val % 128, by omega⟩
theorem blk_row (q : Fin 32) (i : Fin 128) : blk (row q i) = q := Fin.ext (by simp only [blk, row]; omega)
theorem pos_row (q : Fin 32) (i : Fin 128) : pos (row q i) = i := Fin.ext (by simp only [pos, row]; omega)
theorem row_blk (n : Fin 4096) : row (blk n) (pos n) = n := Fin.ext (by simp only [blk, pos, row]; omega)

/-- The columns of u and of v in the projection. -/
def colU (l : Fin 1024) : Fin 6656 := ⟨2560 + l.val, by omega⟩
def colV (l : Fin 1024) : Fin 6656 := ⟨3584 + l.val, by omega⟩

namespace In

variable (I : In)

/-- Every argument is finite; of the projection the columns of u and v. -/
structure Fin : Prop where
  u : ∀ n l, I.p (ix2 n (colU l)) = ((I.p (ix2 n (colU l))).toReal : EReal)
  v : ∀ n l, I.p (ix2 n (colV l)) = ((I.p (ix2 n (colV l))).toReal : EReal)
  ws : ∀ i, I.ws i = ((I.ws i).toReal : EReal)
  bs : ∀ i, I.bs i = ((I.bs i).toReal : EReal)
  g : ∀ i, I.g i = ((I.g i).toReal : EReal)
  b : ∀ i, I.b i = ((I.b i).toReal : EReal)
  dy : ∀ i, I.dy i = ((I.dy i).toReal : EReal)

/-- Block `q`. -/
def block (q : _root_.Fin 32) : Args where
  u i l := (I.p (ix2 (row q i) (colU l))).toReal
  v i l := (I.p (ix2 (row q i) (colV l))).toReal
  d i l := (I.dy (ix2 (row q i) l)).toReal
  w g i j := (I.ws (ix3 g i j)).toReal * mask i j
  bs g i := (I.bs (ix2 g i)).toReal
  g l := (I.g (ix1 l)).toReal
  b l := (I.b (ix1 l)).toReal

/-- The gradients: of u, v, and, summed over the blocks, of the parameters. -/
def du (n : _root_.Fin 4096) (l : _root_.Fin 1024) : ℝ := (I.block (blk n)).du (pos n) l
def dv (n : _root_.Fin 4096) (l : _root_.Fin 1024) : ℝ := (I.block (blk n)).dv (pos n) l
def dw (g : _root_.Fin 8) (i j : _root_.Fin 128) : ℝ := (∑ q, (I.block q).dw g i j) * mask i j
def dbs (i : _root_.Fin 128) (g : _root_.Fin 8) : ℝ := ∑ q, (I.block q).dbs i g
def dg (l : _root_.Fin 1024) : ℝ := ∑ q, (I.block q).dg l
def db (l : _root_.Fin 1024) : ℝ := ∑ q, (I.block q).db l

end In

end Cert.Sgu

end
-- ==== Proof.SguMask.lean ====
/- The mask of the spatial gating unit, as both programs compute it. -/
module

public import proofs.«01_k».proof.Proof.SguInput
public import proofs.«01_k».proof.Proof.Gen.SguReferenceIdeal.Read

@[expose] public section

noncomputable section

namespace Cert.SguValue

open Cert.SguReferenceIdeal Cert.SguReferenceIdeal.Read Idealize.ShloMosaic Cert.Sgu

/-- A token's chunk. -/
theorem chunk_at (i : Fin 128) : val_main_v72 (F := Ideal) (ix1 i) = BitVec.ofNat 32 (i.val / 64) := by
  revert i
  decide +kernel

theorem sees_at : ∀ i j : Fin 128, IntOp.cmpi .sge (BitVec.ofNat 32 (i.val / 64)) (BitVec.ofNat 32 (j.val / 64))
    = if j.val / 64 ≤ i.val / 64 then 1#1 else 0#1 := by
  decide +kernel

theorem mask_at (i j : Fin 128) : val_main_v78 (F := Ideal) (ix2 i j) = (mask i j : EReal) := by
  have e : val_main_v77 (F := Ideal) (ix2 i j) = if j.val / 64 ≤ i.val / 64 then 1#1 else 0#1 := by
    rw [val_main_v77_apply, val_main_v75_apply, val_main_v76_apply, val_main_v73_apply, val_main_v74_apply]
    refine Eq.trans ?_ (sees_at i j)
    rw [← chunk_at i, ← chunk_at j]
    congr 1 <;> (congr 1; funext a; match a with | ⟨0, _⟩ => rfl)
  rw [val_main_v78_apply, e]
  unfold mask
  split <;> simp [FloatOps.uitofp]

end Cert.SguValue

end
-- ==== Proof.SguBlocks.lean ====
/- What the spatial gating unit's backward kernel reads at a tile: four blocks of 128 tokens, and the parameters. -/
module

public import proofs.«01_k».proof.Proof.SguPieces
public import proofs.«01_k».proof.Proof.SguMask

@[expose] public section

noncomputable section

namespace Cert.SguValue

open Cert.SguKernelIdeal Cert.SguKernelIdeal.Gen Idealize.ShloMosaic Idealize.ShloMosaic.TcCoe Cert.Reals Cert.Sgu

variable (m : (ℓ : Loc nD τ sig) → Buf (Elt Ideal) ℓ) (c : Dev nD)

/-- The arguments of core `c`. -/
def input : In where
  p := m ((c : Thread nD τ).loc main_arg0)
  ws := m ((c : Thread nD τ).loc main_arg1)
  bs := m ((c : Thread nD τ).loc main_arg2)
  g := m ((c : Thread nD τ).loc main_arg3)
  b := m ((c : Thread nD τ).loc main_arg4)
  dy := m ((c : Thread nD τ).loc main_arg5)

theorem idx0 : ∀ t : Fin cfg0.N, win0_0.index t = ![t.val, 0] := (by decide +kernel : ∀ t : Fin grid0.N, _)
theorem idx1 : ∀ t : Fin cfg0.N, win0_1.index t = ![t.val, 1] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

/-- Block `q` of tile `t`. -/
def bq (t : Fin cfg0.N) (q : Fin 4) : Fin 32 := ⟨t.val * 4 + q.val, by have := t.isLt; have h : cfg0.N = 8 := N_0; omega⟩

theorem blkD (t : Fin cfg0.N) (q : Fin 4) (i : Fin 128) (l : Fin 1024) :
    iblk m c 0 t (ix2 (tr q i) l) = (input m c).dy (ix2 (row (bq t q) i) l) := by
  unfold input
  blk_ext [iblk, V, idx0 t, tr, row, bq]

/-- No part of the window over the projection is cut. -/
theorem X0_1_at (t : Fin cfg0.N) (r : Fin 512) (k : Fin 2560) :
    X0_1 m c t (ix2 r k) = (input m c).p (ix2 ⟨t.val * 512 + r.val, by have := t.isLt; have h : cfg0.N = 8 := N_0; omega⟩ ⟨2560 + k.val, by omega⟩) := by
  unfold X0_1 input
  unfold Pipeline.Window.fill
  rw [dif_pos (moved0_1 t _)]
  blk_ext [iblk, V, idx1 t]

theorem blkU (t : Fin cfg0.N) (q : Fin 4) (i : Fin 128) (l : Fin 1024) :
    View.ld (X0_1 m c t) (Rect.unit ![0, 0] ![512, 1024] inb_S512x2560_S512x1024_0_0) (ix2 (tr q i) l)
      = (input m c).p (ix2 (row (bq t q) i) (colU l)) := by
  refine (View.ld_unit_apply_of _ _ _ _ _ (ix2 (tr q i) ⟨l.val, by omega⟩) fun a => ?_).trans ((X0_1_at m c t _ _).trans ?_)
  · match a with
    | ⟨0, _⟩ => exact (Nat.zero_add _).symm
    | ⟨1, _⟩ => exact (Nat.zero_add _).symm
  · congr 2
    exact Fin.ext (by simp only [tr, row, bq]; omega)

theorem blkV (t : Fin cfg0.N) (q : Fin 4) (i : Fin 128) (l : Fin 1024) :
    View.ld (X0_1 m c t) (Rect.unit ![0, 1024] ![512, 1024] inb_S512x2560_S512x1024_0_1024) (ix2 (tr q i) l)
      = (input m c).p (ix2 (row (bq t q) i) (colV l)) := by
  refine (View.ld_unit_apply_of _ _ _ _ _ (ix2 (tr q i) ⟨1024 + l.val, by omega⟩) fun a => ?_).trans ((X0_1_at m c t _ _).trans ?_)
  · match a with
    | ⟨0, _⟩ => exact (Nat.zero_add _).symm
    | ⟨1, _⟩ => rfl
  · congr 2
    · exact Fin.ext (by simp only [tr, row, bq]; omega)
    · exact Fin.ext (by simp only [colV]; omega)

section host

theorem V22 : V m c main_v22 = shapeCast S1x1024 (input m c).g shapeCasts_S1024_S1x1024 := by
  unfold V input
  simp only [List.flatten_cons, List.flatten_nil, List.append_nil, hostOps0, hostOps0_1, hostOps0_2, hostOps0_3, hostOps0_4, List.cons_append, List.nil_append]
  after_results
  rfl

theorem V23 : V m c main_v23 = shapeCast S1x1024 (input m c).b shapeCasts_S1024_S1x1024 := by
  unfold V input
  simp only [List.flatten_cons, List.flatten_nil, List.append_nil, hostOps0, hostOps0_1, hostOps0_2, hostOps0_3, hostOps0_4, List.cons_append, List.nil_append]
  after_results
  rfl

theorem V13 : V m c main_v13 = broadcastInDim S8x128x128 ![0, 1, 2] bcast_S8x128x1_S8x128x128_0_1_2
    (broadcastInDim S8x128x1 ![0, 1] bcast_S8x128_S8x128x1_0_1 (input m c).bs) := by
  unfold V input
  simp only [List.flatten_cons, List.flatten_nil, List.append_nil, hostOps0, hostOps0_1, hostOps0_2, hostOps0_3, hostOps0_4, List.cons_append, List.nil_append]
  after_results

theorem V21 : V m c main_v21 = SguReferenceIdeal.Read.val_main_v78 (F := Ideal) := by
  unfold V
  simp only [List.flatten_cons, List.flatten_nil, List.append_nil, hostOps0, hostOps0_1, hostOps0_2, hostOps0_3, hostOps0_4, List.cons_append, List.nil_append]
  after_results
  rfl

theorem V11 : V m c main_v11 = SguReferenceIdeal.Read.val_main_v81 (F := Ideal) (input m c).ws := by
  unfold V input
  simp only [List.flatten_cons, List.flatten_nil, List.append_nil, hostOps0, hostOps0_1, hostOps0_2, hostOps0_3, hostOps0_4, List.cons_append, List.nil_append]
  after_results
  rfl

end host

theorem blkG (t : Fin cfg0.N) (l : Fin 1024) : iblk m c 5 t (ix2 0 l) = (input m c).g (ix1 l) := by
  have e : iblk m c 5 t (ix2 0 l) = V m c main_v22 (ix2 0 l) := by
    blk_ext [iblk, idx5 t]
  rw [e, V22]
  pointwise

theorem blkB (t : Fin cfg0.N) (l : Fin 1024) : iblk m c 6 t (ix2 0 l) = (input m c).b (ix1 l) := by
  have e : iblk m c 6 t (ix2 0 l) = V m c main_v23 (ix2 0 l) := by
    blk_ext [iblk, idx6 t]
  rw [e, V23]
  pointwise

theorem blkBs (t : Fin cfg0.N) (g : Fin 8) (i k : Fin 128) : iblk m c 3 t (ix3 g i k) = (input m c).bs (ix2 g i) := by
  have e : iblk m c 3 t (ix3 g i k) = V m c main_v13 (ix3 g i k) := by
    blk_ext [iblk, idx3 t]
  rw [e, V13]
  pointwise

theorem blkM (t : Fin cfg0.N) (i k : Fin 128) : iblk m c 4 t (ix2 i k) = (mask i k : EReal) := by
  have e : iblk m c 4 t (ix2 i k) = V m c main_v21 (ix2 i k) := by
    blk_ext [iblk, idx4 t]
  rw [e, V21, mask_at]

theorem blkW (t : Fin cfg0.N) (g : Fin 8) (i k : Fin 128) :
    iblk m c 2 t (ix3 g i k) = (input m c).ws (ix3 g i k) * (mask i k : EReal) := by
  have e : iblk m c 2 t (ix3 g i k) = V m c main_v11 (ix3 g i k) := by
    blk_ext [iblk, idx2 t]
  rw [e, V11, SguReferenceIdeal.Read.val_main_v81_apply, SguReferenceIdeal.Read.val_main_v80_apply, SguReferenceIdeal.Read.val_main_v79_apply, ← mask_at]
  rfl

end Cert.SguValue

end
-- ==== Proof.Halves.lean ====
/- Two stores of 1024 columns side by side: what each column then holds. -/
module

public import Idealize.ShloMosaic.Lib.Pipeline.ValueKit
public import Idealize.ShloMosaic.Lib.Pointwise

@[expose] public section

noncomputable section

namespace Cert.Halves

open Idealize.ShloMosaic

/-- The right store of two side by side. -/
theorem right_half (L : List (View.Piece (Elt Ideal) (⟨2, ![512, 2048]⟩ : Shape) .bf16)) (h1) (P : (⟨2, ![512, 1024]⟩ : Shape).Idx → EReal) (r : Fin 512) (l : Fin 1024) :
    View.canon (Val := Elt Ideal) (s := (⟨2, ![512, 2048]⟩ : Shape)) (e := .bf16) (⟨Rect.unit ![0, 1024] ![512, 1024] h1, P⟩ :: L) (ix2 r ⟨1024 + l.val, by omega⟩) = P (ix2 r l) := by
  have e : (Rect.unit (s := (⟨2, ![512, 2048]⟩ : Shape)) ![0, 1024] ![512, 1024] h1).emb (ix2 r l) = ix2 r ⟨1024 + l.val, by omega⟩ := by
    funext a
    match a with
    | ⟨0, _⟩ => exact Fin.ext ((ValueKit.rect_emb_unit_val _ _ _ _ _).trans (Nat.zero_add _))
    | ⟨1, _⟩ => exact Fin.ext (ValueKit.rect_emb_unit_val _ _ _ _ _)
  rw [← e]
  exact View.canon_cons_emb _ _ _ _

/-- The left store of the two. -/
theorem left_half (L : List (View.Piece (Elt Ideal) (⟨2, ![512, 2048]⟩ : Shape) .bf16)) (h1 h2) (P Q : (⟨2, ![512, 1024]⟩ : Shape).Idx → EReal) (r : Fin 512) (l : Fin 1024) :
    View.canon (Val := Elt Ideal) (s := (⟨2, ![512, 2048]⟩ : Shape)) (e := .bf16) (⟨Rect.unit ![0, 1024] ![512, 1024] h1, P⟩ :: ⟨Rect.unit ![0, 0] ![512, 1024] h2, Q⟩ :: L) (ix2 r ⟨l.val, by omega⟩) = Q (ix2 r l) := by
  have e : (Rect.unit (s := (⟨2, ![512, 2048]⟩ : Shape)) ![0, 0] ![512, 1024] h2).emb (ix2 r l) = ix2 r ⟨l.val, by omega⟩ := by
    funext a
    match a with
    | ⟨0, _⟩ => exact Fin.ext ((ValueKit.rect_emb_unit_val _ _ _ _ _).trans (Nat.zero_add _))
    | ⟨1, _⟩ => exact Fin.ext ((ValueKit.rect_emb_unit_val _ _ _ _ _).trans (Nat.zero_add _))
  refine (View.canon_cons_of_not_mem _ _ ?_).trans ?_
  · rw [← Rect.map_emb_univ, Finset.mem_map]
    rintro ⟨x, -, hx⟩
    have h := (ValueKit.rect_emb_unit_val _ _ h1 x 1).symm.trans (congrArg Fin.val (congrFun hx 1))
    have h' : 1024 + (x 1).val = l.val := h
    omega
  · rw [← e]
    exact View.canon_cons_emb _ _ _ _

/-! ## One of several stores side by side -/

section Columns

variable {W : ℕ} (L : List (View.Piece (Elt Ideal) (⟨2, ![512, W]⟩ : Shape) .bf16)) (o : ℕ) (h) (P : (⟨2, ![512, 1024]⟩ : Shape).Idx → EReal)
  (r : Fin 512) (k : Fin W)

/-- The store's own column. -/
theorem own_column (l : Fin 1024) (hk : k.val = o + l.val) :
    View.canon (Val := Elt Ideal) (s := (⟨2, ![512, W]⟩ : Shape)) (e := .bf16) (⟨Rect.unit ![0, o] ![512, 1024] h, P⟩ :: L) (ix2 r k) = P (ix2 r l) := by
  have e : (Rect.unit (s := (⟨2, ![512, W]⟩ : Shape)) ![0, o] ![512, 1024] h).emb (ix2 r l) = ix2 r k := by
    funext a
    match a with
    | ⟨0, _⟩ => exact Fin.ext ((ValueKit.rect_emb_unit_val _ _ _ _ _).trans (Nat.zero_add _))
    | ⟨1, _⟩ => exact Fin.ext ((ValueKit.rect_emb_unit_val _ _ _ _ _).trans hk.symm)
  rw [← e]
  exact View.canon_cons_emb _ _ _ _

/-- A column of another store. -/
theorem other_column (hk : k.val < o ∨ o + 1024 ≤ k.val) :
    View.canon (Val := Elt Ideal) (s := (⟨2, ![512, W]⟩ : Shape)) (e := .bf16) (⟨Rect.unit ![0, o] ![512, 1024] h, P⟩ :: L) (ix2 r k)
      = View.canon L (ix2 r k) := by
  refine View.canon_cons_of_not_mem _ _ ?_
  rw [← Rect.map_emb_univ, Finset.mem_map]
  rintro ⟨x, -, hx⟩
  have h₁ := (ValueKit.rect_emb_unit_val _ _ h x 1).symm.trans (congrArg Fin.val (congrFun hx 1))
  have h₂ : o + (x 1).val = k.val := h₁
  have h₃ : (x 1).val < 1024 := (x 1).isLt
  omega

end Columns

end Cert.Halves

end
-- ==== Proof.SguTile.lean ====
/- The tile of one grid point. -/
module

public import proofs.«01_k».proof.Proof.SguBlocks
public import proofs.«01_k».proof.Proof.Halves

@[expose] public section

noncomputable section

namespace Cert.SguValue

open Cert.SguKernelIdeal Cert.SguKernelIdeal.Gen Idealize.ShloMosaic Idealize.ShloMosaic.TcCoe Cert.Reals Cert.Sgu

variable (m : (ℓ : Loc nD τ sig) → Buf (Elt Ideal) ℓ) (c : Dev nD)

/-- The tile's two halves of the projection. -/
abbrev uT (t : Fin cfg0.N) : Vec Ideal S512x1024 .bf16 := View.ld (X0_1 m c t) (Rect.unit ![0, 0] ![512, 1024] inb_S512x2560_S512x1024_0_0)
abbrev vT (t : Fin cfg0.N) : Vec Ideal S512x1024 .bf16 := View.ld (X0_1 m c t) (Rect.unit ![0, 1024] ![512, 1024] inb_S512x2560_S512x1024_0_1024)

variable (hI : (input m c).Fin) (t : Fin cfg0.N)
include hI

theorem u_at (q : Fin 4) (i : Fin 128) (l : Fin 1024) : uT m c t (ix2 (tr q i) l) = (((input m c).block (bq t q)).u i l : EReal) :=
  (blkU m c t q i l).trans (hI.u _ _)
theorem v_at (q : Fin 4) (i : Fin 128) (l : Fin 1024) : vT m c t (ix2 (tr q i) l) = (((input m c).block (bq t q)).v i l : EReal) :=
  (blkV m c t q i l).trans (hI.v _ _)
theorem d_at (q : Fin 4) (i : Fin 128) (l : Fin 1024) : k0_pay37 (iblk m c 0 t) (ix2 (tr q i) l) = (((input m c).block (bq t q)).d i l : EReal) :=
  ((by unfold_payloads; pointwise : k0_pay37 (iblk m c 0 t) (ix2 (tr q i) l) = iblk m c 0 t (ix2 (tr q i) l)).trans (blkD m c t q i l)).trans (hI.dy _)
theorem g_at (l : Fin 1024) : iblk m c 5 t (ix2 0 l) = (((input m c).block 0).g l : EReal) := (blkG m c t l).trans (hI.g _)
theorem b_at (l : Fin 1024) : iblk m c 6 t (ix2 0 l) = (((input m c).block 0).b l : EReal) := (blkB m c t l).trans (hI.b _)

theorem dmix_at (q : Fin 4) (i : Fin 128) (l : Fin 1024) :
    k0_pay71 (k0_pay26 (uT m c t)) (k0_pay37 (iblk m c 0 t)) (ix2 (tr q i) l) = (((input m c).block (bq t q)).dmix i l : EReal) := by
  unfold k0_pay71
  pointwise [d_at m c hI t, gelu_at _ _ _ _ (u_at m c hI t q i l)]
  rw [← EReal.coe_mul]; rfl

/-- The four blocks of grid point `t`. -/
theorem tile : Tile (fun q => (input m c).block (bq t q)) (iblk m c 2 t) (iblk m c 3 t)
    (k0_pay36 (k0_pay34 (vT m c t) (k0_pay29 (vT m c t))) (iblk m c 5 t) (iblk m c 6 t))
    (k0_pay72 (k0_pay26 (uT m c t)) (k0_pay37 (iblk m c 0 t))) where
  hW q g i k := by rw [blkW, hI.ws, ← EReal.coe_mul]; rfl
  hB q g i k := by rw [blkBs, hI.bs]; rfl
  hY q i l := vn_at _ _ _ (v_at m c hI t q i) _ _ _ _ (g_at m c hI t) (b_at m c hI t) l
  hD q i l := by
    unfold k0_pay72
    pointwise [dmix_at m c hI t]

omit hI in
theorem du_of (d M : FVec Ideal S512x1024 .f32) (G : FVec Ideal S512x1024 .bf16) (k : S512x1024.Idx) (x y z : ℝ) (hd : d k = (x : EReal)) (hM : M k = (y : EReal)) (hG : G k = (z : EReal)) :
    truncf (F := Ideal) .bf16 (mulf (mulf d M) (extf .f32 G bitsLt_bf16_f32)) bitsLt_bf16_f32 k = ((x * y * z : ℝ) : EReal) := by
  rw [EReal.coe_mul, EReal.coe_mul, ← hd, ← hM, ← hG]; rfl

section payloads

variable {T : Fin 4 → Args} {W : Vec Ideal S8x128x128 .bf16} {B : Vec Ideal S8x128x128 .f32} {Y D : Vec Ideal S512x1024 .bf16}

omit hI in
theorem sum_rows (f : Fin 512 → ℝ) : ∑ r, f r = ∑ q, ∑ i, f (tr q i) := (Fin.sum_mul_add_fin 4 128 f).symm.trans rfl

omit hI in
/-- The four blocks' cotangents, one below the other. -/
theorem dvn_rows (v0 v1 v2 v3 : FVec Ideal S128x1024 .f32) (h0 : ∀ i l, v0 (ix2 i l) = ((T 0).dvn i l : EReal)) (h1 : ∀ i l, v1 (ix2 i l) = ((T 1).dvn i l : EReal))
    (h2 : ∀ i l, v2 (ix2 i l) = ((T 2).dvn i l : EReal)) (h3 : ∀ i l, v3 (ix2 i l) = ((T 3).dvn i l : EReal)) (r : Fin 512) (l : Fin 1024) :
    k0_pay182 v0 v1 v2 v3 (ix2 r l) = ((T (br r)).dvn (ln r) l : EReal) := by
  unfold k0_pay182
  exact rows_at _ _ _ _ concatenates_S128x1024_S128x1024_S128x1024_S128x1024_S512x1024_d0 (fun q i l => (((T q).dvn i l : ℝ) : EReal)) h0 h1 h2 h3 r l

omit hI in
theorem dg_of (n : FVec Ideal S512x1024 .f32) (p : FVec Ideal S1x1024 .f32) (hn : ∀ q i l, n (ix2 (tr q i) l) = (nh ((T q).gv i) l : EReal)) (v0 v1 v2 v3 : FVec Ideal S128x1024 .f32)
    (h0 : ∀ i l, v0 (ix2 i l) = ((T 0).dvn i l : EReal)) (h1 : ∀ i l, v1 (ix2 i l) = ((T 1).dvn i l : EReal))
    (h2 : ∀ i l, v2 (ix2 i l) = ((T 2).dvn i l : EReal)) (h3 : ∀ i l, v3 (ix2 i l) = ((T 3).dvn i l : EReal)) (l : Fin 1024) :
    k0_pay183 n v0 v1 v2 v3 p (ix2 0 l) = p (ix2 0 l) + ((∑ q, (T q).dg l : ℝ) : EReal) := by
  have hn' : ∀ r l, n (ix2 r l) = (nh ((T (br r)).gv (ln r)) l : EReal) := fun r l => by rw [← hn, tr_br]
  unfold k0_pay183
  pointwise [dvn_rows v0 v1 v2 v3 h0 h1 h2 h3, hn']
  simp only [← EReal.coe_mul, sum_coe]
  rw [sum_rows]
  simp only [br_tr, ln_tr]
  rfl

omit hI in
theorem db_of (p : FVec Ideal S1x1024 .f32) (v0 v1 v2 v3 : FVec Ideal S128x1024 .f32)
    (h0 : ∀ i l, v0 (ix2 i l) = ((T 0).dvn i l : EReal)) (h1 : ∀ i l, v1 (ix2 i l) = ((T 1).dvn i l : EReal))
    (h2 : ∀ i l, v2 (ix2 i l) = ((T 2).dvn i l : EReal)) (h3 : ∀ i l, v3 (ix2 i l) = ((T 3).dvn i l : EReal)) (l : Fin 1024) :
    k0_pay184 v0 v1 v2 v3 p (ix2 0 l) = p (ix2 0 l) + ((∑ q, (T q).db l : ℝ) : EReal) := by
  unfold k0_pay184
  pointwise [dvn_rows v0 v1 v2 v3 h0 h1 h2 h3]
  simp only [sum_coe]
  rw [sum_rows]
  simp only [br_tr, ln_tr]
  rfl

omit hI in
theorem dv_of (e : FVec Ideal S512x1024 .bf16) (s : FVec Ideal S512x1 .f32) (n : FVec Ideal S512x1024 .f32) (g : FVec Ideal S1x1024 .f32)
    (he : ∀ q i l, e (ix2 (tr q i) l) = (dgelu ((T q).v i l) : EReal))
    (hs : ∀ q i, s (ix2 (tr q i) 0) = (rstd ((T q).gv i) : EReal))
    (hn : ∀ q i l, n (ix2 (tr q i) l) = (nh ((T q).gv i) l : EReal))
    (hg : ∀ q l, g (ix2 0 l) = ((T q).g l : EReal)) (v0 v1 v2 v3 : FVec Ideal S128x1024 .f32)
    (h0 : ∀ i l, v0 (ix2 i l) = ((T 0).dvn i l : EReal)) (h1 : ∀ i l, v1 (ix2 i l) = ((T 1).dvn i l : EReal))
    (h2 : ∀ i l, v2 (ix2 i l) = ((T 2).dvn i l : EReal)) (h3 : ∀ i l, v3 (ix2 i l) = ((T 3).dvn i l : EReal)) (q : Fin 4) (i : Fin 128) (l : Fin 1024) :
    k0_pay186 e s n g v0 v1 v2 v3 (ix2 (tr q i) l) = ((T q).dv i l : EReal) := by
  have hc : ∀ k, k0_pay182 v0 v1 v2 v3 (ix2 (tr q i) k) = ((T q).dvn i k : EReal) := fun k => by rw [dvn_rows v0 v1 v2 v3 h0 h1 h2 h3, br_tr, ln_tr]
  unfold k0_pay186
  pointwise [hc, hn, hs, he, hg q, Consts.c1024]
  simp only [← EReal.coe_mul, ← EReal.coe_sub, sum_coe, div_real _ _ (by norm_num : (1024 : ℝ) ≠ 0)]
  rfl

end payloads

theorem nh_tile (q : Fin 4) (i : Fin 128) (l : Fin 1024) :
    k0_pay34 (vT m c t) (k0_pay29 (vT m c t)) (ix2 (tr q i) l) = (nh (((input m c).block (bq t q)).gv i) l : EReal) :=
  nh_at _ _ _ (v_at m c hI t q i) l

theorem out7_u (q : Fin 4) (i : Fin 128) (l : Fin 1024) : (outsAt0 m c t.val t.isLt).1 (ix2 (tr q i) ⟨l.val, by omega⟩) = (((input m c).block (bq t q)).du i l : EReal) := by
  have X := tile m c hI t
  by_cases h0 : t.val % 8 = 0
  on_goal 1 => rw [outsAt0_A m c t h0 (by omega)]
  on_goal 2 => by_cases h1 : t.val % 8 = 7
  on_goal 2 => rw [outsAt0_C m c t h0 h1]
  on_goal 3 => rw [outsAt0_B m c t h0 h1]
  all_goals
    frame_out
    refine (Halves.left_half _ _ _ _ _ _ _).trans ?_
    unfold k0_pay185 k0_pay70
    refine du_of _ _ _ _ _ _ _ (d_at m c hI t q i l) ?_ (dgelu_at _ _ _ _ (u_at m c hI t q i l))
    refine (rows_at _ _ _ _ concatenates_S128x1024_S128x1024_S128x1024_S128x1024_S512x1024_d0
      (fun q i l => ((((input m c).block (bq t q)).mixed i l : ℝ) : EReal)) ?_ ?_ ?_ ?_ _ l).trans (by rw [br_tr, ln_tr])
    · exact cols_at _ _ _ _ _ _ _ _ concatenates_S128x128_S128x128_S128x128_S128x128_S128x128_S128x128_S128x128_S128x128_S128x1024_d1 _ (mix_piece X 0 0 _ _ _ rfl rfl rfl (by decide) (by decide) (by decide) shapeCasts_S1x128x128_S128x128 shapeCasts_S1x128x128_S128x128)
        (mix_piece X 0 1 _ _ _ rfl rfl rfl (by decide) (by decide) (by decide) shapeCasts_S1x128x128_S128x128 shapeCasts_S1x128x128_S128x128)
        (mix_piece X 0 2 _ _ _ rfl rfl rfl (by decide) (by decide) (by decide) shapeCasts_S1x128x128_S128x128 shapeCasts_S1x128x128_S128x128)
        (mix_piece X 0 3 _ _ _ rfl rfl rfl (by decide) (by decide) (by decide) shapeCasts_S1x128x128_S128x128 shapeCasts_S1x128x128_S128x128)
        (mix_piece X 0 4 _ _ _ rfl rfl rfl (by decide) (by decide) (by decide) shapeCasts_S1x128x128_S128x128 shapeCasts_S1x128x128_S128x128)
        (mix_piece X 0 5 _ _ _ rfl rfl rfl (by decide) (by decide) (by decide) shapeCasts_S1x128x128_S128x128 shapeCasts_S1x128x128_S128x128)
        (mix_piece X 0 6 _ _ _ rfl rfl rfl (by decide) (by decide) (by decide) shapeCasts_S1x128x128_S128x128 shapeCasts_S1x128x128_S128x128)
        (mix_piece X 0 7 _ _ _ rfl rfl rfl (by decide) (by decide) (by decide) shapeCasts_S1x128x128_S128x128 shapeCasts_S1x128x128_S128x128)
    · exact cols_at _ _ _ _ _ _ _ _ concatenates_S128x128_S128x128_S128x128_S128x128_S128x128_S128x128_S128x128_S128x128_S128x1024_d1 _ (mix_piece X 1 0 _ _ _ rfl rfl rfl (by decide) (by decide) (by decide) shapeCasts_S1x128x128_S128x128 shapeCasts_S1x128x128_S128x128)
        (mix_piece X 1 1 _ _ _ rfl rfl rfl (by decide) (by decide) (by decide) shapeCasts_S1x128x128_S128x128 shapeCasts_S1x128x128_S128x128)
        (mix_piece X 1 2 _ _ _ rfl rfl rfl (by decide) (by decide) (by decide) shapeCasts_S1x128x128_S128x128 shapeCasts_S1x128x128_S128x128)
        (mix_piece X 1 3 _ _ _ rfl rfl rfl (by decide) (by decide) (by decide) shapeCasts_S1x128x128_S128x128 shapeCasts_S1x128x128_S128x128)
        (mix_piece X 1 4 _ _ _ rfl rfl rfl (by decide) (by decide) (by decide) shapeCasts_S1x128x128_S128x128 shapeCasts_S1x128x128_S128x128)
        (mix_piece X 1 5 _ _ _ rfl rfl rfl (by decide) (by decide) (by decide) shapeCasts_S1x128x128_S128x128 shapeCasts_S1x128x128_S128x128)
        (mix_piece X 1 6 _ _ _ rfl rfl rfl (by decide) (by decide) (by decide) shapeCasts_S1x128x128_S128x128 shapeCasts_S1x128x128_S128x128)
        (mix_piece X 1 7 _ _ _ rfl rfl rfl (by decide) (by decide) (by decide) shapeCasts_S1x128x128_S128x128 shapeCasts_S1x128x128_S128x128)
    · exact cols_at _ _ _ _ _ _ _ _ concatenates_S128x128_S128x128_S128x128_S128x128_S128x128_S128x128_S128x128_S128x128_S128x1024_d1 _ (mix_piece X 2 0 _ _ _ rfl rfl rfl (by decide) (by decide) (by decide) shapeCasts_S1x128x128_S128x128 shapeCasts_S1x128x128_S128x128)
        (mix_piece X 2 1 _ _ _ rfl rfl rfl (by decide) (by decide) (by decide) shapeCasts_S1x128x128_S128x128 shapeCasts_S1x128x128_S128x128)
        (mix_piece X 2 2 _ _ _ rfl rfl rfl (by decide) (by decide) (by decide) shapeCasts_S1x128x128_S128x128 shapeCasts_S1x128x128_S128x128)
        (mix_piece X 2 3 _ _ _ rfl rfl rfl (by decide) (by decide) (by decide) shapeCasts_S1x128x128_S128x128 shapeCasts_S1x128x128_S128x128)
        (mix_piece X 2 4 _ _ _ rfl rfl rfl (by decide) (by decide) (by decide) shapeCasts_S1x128x128_S128x128 shapeCasts_S1x128x128_S128x128)
        (mix_piece X 2 5 _ _ _ rfl rfl rfl (by decide) (by decide) (by decide) shapeCasts_S1x128x128_S128x128 shapeCasts_S1x128x128_S128x128)
        (mix_piece X 2 6 _ _ _ rfl rfl rfl (by decide) (by decide) (by decide) shapeCasts_S1x128x128_S128x128 shapeCasts_S1x128x128_S128x128)
        (mix_piece X 2 7 _ _ _ rfl rfl rfl (by decide) (by decide) (by decide) shapeCasts_S1x128x128_S128x128 shapeCasts_S1x128x128_S128x128)
    · exact cols_at _ _ _ _ _ _ _ _ concatenates_S128x128_S128x128_S128x128_S128x128_S128x128_S128x128_S128x128_S128x128_S128x1024_d1 _ (mix_piece X 3 0 _ _ _ rfl rfl rfl (by decide) (by decide) (by decide) shapeCasts_S1x128x128_S128x128 shapeCasts_S1x128x128_S128x128)
        (mix_piece X 3 1 _ _ _ rfl rfl rfl (by decide) (by decide) (by decide) shapeCasts_S1x128x128_S128x128 shapeCasts_S1x128x128_S128x128)
        (mix_piece X 3 2 _ _ _ rfl rfl rfl (by decide) (by decide) (by decide) shapeCasts_S1x128x128_S128x128 shapeCasts_S1x128x128_S128x128)
        (mix_piece X 3 3 _ _ _ rfl rfl rfl (by decide) (by decide) (by decide) shapeCasts_S1x128x128_S128x128 shapeCasts_S1x128x128_S128x128)
        (mix_piece X 3 4 _ _ _ rfl rfl rfl (by decide) (by decide) (by decide) shapeCasts_S1x128x128_S128x128 shapeCasts_S1x128x128_S128x128)
        (mix_piece X 3 5 _ _ _ rfl rfl rfl (by decide) (by decide) (by decide) shapeCasts_S1x128x128_S128x128 shapeCasts_S1x128x128_S128x128)
        (mix_piece X 3 6 _ _ _ rfl rfl rfl (by decide) (by decide) (by decide) shapeCasts_S1x128x128_S128x128 shapeCasts_S1x128x128_S128x128)
        (mix_piece X 3 7 _ _ _ rfl rfl rfl (by decide) (by decide) (by decide) shapeCasts_S1x128x128_S128x128 shapeCasts_S1x128x128_S128x128)

theorem out7_v (q : Fin 4) (i : Fin 128) (l : Fin 1024) : (outsAt0 m c t.val t.isLt).1 (ix2 (tr q i) ⟨1024 + l.val, by omega⟩) = (((input m c).block (bq t q)).dv i l : EReal) := by
  have X := tile m c hI t
  by_cases h0 : t.val % 8 = 0
  on_goal 1 => rw [outsAt0_A m c t h0 (by omega)]
  on_goal 2 => by_cases h1 : t.val % 8 = 7
  on_goal 2 => rw [outsAt0_C m c t h0 h1]
  on_goal 3 => rw [outsAt0_B m c t h0 h1]
  all_goals
    frame_out
    refine (Halves.right_half _ _ _ _ _).trans ?_
    refine dv_of (T := fun q => (input m c).block (bq t q)) _ _ _ _ (fun q i l => dgelu_at' _ _ _ _ (v_at m c hI t q i l)) (fun q i => rstd_at _ _ _ (v_at m c hI t q i)) (nh_tile m c hI t)
      ?_ _ _ _ _ ?_ ?_ ?_ ?_ q i l
    · intro q l
      unfold k0_pay35
      pointwise [g_at m c hI t]
      rfl
    · exact cols_at _ _ _ _ _ _ _ _ concatenates_S128x128_S128x128_S128x128_S128x128_S128x128_S128x128_S128x128_S128x128_S128x1024_d1 _ (dvn_piece X 0 0 _ _ _ rfl rfl rfl (by decide) (by decide) shapeCasts_S1x128x128_S128x128)
        (dvn_piece X 0 1 _ _ _ rfl rfl rfl (by decide) (by decide) shapeCasts_S1x128x128_S128x128)
        (dvn_piece X 0 2 _ _ _ rfl rfl rfl (by decide) (by decide) shapeCasts_S1x128x128_S128x128)
        (dvn_piece X 0 3 _ _ _ rfl rfl rfl (by decide) (by decide) shapeCasts_S1x128x128_S128x128)
        (dvn_piece X 0 4 _ _ _ rfl rfl rfl (by decide) (by decide) shapeCasts_S1x128x128_S128x128)
        (dvn_piece X 0 5 _ _ _ rfl rfl rfl (by decide) (by decide) shapeCasts_S1x128x128_S128x128)
        (dvn_piece X 0 6 _ _ _ rfl rfl rfl (by decide) (by decide) shapeCasts_S1x128x128_S128x128)
        (dvn_piece X 0 7 _ _ _ rfl rfl rfl (by decide) (by decide) shapeCasts_S1x128x128_S128x128)
    · exact cols_at _ _ _ _ _ _ _ _ concatenates_S128x128_S128x128_S128x128_S128x128_S128x128_S128x128_S128x128_S128x128_S128x1024_d1 _ (dvn_piece X 1 0 _ _ _ rfl rfl rfl (by decide) (by decide) shapeCasts_S1x128x128_S128x128)
        (dvn_piece X 1 1 _ _ _ rfl rfl rfl (by decide) (by decide) shapeCasts_S1x128x128_S128x128)
        (dvn_piece X 1 2 _ _ _ rfl rfl rfl (by decide) (by decide) shapeCasts_S1x128x128_S128x128)
        (dvn_piece X 1 3 _ _ _ rfl rfl rfl (by decide) (by decide) shapeCasts_S1x128x128_S128x128)
        (dvn_piece X 1 4 _ _ _ rfl rfl rfl (by decide) (by decide) shapeCasts_S1x128x128_S128x128)
        (dvn_piece X 1 5 _ _ _ rfl rfl rfl (by decide) (by decide) shapeCasts_S1x128x128_S128x128)
        (dvn_piece X 1 6 _ _ _ rfl rfl rfl (by decide) (by decide) shapeCasts_S1x128x128_S128x128)
        (dvn_piece X 1 7 _ _ _ rfl rfl rfl (by decide) (by decide) shapeCasts_S1x128x128_S128x128)
    · exact cols_at _ _ _ _ _ _ _ _ concatenates_S128x128_S128x128_S128x128_S128x128_S128x128_S128x128_S128x128_S128x128_S128x1024_d1 _ (dvn_piece X 2 0 _ _ _ rfl rfl rfl (by decide) (by decide) shapeCasts_S1x128x128_S128x128)
        (dvn_piece X 2 1 _ _ _ rfl rfl rfl (by decide) (by decide) shapeCasts_S1x128x128_S128x128)
        (dvn_piece X 2 2 _ _ _ rfl rfl rfl (by decide) (by decide) shapeCasts_S1x128x128_S128x128)
        (dvn_piece X 2 3 _ _ _ rfl rfl rfl (by decide) (by decide) shapeCasts_S1x128x128_S128x128)
        (dvn_piece X 2 4 _ _ _ rfl rfl rfl (by decide) (by decide) shapeCasts_S1x128x128_S128x128)
        (dvn_piece X 2 5 _ _ _ rfl rfl rfl (by decide) (by decide) shapeCasts_S1x128x128_S128x128)
        (dvn_piece X 2 6 _ _ _ rfl rfl rfl (by decide) (by decide) shapeCasts_S1x128x128_S128x128)
        (dvn_piece X 2 7 _ _ _ rfl rfl rfl (by decide) (by decide) shapeCasts_S1x128x128_S128x128)
    · exact cols_at _ _ _ _ _ _ _ _ concatenates_S128x128_S128x128_S128x128_S128x128_S128x128_S128x128_S128x128_S128x128_S128x1024_d1 _ (dvn_piece X 3 0 _ _ _ rfl rfl rfl (by decide) (by decide) shapeCasts_S1x128x128_S128x128)
        (dvn_piece X 3 1 _ _ _ rfl rfl rfl (by decide) (by decide) shapeCasts_S1x128x128_S128x128)
        (dvn_piece X 3 2 _ _ _ rfl rfl rfl (by decide) (by decide) shapeCasts_S1x128x128_S128x128)
        (dvn_piece X 3 3 _ _ _ rfl rfl rfl (by decide) (by decide) shapeCasts_S1x128x128_S128x128)
        (dvn_piece X 3 4 _ _ _ rfl rfl rfl (by decide) (by decide) shapeCasts_S1x128x128_S128x128)
        (dvn_piece X 3 5 _ _ _ rfl rfl rfl (by decide) (by decide) shapeCasts_S1x128x128_S128x128)
        (dvn_piece X 3 6 _ _ _ rfl rfl rfl (by decide) (by decide) shapeCasts_S1x128x128_S128x128)
        (dvn_piece X 3 7 _ _ _ rfl rfl rfl (by decide) (by decide) shapeCasts_S1x128x128_S128x128)

theorem out10_first (h0 : t.val % 8 = 0) (l : Fin 1024) :
    (outsAt0 m c t.val t.isLt).2.2.2.1 (ix2 0 l) = ((∑ q, ((input m c).block (bq t q)).dg l : ℝ) : EReal) := by
  have X := tile m c hI t
  rw [outsAt0_A m c t h0 (by omega)]
  frame_out
  refine (dg_of (T := fun q => (input m c).block (bq t q)) _ _ (nh_tile m c hI t) _ _ _ _ ?_ ?_ ?_ ?_ l).trans ?_
  · exact cols_at _ _ _ _ _ _ _ _ concatenates_S128x128_S128x128_S128x128_S128x128_S128x128_S128x128_S128x128_S128x128_S128x1024_d1 _ (dvn_piece X 0 0 _ _ _ rfl rfl rfl (by decide) (by decide) shapeCasts_S1x128x128_S128x128)
        (dvn_piece X 0 1 _ _ _ rfl rfl rfl (by decide) (by decide) shapeCasts_S1x128x128_S128x128)
        (dvn_piece X 0 2 _ _ _ rfl rfl rfl (by decide) (by decide) shapeCasts_S1x128x128_S128x128)
        (dvn_piece X 0 3 _ _ _ rfl rfl rfl (by decide) (by decide) shapeCasts_S1x128x128_S128x128)
        (dvn_piece X 0 4 _ _ _ rfl rfl rfl (by decide) (by decide) shapeCasts_S1x128x128_S128x128)
        (dvn_piece X 0 5 _ _ _ rfl rfl rfl (by decide) (by decide) shapeCasts_S1x128x128_S128x128)
        (dvn_piece X 0 6 _ _ _ rfl rfl rfl (by decide) (by decide) shapeCasts_S1x128x128_S128x128)
        (dvn_piece X 0 7 _ _ _ rfl rfl rfl (by decide) (by decide) shapeCasts_S1x128x128_S128x128)
  · exact cols_at _ _ _ _ _ _ _ _ concatenates_S128x128_S128x128_S128x128_S128x128_S128x128_S128x128_S128x128_S128x128_S128x1024_d1 _ (dvn_piece X 1 0 _ _ _ rfl rfl rfl (by decide) (by decide) shapeCasts_S1x128x128_S128x128)
        (dvn_piece X 1 1 _ _ _ rfl rfl rfl (by decide) (by decide) shapeCasts_S1x128x128_S128x128)
        (dvn_piece X 1 2 _ _ _ rfl rfl rfl (by decide) (by decide) shapeCasts_S1x128x128_S128x128)
        (dvn_piece X 1 3 _ _ _ rfl rfl rfl (by decide) (by decide) shapeCasts_S1x128x128_S128x128)
        (dvn_piece X 1 4 _ _ _ rfl rfl rfl (by decide) (by decide) shapeCasts_S1x128x128_S128x128)
        (dvn_piece X 1 5 _ _ _ rfl rfl rfl (by decide) (by decide) shapeCasts_S1x128x128_S128x128)
        (dvn_piece X 1 6 _ _ _ rfl rfl rfl (by decide) (by decide) shapeCasts_S1x128x128_S128x128)
        (dvn_piece X 1 7 _ _ _ rfl rfl rfl (by decide) (by decide) shapeCasts_S1x128x128_S128x128)
  · exact cols_at _ _ _ _ _ _ _ _ concatenates_S128x128_S128x128_S128x128_S128x128_S128x128_S128x128_S128x128_S128x128_S128x1024_d1 _ (dvn_piece X 2 0 _ _ _ rfl rfl rfl (by decide) (by decide) shapeCasts_S1x128x128_S128x128)
        (dvn_piece X 2 1 _ _ _ rfl rfl rfl (by decide) (by decide) shapeCasts_S1x128x128_S128x128)
        (dvn_piece X 2 2 _ _ _ rfl rfl rfl (by decide) (by decide) shapeCasts_S1x128x128_S128x128)
        (dvn_piece X 2 3 _ _ _ rfl rfl rfl (by decide) (by decide) shapeCasts_S1x128x128_S128x128)
        (dvn_piece X 2 4 _ _ _ rfl rfl rfl (by decide) (by decide) shapeCasts_S1x128x128_S128x128)
        (dvn_piece X 2 5 _ _ _ rfl rfl rfl (by decide) (by decide) shapeCasts_S1x128x128_S128x128)
        (dvn_piece X 2 6 _ _ _ rfl rfl rfl (by decide) (by decide) shapeCasts_S1x128x128_S128x128)
        (dvn_piece X 2 7 _ _ _ rfl rfl rfl (by decide) (by decide) shapeCasts_S1x128x128_S128x128)
  · exact cols_at _ _ _ _ _ _ _ _ concatenates_S128x128_S128x128_S128x128_S128x128_S128x128_S128x128_S128x128_S128x128_S128x1024_d1 _ (dvn_piece X 3 0 _ _ _ rfl rfl rfl (by decide) (by decide) shapeCasts_S1x128x128_S128x128)
        (dvn_piece X 3 1 _ _ _ rfl rfl rfl (by decide) (by decide) shapeCasts_S1x128x128_S128x128)
        (dvn_piece X 3 2 _ _ _ rfl rfl rfl (by decide) (by decide) shapeCasts_S1x128x128_S128x128)
        (dvn_piece X 3 3 _ _ _ rfl rfl rfl (by decide) (by decide) shapeCasts_S1x128x128_S128x128)
        (dvn_piece X 3 4 _ _ _ rfl rfl rfl (by decide) (by decide) shapeCasts_S1x128x128_S128x128)
        (dvn_piece X 3 5 _ _ _ rfl rfl rfl (by decide) (by decide) shapeCasts_S1x128x128_S128x128)
        (dvn_piece X 3 6 _ _ _ rfl rfl rfl (by decide) (by decide) shapeCasts_S1x128x128_S128x128)
        (dvn_piece X 3 7 _ _ _ rfl rfl rfl (by decide) (by decide) shapeCasts_S1x128x128_S128x128)
  · unfold k0_pay21
    pointwise [Consts.cZero]
    rw [EReal.coe_zero, zero_add]

theorem out10_next (h0 : ¬t.val % 8 = 0) (l : Fin 1024) :
    (outsAt0 m c t.val t.isLt).2.2.2.1 (ix2 0 l)
      = (outsAt0 m c (t.val - 1) (by omega)).2.2.2.1 (ix2 0 l) + ((∑ q, ((input m c).block (bq t q)).dg l : ℝ) : EReal) := by
  have X := tile m c hI t
  by_cases h1 : t.val % 8 = 7
  on_goal 1 => rw [outsAt0_C m c t h0 h1]
  on_goal 2 => rw [outsAt0_B m c t h0 h1]
  all_goals
    frame_out
    refine (dg_of (T := fun q => (input m c).block (bq t q)) _ _ (nh_tile m c hI t) _ _ _ _ ?_ ?_ ?_ ?_ l).trans rfl
    · exact cols_at _ _ _ _ _ _ _ _ concatenates_S128x128_S128x128_S128x128_S128x128_S128x128_S128x128_S128x128_S128x128_S128x1024_d1 _ (dvn_piece X 0 0 _ _ _ rfl rfl rfl (by decide) (by decide) shapeCasts_S1x128x128_S128x128)
        (dvn_piece X 0 1 _ _ _ rfl rfl rfl (by decide) (by decide) shapeCasts_S1x128x128_S128x128)
        (dvn_piece X 0 2 _ _ _ rfl rfl rfl (by decide) (by decide) shapeCasts_S1x128x128_S128x128)
        (dvn_piece X 0 3 _ _ _ rfl rfl rfl (by decide) (by decide) shapeCasts_S1x128x128_S128x128)
        (dvn_piece X 0 4 _ _ _ rfl rfl rfl (by decide) (by decide) shapeCasts_S1x128x128_S128x128)
        (dvn_piece X 0 5 _ _ _ rfl rfl rfl (by decide) (by decide) shapeCasts_S1x128x128_S128x128)
        (dvn_piece X 0 6 _ _ _ rfl rfl rfl (by decide) (by decide) shapeCasts_S1x128x128_S128x128)
        (dvn_piece X 0 7 _ _ _ rfl rfl rfl (by decide) (by decide) shapeCasts_S1x128x128_S128x128)
    · exact cols_at _ _ _ _ _ _ _ _ concatenates_S128x128_S128x128_S128x128_S128x128_S128x128_S128x128_S128x128_S128x128_S128x1024_d1 _ (dvn_piece X 1 0 _ _ _ rfl rfl rfl (by decide) (by decide) shapeCasts_S1x128x128_S128x128)
        (dvn_piece X 1 1 _ _ _ rfl rfl rfl (by decide) (by decide) shapeCasts_S1x128x128_S128x128)
        (dvn_piece X 1 2 _ _ _ rfl rfl rfl (by decide) (by decide) shapeCasts_S1x128x128_S128x128)
        (dvn_piece X 1 3 _ _ _ rfl rfl rfl (by decide) (by decide) shapeCasts_S1x128x128_S128x128)
        (dvn_piece X 1 4 _ _ _ rfl rfl rfl (by decide) (by decide) shapeCasts_S1x128x128_S128x128)
        (dvn_piece X 1 5 _ _ _ rfl rfl rfl (by decide) (by decide) shapeCasts_S1x128x128_S128x128)
        (dvn_piece X 1 6 _ _ _ rfl rfl rfl (by decide) (by decide) shapeCasts_S1x128x128_S128x128)
        (dvn_piece X 1 7 _ _ _ rfl rfl rfl (by decide) (by decide) shapeCasts_S1x128x128_S128x128)
    · exact cols_at _ _ _ _ _ _ _ _ concatenates_S128x128_S128x128_S128x128_S128x128_S128x128_S128x128_S128x128_S128x128_S128x1024_d1 _ (dvn_piece X 2 0 _ _ _ rfl rfl rfl (by decide) (by decide) shapeCasts_S1x128x128_S128x128)
        (dvn_piece X 2 1 _ _ _ rfl rfl rfl (by decide) (by decide) shapeCasts_S1x128x128_S128x128)
        (dvn_piece X 2 2 _ _ _ rfl rfl rfl (by decide) (by decide) shapeCasts_S1x128x128_S128x128)
        (dvn_piece X 2 3 _ _ _ rfl rfl rfl (by decide) (by decide) shapeCasts_S1x128x128_S128x128)
        (dvn_piece X 2 4 _ _ _ rfl rfl rfl (by decide) (by decide) shapeCasts_S1x128x128_S128x128)
        (dvn_piece X 2 5 _ _ _ rfl rfl rfl (by decide) (by decide) shapeCasts_S1x128x128_S128x128)
        (dvn_piece X 2 6 _ _ _ rfl rfl rfl (by decide) (by decide) shapeCasts_S1x128x128_S128x128)
        (dvn_piece X 2 7 _ _ _ rfl rfl rfl (by decide) (by decide) shapeCasts_S1x128x128_S128x128)
    · exact cols_at _ _ _ _ _ _ _ _ concatenates_S128x128_S128x128_S128x128_S128x128_S128x128_S128x128_S128x128_S128x128_S128x1024_d1 _ (dvn_piece X 3 0 _ _ _ rfl rfl rfl (by decide) (by decide) shapeCasts_S1x128x128_S128x128)
        (dvn_piece X 3 1 _ _ _ rfl rfl rfl (by decide) (by decide) shapeCasts_S1x128x128_S128x128)
        (dvn_piece X 3 2 _ _ _ rfl rfl rfl (by decide) (by decide) shapeCasts_S1x128x128_S128x128)
        (dvn_piece X 3 3 _ _ _ rfl rfl rfl (by decide) (by decide) shapeCasts_S1x128x128_S128x128)
        (dvn_piece X 3 4 _ _ _ rfl rfl rfl (by decide) (by decide) shapeCasts_S1x128x128_S128x128)
        (dvn_piece X 3 5 _ _ _ rfl rfl rfl (by decide) (by decide) shapeCasts_S1x128x128_S128x128)
        (dvn_piece X 3 6 _ _ _ rfl rfl rfl (by decide) (by decide) shapeCasts_S1x128x128_S128x128)
        (dvn_piece X 3 7 _ _ _ rfl rfl rfl (by decide) (by decide) shapeCasts_S1x128x128_S128x128)

theorem out11_first (h0 : t.val % 8 = 0) (l : Fin 1024) :
    (outsAt0 m c t.val t.isLt).2.2.2.2.1 (ix2 0 l) = ((∑ q, ((input m c).block (bq t q)).db l : ℝ) : EReal) := by
  have X := tile m c hI t
  rw [outsAt0_A m c t h0 (by omega)]
  frame_out
  refine (db_of (T := fun q => (input m c).block (bq t q)) _ _ _ _ _ ?_ ?_ ?_ ?_ l).trans ?_
  · exact cols_at _ _ _ _ _ _ _ _ concatenates_S128x128_S128x128_S128x128_S128x128_S128x128_S128x128_S128x128_S128x128_S128x1024_d1 _ (dvn_piece X 0 0 _ _ _ rfl rfl rfl (by decide) (by decide) shapeCasts_S1x128x128_S128x128)
        (dvn_piece X 0 1 _ _ _ rfl rfl rfl (by decide) (by decide) shapeCasts_S1x128x128_S128x128)
        (dvn_piece X 0 2 _ _ _ rfl rfl rfl (by decide) (by decide) shapeCasts_S1x128x128_S128x128)
        (dvn_piece X 0 3 _ _ _ rfl rfl rfl (by decide) (by decide) shapeCasts_S1x128x128_S128x128)
        (dvn_piece X 0 4 _ _ _ rfl rfl rfl (by decide) (by decide) shapeCasts_S1x128x128_S128x128)
        (dvn_piece X 0 5 _ _ _ rfl rfl rfl (by decide) (by decide) shapeCasts_S1x128x128_S128x128)
        (dvn_piece X 0 6 _ _ _ rfl rfl rfl (by decide) (by decide) shapeCasts_S1x128x128_S128x128)
        (dvn_piece X 0 7 _ _ _ rfl rfl rfl (by decide) (by decide) shapeCasts_S1x128x128_S128x128)
  · exact cols_at _ _ _ _ _ _ _ _ concatenates_S128x128_S128x128_S128x128_S128x128_S128x128_S128x128_S128x128_S128x128_S128x1024_d1 _ (dvn_piece X 1 0 _ _ _ rfl rfl rfl (by decide) (by decide) shapeCasts_S1x128x128_S128x128)
        (dvn_piece X 1 1 _ _ _ rfl rfl rfl (by decide) (by decide) shapeCasts_S1x128x128_S128x128)
        (dvn_piece X 1 2 _ _ _ rfl rfl rfl (by decide) (by decide) shapeCasts_S1x128x128_S128x128)
        (dvn_piece X 1 3 _ _ _ rfl rfl rfl (by decide) (by decide) shapeCasts_S1x128x128_S128x128)
        (dvn_piece X 1 4 _ _ _ rfl rfl rfl (by decide) (by decide) shapeCasts_S1x128x128_S128x128)
        (dvn_piece X 1 5 _ _ _ rfl rfl rfl (by decide) (by decide) shapeCasts_S1x128x128_S128x128)
        (dvn_piece X 1 6 _ _ _ rfl rfl rfl (by decide) (by decide) shapeCasts_S1x128x128_S128x128)
        (dvn_piece X 1 7 _ _ _ rfl rfl rfl (by decide) (by decide) shapeCasts_S1x128x128_S128x128)
  · exact cols_at _ _ _ _ _ _ _ _ concatenates_S128x128_S128x128_S128x128_S128x128_S128x128_S128x128_S128x128_S128x128_S128x1024_d1 _ (dvn_piece X 2 0 _ _ _ rfl rfl rfl (by decide) (by decide) shapeCasts_S1x128x128_S128x128)
        (dvn_piece X 2 1 _ _ _ rfl rfl rfl (by decide) (by decide) shapeCasts_S1x128x128_S128x128)
        (dvn_piece X 2 2 _ _ _ rfl rfl rfl (by decide) (by decide) shapeCasts_S1x128x128_S128x128)
        (dvn_piece X 2 3 _ _ _ rfl rfl rfl (by decide) (by decide) shapeCasts_S1x128x128_S128x128)
        (dvn_piece X 2 4 _ _ _ rfl rfl rfl (by decide) (by decide) shapeCasts_S1x128x128_S128x128)
        (dvn_piece X 2 5 _ _ _ rfl rfl rfl (by decide) (by decide) shapeCasts_S1x128x128_S128x128)
        (dvn_piece X 2 6 _ _ _ rfl rfl rfl (by decide) (by decide) shapeCasts_S1x128x128_S128x128)
        (dvn_piece X 2 7 _ _ _ rfl rfl rfl (by decide) (by decide) shapeCasts_S1x128x128_S128x128)
  · exact cols_at _ _ _ _ _ _ _ _ concatenates_S128x128_S128x128_S128x128_S128x128_S128x128_S128x128_S128x128_S128x128_S128x1024_d1 _ (dvn_piece X 3 0 _ _ _ rfl rfl rfl (by decide) (by decide) shapeCasts_S1x128x128_S128x128)
        (dvn_piece X 3 1 _ _ _ rfl rfl rfl (by decide) (by decide) shapeCasts_S1x128x128_S128x128)
        (dvn_piece X 3 2 _ _ _ rfl rfl rfl (by decide) (by decide) shapeCasts_S1x128x128_S128x128)
        (dvn_piece X 3 3 _ _ _ rfl rfl rfl (by decide) (by decide) shapeCasts_S1x128x128_S128x128)
        (dvn_piece X 3 4 _ _ _ rfl rfl rfl (by decide) (by decide) shapeCasts_S1x128x128_S128x128)
        (dvn_piece X 3 5 _ _ _ rfl rfl rfl (by decide) (by decide) shapeCasts_S1x128x128_S128x128)
        (dvn_piece X 3 6 _ _ _ rfl rfl rfl (by decide) (by decide) shapeCasts_S1x128x128_S128x128)
        (dvn_piece X 3 7 _ _ _ rfl rfl rfl (by decide) (by decide) shapeCasts_S1x128x128_S128x128)
  · unfold k0_pay22
    pointwise [Consts.cZero]
    rw [EReal.coe_zero, zero_add]

theorem out11_next (h0 : ¬t.val % 8 = 0) (l : Fin 1024) :
    (outsAt0 m c t.val t.isLt).2.2.2.2.1 (ix2 0 l)
      = (outsAt0 m c (t.val - 1) (by omega)).2.2.2.2.1 (ix2 0 l) + ((∑ q, ((input m c).block (bq t q)).db l : ℝ) : EReal) := by
  have X := tile m c hI t
  by_cases h1 : t.val % 8 = 7
  on_goal 1 => rw [outsAt0_C m c t h0 h1]
  on_goal 2 => rw [outsAt0_B m c t h0 h1]
  all_goals
    frame_out
    refine (db_of (T := fun q => (input m c).block (bq t q)) _ _ _ _ _ ?_ ?_ ?_ ?_ l).trans rfl
    · exact cols_at _ _ _ _ _ _ _ _ concatenates_S128x128_S128x128_S128x128_S128x128_S128x128_S128x128_S128x128_S128x128_S128x1024_d1 _ (dvn_piece X 0 0 _ _ _ rfl rfl rfl (by decide) (by decide) shapeCasts_S1x128x128_S128x128)
        (dvn_piece X 0 1 _ _ _ rfl rfl rfl (by decide) (by decide) shapeCasts_S1x128x128_S128x128)
        (dvn_piece X 0 2 _ _ _ rfl rfl rfl (by decide) (by decide) shapeCasts_S1x128x128_S128x128)
        (dvn_piece X 0 3 _ _ _ rfl rfl rfl (by decide) (by decide) shapeCasts_S1x128x128_S128x128)
        (dvn_piece X 0 4 _ _ _ rfl rfl rfl (by decide) (by decide) shapeCasts_S1x128x128_S128x128)
        (dvn_piece X 0 5 _ _ _ rfl rfl rfl (by decide) (by decide) shapeCasts_S1x128x128_S128x128)
        (dvn_piece X 0 6 _ _ _ rfl rfl rfl (by decide) (by decide) shapeCasts_S1x128x128_S128x128)
        (dvn_piece X 0 7 _ _ _ rfl rfl rfl (by decide) (by decide) shapeCasts_S1x128x128_S128x128)
    · exact cols_at _ _ _ _ _ _ _ _ concatenates_S128x128_S128x128_S128x128_S128x128_S128x128_S128x128_S128x128_S128x128_S128x1024_d1 _ (dvn_piece X 1 0 _ _ _ rfl rfl rfl (by decide) (by decide) shapeCasts_S1x128x128_S128x128)
        (dvn_piece X 1 1 _ _ _ rfl rfl rfl (by decide) (by decide) shapeCasts_S1x128x128_S128x128)
        (dvn_piece X 1 2 _ _ _ rfl rfl rfl (by decide) (by decide) shapeCasts_S1x128x128_S128x128)
        (dvn_piece X 1 3 _ _ _ rfl rfl rfl (by decide) (by decide) shapeCasts_S1x128x128_S128x128)
        (dvn_piece X 1 4 _ _ _ rfl rfl rfl (by decide) (by decide) shapeCasts_S1x128x128_S128x128)
        (dvn_piece X 1 5 _ _ _ rfl rfl rfl (by decide) (by decide) shapeCasts_S1x128x128_S128x128)
        (dvn_piece X 1 6 _ _ _ rfl rfl rfl (by decide) (by decide) shapeCasts_S1x128x128_S128x128)
        (dvn_piece X 1 7 _ _ _ rfl rfl rfl (by decide) (by decide) shapeCasts_S1x128x128_S128x128)
    · exact cols_at _ _ _ _ _ _ _ _ concatenates_S128x128_S128x128_S128x128_S128x128_S128x128_S128x128_S128x128_S128x128_S128x1024_d1 _ (dvn_piece X 2 0 _ _ _ rfl rfl rfl (by decide) (by decide) shapeCasts_S1x128x128_S128x128)
        (dvn_piece X 2 1 _ _ _ rfl rfl rfl (by decide) (by decide) shapeCasts_S1x128x128_S128x128)
        (dvn_piece X 2 2 _ _ _ rfl rfl rfl (by decide) (by decide) shapeCasts_S1x128x128_S128x128)
        (dvn_piece X 2 3 _ _ _ rfl rfl rfl (by decide) (by decide) shapeCasts_S1x128x128_S128x128)
        (dvn_piece X 2 4 _ _ _ rfl rfl rfl (by decide) (by decide) shapeCasts_S1x128x128_S128x128)
        (dvn_piece X 2 5 _ _ _ rfl rfl rfl (by decide) (by decide) shapeCasts_S1x128x128_S128x128)
        (dvn_piece X 2 6 _ _ _ rfl rfl rfl (by decide) (by decide) shapeCasts_S1x128x128_S128x128)
        (dvn_piece X 2 7 _ _ _ rfl rfl rfl (by decide) (by decide) shapeCasts_S1x128x128_S128x128)
    · exact cols_at _ _ _ _ _ _ _ _ concatenates_S128x128_S128x128_S128x128_S128x128_S128x128_S128x128_S128x128_S128x128_S128x1024_d1 _ (dvn_piece X 3 0 _ _ _ rfl rfl rfl (by decide) (by decide) shapeCasts_S1x128x128_S128x128)
        (dvn_piece X 3 1 _ _ _ rfl rfl rfl (by decide) (by decide) shapeCasts_S1x128x128_S128x128)
        (dvn_piece X 3 2 _ _ _ rfl rfl rfl (by decide) (by decide) shapeCasts_S1x128x128_S128x128)
        (dvn_piece X 3 3 _ _ _ rfl rfl rfl (by decide) (by decide) shapeCasts_S1x128x128_S128x128)
        (dvn_piece X 3 4 _ _ _ rfl rfl rfl (by decide) (by decide) shapeCasts_S1x128x128_S128x128)
        (dvn_piece X 3 5 _ _ _ rfl rfl rfl (by decide) (by decide) shapeCasts_S1x128x128_S128x128)
        (dvn_piece X 3 6 _ _ _ rfl rfl rfl (by decide) (by decide) shapeCasts_S1x128x128_S128x128)
        (dvn_piece X 3 7 _ _ _ rfl rfl rfl (by decide) (by decide) shapeCasts_S1x128x128_S128x128)

end Cert.SguValue

end
-- ==== Proof.SguAcc.lean ====
/- The weight gradient's accumulation: eight groups of the output, each stored once a block, read back before it. -/
module

public import proofs.«01_k».proof.Proof.SguTile
public import Idealize.ShloMosaic.Lib.Pipeline.ReadBack

@[expose] public section

noncomputable section

namespace Cert.SguValue

open Cert.SguKernelIdeal Cert.SguKernelIdeal.Gen Idealize.ShloMosaic Idealize.ShloMosaic.TcCoe Cert.Reals Cert.Sgu

section steps

variable (L : List (View.Piece (Elt Ideal) S8x128x128 .f32)) (g : Fin 8) (i k : Fin 128)

theorem emb_group (o0 : ℕ) (e0 : o0 = g.val) (h) :
    (Rect.unit (s := S8x128x128) ![o0, 0, 0] ![1, 128, 128] h).emb (ix3 0 i k) = ix3 g i k := by
  subst e0
  funext a
  match a with
  | ⟨0, _⟩ => exact Fin.ext (ValueKit.rect_emb_unit_val _ _ _ _ _)
  | ⟨1, _⟩ => exact Fin.ext ((ValueKit.rect_emb_unit_val _ _ _ _ _).trans (Nat.zero_add _))
  | ⟨2, _⟩ => exact Fin.ext ((ValueKit.rect_emb_unit_val _ _ _ _ _).trans (Nat.zero_add _))

/-- The group's own last store. -/
theorem store_group (o0 : ℕ) (e0 : o0 = g.val) (h) (P : S1x128x128.Idx → EReal) :
    View.canon (Val := Elt Ideal) (s := S8x128x128) (e := .f32) (⟨Rect.unit ![o0, 0, 0] ![1, 128, 128] h, P⟩ :: L) (ix3 g i k) = P (ix3 0 i k) := by
  rw [← emb_group g i k o0 e0 h]
  exact View.canon_cons_emb _ _ _ _

/-- Another group's store. -/
theorem skip_group (o0 : ℕ) (h) (P : S1x128x128.Idx → EReal) (e0 : o0 ≠ g.val) :
    View.canon (Val := Elt Ideal) (s := S8x128x128) (e := .f32) (⟨Rect.unit ![o0, 0, 0] ![1, 128, 128] h, P⟩ :: L) (ix3 g i k) = View.canon L (ix3 g i k) := by
  refine View.canon_cons_of_not_mem _ _ ?_
  rw [← Rect.map_emb_univ, Finset.mem_map]
  rintro ⟨x, -, hx⟩
  have h₁ := (ValueKit.rect_emb_unit_val _ _ h x 0).symm.trans (congrArg Fin.val (congrFun hx 0))
  have h₂ : o0 + (x 0).val = g.val := h₁
  have h₃ : (x 0).val < 1 := (x 0).isLt
  omega

/-- The group read back. -/
theorem load_group {sp : Space} (v : View sig .tc sp S8x128x128 .f32) (o0 : ℕ) (e0 : o0 = g.val) (h) :
    v.readCov (Val := Elt Ideal) L (Rect.unit (s := S8x128x128) ![o0, 0, 0] ![1, 128, 128] h).toLoadRect (ix3 0 i k) = View.canon L (ix3 g i k) := by
  rw [View.readCov_eq_canon', ← emb_group g i k o0 e0 h]
  rfl

theorem drop_group {α : Type} (P : S1x128x128.Idx → α) (c1) : shapeCast S128x128 P c1 (ix2 i k) = P (ix3 0 i k) := by
  refine (shapeCast_dropUnit_apply (n := 2) ![128, 128] _ c1 (ix2 i k)).trans ?_
  congr 1
  funext a
  match a with
  | ⟨0, _⟩ => rfl
  | ⟨1, _⟩ => rfl
  | ⟨2, _⟩ => rfl

theorem add_group {α : Type} (P : S128x128.Idx → α) (c1) : shapeCast S1x128x128 P c1 (ix3 0 i k) = P (ix2 i k) := by
  refine (shapeCast_addUnit_apply (n := 2) ![128, 128] _ c1 (ix3 0 i k)).trans ?_
  congr 1
  funext a
  match a with
  | ⟨0, _⟩ => rfl
  | ⟨1, _⟩ => rfl

/-- The zeros all groups start from. -/
theorem fill_groups (h) : View.canon (Val := Elt Ideal) (s := S8x128x128) (e := .f32) [⟨Rect.unit ![0, 0, 0] ![8, 128, 128] h, (k0_pay20 : FVec Ideal S8x128x128 .f32)⟩] (ix3 g i k) = ((0 : ℝ) : EReal) := by
  refine (congrFun (View.canon_cons_unit_lit (Val := Elt Ideal) (S := S8x128x128) (e := .f32) (off := ![0, 0, 0]) h (k0_pay20 : FVec Ideal S8x128x128 .f32) [] (by decide)) _).trans ?_
  unfold k0_pay20
  pointwise [Consts.cZero]

variable {T : Fin 4 → Args} {W : Vec Ideal S8x128x128 .bf16} {B : Vec Ideal S8x128x128 .f32} {Y D : Vec Ideal S512x1024 .bf16}
  (X : Tile T W B Y D)
include X

/-- One block added to a group read back. -/
theorem acc_step {sp : Space} (v : View sig .tc sp S8x128x128 .f32) (q : Fin 4) (o0 o1 o2 : ℕ) (e0 : o0 = g.val) (e1 : o1 = q.val * 128) (e2 : o2 = g.val * 128)
    (h h') (hs hs' : Shape.Slices S512x1024 ![o1, o2] S128x128) (c1 c2) (z : EReal) (hz : View.canon L (ix3 g i k) = z) :
    View.canon (Val := Elt Ideal) (s := S8x128x128) (e := .f32) (⟨Rect.unit ![o0, 0, 0] ![1, 128, 128] h,
      shapeCast S1x128x128 (addf (F := Ideal) (φ := .f32) (shapeCast S128x128 (v.readCov (Val := Elt Ideal) L (Rect.unit (s := S8x128x128) ![o0, 0, 0] ![1, 128, 128] h').toLoadRect) c1)
        (matmul (F := Idealize.ShloMosaic.Ideal) (φ₁ := .bf16) (φ₂ := .bf16) dot_S128x128_S128x128_S128x128_1_1_0_0_n_n none
          (extractStridedSlice S128x128 ![o1, o2] D hs) (extractStridedSlice S128x128 ![o1, o2] Y hs')
          (constant S128x128 .f32 0x00000000#32))) c2⟩ :: L) (ix3 g i k) = z + ((T q).dw g i k : EReal) := by
  rw [store_group L g i k o0 e0, add_group]
  have e : ∀ f g : S128x128.Idx → EReal, addf (F := Ideal) (φ := .f32) f g (ix2 i k) = f (ix2 i k) + g (ix2 i k) := fun _ _ => rfl
  rw [e, dw_piece X q g o1 o2 e1 e2, drop_group, load_group L g i k v o0 e0, hz]

/-- One block added to what the point before left of a group. -/
theorem first_step (Z : Vec Ideal S8x128x128 .f32) (q : Fin 4) (o0 o1 o2 : ℕ) (e0 : o0 = g.val) (e1 : o1 = q.val * 128) (e2 : o2 = g.val * 128)
    (h h') (hs hs' : Shape.Slices S512x1024 ![o1, o2] S128x128) (c1 c2) :
    View.canon (Val := Elt Ideal) (s := S8x128x128) (e := .f32) (⟨Rect.unit ![o0, 0, 0] ![1, 128, 128] h,
      shapeCast S1x128x128 (addf (F := Ideal) (φ := .f32) (shapeCast S128x128 (View.ld Z (Rect.unit (s := S8x128x128) ![o0, 0, 0] ![1, 128, 128] h')) c1)
        (matmul (F := Idealize.ShloMosaic.Ideal) (φ₁ := .bf16) (φ₂ := .bf16) dot_S128x128_S128x128_S128x128_1_1_0_0_n_n none
          (extractStridedSlice S128x128 ![o1, o2] D hs) (extractStridedSlice S128x128 ![o1, o2] Y hs')
          (constant S128x128 .f32 0x00000000#32))) c2⟩ :: L) (ix3 g i k) = Z (ix3 g i k) + ((T q).dw g i k : EReal) := by
  rw [store_group L g i k o0 e0, add_group]
  have e : ∀ f g : S128x128.Idx → EReal, addf (F := Ideal) (φ := .f32) f g (ix2 i k) = f (ix2 i k) + g (ix2 i k) := fun _ _ => rfl
  rw [e, dw_piece X q g o1 o2 e1 e2, ld_group _ g o0 e0]

omit X in
/-- A group masked. -/
theorem mask_step {sp : Space} (v : View sig .tc sp S8x128x128 .f32) (M : Vec Ideal S128x128 .f32) (o0 : ℕ) (e0 : o0 = g.val)
    (h h') (c1 c2 c3) (z : EReal) (hz : View.canon L (ix3 g i k) = z) :
    View.canon (Val := Elt Ideal) (s := S8x128x128) (e := .f32) (⟨Rect.unit ![o0, 0, 0] ![1, 128, 128] h,
      shapeCast S1x128x128 (mulf (F := Ideal) (φ := .f32) (shapeCast S128x128 (v.readCov (Val := Elt Ideal) L (Rect.unit (s := S8x128x128) ![o0, 0, 0] ![1, 128, 128] h').toLoadRect) c1)
        (shapeCast S128x128 M c3)) c2⟩ :: L) (ix3 g i k) = z * M (ix2 i k) := by
  rw [store_group L g i k o0 e0, add_group]
  have e : ∀ f g : S128x128.Idx → EReal, mulf (F := Ideal) (φ := .f32) f g (ix2 i k) = f (ix2 i k) * g (ix2 i k) := fun _ _ => rfl
  rw [e, drop_group, load_group L g i k v o0 e0, hz]
  congr 1
  pointwise

end steps

variable (m : (ℓ : Loc nD τ sig) → Buf (Elt Ideal) ℓ) (c : Dev nD) (hI : (input m c).Fin) (t : Fin cfg0.N)
include hI

omit hI in
theorem groups (P : Fin 8 → Prop) (h : P 0 ∧ P 1 ∧ P 2 ∧ P 3 ∧ P 4 ∧ P 5 ∧ P 6 ∧ P 7) : ∀ g, P g := by
  obtain ⟨h0, h1, h2, h3, h4, h5, h6, h7⟩ := h
  intro g
  fin_cases g
  exacts [h0, h1, h2, h3, h4, h5, h6, h7]

omit hI in
theorem four (x : EReal) (f : Fin 4 → ℝ) : x + (f 0 : EReal) + (f 1 : EReal) + (f 2 : EReal) + (f 3 : EReal) = x + ((∑ q, f q : ℝ) : EReal) := by
  rw [Fin.sum_univ_four, EReal.coe_add, EReal.coe_add, EReal.coe_add, add_assoc, add_assoc, add_assoc, add_assoc, add_assoc]

theorem out8_B (h0 : ¬t.val % 8 = 0) (h1 : ¬t.val % 8 = 7) (i k : Fin 128) : ∀ g : Fin 8,
    (outsAt0 m c t.val t.isLt).2.1 (ix3 g i k)
      = (outsAt0 m c (t.val - 1) (by omega)).2.1 (ix3 g i k) + (((input m c).block (bq t 0)).dw g i k : EReal) + (((input m c).block (bq t 1)).dw g i k : EReal)
        + (((input m c).block (bq t 2)).dw g i k : EReal) + (((input m c).block (bq t 3)).dw g i k : EReal) := by
  have X := tile m c hI t
  rw [outsAt0_B m c t h0 h1]
  frame_out
  refine groups _ ⟨?_, ?_, ?_, ?_, ?_, ?_, ?_, ?_⟩
  all_goals beta_reduce
  all_goals
    repeat refine (skip_group _ _ i k _ _ _ (by decide)).trans ?_
    refine acc_step _ _ i k X _ 3 _ _ _ (by rfl) (by rfl) (by rfl) _ _ (by decide) (by decide) shapeCasts_S1x128x128_S128x128 shapeCasts_S128x128_S1x128x128 _ ?_
    repeat refine (skip_group _ _ i k _ _ _ (by decide)).trans ?_
    refine acc_step _ _ i k X _ 2 _ _ _ (by rfl) (by rfl) (by rfl) _ _ (by decide) (by decide) shapeCasts_S1x128x128_S128x128 shapeCasts_S128x128_S1x128x128 _ ?_
    repeat refine (skip_group _ _ i k _ _ _ (by decide)).trans ?_
    refine acc_step _ _ i k X _ 1 _ _ _ (by rfl) (by rfl) (by rfl) _ _ (by decide) (by decide) shapeCasts_S1x128x128_S128x128 shapeCasts_S128x128_S1x128x128 _ ?_
    repeat refine (skip_group _ _ i k _ _ _ (by decide)).trans ?_
    exact first_step _ _ i k X _ 0 _ _ _ (by rfl) (by rfl) (by rfl) _ _ (by decide) (by decide) shapeCasts_S1x128x128_S128x128 shapeCasts_S128x128_S1x128x128

theorem out8_A (h0 : t.val % 8 = 0) (i k : Fin 128) : ∀ g : Fin 8,
    (outsAt0 m c t.val t.isLt).2.1 (ix3 g i k)
      = ((0 : ℝ) : EReal) + (((input m c).block (bq t 0)).dw g i k : EReal) + (((input m c).block (bq t 1)).dw g i k : EReal)
        + (((input m c).block (bq t 2)).dw g i k : EReal) + (((input m c).block (bq t 3)).dw g i k : EReal) := by
  have X := tile m c hI t
  rw [outsAt0_A m c t h0 (by omega)]
  frame_out
  refine groups _ ⟨?_, ?_, ?_, ?_, ?_, ?_, ?_, ?_⟩
  all_goals beta_reduce
  all_goals
    repeat refine (skip_group _ _ i k _ _ _ (by decide)).trans ?_
    refine acc_step _ _ i k X _ 3 _ _ _ (by rfl) (by rfl) (by rfl) _ _ (by decide) (by decide) shapeCasts_S1x128x128_S128x128 shapeCasts_S128x128_S1x128x128 _ ?_
    repeat refine (skip_group _ _ i k _ _ _ (by decide)).trans ?_
    refine acc_step _ _ i k X _ 2 _ _ _ (by rfl) (by rfl) (by rfl) _ _ (by decide) (by decide) shapeCasts_S1x128x128_S128x128 shapeCasts_S128x128_S1x128x128 _ ?_
    repeat refine (skip_group _ _ i k _ _ _ (by decide)).trans ?_
    refine acc_step _ _ i k X _ 1 _ _ _ (by rfl) (by rfl) (by rfl) _ _ (by decide) (by decide) shapeCasts_S1x128x128_S128x128 shapeCasts_S128x128_S1x128x128 _ ?_
    repeat refine (skip_group _ _ i k _ _ _ (by decide)).trans ?_
    refine acc_step _ _ i k X _ 0 _ _ _ (by rfl) (by rfl) (by rfl) _ _ (by decide) (by decide) shapeCasts_S1x128x128_S128x128 shapeCasts_S128x128_S1x128x128 _ ?_
    repeat first
      | with_reducible exact fill_groups _ i k _
      | refine (skip_group _ _ i k _ _ _ (by decide)).trans ?_

theorem out8_C (h0 : ¬t.val % 8 = 0) (h1 : t.val % 8 = 7) (i k : Fin 128) : ∀ g : Fin 8,
    (outsAt0 m c t.val t.isLt).2.1 (ix3 g i k)
      = ((outsAt0 m c (t.val - 1) (by omega)).2.1 (ix3 g i k) + (((input m c).block (bq t 0)).dw g i k : EReal) + (((input m c).block (bq t 1)).dw g i k : EReal)
        + (((input m c).block (bq t 2)).dw g i k : EReal) + (((input m c).block (bq t 3)).dw g i k : EReal)) * iblk m c 4 t (ix2 i k) := by
  have X := tile m c hI t
  rw [outsAt0_C m c t h0 h1]
  frame_out
  refine groups _ ⟨?_, ?_, ?_, ?_, ?_, ?_, ?_, ?_⟩
  all_goals beta_reduce
  all_goals
    repeat refine (skip_group _ _ i k _ _ _ (by decide)).trans ?_
    refine mask_step _ _ i k _ _ _ (by rfl) _ _ shapeCasts_S1x128x128_S128x128 shapeCasts_S128x128_S1x128x128 shapeCasts_S128x128_S128x128 _ ?_
    repeat refine (skip_group _ _ i k _ _ _ (by decide)).trans ?_
    refine acc_step _ _ i k X _ 3 _ _ _ (by rfl) (by rfl) (by rfl) _ _ (by decide) (by decide) shapeCasts_S1x128x128_S128x128 shapeCasts_S128x128_S1x128x128 _ ?_
    repeat refine (skip_group _ _ i k _ _ _ (by decide)).trans ?_
    refine acc_step _ _ i k X _ 2 _ _ _ (by rfl) (by rfl) (by rfl) _ _ (by decide) (by decide) shapeCasts_S1x128x128_S128x128 shapeCasts_S128x128_S1x128x128 _ ?_
    repeat refine (skip_group _ _ i k _ _ _ (by decide)).trans ?_
    refine acc_step _ _ i k X _ 1 _ _ _ (by rfl) (by rfl) (by rfl) _ _ (by decide) (by decide) shapeCasts_S1x128x128_S128x128 shapeCasts_S128x128_S1x128x128 _ ?_
    repeat refine (skip_group _ _ i k _ _ _ (by decide)).trans ?_
    exact first_step _ _ i k X _ 0 _ _ _ (by rfl) (by rfl) (by rfl) _ _ (by decide) (by decide) shapeCasts_S1x128x128_S128x128 shapeCasts_S128x128_S1x128x128

omit hI in
/-- Four blocks' rows added to the carried sums. -/
theorem scr_of (gu : FVec Ideal S512x1024 .bf16) (d : FVec Ideal S512x1024 .f32) (p : FVec Ideal S128x1024 .f32) (f : Fin 4 → Fin 128 → Fin 1024 → ℝ)
    (hd : ∀ q i l, k0_pay71 gu d (ix2 (tr q i) l) = (f q i l : EReal)) (i : Fin 128) (l : Fin 1024) :
    k0_pay153 (k0_pay71 gu d) (k0_pay126 (k0_pay71 gu d) (k0_pay99 (k0_pay71 gu d) (k0_pay73 gu d p))) (ix2 i l) = p (ix2 i l) + ((∑ q, f q i l : ℝ) : EReal) := by
  rw [← four]
  simp only [← hd]
  unfold k0_pay153 k0_pay126 k0_pay99 k0_pay73
  pointwise [tr]

theorem scr_first (h0 : t.val % 8 = 0) (i : Fin 128) (l : Fin 1024) :
    (outsAt0 m c t.val t.isLt).2.2.2.2.2 (ix2 i l) = ((∑ q, ((input m c).block (bq t q)).dmix i l : ℝ) : EReal) := by
  rw [outsAt0_A m c t h0 (by omega)]
  frame_out
  unfold k0_pay181
  rw [shapeCast_self]
  refine (scr_of _ _ _ _ (dmix_at m c hI t) i l).trans ?_
  unfold k0_pay23
  pointwise [Consts.cZero]
  rw [EReal.coe_zero, zero_add]

theorem scr_next (h0 : ¬t.val % 8 = 0) (i : Fin 128) (l : Fin 1024) :
    (outsAt0 m c t.val t.isLt).2.2.2.2.2 (ix2 i l)
      = (outsAt0 m c (t.val - 1) (by omega)).2.2.2.2.2 (ix2 i l) + ((∑ q, ((input m c).block (bq t q)).dmix i l : ℝ) : EReal) := by
  by_cases h1 : t.val % 8 = 7
  on_goal 1 => rw [outsAt0_C m c t h0 h1]
  on_goal 2 => rw [outsAt0_B m c t h0 h1]
  all_goals
    frame_out
    unfold k0_pay181
    rw [shapeCast_self]
    refine (scr_of _ _ _ _ (dmix_at m c hI t) i l).trans ?_
    rw [read_unread_whole]

section columns

variable (L : List (View.Piece (Elt Ideal) S128x8 .f32)) (g : Fin 8) (i : Fin 128)

omit hI in
theorem emb_column (o0 : ℕ) (e0 : o0 = g.val) (h) :
    (Rect.unit (s := S128x8) ![0, o0] ![128, 1] h).emb (ix2 i 0) = ix2 i g := by
  subst e0
  funext a
  match a with
  | ⟨0, _⟩ => exact Fin.ext ((ValueKit.rect_emb_unit_val _ _ _ _ _).trans (Nat.zero_add _))
  | ⟨1, _⟩ => exact Fin.ext (ValueKit.rect_emb_unit_val _ _ _ _ _)

omit hI in
/-- A column's store: the sums of its group's columns. -/
theorem store_column (o0 o2 : ℕ) (e0 : o0 = g.val) (e2 : o2 = g.val * 128) (h) (S : FVec Ideal S128x1024 .f32) (hs : Shape.Slices S128x1024 ![0, o2] S128x128) (c1) (h3) (h4) :
    View.canon (Val := Elt Ideal) (s := S128x8) (e := .f32) (⟨Rect.unit ![0, o0] ![128, 1] h,
      shapeCast S128x1 (multiReduction (F := Ideal) (φ := .f32) .add [1] S128 (extractStridedSlice S128x128 ![0, o2] S hs) 0x00000000#32 reduces_S128x128_S128 h3 h4) c1⟩ :: L) (ix2 i g)
      = (∑ k, S (ix2 i (col g k)) : EReal) := by
  rw [← emb_column g i o0 e0 h]
  refine (View.canon_cons_emb _ _ _ _).trans ?_
  subst e2
  pointwise
  rfl

omit hI in
theorem skip_column (o0 : ℕ) (h) (P : S128x1.Idx → EReal) (e0 : o0 ≠ g.val) :
    View.canon (Val := Elt Ideal) (s := S128x8) (e := .f32) (⟨Rect.unit ![0, o0] ![128, 1] h, P⟩ :: L) (ix2 i g) = View.canon L (ix2 i g) := by
  refine View.canon_cons_of_not_mem _ _ ?_
  rw [← Rect.map_emb_univ, Finset.mem_map]
  rintro ⟨x, -, hx⟩
  have h₁ := (ValueKit.rect_emb_unit_val _ _ h x 1).symm.trans (congrArg Fin.val (congrFun hx 1))
  have h₂ : o0 + (x 1).val = g.val := h₁
  have h₃ : (x 1).val < 1 := (x 1).isLt
  omega

end columns

theorem out9_C (h0 : ¬t.val % 8 = 0) (h1 : t.val % 8 = 7) (i : Fin 128) : ∀ g : Fin 8,
    (outsAt0 m c t.val t.isLt).2.2.1 (ix2 i g)
      = ∑ k, ((outsAt0 m c (t.val - 1) (by omega)).2.2.2.2.2 (ix2 i (col g k)) + ((∑ q, ((input m c).block (bq t q)).dmix i (col g k) : ℝ) : EReal)) := by
  rw [outsAt0_C m c t h0 h1]
  frame_out
  refine groups _ ⟨?_, ?_, ?_, ?_, ?_, ?_, ?_, ?_⟩
  all_goals beta_reduce
  all_goals
    repeat refine (skip_column _ _ i _ _ _ (by decide)).trans ?_
    refine (store_column _ _ i _ _ (by rfl) (by rfl) _ _ (by decide) shapeCasts_S128_S128x1 (.inl rfl) rfl).trans (Finset.sum_congr rfl fun k _ => ?_)
    refine (scr_of _ _ _ _ (dmix_at m c hI t) i _).trans ?_
    rw [read_unread_whole]

end Cert.SguValue

end
-- ==== Proof.Indices.lean ====
/- An index is known by its coordinates. -/
module

public import Idealize.ShloMosaic.Lib.Pipeline.ValueKit

@[expose] public section

namespace Cert

open Idealize.ShloMosaic

/-- An index whose coordinates are the given ones. -/
theorem ix1_eq {a : ℕ} (y : (⟨1, ![a]⟩ : Shape).Idx) (i : Fin a) (h : (y 0).val = i.val) : y = ix1 i := by
  funext d; match d with | ⟨0, _⟩ => exact Fin.ext h
theorem ix2_eq {a b : ℕ} (y : (⟨2, ![a, b]⟩ : Shape).Idx) (i : Fin a) (j : Fin b) (h : (y 0).val = i.val) (k : (y 1).val = j.val) : y = ix2 i j := by
  funext d; match d with | ⟨0, _⟩ => exact Fin.ext h | ⟨1, _⟩ => exact Fin.ext k
theorem ix3_eq {a b c : ℕ} (y : (⟨3, ![a, b, c]⟩ : Shape).Idx) (i : Fin a) (j : Fin b) (k : Fin c) (h : (y 0).val = i.val) (h1 : (y 1).val = j.val)
    (h2 : (y 2).val = k.val) : y = ix3 i j k := by
  funext d; match d with | ⟨0, _⟩ => exact Fin.ext h | ⟨1, _⟩ => exact Fin.ext h1 | ⟨2, _⟩ => exact Fin.ext h2
theorem ix4_eq {a b c e : ℕ} (y : (⟨4, ![a, b, c, e]⟩ : Shape).Idx) (i : Fin a) (j : Fin b) (k : Fin c) (l : Fin e) (h : (y 0).val = i.val) (h1 : (y 1).val = j.val)
    (h2 : (y 2).val = k.val) (h3 : (y 3).val = l.val) : y = ix4 i j k l := by
  funext d; match d with | ⟨0, _⟩ => exact Fin.ext h | ⟨1, _⟩ => exact Fin.ext h1 | ⟨2, _⟩ => exact Fin.ext h2 | ⟨3, _⟩ => exact Fin.ext h3

end Cert

end
-- ==== Proof.SguReferenceNorm.lean ====
/- The spatial gating unit's reference up to its normalised, gated inputs. -/
module

public import proofs.«01_k».proof.Proof.SguMask
public import proofs.«01_k».proof.Proof.Indices

@[expose] public section

noncomputable section

namespace Cert.SguRef

open Cert.SguReferenceIdeal Cert.SguReferenceIdeal.Read Idealize.ShloMosaic Cert.Reals Cert.Sgu

variable (I : In) (hI : I.Fin)

/-- Row `n`'s entries of its block. -/
abbrev uR (n : Fin 4096) (l : Fin 1024) : ℝ := (I.block (blk n)).u (pos n) l
abbrev vR (n : Fin 4096) (l : Fin 1024) : ℝ := (I.block (blk n)).v (pos n) l
abbrev dR (n : Fin 4096) (l : Fin 1024) : ℝ := (I.block (blk n)).d (pos n) l
abbrev gR (n : Fin 4096) (l : Fin 1024) : ℝ := (I.block (blk n)).gv (pos n) l

include hI

theorem v1_at (n : Fin 4096) (l : Fin 1024) : val_main_v1 (F := Ideal) I.p (ix2 n l) = (uR I n l : EReal) := by
  have e : uR I n l = (I.p (ix2 n (colU l))).toReal := by
    show (I.p (ix2 (row (blk n) (pos n)) (colU l))).toReal = _
    rw [row_blk]
  rw [e, ← hI.u, val_main_v1_apply, val_main_v0_apply]
  refine congrArg I.p ?_
  funext a; match a with | ⟨0, _⟩ => apply Fin.ext; show _ = n.val; simp | ⟨1, _⟩ => apply Fin.ext; show _ = 2560 + l.val; simp [Nat.add_comm]

theorem v2_at (n : Fin 4096) (l : Fin 1024) : val_main_v2 (F := Ideal) I.p (ix2 n l) = (vR I n l : EReal) := by
  have e : vR I n l = (I.p (ix2 n (colV l))).toReal := by
    show (I.p (ix2 (row (blk n) (pos n)) (colV l))).toReal = _
    rw [row_blk]
  rw [e, ← hI.v, val_main_v2_apply, val_main_v0_apply]
  refine congrArg I.p ?_
  funext a; match a with | ⟨0, _⟩ => apply Fin.ext; show _ = n.val; simp | ⟨1, _⟩ => apply Fin.ext; show _ = 3584 + l.val; simp [Nat.add_comm]

omit hI in
theorem inner (x : ℝ) : x + Consts.geluA * (x * x * x) = x + Consts.geluA * (x * x) * x := by ring

/-- gelu's inner tanh. -/
theorem v13_at (n : Fin 4096) (l : Fin 1024) : val_main_v13 (F := Ideal) I.p (ix2 n l)
    = (Real.tanh (Consts.geluC * (uR I n l + Consts.geluA * (uR I n l * uR I n l) * uR I n l)) : EReal) := by
  simp only [val_main_v13_apply, val_main_v12_apply, val_main_v11_apply, val_main_cst_1_apply, val_main_v10_apply, val_main_v9_apply, val_main_v8_apply,
    val_main_cst_0_apply, val_main_v4_apply, val_main_v3_apply, v1_at I hI]
  pointwise [Consts.cGeluA, Consts.cGeluC]
  simp only [← EReal.coe_mul, ← EReal.coe_add, Ideal.tanh_coe, inner]

theorem v34_at (n : Fin 4096) (l : Fin 1024) : val_main_v34 (F := Ideal) I.p (ix2 n l)
    = (Real.tanh (Consts.geluC * (vR I n l + Consts.geluA * (vR I n l * vR I n l) * vR I n l)) : EReal) := by
  simp only [val_main_v34_apply, val_main_v33_apply, val_main_v32_apply, val_main_cst_8_apply, val_main_v31_apply, val_main_v30_apply, val_main_v29_apply,
    val_main_cst_7_apply, val_main_v25_apply, val_main_v24_apply, v2_at I hI]
  pointwise [Consts.cGeluA, Consts.cGeluC]
  simp only [← EReal.coe_mul, ← EReal.coe_add, Ideal.tanh_coe, inner]

theorem v22_at (n : Fin 4096) (l : Fin 1024) : val_main_v22 (F := Ideal) I.p (ix2 n l)
    = ((1 / 2 * (1 + Real.tanh (Consts.geluC * (uR I n l + Consts.geluA * (uR I n l * uR I n l) * uR I n l))) : ℝ) : EReal) := by
  simp only [val_main_v22_apply, val_main_v21_apply, val_main_cst_5_apply, val_main_v20_apply, val_main_v19_apply, val_main_cst_4_apply, v13_at I hI]
  pointwise [Consts.cHalf, Consts.cOne]
  simp only [← EReal.coe_mul, ← EReal.coe_add]

theorem v43_at (n : Fin 4096) (l : Fin 1024) : val_main_v43 (F := Ideal) I.p (ix2 n l)
    = ((1 / 2 * (1 + Real.tanh (Consts.geluC * (vR I n l + Consts.geluA * (vR I n l * vR I n l) * vR I n l))) : ℝ) : EReal) := by
  simp only [val_main_v43_apply, val_main_v42_apply, val_main_cst_12_apply, val_main_v41_apply, val_main_v40_apply, val_main_cst_11_apply, v34_at I hI]
  pointwise [Consts.cHalf, Consts.cOne]
  simp only [← EReal.coe_mul, ← EReal.coe_add]

theorem v23_at (n : Fin 4096) (l : Fin 1024) : val_main_v23 (F := Ideal) I.p (ix2 n l) = (gelu (uR I n l) : EReal) := by
  rw [val_main_v23_apply, v1_at I hI, v22_at I hI]
  refine (EReal.coe_mul _ _).symm.trans ?_
  unfold gelu
  congr 1; ring

theorem v44_at (n : Fin 4096) (l : Fin 1024) : val_main_v44 (F := Ideal) I.p (ix2 n l) = (gR I n l : EReal) := by
  rw [val_main_v44_apply, v2_at I hI, v43_at I hI]
  refine (EReal.coe_mul _ _).symm.trans ?_
  unfold gR Args.gv gelu
  congr 1; ring

/-- gelu's gradient, with a cotangent `c`. -/
theorem dgelu_u (n : Fin 4096) (l : Fin 1024) (c : ℝ) (h : val_main_v92 (F := Ideal) I.p I.ws I.bs I.g I.b I.dy (ix2 n l) = (c : EReal)) :
    val_main_v159 (F := Ideal) I.p I.ws I.bs I.g I.b I.dy (ix2 n l) = ((c * dgelu (uR I n l) : ℝ) : EReal) := by
  simp only [val_main_v159_apply, val_main_v158_apply, val_main_v157_apply, val_main_v156_apply, val_main_v155_apply, val_main_v154_apply, val_main_v153_apply,
    val_main_v152_apply, val_main_v151_apply, val_main_v150_apply, val_main_v149_apply, val_main_v148_apply, val_main_cst_36_apply, val_main_cst_35_apply, val_main_cst_34_apply,
    val_main_v18_apply, val_main_v17_apply, val_main_v16_apply, val_main_v15_apply, val_main_v14_apply, val_main_cst_2_apply, val_main_cst_3_apply,
    val_main_v7_apply, val_main_v6_apply, val_main_v5_apply, val_main_cst_apply, h, v22_at I hI, v13_at I hI, v1_at I hI]
  pointwise [Consts.cGeluA, Consts.cGeluC, Consts.cHalf, Consts.cOne, Consts.cThree]
  simp only [← EReal.coe_mul, ← EReal.coe_add, ← EReal.coe_sub]
  unfold dgelu
  congr 1; ring

theorem dgelu_v (n : Fin 4096) (l : Fin 1024) (c : ℝ) (h : val_main_v135 (F := Ideal) I.p I.ws I.g I.dy (ix2 n l) = (c : EReal)) :
    val_main_v147 (F := Ideal) I.p I.ws I.g I.dy (ix2 n l) = ((c * dgelu (vR I n l) : ℝ) : EReal) := by
  simp only [val_main_v147_apply, val_main_v146_apply, val_main_v145_apply, val_main_v144_apply, val_main_v143_apply, val_main_v142_apply, val_main_v141_apply,
    val_main_v140_apply, val_main_v139_apply, val_main_v138_apply, val_main_v137_apply, val_main_v136_apply, val_main_cst_33_apply, val_main_cst_32_apply, val_main_cst_31_apply,
    val_main_v39_apply, val_main_v38_apply, val_main_v37_apply, val_main_v36_apply, val_main_v35_apply, val_main_cst_9_apply, val_main_cst_10_apply,
    val_main_v28_apply, val_main_v27_apply, val_main_v26_apply, val_main_cst_6_apply, h, v43_at I hI, v34_at I hI, v2_at I hI]
  pointwise [Consts.cGeluA, Consts.cGeluC, Consts.cHalf, Consts.cOne, Consts.cThree]
  simp only [← EReal.coe_mul, ← EReal.coe_add, ← EReal.coe_sub]
  unfold dgelu
  congr 1; ring

/-- The layer norm's row. -/
theorem v50_at (n : Fin 4096) (l : Fin 1024) : val_main_v50 (F := Ideal) I.p (ix2 n l) = (cen (gR I n) l : EReal) := by
  simp only [val_main_v50_apply, val_main_v49_apply, val_main_v48_apply, val_main_v47_apply, val_main_v46_apply, val_main_v45_apply, val_main_cst_13_apply, val_main_cst_14_apply]
  pointwise [Consts.c1024]
  have e : ∀ k, val_main_v44 (F := Ideal) I.p (idx_main_v45 (idx_main_v46 (idx_main_v49 (ix2 n l))) k) = (gR I n k : EReal) := fun k => (congrArg _ (ix2_eq _ n k rfl rfl)).trans (v44_at I hI n k)
  simp only [e, v44_at I hI, sum_coe, div_real _ _ (by norm_num : (1024 : ℝ) ≠ 0), ← EReal.coe_sub]
  rfl

theorem v57_at (n : Fin 4096) : val_main_v57 (F := Ideal) I.p (ix2 n 0) = (var (gR I n) : EReal) := by
  simp only [val_main_v57_apply, val_main_v56_apply, val_main_v55_apply, val_main_v54_apply, val_main_v53_apply, val_main_v52_apply, val_main_v51_apply,
    val_main_cst_15_apply, val_main_cst_16_apply, val_main_cst_17_apply]
  pointwise [Consts.c1024, Consts.eps_eq]
  have e : ∀ k, val_main_v50 (F := Ideal) I.p (idx_main_v52 (idx_main_v53 (ix2 n 0)) k) = (cen (gR I n) k : EReal) := fun k => (congrArg _ (ix2_eq _ n k rfl rfl)).trans (v50_at I hI n k)
  simp only [e, ← EReal.coe_mul, sum_coe, div_real _ _ (by norm_num : (1024 : ℝ) ≠ 0), ← EReal.coe_add]
  rfl

theorem v58_at (n : Fin 4096) : val_main_v58 (F := Ideal) I.p (ix2 n 0) = (rstd (gR I n) : EReal) := by
  rw [val_main_v58_apply, v57_at I hI]
  exact rsqrt_real _ (var_pos _)

theorem v61_at (n : Fin 4096) : val_main_v61 (F := Ideal) I.p (ix2 n 0) = ((-(1 / 2) * (rstd (gR I n) / var (gR I n)) : ℝ) : EReal) := by
  simp only [val_main_v61_apply, val_main_v60_apply, val_main_v59_apply, val_main_cst_18_apply, v57_at I hI, v58_at I hI]
  pointwise [Consts.cNegHalf]
  rw [div_real _ _ (var_pos _).ne', ← EReal.coe_mul]

theorem v63_at (n : Fin 4096) (l : Fin 1024) : val_main_v63 (F := Ideal) I.p (ix2 n l) = (nh (gR I n) l : EReal) := by
  have e : val_main_v62 (F := Ideal) I.p (ix2 n l) = (rstd (gR I n) : EReal) := (val_main_v62_apply _ _).trans ((congrArg _ (ix2_eq _ n 0 rfl rfl)).trans (v58_at I hI n))
  rw [val_main_v63_apply, v50_at I hI, e]
  exact (EReal.coe_mul _ _).symm

theorem v69_at (n : Fin 4096) (l : Fin 1024) : val_main_v69 (F := Ideal) I.p I.g I.b (ix2 n l) = ((I.block (blk n)).vn (pos n) l : EReal) := by
  have eg : val_main_v65 (F := Ideal) I.g (ix2 n l) = ((I.block (blk n)).g l : EReal) := by
    refine Eq.trans ?_ (hI.g (ix1 l)); simp only [val_main_v65_apply, val_main_v64_apply]; refine congrArg I.g ?_; funext a; match a with | ⟨0, _⟩ => rfl
  have eb : val_main_v68 (F := Ideal) I.b (ix2 n l) = ((I.block (blk n)).b l : EReal) := by
    refine Eq.trans ?_ (hI.b (ix1 l)); simp only [val_main_v68_apply, val_main_v67_apply]; refine congrArg I.b ?_; funext a; match a with | ⟨0, _⟩ => rfl
  rw [val_main_v69_apply, val_main_v66_apply, eg, eb, v63_at I hI]
  unfold Args.vn
  rw [EReal.coe_add, EReal.coe_mul]
  rfl

end Cert.SguRef

end
-- ==== Proof.SguReferenceMix.lean ====
/- The spatial gating unit's reference: the tokens mixed, and the mixing's gradients. -/
module

public import proofs.«01_k».proof.Proof.SguReferenceNorm

@[expose] public section

noncomputable section

namespace Cert.SguRef

open Cert.SguReferenceIdeal Cert.SguReferenceIdeal.Read Idealize.ShloMosaic Cert.Reals Cert.Sgu

/-- A sum over the first and the last of four axes. -/
theorem sum_outer {n0 n1 n2 n3 : ℕ} (h : (⟨4, ![n0, n1, n2, n3]⟩ : Shape).ReducesTo [0, 3] ⟨2, ![n1, n2]⟩) (x : (⟨4, ![n0, n1, n2, n3]⟩ : Shape).Idx → EReal)
    (z : EReal) (i : Fin n1) (g : Fin n2) : Ideal.hostReduceAdd h x z (ix2 i g) = z + ∑ a : Fin n0, ∑ k : Fin n3, x (ix4 a i g k) := by
  refine congrArg (z + ·) ?_
  refine (Finset.sum_filter_eq_sum_of_fiber _ (fun k : Fin n0 × Fin n3 => ix4 k.1 i g k.2)
    (fun _ _ e => Prod.ext (congrFun e 0) (congrFun e 3)) (fun y => ?_) x).trans ?_
  · constructor
    · intro e
      refine ⟨(y 0, y 3), (ix4_eq y _ _ _ _ rfl ?_ ?_ rfl).symm⟩
      · exact congrArg Fin.val (congrFun e 0)
      · exact congrArg Fin.val (congrFun e 1)
    · rintro ⟨k, rfl⟩
      exact ix2_eq _ _ _ rfl rfl
  · simp only [Fintype.sum_prod_type]

variable (I : In) (hI : I.Fin)
include hI

theorem w_at (g : Fin 8) (i j : Fin 128) (q : Fin 32) : val_main_v81 (F := Ideal) I.ws (ix3 g i j) = ((I.block q).w g i j : EReal) := by
  have e : val_main_v80 (F := Ideal) (ix3 g i j) = (mask i j : EReal) := by
    rw [val_main_v80_apply, val_main_v79_apply]
    exact (congrArg _ (ix2_eq _ i j rfl rfl)).trans (SguValue.mask_at i j)
  rw [val_main_v81_apply, e, hI.ws]
  exact (EReal.coe_mul _ _).symm

theorem vn_at (q : Fin 32) (i : Fin 128) (g : Fin 8) (k : Fin 128) : val_main_v70 (F := Ideal) I.p I.g I.b (ix4 q i g k) = ((I.block q).vn i (col g k) : EReal) := by
  rw [val_main_v70_apply]
  refine (congrArg _ (ix2_eq _ (row q i) (col g k) ?_ ?_)).trans ((v69_at I hI _ _).trans (by rw [blk_row, pos_row]))
  · show (((q.val * 128 + i.val) * 8 + g.val) * 128 + k.val) / 1024 = q.val * 128 + i.val; omega
  · show (((q.val * 128 + i.val) * 8 + g.val) * 128 + k.val) % 1024 = g.val * 128 + k.val; omega

theorem mixed_at (q : Fin 32) (i : Fin 128) (g : Fin 8) (k : Fin 128) :
    val_main_v87 (F := Ideal) I.p I.ws I.bs I.g I.b (ix4 q i g k) = ((I.block q).mixed i (col g k) : EReal) := by
  have eb : val_main_v86 (F := Ideal) I.bs (ix4 q i g k) = ((I.block q).bs g i : EReal) := by
    rw [val_main_v86_apply, val_main_v85_apply, val_main_v84_apply]
    exact (congrArg _ (ix2_eq _ g i rfl rfl)).trans (hI.bs _)
  have em : val_main_v83 (F := Ideal) I.p I.ws I.g I.b (ix4 q i g k) = ((∑ n, (I.block q).w g i n * (I.block q).vn n (col g k) : ℝ) : EReal) := by
    rw [val_main_v83_apply, val_main_v82_apply, ← sum_coe]
    refine Finset.sum_congr rfl fun n _ => ?_
    rw [EReal.coe_mul, mul_comm]
    refine congrArg₂ _ ?_ ?_
    · exact (congrArg _ (ix3_eq _ g i n rfl rfl rfl)).trans (w_at I hI g i n q)
    · exact (congrArg _ (ix4_eq _ q n g k rfl rfl rfl rfl)).trans (vn_at I hI q n g k)
  rw [val_main_v87_apply, eb, em]
  refine (EReal.coe_add _ _).symm.trans ?_
  unfold Args.mixed
  rw [grp_col]

theorem v88_at (n : Fin 4096) (l : Fin 1024) : val_main_v88 (F := Ideal) I.p I.ws I.bs I.g I.b (ix2 n l) = ((I.block (blk n)).mixed (pos n) l : EReal) := by
  rw [val_main_v88_apply]
  refine (congrArg _ (ix4_eq _ (blk n) (pos n) (grp l) (lane l) ?_ ?_ ?_ ?_)).trans ((mixed_at I hI _ _ _ _).trans (by rw [col_grp]))
  · show (n.val * 1024 + l.val) / 131072 = n.val / 128; omega
  · show (n.val * 1024 + l.val) / 1024 % 128 = n.val % 128; omega
  · show (n.val * 1024 + l.val) / 128 % 8 = l.val / 128; omega
  · show (n.val * 1024 + l.val) % 128 = l.val % 128; omega

theorem v90_at (n : Fin 4096) (l : Fin 1024) : val_main_v90 (F := Ideal) I.dy (ix2 n l) = (dR I n l : EReal) := by
  rw [val_main_v90_apply]
  refine (hI.dy _).trans ?_
  show _ = ((I.dy (ix2 (row (blk n) (pos n)) l)).toReal : EReal)
  rw [row_blk]

theorem v92_at (n : Fin 4096) (l : Fin 1024) :
    val_main_v92 (F := Ideal) I.p I.ws I.bs I.g I.b I.dy (ix2 n l) = ((dR I n l * (I.block (blk n)).mixed (pos n) l : ℝ) : EReal) := by
  rw [val_main_v92_apply, v90_at I hI, v88_at I hI]
  exact (EReal.coe_mul _ _).symm

/-- The gradient in u. -/
theorem v159_at (n : Fin 4096) (l : Fin 1024) : val_main_v159 (F := Ideal) I.p I.ws I.bs I.g I.b I.dy (ix2 n l) = (I.du n l : EReal) :=
  dgelu_u I hI n l _ (v92_at I hI n l)

theorem v91_at (n : Fin 4096) (l : Fin 1024) : val_main_v91 (F := Ideal) I.p I.dy (ix2 n l) = ((I.block (blk n)).dmix (pos n) l : EReal) := by
  rw [val_main_v91_apply, v23_at I hI, v90_at I hI]
  refine (EReal.coe_mul _ _).symm.trans ?_
  rw [mul_comm]
  rfl

theorem dmix_at (q : Fin 32) (i : Fin 128) (g : Fin 8) (k : Fin 128) : val_main_v93 (F := Ideal) I.p I.dy (ix4 q i g k) = ((I.block q).dmix i (col g k) : EReal) := by
  rw [val_main_v93_apply]
  refine (congrArg _ (ix2_eq _ (row q i) (col g k) ?_ ?_)).trans ((v91_at I hI _ _).trans (by rw [blk_row, pos_row]))
  · show (((q.val * 128 + i.val) * 8 + g.val) * 128 + k.val) / 1024 = q.val * 128 + i.val; omega
  · show (((q.val * 128 + i.val) * 8 + g.val) * 128 + k.val) % 1024 = g.val * 128 + k.val; omega

theorem dmix_at' (q : Fin 32) (i : Fin 128) (g : Fin 8) (k : Fin 128) : val_main_v98 (F := Ideal) I.p I.dy (ix4 g q k i) = ((I.block q).dmix i (col g k) : EReal) := by
  rw [val_main_v98_apply]
  exact (congrArg _ (ix4_eq _ q i g k rfl rfl rfl rfl)).trans (dmix_at I hI q i g k)

/-- The gradient in the mixing's input. -/
theorem v104_at (n : Fin 4096) (l : Fin 1024) : val_main_v104 (F := Ideal) I.p I.ws I.dy (ix2 n l) = ((I.block (blk n)).dvn (pos n) l : EReal) := by
  rw [val_main_v104_apply]
  refine (congrArg _ (ix4_eq _ (blk n) (pos n) (grp l) (lane l) ?_ ?_ ?_ ?_)).trans ?_
  · show (n.val * 1024 + l.val) / 131072 = n.val / 128; omega
  · show (n.val * 1024 + l.val) / 1024 % 128 = n.val % 128; omega
  · show (n.val * 1024 + l.val) / 128 % 8 = l.val / 128; omega
  · show (n.val * 1024 + l.val) % 128 = l.val % 128; omega
  rw [val_main_v101_apply, val_main_v100_apply]
  unfold Args.dvn
  rw [← sum_coe]
  refine Finset.sum_congr rfl fun k _ => ?_
  rw [EReal.coe_mul, mul_comm]
  refine congrArg₂ _ ?_ ?_
  · exact (congrArg _ (ix3_eq _ (grp l) k (pos n) rfl rfl rfl)).trans (w_at I hI _ _ _ _)
  · exact (congrArg _ (ix4_eq _ (grp l) (blk n) (lane l) k rfl rfl rfl rfl)).trans ((dmix_at' I hI _ _ _ _).trans (by rw [col_grp]))

/-- The gradient in the weights. -/
theorem v103_at (g : Fin 8) (i j : Fin 128) : val_main_v103 (F := Ideal) I.p I.g I.b I.dy (ix3 g i j) = (I.dw g i j : EReal) := by
  have e : val_main_v102 (F := Ideal) (ix3 g i j) = (mask i j : EReal) := by
    rw [val_main_v102_apply, val_main_v79_apply]
    exact (congrArg _ (ix2_eq _ i j rfl rfl)).trans (SguValue.mask_at i j)
  have d : val_main_v99 (F := Ideal) I.p I.g I.b I.dy (ix3 g i j) = ((∑ q, (I.block q).dw g i j : ℝ) : EReal) := by
    unfold val_main_v99
    pointwise [dmix_at' I hI, vn_at I hI]
    simp only [← EReal.coe_mul, sum_coe]
    rfl
  rw [val_main_v103_apply, e, d]
  exact (EReal.coe_mul _ _).symm

/-- The gradient in the mixing's bias. -/
theorem v162_at (i : Fin 128) (g : Fin 8) : val_main_v162 (F := Ideal) I.p I.dy (ix2 i g) = (I.dbs i g : EReal) := by
  have e : val_main_v94 (F := Ideal) I.p I.dy (ix2 i g) = (I.dbs i g : EReal) := by
    unfold val_main_v94
    rw [ValueIdx.hostReduceAdd_apply, sum_outer, val_main_cst_19_apply]
    pointwise [dmix_at I hI]
    simp only [sum_coe]
    rfl
  have e' : val_main_v96 (F := Ideal) I.p I.dy (ix2 i g) = (I.dbs i g : EReal) := by
    unfold val_main_v96
    rw [ValueIdx.hostReduceAdd_apply, sum_outer, val_main_cst_20_apply]
    pointwise
    rw [Fin.sum_univ_one, Fin.sum_univ_one, val_main_v95_apply]
    refine (congrArg _ (ix2_eq _ i g ?_ ?_)).trans e
    · show (((0 * 128 + i.val) * 8 + g.val) * 1 + 0) / 8 = i.val; omega
    · show (((0 * 128 + i.val) * 8 + g.val) * 1 + 0) % 8 = g.val; omega
  rw [val_main_v162_apply, val_main_v97_apply]
  exact (congrArg _ (ix2_eq _ i g rfl rfl)).trans e'

end Cert.SguRef

end
-- ==== Proof.SguReferenceGrad.lean ====
/- The spatial gating unit's reference: the layer norm's gradients, and its five results. -/
module

public import proofs.«01_k».proof.Proof.SguReferenceMix

@[expose] public section

noncomputable section

namespace Cert.SguRef

open Cert.SguReferenceIdeal Cert.SguReferenceIdeal.Read Idealize.ShloMosaic Cert.Reals Cert.Sgu

/-- The layer norm's gradient as it is differentiated: through the reciprocal root of the variance, the variance, the centring. -/
theorem lnGrad_eq (d x : Fin 1024 → ℝ) (l : Fin 1024) :
    lnGrad d x l = (d l * rstd x + cen x l * ((∑ k, cen x k * d k) * (-(1 / 2) * (rstd x / var x)) / 1024)
        + (∑ k, cen x k * d k) * (-(1 / 2) * (rstd x / var x)) / 1024 * cen x l)
      + (∑ k, -(d k * rstd x + cen x k * ((∑ k, cen x k * d k) * (-(1 / 2) * (rstd x / var x)) / 1024)
        + (∑ k, cen x k * d k) * (-(1 / 2) * (rstd x / var x)) / 1024 * cen x k)) / 1024 := by
  have hr : rstd x / var x = rstd x * (rstd x * rstd x) := by
    unfold rstd
    rw [← mul_inv, Real.mul_self_sqrt (var_pos x).le]
    rfl
  have hc : ∑ k, cen x k = 0 := by
    unfold cen mean
    rw [Finset.sum_sub_distrib, Finset.sum_const, Finset.card_univ, Fintype.card_fin]
    simp only [nsmul_eq_mul]
    push_cast
    ring
  have hs : ∑ k, -(d k * rstd x + cen x k * ((∑ k, cen x k * d k) * (-(1 / 2) * (rstd x / var x)) / 1024)
        + (∑ k, cen x k * d k) * (-(1 / 2) * (rstd x / var x)) / 1024 * cen x k) = -(rstd x * ∑ k, d k) := by
    generalize (∑ k, cen x k * d k) * (-(1 / 2) * (rstd x / var x)) / 1024 = z
    have : ∀ k, -(d k * rstd x + cen x k * z + z * cen x k) = -(rstd x * d k) - 2 * z * cen x k := fun k => by ring
    simp only [this]
    rw [Finset.sum_sub_distrib, ← Finset.mul_sum, hc, Finset.sum_neg_distrib, ← Finset.mul_sum]
    ring
  rw [hs, hr]
  unfold lnGrad
  have hn : ∑ k, d k * nh x k = rstd x * ∑ k, cen x k * d k := by
    rw [Finset.mul_sum]
    exact Finset.sum_congr rfl fun k _ => by unfold nh; ring
  unfold mean
  rw [hn]
  unfold nh
  ring

/-- A sum over all rows is a sum over the blocks and their rows. -/
theorem sum_rows (f : Fin 4096 → EReal) : ∑ n, f n = ∑ q : Fin 32, ∑ i : Fin 128, f (row q i) := (Fin.sum_mul_add_fin (S := 32) (n := 128) f).symm

variable (I : In) (hI : I.Fin)
include hI

/-- The gradient in the norm's shift. -/
theorem v164_at (l : Fin 1024) : val_main_v164 (F := Ideal) I.p I.ws I.dy (ix2 0 l) = (I.db l : EReal) := by
  rw [val_main_v164_apply, val_main_v107_apply, val_main_cst_22_apply]
  pointwise
  rw [Fin.sum_univ_one, val_main_v106_apply, val_main_v105_apply, val_main_cst_21_apply]
  pointwise
  rw [sum_rows]
  unfold In.db
  simp only [← sum_coe]
  refine Finset.sum_congr rfl fun q _ => ?_
  unfold Args.db
  simp only [← sum_coe]
  refine Finset.sum_congr rfl fun i _ => ?_
  refine (congrArg _ (ix2_eq _ (row q i) l rfl ?_)).trans ((v104_at I hI _ _).trans (by rw [blk_row, pos_row]))
  show _ = l.val
  simp

/-- The gradient in the norm's gain. -/
theorem v163_at (l : Fin 1024) : val_main_v163 (F := Ideal) I.p I.ws I.dy (ix2 0 l) = (I.dg l : EReal) := by
  rw [val_main_v163_apply, val_main_v113_apply, val_main_cst_24_apply]
  pointwise
  rw [Fin.sum_univ_one, val_main_v110_apply, val_main_v109_apply, val_main_cst_23_apply]
  pointwise
  rw [sum_rows]
  unfold In.dg
  simp only [← sum_coe]
  refine Finset.sum_congr rfl fun q _ => ?_
  unfold Args.dg
  simp only [← sum_coe]
  refine Finset.sum_congr rfl fun i _ => ?_
  refine (congrArg _ (ix2_eq _ (row q i) l rfl ?_)).trans ?_
  · show _ = l.val
    simp
  rw [val_main_v108_apply, v63_at I hI, v104_at I hI]
  refine (EReal.coe_mul _ _).symm.trans ?_
  unfold gR
  rw [mul_comm, blk_row, pos_row]

theorem v112_at (n : Fin 4096) (l : Fin 1024) :
    val_main_v112 (F := Ideal) I.p I.ws I.g I.dy (ix2 n l) = (((I.block (blk n)).dvn (pos n) l * (I.block (blk n)).g l : ℝ) : EReal) := by
  have eg : val_main_v111 (F := Ideal) I.g (ix2 n l) = ((I.block (blk n)).g l : EReal) := by
    refine Eq.trans ?_ (hI.g (ix1 l)); simp only [val_main_v111_apply, val_main_v64_apply]; refine congrArg I.g ?_; funext a; match a with | ⟨0, _⟩ => rfl
  rw [val_main_v112_apply, v104_at I hI, eg]
  exact (EReal.coe_mul _ _).symm

/-- The cotangent of the normalised row. -/
abbrev dR' (n : Fin 4096) (l : Fin 1024) : ℝ := (I.block (blk n)).dvn (pos n) l * (I.block (blk n)).g l

theorem v123_at (n : Fin 4096) (l : Fin 1024) : val_main_v123 (F := Ideal) I.p I.ws I.g I.dy (ix2 n l)
    = (((∑ k, cen (gR I n) k * dR' I n k) * (-(1 / 2) * (rstd (gR I n) / var (gR I n))) / 1024 : ℝ) : EReal) := by
  have e : val_main_v116 (F := Ideal) I.p I.ws I.g I.dy (ix2 n 0) = ((∑ k, cen (gR I n) k * dR' I n k : ℝ) : EReal) := by
    rw [val_main_v116_apply, val_main_v115_apply, val_main_cst_25_apply]
    pointwise
    rw [← sum_coe]
    refine Finset.sum_congr rfl fun k _ => ?_
    refine (congrArg _ (ix2_eq _ n k ?_ rfl)).trans ?_
    · show _ = n.val
      simp
    rw [val_main_v114_apply, v50_at I hI, v112_at I hI]
    exact (EReal.coe_mul _ _).symm
  have e' : val_main_v121 (F := Ideal) I.p I.ws I.g I.dy (ix2 n 0)
      = (((∑ k, cen (gR I n) k * dR' I n k) * (-(1 / 2) * (rstd (gR I n) / var (gR I n))) / 1024 : ℝ) : EReal) := by
    simp only [val_main_v121_apply, val_main_v120_apply, val_main_cst_26_apply, val_main_v119_apply, e, v61_at I hI]
    pointwise [Consts.c1024]
    rw [← EReal.coe_mul, div_real _ _ (by norm_num)]
  rw [val_main_v123_apply, val_main_v122_apply, val_main_cst_27_apply]
  pointwise
  rw [Fin.sum_univ_one]
  exact (congrArg _ (ix2_eq _ n 0 rfl rfl)).trans e'

theorem v127_at (n : Fin 4096) (l : Fin 1024) : val_main_v127 (F := Ideal) I.p I.ws I.g I.dy (ix2 n l)
    = ((dR' I n l * rstd (gR I n) + cen (gR I n) l * ((∑ k, cen (gR I n) k * dR' I n k) * (-(1 / 2) * (rstd (gR I n) / var (gR I n))) / 1024)
        + (∑ k, cen (gR I n) k * dR' I n k) * (-(1 / 2) * (rstd (gR I n) / var (gR I n))) / 1024 * cen (gR I n) l : ℝ) : EReal) := by
  have e : val_main_v117 (F := Ideal) I.p (ix2 n l) = (rstd (gR I n) : EReal) := (val_main_v117_apply _ _).trans ((congrArg _ (ix2_eq _ n 0 rfl rfl)).trans (v58_at I hI n))
  simp only [val_main_v127_apply, val_main_v126_apply, val_main_v125_apply, val_main_v124_apply, val_main_v118_apply, v123_at I hI, v50_at I hI, v112_at I hI, e]
  pointwise
  simp only [← EReal.coe_mul, ← EReal.coe_add]

theorem v135_at (n : Fin 4096) (l : Fin 1024) : val_main_v135 (F := Ideal) I.p I.ws I.g I.dy (ix2 n l) = (lnGrad (dR' I n) (gR I n) l : EReal) := by
  rw [lnGrad_eq]
  have e : val_main_v130 (F := Ideal) I.p I.ws I.g I.dy (ix2 n 0) = ((∑ l, -(dR' I n l * rstd (gR I n) + cen (gR I n) l * ((∑ k, cen (gR I n) k * dR' I n k) * (-(1 / 2) * (rstd (gR I n) / var (gR I n))) / 1024)
        + (∑ k, cen (gR I n) k * dR' I n k) * (-(1 / 2) * (rstd (gR I n) / var (gR I n))) / 1024 * cen (gR I n) l) : ℝ) : EReal) := by
    rw [val_main_v130_apply, val_main_v129_apply, val_main_cst_28_apply]
    pointwise
    rw [← sum_coe]
    refine Finset.sum_congr rfl fun k _ => ?_
    refine (congrArg _ (ix2_eq _ n k ?_ rfl)).trans ?_
    · show _ = n.val
      simp
    rw [val_main_v128_apply, v127_at I hI]
    exact (EReal.coe_neg _).symm
  rw [val_main_v135_apply, v127_at I hI, val_main_v134_apply, val_main_v133_apply, val_main_cst_30_apply]
  pointwise
  rw [Fin.sum_univ_one, val_main_v132_apply, val_main_v131_apply, val_main_cst_29_apply]
  pointwise [Consts.c1024]
  rw [(congrArg _ (ix2_eq _ n 0 rfl rfl)).trans e, div_real _ _ (by norm_num), ← EReal.coe_add]

/-- The gradient in v. -/
theorem v147_at (n : Fin 4096) (l : Fin 1024) : val_main_v147 (F := Ideal) I.p I.ws I.g I.dy (ix2 n l) = (I.dv n l : EReal) :=
  dgelu_v I hI n l _ (v135_at I hI n l)

/-- The gradients in u and v, side by side. -/
theorem v161_u (n : Fin 4096) (l : Fin 1024) : val_main_v161 (F := Ideal) I.p I.ws I.bs I.g I.b I.dy (ix2 n ⟨l.val, by omega⟩) = (I.du n l : EReal) := by
  rw [val_main_v161_apply, ← v159_at I hI n l]
  unfold val_main_v160
  pointwise
theorem v161_v (n : Fin 4096) (l : Fin 1024) : val_main_v161 (F := Ideal) I.p I.ws I.bs I.g I.b I.dy (ix2 n ⟨1024 + l.val, by omega⟩) = (I.dv n l : EReal) := by
  rw [val_main_v161_apply, ← v147_at I hI n l]
  unfold val_main_v160
  pointwise

end Cert.SguRef

end
-- ==== Proof.SguKernelValue.lean ====
/- What the spatial gating unit's backward kernel leaves in its five results: the reference's values. -/
module

public import proofs.«01_k».proof.Proof.SguAcc
public import proofs.«01_k».proof.Proof.SguReferenceGrad

@[expose] public section

noncomputable section

namespace Cert.SguValue

open Cert.SguKernelIdeal Cert.SguKernelIdeal.Gen Idealize.ShloMosaic Idealize.ShloMosaic.TcCoe Cert.Reals Cert.Sgu
open Cert.SguReferenceIdeal.Read (val_main_v161 val_main_v103 val_main_v162 val_main_v163 val_main_v164)
open Cert.SguRef (v161_u v161_v v103_at v162_at v163_at v164_at)

/-- A value set at the first point and added to at the others but the last: with the last point's addend it is the sum over the points. -/
theorem sum_points (f : (n : ℕ) → n < cfg0.N → EReal) (s : Fin cfg0.N → ℝ) (first : ∀ t : Fin cfg0.N, t.val % 8 = 0 → f t.val t.isLt = (s t : EReal))
    (next : ∀ t : Fin cfg0.N, ¬t.val % 8 = 0 → ¬t.val % 8 = 7 → f t.val t.isLt = f (t.val - 1) (by omega) + (s t : EReal))
    (t : Fin cfg0.N) (h : t.val % 8 = 7) : f (t.val - 1) (by omega) + (s t : EReal) = ((∑ p, s p : ℝ) : EReal) := by
  have hN : cfg0.N = 8 := N_0
  let S : ℕ → ℝ := fun n => if hn : n < cfg0.N then s ⟨n, hn⟩ else 0
  have hS : ∀ n (hn : n < cfg0.N), S n = s ⟨n, hn⟩ := fun n hn => dif_pos hn
  have P : ∀ n (hn : n < cfg0.N), n < 7 → f n hn = ((∑ k ∈ Finset.range (n + 1), S k : ℝ) : EReal) := by
    intro n
    induction n with
    | zero => intro hn _; rw [first ⟨0, hn⟩ rfl, Finset.sum_range_one, hS 0 hn]
    | succ n ih =>
      intro hn h7
      rw [next ⟨n + 1, hn⟩ (by show ¬(n + 1) % 8 = 0; omega) (by show ¬(n + 1) % 8 = 7; omega), Finset.sum_range_succ, EReal.coe_add, hS (n + 1) hn]
      exact congrArg (· + _) (ih (by omega) (by omega))
  obtain ⟨n, hn⟩ := t
  obtain rfl : n = 7 := by have h : n % 8 = 7 := h; omega
  have e : ∑ p, s p = ∑ k ∈ Finset.range 8, S k := by
    rw [← hN, Finset.sum_range]
    exact Finset.sum_congr rfl fun p _ => (hS p.val p.isLt).symm
  rw [e, Finset.sum_range_succ, EReal.coe_add, hS 7 hn]
  exact congrArg (· + _) (P 6 (by omega) (by omega))

/-- A sum over the points' blocks is the sum over all blocks. -/
theorem sum_blocks (f : Fin 32 → ℝ) : ∑ p : Fin cfg0.N, ∑ q : Fin 4, f (bq p q) = ∑ q, f q :=
  Fin.sum_mul_add_fin (S := cfg0.N) (n := 4) f

variable (m : (ℓ : Loc nD τ sig) → Buf (Elt Ideal) ℓ) (c : Dev nD) (hI : (input m c).Fin) (t : Fin cfg0.N)
include hI

theorem out8 (h : t.val % 8 = 7) (g : Fin 8) (i k : Fin 128) : (outsAt0 m c t.val t.isLt).2.1 (ix3 g i k) = ((input m c).dw g i k : EReal) := by
  rw [out8_C m c hI t (by omega) h i k g, blkM]
  unfold In.dw
  rw [EReal.coe_mul]
  refine congrArg (· * _) ?_
  have four' : ∀ (p : Fin cfg0.N) (x : EReal), x + (((input m c).block (bq p 0)).dw g i k : EReal) + (((input m c).block (bq p 1)).dw g i k : EReal)
      + (((input m c).block (bq p 2)).dw g i k : EReal) + (((input m c).block (bq p 3)).dw g i k : EReal)
      = x + ((∑ q, ((input m c).block (bq p q)).dw g i k : ℝ) : EReal) := fun p x => four x fun q => ((input m c).block (bq p q)).dw g i k
  rw [four', sum_points (fun n hn => (outsAt0 m c n hn).2.1 (ix3 g i k)) (fun p => ∑ q, ((input m c).block (bq p q)).dw g i k) (fun p h0 => ?_) (fun p h0 h7 => ?_) t h]
  · exact congrArg _ (sum_blocks fun q => ((input m c).block q).dw g i k)
  · beta_reduce; rw [out8_A m c hI p h0 i k g, four', EReal.coe_zero, zero_add]
  · beta_reduce; rw [out8_B m c hI p h0 h7 i k g, four']

theorem out9 (h : t.val % 8 = 7) (i : Fin 128) (g : Fin 8) : (outsAt0 m c t.val t.isLt).2.2.1 (ix2 i g) = ((input m c).dbs i g : EReal) := by
  rw [out9_C m c hI t (by omega) h i g]
  have e : ∀ l, (outsAt0 m c (t.val - 1) (by omega)).2.2.2.2.2 (ix2 i l) + ((∑ q, ((input m c).block (bq t q)).dmix i l : ℝ) : EReal)
      = ((∑ q, ((input m c).block q).dmix i l : ℝ) : EReal) := fun l => by
    rw [sum_points (fun n hn => (outsAt0 m c n hn).2.2.2.2.2 (ix2 i l)) (fun p => ∑ q, ((input m c).block (bq p q)).dmix i l) (fun p h0 => scr_first m c hI p h0 i l)
      (fun p h0 _ => scr_next m c hI p h0 i l) t h]
    exact congrArg _ (sum_blocks fun q => ((input m c).block q).dmix i l)
  rw [Finset.sum_congr rfl fun k _ => e (col g k), sum_coe, Finset.sum_comm]
  rfl

theorem out10 (h : t.val % 8 = 7) (l : Fin 1024) : (outsAt0 m c t.val t.isLt).2.2.2.1 (ix2 0 l) = ((input m c).dg l : EReal) := by
  rw [out10_next m c hI t (by omega) l, sum_points (fun n hn => (outsAt0 m c n hn).2.2.2.1 (ix2 0 l)) (fun p => ∑ q, ((input m c).block (bq p q)).dg l)
    (fun p h0 => out10_first m c hI p h0 l) (fun p h0 _ => out10_next m c hI p h0 l) t h]
  exact congrArg _ (sum_blocks fun q => ((input m c).block q).dg l)

theorem out11 (h : t.val % 8 = 7) (l : Fin 1024) : (outsAt0 m c t.val t.isLt).2.2.2.2.1 (ix2 0 l) = ((input m c).db l : EReal) := by
  rw [out11_next m c hI t (by omega) l, sum_points (fun n hn => (outsAt0 m c n hn).2.2.2.2.1 (ix2 0 l)) (fun p => ∑ q, ((input m c).block (bq p q)).db l)
    (fun p h0 => out11_first m c hI p h0 l) (fun p h0 _ => out11_next m c hI p h0 l) t h]
  exact congrArg _ (sum_blocks fun q => ((input m c).block q).db l)

omit hI in
theorem idx7 : ∀ t : Fin cfg0.N, win0_7.index t = ![t.val, 0] := (by decide +kernel : ∀ t : Fin grid0.N, _)
omit hI in
theorem idx8 : ∀ t : Fin cfg0.N, win0_8.index t = ![0, 0, 0] := (by decide +kernel : ∀ t : Fin grid0.N, _)
omit hI in
theorem idx9 : ∀ t : Fin cfg0.N, win0_9.index t = ![0, 0] := (by decide +kernel : ∀ t : Fin grid0.N, _)
omit hI in
theorem idx10 : ∀ t : Fin cfg0.N, win0_10.index t = ![0, 0] := (by decide +kernel : ∀ t : Fin grid0.N, _)
omit hI in
theorem idx11 : ∀ t : Fin cfg0.N, win0_11.index t = ![0, 0] := (by decide +kernel : ∀ t : Fin grid0.N, _)

/-- The gradients in u and v. -/
theorem final7 : (dats m 0 c).arrAt 7 cfg0.N
    = val_main_v161 (F := Ideal) (input m c).p (input m c).ws (input m c).bs (input m c).g (input m c).b (input m c).dy := by
  refine (dats m 0 c).arrAt_eq_of_covers 7 _ (by decide +kernel) fun t hf y => ?_
  blk_simp
  rw [after0_7]
  obtain ⟨r, l, rfl⟩ : ∃ (r : Fin 512) (l : Fin 2048), y = ix2 r l := ⟨y 0, y 1, (ValueIdx.eq_ix2 y)⟩
  have e : (win0_7.blk t).view.emb (ix2 r l) = ix2 (row (bq t (br r)) (ln r)) l := by blk_ext [idx7 t, row, bq, br, ln]
  rw [e]
  by_cases h : l.val < 1024
  · have h1 := out7_u m c hI t (br r) (ln r) ⟨l.val, h⟩
    have h2 := v161_u (input m c) hI (row (bq t (br r)) (ln r)) ⟨l.val, h⟩
    rw [tr_br] at h1
    refine h1.trans (Eq.trans ?_ h2.symm)
    unfold In.du
    rw [blk_row, pos_row]
  · have h1 := out7_v m c hI t (br r) (ln r) ⟨l.val - 1024, by omega⟩
    have h2 := v161_v (input m c) hI (row (bq t (br r)) (ln r)) ⟨l.val - 1024, by omega⟩
    have el : (⟨1024 + (l.val - 1024), by omega⟩ : Fin 2048) = l := Fin.ext (by show 1024 + (l.val - 1024) = l.val; omega)
    simp only [el] at h1 h2
    rw [tr_br] at h1
    refine h1.trans (Eq.trans ?_ h2.symm)
    unfold In.dv
    rw [blk_row, pos_row]

/-- The gradient in the weights. -/
theorem final8 : (dats m 0 c).arrAt 8 cfg0.N = val_main_v103 (F := Ideal) (input m c).p (input m c).g (input m c).b (input m c).dy := by
  refine (dats m 0 c).arrAt_eq_of_covers 8 _ (by decide +kernel) fun t hf y => ?_
  blk_simp
  rw [after0_8]
  obtain ⟨g, i, k, rfl⟩ : ∃ (g : Fin 8) (i k : Fin 128), y = ix3 g i k := ⟨y 0, y 1, y 2, (ValueIdx.eq_ix3 y)⟩
  have e : (win0_8.blk t).view.emb (ix3 g i k) = ix3 g i k := by blk_ext [idx8 t]
  rw [e, out8 m c hI t ((flush0_8 t).mp hf), v103_at (input m c) hI]

/-- The gradient in the mixing's bias. -/
theorem final9 : (dats m 0 c).arrAt 9 cfg0.N = val_main_v162 (F := Ideal) (input m c).p (input m c).dy := by
  refine (dats m 0 c).arrAt_eq_of_covers 9 _ (by decide +kernel) fun t hf y => ?_
  blk_simp
  rw [after0_9]
  obtain ⟨r, l, rfl⟩ : ∃ (r : Fin 128) (l : Fin 8), y = ix2 r l := ⟨y 0, y 1, (ValueIdx.eq_ix2 y)⟩
  have e : (win0_9.blk t).view.emb (ix2 r l) = ix2 r l := by blk_ext [idx9 t]
  rw [e, out9 m c hI t ((flush0_9 t).mp hf), v162_at (input m c) hI]

/-- The gradient in the norm's gain. -/
theorem final10 : (dats m 0 c).arrAt 10 cfg0.N = val_main_v163 (F := Ideal) (input m c).p (input m c).ws (input m c).dy := by
  refine (dats m 0 c).arrAt_eq_of_covers 10 _ (by decide +kernel) fun t hf y => ?_
  blk_simp
  rw [after0_10]
  obtain ⟨r, l, rfl⟩ : ∃ (r : Fin 1) (l : Fin 1024), y = ix2 r l := ⟨y 0, y 1, (ValueIdx.eq_ix2 y)⟩
  obtain rfl : r = 0 := Subsingleton.elim _ _
  have e : (win0_10.blk t).view.emb (ix2 (0 : Fin 1) l) = ix2 0 l := by blk_ext [idx10 t]
  rw [e, out10 m c hI t ((flush0_10 t).mp hf), v163_at (input m c) hI]

/-- The gradient in the norm's shift. -/
theorem final11 : (dats m 0 c).arrAt 11 cfg0.N = val_main_v164 (F := Ideal) (input m c).p (input m c).ws (input m c).dy := by
  refine (dats m 0 c).arrAt_eq_of_covers 11 _ (by decide +kernel) fun t hf y => ?_
  blk_simp
  rw [after0_11]
  obtain ⟨r, l, rfl⟩ : ∃ (r : Fin 1) (l : Fin 1024), y = ix2 r l := ⟨y 0, y 1, (ValueIdx.eq_ix2 y)⟩
  obtain rfl : r = 0 := Subsingleton.elim _ _
  have e : (win0_11.blk t).view.emb (ix2 (0 : Fin 1) l) = ix2 0 l := by blk_ext [idx11 t]
  rw [e, out11 m c hI t ((flush0_11 t).mp hf), v164_at (input m c) hI]

end Cert.SguValue

end
-- ==== Proof.SguClaims.lean ====
/- The claims about the spatial gating unit's backward kernel: its frame at both readings, the reference's frame, and the
   equation of the five results. -/
module

public import proofs.«01_k».proof.Defs
public import proofs.«01_k».proof.Proof.Gen.SguKernel.Frame
public import proofs.«01_k».proof.Proof.SguKernelValue

@[expose] public section

noncomputable section

namespace Cert.SguClaims

open Idealize.ShloMosaic Idealize.SL.Sem Cert.Reals Cert.Sgu

/-- The kernel runs, keeps its arguments and leaves no signal pending: at bit patterns, and at extended reals. -/
theorem frame_k : Cert.quiescent_SguKernel := fun m ρ _ => Cert.SguKernel.Gen.frame m ρ
theorem frame_ki : Cert.quiescent_SguKernelIdeal := fun m ρ _ => Cert.SguKernelIdeal.Gen.frame m ρ

/-- The reference runs, keeps its arguments and leaves no signal pending. -/
theorem frame_r : Cert.quiescent_SguReferenceIdeal := fun m ρ _ =>
  (θ_run Cert.SguReferenceIdeal.defs _ _).mono
    (fun r h => ⟨fun c => (h c).2.2.2.2.2, sem_eq_zero_of_no_sems (by decide) r.2⟩)
    (Cert.SguReferenceIdeal.Value.run (F := Ideal) m ρ)

instance pre_facts : Cert.Pre_sgu_finite.Facts where
  bitsLt_bf16_f32 := by decide
  slices_S4096x6656_S4096x2048_0_2560 := by decide
  bcast_S_S4096x2048 := by decide
  bcast_S_S8x128x128 := by decide
  bcast_S_S8x128 := by decide
  bcast_S_S1024 := by decide
  bcast_S_S4096x1024 := by decide

theorem lt_top {x : EReal} (h : FloatOps.cmpf (F := Ideal) (φ := .f32) .olt (FloatOps.hostAbsf (F := Ideal) (φ := .f32) x) (FloatOps.ofBits .f32 0x7F800000#32) = 1#1) : x = (x.toReal : EReal) := by
  have e : FloatOps.ofBits (F := Ideal) .f32 0x7F800000#32 = (⊤ : EReal) := Consts.cInf
  rw [e] at h
  have h' : BitVec.ofBool (decide (max x (-x) < ⊤)) = 1#1 := h
  refine eq_coe (of_not_not fun hn => ?_)
  rw [decide_eq_false hn] at h'
  exact absurd h' (by decide)

open Cert.Pre_sgu_finite in
/-- What the precondition says of the arguments. -/
theorem finite (I : In) (h : (fn (F := Ideal) I.p I.ws I.bs I.g I.b I.dy).1 = (fun _ => 1#1)
    ∧ (fn (F := Ideal) I.p I.ws I.bs I.g I.b I.dy).2.1 = (fun _ => 1#1)
    ∧ (fn (F := Ideal) I.p I.ws I.bs I.g I.b I.dy).2.2.1 = (fun _ => 1#1)
    ∧ (fn (F := Ideal) I.p I.ws I.bs I.g I.b I.dy).2.2.2.1 = (fun _ => 1#1)
    ∧ (fn (F := Ideal) I.p I.ws I.bs I.g I.b I.dy).2.2.2.2.1 = (fun _ => 1#1)
    ∧ (fn (F := Ideal) I.p I.ws I.bs I.g I.b I.dy).2.2.2.2.2 = (fun _ => 1#1)) : I.Fin := by
  obtain ⟨hp, hw, hb, hg, hlb, hd⟩ := h
  have hp' : ∀ n (l : Fin 2048), I.p (ix2 n ⟨2560 + l.val, by omega⟩) = ((I.p (ix2 n ⟨2560 + l.val, by omega⟩)).toReal : EReal) := fun n l => by
    have e := congrFun hp (ix2 n l)
    unfold fn fn_part1 at e
    pointwise at e
    exact lt_top e
  exact
    { u := fun n l => hp' n ⟨l.val, by omega⟩
      v := fun n l => by
        have e := hp' n ⟨1024 + l.val, by omega⟩
        have el : (⟨2560 + (1024 + l.val), by omega⟩ : Fin 6656) = colV l := Fin.ext (by show 2560 + (1024 + l.val) = 3584 + l.val; omega)
        simp only [el] at e
        exact e
      ws := fun i => lt_top (congrFun hw i)
      bs := fun i => lt_top (congrFun hb i)
      g := fun i => lt_top (congrFun hg i)
      b := fun i => lt_top (congrFun hlb i)
      dy := fun i => lt_top (congrFun hd i) }

/-- The frames hold under the precondition, too. -/
theorem frame_ki_finite : Cert.quiescent_SguKernelIdeal_pre_sgu_finite := fun m ρ _ => Cert.SguKernelIdeal.Gen.frame m ρ
theorem frame_r_finite : Cert.quiescent_SguReferenceIdeal_pre_sgu_finite := fun m ρ _ => frame_r m ρ trivial

/-- The constants of gelu are named for the reals they stand for. -/
theorem preserves : Cert.preserves_SguKernel_SguKernelIdeal :=
  ⟨IdealRules.named_const.statement _ _ _ _ _ (h := rfl), IdealRules.named_const.statement _ _ _ _ _ (h := rfl), IdealRules.named_const.statement _ _ _ _ _ (h := rfl)⟩

open Cert.SguReferenceIdeal.Read in
/-- On finite, agreeing arguments the kernel's five result arrays are the reference's. -/
theorem algebraic : Cert.algebraic_SguKernelIdeal_SguReferenceIdeal_pre_sgu_finite := by
  intro m g m' g' hpre hagree
  refine ⟨_, _, _, _, _, Cert.SguKernelIdeal.Value.run_blocks m g, ?_⟩
  refine (θ_run Cert.SguReferenceIdeal.defs _ _).mono (fun _ h c => ?_)
    (Cert.SguReferenceIdeal.Value.run (F := Ideal) m' g')
  have hI := finite (SguValue.input m c) (hpre c)
  obtain ⟨h0, h1, h2, h3, h4, h5⟩ := hagree c
  have e0 : StableHlo.launchContents m' c (Proc.devRef .tc Cert.SguReferenceIdeal.main_arg0) = (SguValue.input m c).p := h0
  have e1 : StableHlo.launchContents m' c (Proc.devRef .tc Cert.SguReferenceIdeal.main_arg1) = (SguValue.input m c).ws := h1
  have e2 : StableHlo.launchContents m' c (Proc.devRef .tc Cert.SguReferenceIdeal.main_arg2) = (SguValue.input m c).bs := h2
  have e3 : StableHlo.launchContents m' c (Proc.devRef .tc Cert.SguReferenceIdeal.main_arg3) = (SguValue.input m c).g := h3
  have e4 : StableHlo.launchContents m' c (Proc.devRef .tc Cert.SguReferenceIdeal.main_arg4) = (SguValue.input m c).b := h4
  have e5 : StableHlo.launchContents m' c (Proc.devRef .tc Cert.SguReferenceIdeal.main_arg5) = (SguValue.input m c).dy := h5
  refine ⟨(h c).1.trans ?_, (h c).2.1.trans ?_, (h c).2.2.1.trans ?_, (h c).2.2.2.1.trans ?_, (h c).2.2.2.2.1.trans ?_, (h c).2.2.2.2.2⟩
  · rw [val_main_v161_eq, e0, e1, e2, e3, e4, e5]
    exact (SguValue.final7 m c hI).symm
  · rw [val_main_v103_eq, e0, e3, e4, e5]
    exact (SguValue.final8 m c hI).symm
  · rw [val_main_v162_eq, e0, e5]
    exact (SguValue.final9 m c hI).symm
  · rw [val_main_v163_eq, e0, e1, e5]
    exact (SguValue.final10 m c hI).symm
  · rw [val_main_v164_eq, e0, e1, e5]
    exact (SguValue.final11 m c hI).symm

end Cert.SguClaims

end
-- ==== Proof.NormRow.lean ====
/- The gradient of the root-mean-square norm of one row of 1024 entries, from the row's scaled cotangents. -/
module

public import proofs.«01_k».proof.Proof.LossRow

@[expose] public section

noncomputable section

namespace Cert.NormRow

open Idealize.ShloMosaic

/-- The gradient in an entry of the row `X`, where `D k` is the cotangent of normed entry `k` times its gain. -/
def dx (X D : Fin 1024 → EReal) (l : Fin 1024) : EReal :=
  LossRow.rs X * (D l - X l * LossRow.rs X * Ideal.div (∑ k, D k * (X k * LossRow.rs X)) ((1024 : ℝ) : EReal))

/-- What differentiating the scale leaves of the row. -/
def tail (X D : Fin 1024 → EReal) : EReal :=
  Ideal.div ((∑ k, X k * D k) * (((-(1 / 2) : ℝ) : EReal) * Ideal.div (LossRow.rs X) (LossRow.den X))) ((1024 : ℝ) : EReal)

/-- The gradient in an entry as differentiating the forward row writes it, added to another cotangent of the entry. -/
theorem add_dx (b : EReal) (X D : Fin 1024 → EReal) (l : Fin 1024) :
    b + dx X D l = b + D l * LossRow.rs X + X l * tail X D + tail X D * X l := by
  rw [dx, RowNorm.row_grad (LossRow.sum_sq_nonneg X) (D l) (X l) D X (v := LossRow.den X) (r := LossRow.rs X) rfl rfl, ← add_assoc, ← add_assoc]
  rfl

end Cert.NormRow

end
-- ==== Proof.InprojSpec.lean ====
/- The gradient through the input projection on one row: the projection's cotangent is the three branches' cotangents one
   after another, and the normed row's is its product with the weights. -/
module

public import proofs.«01_k».proof.Proof.NormRow
public import Idealize.ShloMosaic.Lib.Pipeline.ValueKit

@[expose] public section

noncomputable section

namespace Cert.InprojSpec

open Idealize.ShloMosaic
open scoped BigOperators

/-- Three rows one after another. -/
def cat (A : Fin 2560 → EReal) (B C : Fin 2048 → EReal) (j : Fin 6656) : EReal :=
  if h : j.val < 2560 then A ⟨j.val, h⟩
  else if h' : j.val < 4608 then B ⟨j.val - 2560, by omega⟩
  else C ⟨j.val - 4608, by omega⟩

/-- The cotangent of an entry of the normed row. -/
def dh (P : Fin 6656 → EReal) (W : Fin 1024 → Fin 6656 → EReal) (k : Fin 1024) : EReal := ∑ j, P j * W k j

/-- Column `j` of quarter `q`. -/
def col (q : Fin 4) (j : Fin 1664) : Fin 6656 := ⟨q.val * 1664 + j.val, by omega⟩

/-- The product, quarter by quarter. -/
theorem dh_eq (P : Fin 6656 → EReal) (W : Fin 1024 → Fin 6656 → EReal) (k : Fin 1024) : dh P W k
    = (∑ j, P (col 0 j) * W k (col 0 j)) + (∑ j, P (col 1 j) * W k (col 1 j)) + (∑ j, P (col 2 j) * W k (col 2 j))
      + ∑ j, P (col 3 j) * W k (col 3 j) := by
  rw [dh, ← Fin.sum_univ_four (fun q => ∑ j, P (col q j) * W k (col q j))]
  exact (Fin.sum_mul_add_fin (S := 4) (n := 1664) fun j => P j * W k j).symm

end Cert.InprojSpec

end
-- ==== Proof.InprojReferenceValue.lean ====
/- What the input projection's reference gradient computes, row by row. -/
module

public import proofs.«01_k».proof.Proof.Gen.InprojReferenceIdeal.Read
public import proofs.«01_k».proof.Proof.InprojSpec
public import proofs.«01_k».proof.Proof.LossReferenceValue
public import proofs.«01_k».proof.Proof.Indices

@[expose] public section

noncomputable section

namespace Cert.InprojRef

open Cert.InprojReferenceIdeal Cert.InprojReferenceIdeal.Read Idealize.ShloMosaic Cert.LossRef
open scoped BigOperators

variable (a : S4096x2560.Idx → EReal) (b c : S4096x2048.Idx → EReal) (e x : S4096x1024.Idx → EReal) (g : S1024.Idx → EReal)
  (w : S1024x6656.Idx → EReal)

/-- Row `n` of the projection's cotangent. -/
def pr (n : Fin 4096) : Fin 6656 → EReal := InprojSpec.cat (fun j => a (ix2 n j)) (fun j => b (ix2 n j)) (fun j => c (ix2 n j))
/-- The weights. -/
def wt (k : Fin 1024) (j : Fin 6656) : EReal := w (ix2 k j)
/-- Row `n`'s normed cotangent, scaled by the gain. -/
def dg (n : Fin 4096) (k : Fin 1024) : EReal := InprojSpec.dh (pr a b c n) (wt w) k * gain g k

theorem v6_at (i : S4096x1.Idx) : val_main_v6 (F := Ideal) x i = LossRow.den (row x (i 0)) := by
  simp only [val_main_v6_apply, val_main_v5_apply, val_main_cst_1_apply, val_main_v4_apply, val_main_v3_apply, val_main_cst_0_apply,
    val_main_v2_apply, val_main_v1_apply, val_main_cst_apply, val_main_v0_apply]
  pointwise [Consts.c1024, Consts.eps_eq, at_row x]
  rfl

theorem v7_at (i : S4096x1.Idx) : val_main_v7 (F := Ideal) x i = LossRow.rs (row x (i 0)) := by
  simp only [val_main_v7_apply, v6_at]; rfl

theorem v12_at (i : S4096x1024.Idx) : val_main_v12 (F := Ideal) x i = row x (i 0) (i 1) * LossRow.rs (row x (i 0)) := by
  simp only [val_main_v12_apply, val_main_v11_apply, v7_at, at_row x]; rfl

theorem v23_at (n : Fin 4096) (j : Fin 6656) : val_main_v23 (F := Ideal) a b c (ix2 n j) = pr a b c n j := by
  unfold val_main_v23 val_main_v20 val_main_v21 val_main_v22
  pointwise
  unfold pr InprojSpec.cat
  by_cases h : j.val < 2560
  · simp only [h, ↓reduceDIte]
  · by_cases h' : j.val < 4608
    · have h2 : j.val - 2560 < 2048 := by omega
      simp only [h, h2, h', ↓reduceDIte]
    · have h2 : ¬j.val - 2560 < 2048 := by omega
      simp only [h, h2, h', ↓reduceDIte, Nat.sub_sub]

theorem v24_at (n : Fin 4096) (k : Fin 1024) :
    val_main_v24 (F := Ideal) a b c w (ix2 n k) = InprojSpec.dh (pr a b c n) (wt w) k := by
  unfold val_main_v24
  pointwise [v23_at]
  rfl

theorem v29_at (n : Fin 4096) (k : Fin 1024) : val_main_v29 (F := Ideal) a b c g w (ix2 n k) = dg a b c g w n k := by
  simp only [val_main_v29_apply, val_main_v28_apply, val_main_v13_apply, v24_at, at_gain g]; rfl

theorem v39_at (n : Fin 4096) (q : Fin 1) :
    val_main_v39 (F := Ideal) a b c x g w (ix2 n q) = NormRow.tail (row x n) (dg a b c g w n) := by
  simp only [val_main_v39_apply, val_main_v38_apply, val_main_v37_apply, val_main_v33_apply, val_main_v32_apply, val_main_v31_apply,
    val_main_v10_apply, val_main_v9_apply, val_main_v8_apply, v6_at, v7_at, val_main_cst_2_apply, val_main_cst_5_apply,
    val_main_cst_6_apply]
  pointwise [Consts.c1024, Consts.cNegHalf]
  unfold NormRow.tail
  congr 2
  exact Finset.sum_congr rfl fun k _ => congrArg₂ (· * ·) (congrArg x (ix2_eq _ n k (by simp) rfl))
    ((congrArg _ (ix2_eq _ n k (by simp) rfl)).trans (v29_at a b c g w n k))

/-- The gradient in the activations. -/
theorem dx_at (n : Fin 4096) (l : Fin 1024) : val_main_v45 (F := Ideal) a b c e x g w (ix2 n l)
    = e (ix2 n l) + NormRow.dx (row x n) (dg a b c g w n) l := by
  refine Eq.trans ?_ (NormRow.add_dx _ _ _ _).symm
  simp only [val_main_v45_apply, val_main_v44_apply, val_main_v43_apply, val_main_v42_apply, val_main_v41_apply, val_main_v40_apply,
    val_main_v36_apply, val_main_v35_apply, val_main_v34_apply, v29_at, v7_at, val_main_cst_7_apply]
  pointwise
  rw [Fin.sum_univ_one]
  have h : val_main_v39 (F := Ideal) a b c x g w (idx_main_v40 (idx_main_v41 (ix2 n l)) 0) = NormRow.tail (row x n) (dg a b c g w n) :=
    (congrArg _ (ix2_eq _ n 0 rfl rfl)).trans (v39_at a b c x g w n 0)
  rw [h]
  rfl

/-- The projection's cotangent. -/
theorem dproj_at (n : Fin 4096) (j : Fin 6656) : val_main_v46 (F := Ideal) a b c (ix2 n j) = pr a b c n j := by
  rw [val_main_v46_apply]; exact v23_at a b c n j

/-- The gradient in the gain. -/
theorem dg_at (q : Fin 1) (l : Fin 1024) : val_main_v47 (F := Ideal) a b c x w (ix2 q l)
    = ∑ n : Fin 4096, InprojSpec.dh (pr a b c n) (wt w) l * (row x n l * LossRow.rs (row x n)) := by
  simp only [val_main_v47_apply, val_main_v30_apply, val_main_v27_apply, val_main_v26_apply, val_main_v25_apply, v12_at,
    val_main_cst_3_apply, val_main_cst_4_apply]
  pointwise
  rw [Fin.sum_univ_one]
  refine Finset.sum_congr rfl fun n _ => ?_
  refine (mul_comm _ _).trans (congrArg₂ (· * ·) ((congrArg _ (ix2_eq _ n l rfl (by simp))).trans (v24_at a b c w n l)) ?_)
  exact congrArg (fun y : S4096x1024.Idx => row x (y 0) (y 1) * LossRow.rs (row x (y 0))) (ix2_eq _ n l rfl (by simp))

end Cert.InprojRef

end
-- ==== Proof.InprojKernelValue.lean ====
/- The arrays of the input projection's gradient. -/
module

public import proofs.«01_k».proof.Proof.Gen.InprojKernelIdeal.Value
public import proofs.«01_k».proof.Proof.InprojReferenceValue

@[expose] public section

noncomputable section

namespace Cert.InprojValue

open Cert.InprojKernelIdeal Cert.InprojKernelIdeal.Gen Idealize.ShloMosaic Idealize.ShloMosaic.TcCoe
open Idealize.ShloMosaic.Pipeline (Dat)
open scoped BigOperators

variable (m : (ℓ : Loc nD τ sig) → Buf (Elt Ideal) ℓ)

/-! ## One block of 512 rows -/

section Block

variable (a : Vec Ideal S512x2560 .bf16) (b c : Vec Ideal S512x2048 .bf16) (w0 w1 w2 w3 : Vec Ideal S1x1x1024x1664 .bf16)
  (x e : Vec Ideal S512x1024 .f32) (g : Vec Ideal S1x1024 .f32)

/-- A row of the block's projection cotangent. -/
def brow (r : Fin 512) : Fin 6656 → EReal := InprojSpec.cat (fun j => a (ix2 r j)) (fun j => b (ix2 r j)) (fun j => c (ix2 r j))

theorem pay7 (r : Fin 512) (j : Fin 6656) : k0_pay7 a b c (ix2 r j) = brow a b c r j := by
  unfold k0_pay7
  pointwise
  unfold brow InprojSpec.cat
  by_cases h : j.val < 2560
  · simp only [h, ↓reduceDIte]
  · by_cases h' : j.val < 4608
    · have h2 : j.val - 2560 < 2048 := by omega
      simp only [h, h2, h', ↓reduceDIte]
    · have h2 : ¬j.val - 2560 < 2048 := by omega
      simp only [h, h2, h', ↓reduceDIte, Nat.sub_sub]

/-- The four quarters' products make the product with the weights `W` that they hold. -/
theorem pay1 (W : Fin 1024 → Fin 6656 → EReal) (h0 : ∀ k j, w0 (ix4 0 0 k j) = W k (InprojSpec.col 0 j))
    (h1 : ∀ k j, w1 (ix4 0 0 k j) = W k (InprojSpec.col 1 j)) (h2 : ∀ k j, w2 (ix4 0 0 k j) = W k (InprojSpec.col 2 j))
    (h3 : ∀ k j, w3 (ix4 0 0 k j) = W k (InprojSpec.col 3 j)) (r : Fin 512) (k : Fin 1024) :
    k0_pay1 (k0_pay8 a b c w0 w1 w2) (k0_pay9 a b c) (k0_pay10 w3) (ix2 r k) = InprojSpec.dh (brow a b c r) W k := by
  rw [InprojSpec.dh_eq]
  unfold k0_pay1 k0_pay8 k0_pay9 k0_pay10
  pointwise [pay7, h0, h1, h2, h3]
  refine congrArg₂ (· + ·) (congrArg₂ (· + ·) (congrArg₂ (· + ·) ?_ ?_) ?_) ?_
  all_goals exact Finset.sum_congr rfl fun j _ => congrArg (· * _) (congrArg _ (Fin.ext (by simp [InprojSpec.col])))

theorem pay4 (v23 : FVec Ideal S512x1024 .f32) (v24 : FVec Ideal S512x1664 .bf16) (v26 : FVec Ideal S1024x1664 .bf16)
    (r : Fin 512) (l : Fin 1024) : k0_pay4 v23 v24 v26 x g e (ix2 r l)
    = e (ix2 r l) + NormRow.dx (fun k => x (ix2 r k)) (fun k => k0_pay1 v23 v24 v26 (ix2 r k) * g (ix2 0 k)) l := by
  generalize h : k0_pay1 v23 v24 v26 = D
  unfold k0_pay4 k0_pay3 k0_pay2
  rw [h]
  pointwise [Consts.c1024, Consts.eps_eq]
  rfl

theorem pay5 (v23 : FVec Ideal S512x1024 .f32) (v24 : FVec Ideal S512x1664 .bf16) (v26 : FVec Ideal S1024x1664 .bf16)
    (p : Vec Ideal S1x1024 .f32) (q : Fin 1) (l : Fin 1024) : k0_pay5 v23 v24 v26 x p (ix2 q l)
    = p (ix2 q l) + ∑ r : Fin 512, k0_pay1 v23 v24 v26 (ix2 r l) * (x (ix2 r l) * LossRow.rs fun k => x (ix2 r k)) := by
  generalize h : k0_pay1 v23 v24 v26 = D
  unfold k0_pay5 k0_pay3 k0_pay2
  rw [h]
  pointwise [Consts.c1024, Consts.eps_eq]
  rfl

end Block

/-! ## The blocks are blocks of the arguments -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, 0] := (by decide +kernel : ∀ t : Fin grid0.N, _)

/-- The arguments of core `c`. -/
abbrev argA (c : Dev nD) : S4096x2560.Idx → EReal := m ((c : Thread nD τ).loc main_arg0)
abbrev argB (c : Dev nD) : S4096x2048.Idx → EReal := m ((c : Thread nD τ).loc main_arg1)
abbrev argC (c : Dev nD) : S4096x2048.Idx → EReal := m ((c : Thread nD τ).loc main_arg2)
abbrev argE (c : Dev nD) : S4096x1024.Idx → EReal := m ((c : Thread nD τ).loc main_arg3)
abbrev argX (c : Dev nD) : S4096x1024.Idx → EReal := m ((c : Thread nD τ).loc main_arg4)
abbrev argG (c : Dev nD) : S1024.Idx → EReal := m ((c : Thread nD τ).loc main_arg5)
abbrev argW (c : Dev nD) : S1024x6656.Idx → EReal := m ((c : Thread nD τ).loc main_arg6)

/-- Row `n`'s share of the gain's gradient. -/
def share (c : Dev nD) (l : Fin 1024) (n : Fin 4096) : EReal :=
  InprojSpec.dh (InprojRef.pr (argA m c) (argB m c) (argC m c) n) (InprojRef.wt (argW m c)) l
    * (LossRef.row (argX m c) n l * LossRow.rs (LossRef.row (argX m c) n))

/-- Row `r` of block `t`, in the array. -/
def rowOf (t : Fin cfg0.N) (r : Fin 512) : Fin 4096 := ⟨t.val * 512 + r.val, by have := t.isLt; have h : cfg0.N = 8 := N_0; omega⟩

theorem blkP (c : Dev nD) (t : Fin cfg0.N) (r : Fin 512) : brow (iblk m c 0 t) (iblk m c 1 t) (iblk m c 2 t) r
    = InprojRef.pr (argA m c) (argB m c) (argC m c) (rowOf t r) := by
  unfold brow InprojRef.pr
  congr 1
  · funext k; blk_ext [iblk, V, idx0 t, rowOf]
  · funext k; blk_ext [iblk, V, idx1 t, rowOf]
  · funext k; blk_ext [iblk, V, idx2 t, rowOf]

theorem blkE (c : Dev nD) (t : Fin cfg0.N) (r : Fin 512) (k : Fin 1024) : iblk m c 3 t (ix2 r k) = argE m c (ix2 (rowOf t r) k) := by
  blk_ext [iblk, V, idx3 t, rowOf]

theorem blkX (c : Dev nD) (t : Fin cfg0.N) (r : Fin 512) : (fun k : Fin 1024 => iblk m c 4 t (ix2 r k)) = LossRef.row (argX m c) (rowOf t r) := by
  funext k; unfold LossRef.row; blk_ext [iblk, V, idx4 t, rowOf]

theorem blkG (c : Dev nD) (t : Fin cfg0.N) (k : Fin 1024) : iblk m c 5 t (ix2 0 k) = LossRef.gain (argG m c) k := by
  unfold LossRef.gain
  blk_ext! [iblk, V, idx5 t]

/-- The weights as the call takes them: quarter after quarter. -/
theorem V3 (c : Dev nD) : V m c main_v3 = broadcastInDim S1x4x1024x1664 ![1, 2, 3] bcast_S4x1024x1664_S1x4x1024x1664_1_2_3
    (truncf .bf16 (transpose S4x1024x1664 [1, 0, 2] (shapeCast S1024x4x1664 (argW m c) shapeCasts_S1024x6656_S1024x4x1664)
      transposes_S1024x4x1664_S4x1024x1664_1_0_2) bitsLt_bf16_f32 : FVec Ideal S4x1024x1664 .bf16) := by
  unfold V
  simp only [List.flatten_cons, List.flatten_nil, List.append_nil, hostOps0, List.cons_append, List.nil_append]
  after_results
  rfl

theorem blkW (c : Dev nD) (t : Fin cfg0.N) (q : Fin 4) (k : Fin 1024) (j : Fin 1664) :
    iblk m c 6 t (ix4 0 q k j) = InprojRef.wt (argW m c) k (InprojSpec.col q j) := by
  have e : iblk m c 6 t (ix4 0 q k j) = V m c main_v3 (ix4 0 q k j) := by blk_ext [iblk, idx6 t]
  rw [e, V3]
  pointwise
  rfl

theorem ldW (c : Dev nD) (t : Fin cfg0.N) (q : Fin 4) (inb) (k : Fin 1024) (j : Fin 1664) :
    View.ld (iblk m c 6 t) (Rect.unit ![0, q.val, 0, 0] ![1, 1, 1024, 1664] inb) (ix4 0 0 k j)
      = InprojRef.wt (argW m c) k (InprojSpec.col q j) := by
  rw [← blkW m c t]
  refine View.ld_unit_apply_of _ _ _ _ _ _ fun a => ?_
  match a with
  | ⟨0, _⟩ => rfl
  | ⟨1, _⟩ => rfl
  | ⟨2, _⟩ => exact (Nat.zero_add _).symm
  | ⟨3, _⟩ => exact (Nat.zero_add _).symm

/-- The block's product with the weights. -/
theorem dhBlk (c : Dev nD) (t : Fin cfg0.N) (h0 h1 h2 h3) (r : Fin 512) (k : Fin 1024) :
    k0_pay1 (k0_pay8 (iblk m c 0 t) (iblk m c 1 t) (iblk m c 2 t)
        (View.ld (iblk m c 6 t) (Rect.unit ![0, 0, 0, 0] ![1, 1, 1024, 1664] h0))
        (View.ld (iblk m c 6 t) (Rect.unit ![0, 1, 0, 0] ![1, 1, 1024, 1664] h1))
        (View.ld (iblk m c 6 t) (Rect.unit ![0, 2, 0, 0] ![1, 1, 1024, 1664] h2)))
      (k0_pay9 (iblk m c 0 t) (iblk m c 1 t) (iblk m c 2 t))
      (k0_pay10 (View.ld (iblk m c 6 t) (Rect.unit ![0, 3, 0, 0] ![1, 1, 1024, 1664] h3))) (ix2 r k)
    = InprojSpec.dh (InprojRef.pr (argA m c) (argB m c) (argC m c) (rowOf t r)) (InprojRef.wt (argW m c)) k := by
  rw [← blkP]
  exact pay1 _ _ _ _ _ _ _ _ (ldW m c t 0 h0) (ldW m c t 1 h1) (ldW m c t 2 h2) (ldW m c t 3 h3) r k

/-- What a point adds to its rows of the gradient. -/
theorem dxBlk (c : Dev nD) (t : Fin cfg0.N) (h0 h1 h2 h3) (r : Fin 512) (l : Fin 1024) :
    k0_pay4 (k0_pay8 (iblk m c 0 t) (iblk m c 1 t) (iblk m c 2 t)
        (View.ld (iblk m c 6 t) (Rect.unit ![0, 0, 0, 0] ![1, 1, 1024, 1664] h0))
        (View.ld (iblk m c 6 t) (Rect.unit ![0, 1, 0, 0] ![1, 1, 1024, 1664] h1))
        (View.ld (iblk m c 6 t) (Rect.unit ![0, 2, 0, 0] ![1, 1, 1024, 1664] h2)))
      (k0_pay9 (iblk m c 0 t) (iblk m c 1 t) (iblk m c 2 t))
      (k0_pay10 (View.ld (iblk m c 6 t) (Rect.unit ![0, 3, 0, 0] ![1, 1, 1024, 1664] h3)))
      (iblk m c 4 t) (iblk m c 5 t) (iblk m c 3 t) (ix2 r l)
    = InprojReferenceIdeal.Read.val_main_v45 (F := Ideal) (argA m c) (argB m c) (argC m c) (argE m c) (argX m c) (argG m c) (argW m c)
        (ix2 (rowOf t r) l) := by
  rw [pay4, blkE, blkX, InprojRef.dx_at]
  refine congrArg (argE m c _ + ·) ?_
  refine congrArg (fun D => NormRow.dx _ D l) (funext fun k => ?_)
  rw [dhBlk, blkG]
  rfl

/-- What a point adds to the gain's gradient. -/
theorem dgBlk (c : Dev nD) (t : Fin cfg0.N) (h0 h1 h2 h3) (p : Vec Ideal S1x1024 .f32) (q : Fin 1) (l : Fin 1024) :
    k0_pay5 (k0_pay8 (iblk m c 0 t) (iblk m c 1 t) (iblk m c 2 t)
        (View.ld (iblk m c 6 t) (Rect.unit ![0, 0, 0, 0] ![1, 1, 1024, 1664] h0))
        (View.ld (iblk m c 6 t) (Rect.unit ![0, 1, 0, 0] ![1, 1, 1024, 1664] h1))
        (View.ld (iblk m c 6 t) (Rect.unit ![0, 2, 0, 0] ![1, 1, 1024, 1664] h2)))
      (k0_pay9 (iblk m c 0 t) (iblk m c 1 t) (iblk m c 2 t))
      (k0_pay10 (View.ld (iblk m c 6 t) (Rect.unit ![0, 3, 0, 0] ![1, 1, 1024, 1664] h3)))
      (iblk m c 4 t) p (ix2 q l)
    = p (ix2 q l) + ∑ r : Fin 512, share m c l (rowOf t r) := by
  rw [pay5]
  refine congrArg (p _ + ·) ?_
  refine Finset.sum_congr rfl fun r _ => ?_
  rw [dhBlk, blkX m c t r, show iblk m c 4 t (ix2 r l) = _ from congrFun (blkX m c t r) l]
  rfl

/-! ## The arrays -/

/-- The gradient in the activations. -/
theorem final7 (c : Dev nD) : (dats m 0 c).arrAt 7 cfg0.N = InprojReferenceIdeal.Read.val_main_v45 (F := Ideal)
    (argA m c) (argB m c) (argC m c) (argE m c) (argX m c) (argG m c) (argW m c) := by
  refine (dats m 0 c).arrAt_eq_of_covers 7 _ (by decide +kernel) fun t hf y => ?_
  blk_simp
  rw [after0_7]
  obtain ⟨r, l, rfl⟩ : ∃ (r : Fin 512) (l : Fin 1024), y = ix2 r l := ⟨y 0, y 1, (ValueIdx.eq_ix2 y)⟩
  have e : (win0_7.blk t).view.emb (ix2 r l) = ix2 (rowOf t r) l := by blk_ext [idx7 t, rowOf]
  rw [e]
  by_cases h : t.val % 8 = 0
  · rw [outsAt0_A m c t h]; frame_out; exact dxBlk m c t _ _ _ _ r l
  · rw [outsAt0_B m c t h]; frame_out; exact dxBlk m c t _ _ _ _ r l

/-- The projection's cotangent. -/
theorem final8 (c : Dev nD) : (dats m 0 c).arrAt 8 cfg0.N = InprojReferenceIdeal.Read.val_main_v46 (F := Ideal)
    (argA m c) (argB m c) (argC m c) := by
  refine (dats m 0 c).arrAt_eq_of_covers 8 _ (by decide +kernel) fun t hf y => ?_
  blk_simp
  rw [after0_8]
  obtain ⟨r, l, rfl⟩ : ∃ (r : Fin 512) (l : Fin 6656), y = ix2 r l := ⟨y 0, y 1, (ValueIdx.eq_ix2 y)⟩
  have e : (win0_8.blk t).view.emb (ix2 r l) = ix2 (rowOf t r) l := by blk_ext [idx8 t, rowOf]
  rw [e, InprojRef.dproj_at, ← blkP, ← pay7]
  by_cases h : t.val % 8 = 0
  · rw [outsAt0_A m c t h]; frame_out
  · rw [outsAt0_B m c t h]; frame_out

theorem out9 (c : Dev nD) (t : Fin cfg0.N) (ht : t.val + 1 = cfg0.N) (l : Fin 1024) : (outsAt0 m c t.val t.isLt).2.2 (ix2 0 l)
    = ∑ p : Fin cfg0.N, ∑ r : Fin 512, share m c l (rowOf p r) := by
  rw [Pipeline.eq_sum_fin_of_reset_step_apply_last (fun n h => fun l => (outsAt0 m c n h).2.2 (ix2 0 l)) 8 (fun _ => 0)
    (fun p l => ∑ r : Fin 512, share m c l (rowOf p r))
    (fun t h j => by
      rw [outsAt0_A m c t h]; frame_out; refine (dgBlk m c t _ _ _ _ _ 0 j).trans ?_; unfold_payloads; pointwise)
    (fun t h j => by
      rw [outsAt0_B m c t h]; frame_out; exact dgBlk m c t _ _ _ _ _ 0 j)
    (le_of_eq N_0) t ht l, zero_add]

/-- The gradient in the gain. -/
theorem final9 (c : Dev nD) : (dats m 0 c).arrAt 9 cfg0.N = InprojReferenceIdeal.Read.val_main_v47 (F := Ideal)
    (argA m c) (argB m c) (argC m c) (argX m c) (argW m c) := by
  refine (dats m 0 c).arrAt_eq_of_covers 9 _ (by decide +kernel) fun t hf y => ?_
  blk_simp
  rw [after0_9]
  obtain ⟨r, l, rfl⟩ : ∃ (r : Fin 1) (l : Fin 1024), y = ix2 r l := ⟨y 0, y 1, (ValueIdx.eq_ix2 y)⟩
  obtain rfl : r = 0 := Subsingleton.elim _ _
  have hN : cfg0.N = 8 := N_0
  have hl := (flush0_9 t).mp hf
  have e : (win0_9.blk t).view.emb (ix2 (0 : Fin 1) l) = ix2 0 l := by blk_ext [idx9 t]
  rw [out9 m c t (by have := t.isLt; omega), e, InprojRef.dg_at]
  exact Fin.sum_mul_add_fin (S := cfg0.N) (n := 512) (share m c l)

end Cert.InprojValue

end
-- ==== Proof.InprojClaims.lean ====
/- The claims about the input projection's gradient: its frame at both readings, the reference's frame, and the equation
   of the three results (the gradients of the rows, of the projection and of the norm's gain). -/
module

public import proofs.«01_k».proof.Defs
public import proofs.«01_k».proof.Proof.Gen.InprojKernel.Frame
public import proofs.«01_k».proof.Proof.InprojKernelValue

@[expose] public section

noncomputable section

namespace Cert.InprojClaims

open Idealize.ShloMosaic Idealize.SL.Sem

/-- The kernel runs, keeps its arguments and leaves no signal pending: at bit patterns, and at extended reals. -/
theorem frame_k : Cert.quiescent_InprojKernel := fun m ρ _ => Cert.InprojKernel.Gen.frame m ρ
theorem frame_ki : Cert.quiescent_InprojKernelIdeal := fun m ρ _ => Cert.InprojKernelIdeal.Gen.frame m ρ

/-- The reference runs, keeps its arguments and leaves no signal pending. -/
theorem frame_r : Cert.quiescent_InprojReferenceIdeal := fun m ρ _ =>
  (θ_run Cert.InprojReferenceIdeal.defs _ _).mono
    (fun r h => ⟨fun c => (h c).2.2.2, sem_eq_zero_of_no_sems (by decide) r.2⟩)
    (Cert.InprojReferenceIdeal.Value.run (F := Ideal) m ρ)

open Cert.InprojReferenceIdeal.Read in
/-- On agreeing arguments the kernel's three result arrays are the reference's. -/
theorem algebraic : Cert.algebraic_InprojKernelIdeal_InprojReferenceIdeal := by
  intro m g m' g' _ hagree
  refine ⟨_, _, _, Cert.InprojKernelIdeal.Value.run_blocks m g, ?_⟩
  refine (θ_run Cert.InprojReferenceIdeal.defs _ _).mono (fun _ h c => ?_)
    (Cert.InprojReferenceIdeal.Value.run (F := Ideal) m' g')
  obtain ⟨h0, h1, h2, h3, h4, h5, h6⟩ := hagree c
  refine ⟨(h c).1.trans ?_, (h c).2.1.trans ?_, (h c).2.2.1.trans ?_, (h c).2.2.2⟩
  · rw [val_main_v45_eq, h0, h1, h2, h3, h4, h5, h6]
    exact (InprojValue.final7 m c).symm
  · rw [h0, h1, h2]
    exact (val_main_v46_eq ..).trans (InprojValue.final8 m c).symm
  · rw [h0, h1, h2, h4, h6]
    exact (val_main_v47_eq ..).trans (InprojValue.final9 m c).symm

end Cert.InprojClaims

end
-- ==== Proof.MergeReferenceValue.lean ====
/- What the merge's reference computes, forward and backward, row by row: both branches' output products, their gates, the
   gated sum, its output product added to the stream, the norm of that, and the gradients of all of it. -/
module

public import proofs.«01_k».proof.Proof.Gen.MergeReferenceIdeal.Read
public import proofs.«01_k».proof.Proof.LossReferenceValue
public import proofs.«01_k».proof.Proof.Indices

@[expose] public section

noncomputable section

namespace Cert.MergeRef

open Cert.MergeReferenceIdeal Cert.MergeReferenceIdeal.Read Idealize.ShloMosaic Cert.LossRef
open scoped BigOperators

variable (x : S4096x1024.Idx → EReal) (p : S4096x6656.Idx → EReal) (a : S4096x1280.Idx → EReal) (b : S4096x1024.Idx → EReal)
  (wa : S1280x1024.Idx → EReal) (wb wo : S1024x1024.Idx → EReal) (g : S1024.Idx → EReal) (e : S4096x1024.Idx → EReal)

/-- Row `n` of the gates of the recurrent and of the spatial branch, as projected. -/
def za (n : Fin 4096) (j : Fin 1024) : EReal := p (ix2 n (⟨4608 + j.val, by omega⟩ : Fin 6656))
def zb (n : Fin 4096) (j : Fin 1024) : EReal := p (ix2 n (⟨5632 + j.val, by omega⟩ : Fin 6656))
/-- The gates. -/
def sa (n : Fin 4096) (j : Fin 1024) : EReal := Ideal.logistic (za p n j)
def sb (n : Fin 4096) (j : Fin 1024) : EReal := Ideal.logistic (zb p n j)
/-- The branches' outputs. -/
def ya (n : Fin 4096) (j : Fin 1024) : EReal := ∑ k : Fin 1280, a (ix2 n k) * wa (ix2 k j)
def yb (n : Fin 4096) (j : Fin 1024) : EReal := ∑ k : Fin 1024, b (ix2 n k) * wb (ix2 k j)
/-- The gated sum. -/
def mg (n : Fin 4096) (j : Fin 1024) : EReal := sa p n j * ya a wa n j + sb p n j * yb b wb n j
/-- The stream with the layer's mixed rows added. -/
def x1 (n : Fin 4096) (l : Fin 1024) : EReal := x (ix2 n l) + ∑ k : Fin 1024, mg p a b wa wb n k * wo (ix2 k l)
/-- The gated sum's cotangent. -/
def dm (n : Fin 4096) (l : Fin 1024) : EReal := ∑ k : Fin 1024, e (ix2 n k) * wo (ix2 l k)
/-- The cotangents of the branches' outputs and of their gates. -/
def dya (n : Fin 4096) (j : Fin 1024) : EReal := dm wo e n j * sa p n j
def dyb (n : Fin 4096) (j : Fin 1024) : EReal := dm wo e n j * sb p n j
def dza (n : Fin 4096) (j : Fin 1024) : EReal := dm wo e n j * ya a wa n j * sa p n j * (1 - sa p n j)
def dzb (n : Fin 4096) (j : Fin 1024) : EReal := dm wo e n j * yb b wb n j * sb p n j * (1 - sb p n j)

theorem v2_at (n : Fin 4096) (j : Fin 1024) : val_main_v2 (F := Ideal) a wa (ix2 n j) = ya a wa n j := by
  unfold val_main_v2 val_main_v1; pointwise; rfl

theorem v4_at (n : Fin 4096) (j : Fin 1024) : val_main_v4 (F := Ideal) b wb (ix2 n j) = yb b wb n j := by
  unfold val_main_v4 val_main_v3; pointwise; rfl

theorem v12_at (n : Fin 4096) (j : Fin 1024) : val_main_v12 (F := Ideal) p (ix2 n j) = sa p n j := by
  simp only [val_main_v12_apply, val_main_v11_apply, val_main_v10_apply, val_main_v9_apply, val_main_v8_apply, val_main_v7_apply,
    val_main_v5_apply, val_main_v0_apply, val_main_cst_apply, val_main_cst_0_apply]
  pointwise
  exact congrArg (fun y => Ideal.logistic (p y)) (ix2_eq _ n (⟨4608 + j.val, by omega⟩ : Fin 6656) (by simp) (by simp))

theorem v22_at (n : Fin 4096) (j : Fin 1024) : val_main_v22 (F := Ideal) p (ix2 n j) = sb p n j := by
  simp only [val_main_v22_apply, val_main_v21_apply, val_main_v20_apply, val_main_v19_apply, val_main_v18_apply, val_main_v17_apply,
    val_main_v6_apply, val_main_v0_apply, val_main_cst_2_apply, val_main_cst_3_apply]
  pointwise
  exact congrArg (fun y => Ideal.logistic (p y)) (ix2_eq _ n (⟨5632 + j.val, by omega⟩ : Fin 6656) (by simp) (by simp))

theorem v27_at (n : Fin 4096) (j : Fin 1024) : val_main_v27 (F := Ideal) p a b wa wb (ix2 n j) = mg p a b wa wb n j := by
  simp only [val_main_v27_apply, val_main_v26_apply, val_main_v16_apply, v12_at, v22_at, v2_at, v4_at]; rfl

theorem v29_at (n : Fin 4096) (l : Fin 1024) : val_main_v29 (F := Ideal) x p a b wa wb wo (ix2 n l) = x1 x p a b wa wb wo n l := by
  rw [val_main_v29_apply]
  unfold val_main_v28
  pointwise [v27_at]
  rfl

theorem v30_at (n : Fin 4096) (l : Fin 1024) : val_main_v30 (F := Ideal) wo e (ix2 n l) = dm wo e n l := by
  unfold val_main_v30; pointwise; rfl

theorem v31_at (n : Fin 4096) (j : Fin 1024) : val_main_v31 (F := Ideal) p wo e (ix2 n j) = dyb p wo e n j := by
  rw [val_main_v31_apply, v22_at, v30_at]; exact mul_comm _ _

theorem v34_at (n : Fin 4096) (j : Fin 1024) : val_main_v34 (F := Ideal) p wo e (ix2 n j) = dya p wo e n j := by
  rw [val_main_v34_apply, v12_at, v30_at]; exact mul_comm _ _

theorem v33_at (n : Fin 4096) (j : Fin 1024) : val_main_v33 (F := Ideal) p b wb wo e (ix2 n j) = dzb p b wb wo e n j := by
  simp only [val_main_v33_apply, val_main_v32_apply, val_main_v25_apply, val_main_v24_apply, val_main_v23_apply, val_main_cst_4_apply,
    v22_at, v30_at, v4_at]
  pointwise
  exact (mul_assoc _ _ _).symm

theorem v36_at (n : Fin 4096) (j : Fin 1024) : val_main_v36 (F := Ideal) p a wa wo e (ix2 n j) = dza p a wa wo e n j := by
  simp only [val_main_v36_apply, val_main_v35_apply, val_main_v15_apply, val_main_v14_apply, val_main_v13_apply, val_main_cst_1_apply,
    v12_at, v30_at, v2_at]
  pointwise
  exact (mul_assoc _ _ _).symm

theorem v44_at (n : Fin 4096) (q : Fin 1) :
    val_main_v44 (F := Ideal) x p a b wa wb wo (ix2 n q) = LossRow.rs (x1 x p a b wa wb wo n) := by
  simp only [val_main_v44_apply, val_main_v43_apply, val_main_v42_apply, val_main_v41_apply, val_main_v40_apply, val_main_v39_apply,
    val_main_v38_apply, val_main_v37_apply, val_main_cst_5_apply, val_main_cst_6_apply, val_main_cst_7_apply]
  pointwise [Consts.c1024, Consts.eps_eq]
  refine congrArg (fun s : EReal => Ideal.rsqrt (Ideal.div s ((1024 : ℝ) : EReal) + (Consts.eps : EReal))) ?_
  refine Finset.sum_congr rfl fun k _ => ?_
  refine congrArg₂ (· * ·) ?_ ?_ <;> exact (congrArg _ (ix2_eq _ n k (by simp) rfl)).trans (v29_at x p a b wa wb wo n k)

/-! ## The results -/

theorem ya_at (n : Fin 4096) (j : Fin 1024) : val_main_v53 (F := Ideal) a wa (ix2 n j) = ya a wa n j := by
  rw [val_main_v53_apply]; exact v2_at a wa n j

theorem yb_at (n : Fin 4096) (j : Fin 1024) : val_main_v54 (F := Ideal) b wb (ix2 n j) = yb b wb n j := by
  rw [val_main_v54_apply]; exact v4_at b wb n j

theorem mg_at (n : Fin 4096) (j : Fin 1024) : val_main_v55 (F := Ideal) p a b wa wb (ix2 n j) = mg p a b wa wb n j := by
  rw [val_main_v55_apply]; exact v27_at p a b wa wb n j

/-- The normed stream. -/
theorem h2_at (n : Fin 4096) (l : Fin 1024) : val_main_v56 (F := Ideal) x p a b wa wb wo g (ix2 n l)
    = x1 x p a b wa wb wo n l * LossRow.rs (x1 x p a b wa wb wo n) * gain g l := by
  rw [val_main_v56_apply]
  simp only [val_main_v49_apply, val_main_v48_apply, val_main_v47_apply, val_main_v46_apply, val_main_v45_apply, v29_at]
  rw [show val_main_v44 (F := Ideal) x p a b wa wb wo _ = _ from
    (congrArg _ (ix2_eq _ n 0 (by simp) rfl)).trans (v44_at x p a b wa wb wo n 0)]
  exact congrArg (x1 x p a b wa wb wo n l * LossRow.rs (x1 x p a b wa wb wo n) * ·) (congrArg g (ix1_eq _ l (by simp)))

theorem dya_at (n : Fin 4096) (j : Fin 1024) : val_main_v57 (F := Ideal) p wo e (ix2 n j) = dya p wo e n j := by
  rw [val_main_v57_apply]; exact v34_at p wo e n j

theorem dyb_at (n : Fin 4096) (j : Fin 1024) : val_main_v58 (F := Ideal) p wo e (ix2 n j) = dyb p wo e n j := by
  rw [val_main_v58_apply]; exact v31_at p wo e n j

/-- The gates' cotangents, side by side. -/
theorem dz_at (n : Fin 4096) (j : Fin 2048) : val_main_v59 (F := Ideal) p a b wa wb wo e (ix2 n j)
    = if h : j.val < 1024 then dza p a wa wo e n ⟨j.val, h⟩ else dzb p b wb wo e n ⟨j.val - 1024, by omega⟩ := by
  rw [val_main_v59_apply]
  unfold val_main_v50
  pointwise [v36_at, v33_at]

/-- The cotangents of the branches' rows. -/
theorem dap_at (n : Fin 4096) (k : Fin 1280) : val_main_v60 (F := Ideal) p wa wo e (ix2 n k)
    = ∑ j : Fin 1024, dya p wo e n j * wa (ix2 k j) := by
  rw [val_main_v60_apply]
  unfold val_main_v51
  pointwise [v34_at]

theorem dbp_at (n : Fin 4096) (k : Fin 1024) : val_main_v61 (F := Ideal) p wb wo e (ix2 n k)
    = ∑ j : Fin 1024, dyb p wo e n j * wb (ix2 k j) := by
  rw [val_main_v61_apply]
  unfold val_main_v52
  pointwise [v31_at]

end Cert.MergeRef

end
-- ==== Proof.MergeBlock.lean ====
/- What one block of 512 rows of the merge computes, forward and backward, as the reference's rows. -/
module

public import proofs.«01_k».proof.Proof.Gen.MergeKernelIdeal.Frame
public import proofs.«01_k».proof.Proof.MergeReferenceValue
public import Idealize.ShloMosaic.Lib.Pipeline.ValueKit
public import Idealize.ShloMosaic.Lib.Pointwise

@[expose] public section

noncomputable section

namespace Cert.MergeBlock

open Cert.MergeKernelIdeal Cert.MergeKernelIdeal.Gen Idealize.ShloMosaic MergeRef
open scoped BigOperators

/-- The block's operands are rows `n r` of the arrays and the whole weights. -/
structure Holds (n : Fin 512 → Fin 4096) (p : S4096x6656.Idx → EReal) (wo : S1024x1024.Idx → EReal)
    (p1 p2 p3 p4 : Vec Ideal S512x512 .bf16) (WO : Vec Ideal S1x1024x1024 .bf16) : Prop where
  z1 : ∀ (r : Fin 512) (j : Fin 512), p1 (ix2 r j) = p (ix2 (n r) (⟨4608 + j.val, by omega⟩ : Fin 6656))
  z2 : ∀ (r : Fin 512) (j : Fin 512), p2 (ix2 r j) = p (ix2 (n r) (⟨5120 + j.val, by omega⟩ : Fin 6656))
  z3 : ∀ (r : Fin 512) (j : Fin 512), p3 (ix2 r j) = p (ix2 (n r) (⟨5632 + j.val, by omega⟩ : Fin 6656))
  z4 : ∀ (r : Fin 512) (j : Fin 512), p4 (ix2 r j) = p (ix2 (n r) (⟨6144 + j.val, by omega⟩ : Fin 6656))
  w : ∀ k j : Fin 1024, WO (ix3 0 k j) = wo (ix2 k j)

variable {n : Fin 512 → Fin 4096} {x : S4096x1024.Idx → EReal} {p : S4096x6656.Idx → EReal} {a : S4096x1280.Idx → EReal}
  {b : S4096x1024.Idx → EReal} {wa : S1280x1024.Idx → EReal} {wb wo : S1024x1024.Idx → EReal} {g : S1024.Idx → EReal}
  {e : S4096x1024.Idx → EReal}
  {X E : Vec Ideal S512x1024 .f32} {p1 p2 p3 p4 : Vec Ideal S512x512 .bf16} {A : Vec Ideal S512x1280 .bf16} {B : Vec Ideal S512x1024 .bf16}
  {WA : Vec Ideal S1x1280x1024 .bf16} {WB WO : Vec Ideal S1x1024x1024 .bf16} {G : Vec Ideal S1x1024 .f32}

/-! ## The gates -/

theorem gate_a (h : Holds n p wo p1 p2 p3 p4 WO) (r : Fin 512) (j : Fin 1024) : k1_pay5 p1 p2 (ix2 r j) = sa p (n r) j := by
  unfold k1_pay5
  pointwise [h.z1, h.z2]
  unfold sa za
  by_cases hj : j.val < 512
  · simp only [hj, ↓reduceDIte]
  · simp only [hj, ↓reduceDIte]
    exact congrArg (fun k : Fin 6656 => Ideal.logistic (p (ix2 (n r) k))) (Fin.ext (by simp only; omega))

theorem gate_b (h : Holds n p wo p1 p2 p3 p4 WO) (r : Fin 512) (j : Fin 1024) : k1_pay6 p3 p4 (ix2 r j) = sb p (n r) j := by
  unfold k1_pay6
  pointwise [h.z3, h.z4]
  unfold sb zb
  by_cases hj : j.val < 512
  · simp only [hj, ↓reduceDIte]
  · simp only [hj, ↓reduceDIte]
    exact congrArg (fun k : Fin 6656 => Ideal.logistic (p (ix2 (n r) k))) (Fin.ext (by simp only; omega))

/-! ## Forward -/

section Forward

variable (h : Holds n p wo p1 p2 p3 p4 WO) (hx : ∀ (r : Fin 512) (l : Fin 1024), X (ix2 r l) = x (ix2 (n r) l))
  (ha : ∀ (r : Fin 512) (k : Fin 1280), A (ix2 r k) = a (ix2 (n r) k)) (hb : ∀ (r : Fin 512) (k : Fin 1024), B (ix2 r k) = b (ix2 (n r) k))
  (hwa : ∀ (k : Fin 1280) (j : Fin 1024), WA (ix3 0 k j) = wa (ix2 k j)) (hwb : ∀ k j : Fin 1024, WB (ix3 0 k j) = wb (ix2 k j))
  (hg : ∀ l : Fin 1024, G (ix2 0 l) = LossRef.gain g l)

include ha hwa in
theorem out_a (r : Fin 512) (j : Fin 1024) : k0_pay3 A WA (ix2 r j) = ya a wa (n r) j := by
  unfold k0_pay3; pointwise [ha, hwa]; rfl

include hb hwb in
theorem out_b (r : Fin 512) (j : Fin 1024) : k0_pay4 B WB (ix2 r j) = yb b wb (n r) j := by
  unfold k0_pay4; pointwise [hb, hwb]; rfl

include h ha hb hwa hwb in
theorem merged (r : Fin 512) (j : Fin 1024) : k0_pay5 A WA B WB p1 p2 p3 p4 (ix2 r j) = mg p a b wa wb (n r) j := by
  have ea := gate_a h r j
  have eb := gate_b h r j
  unfold k1_pay5 at ea
  unfold k1_pay6 at eb
  unfold k0_pay5
  pointwise at ea eb
  pointwise [out_a ha hwa, out_b hb hwb]
  rw [mg, ← ea, ← eb]

include h hx ha hb hwa hwb in
theorem stream (r : Fin 512) (l : Fin 1024) : k0_pay6 A WA B WB p1 p2 p3 p4 X WO (ix2 r l) = x1 x p a b wa wb wo (n r) l := by
  unfold k0_pay6
  pointwise [merged h ha hb hwa hwb, hx, h.w]
  rfl

include hg in
/-- The norm of rows `Y`. -/
theorem normed (Y : FVec Ideal S512x1024 .f32) (r : Fin 512) (l : Fin 1024) :
    k0_pay2 Y G (ix2 r l) = Y (ix2 r l) * LossRow.rs (fun k => Y (ix2 r k)) * LossRef.gain g l := by
  unfold k0_pay2
  pointwise [Consts.c1024, Consts.eps_eq, hg]
  rfl

end Forward

/-! ## Backward: `A`, `B` the rows of the branches' outputs as the forward call leaves them -/

section Backward

variable (h : Holds n p wo p1 p2 p3 p4 WO) (he : ∀ (r : Fin 512) (l : Fin 1024), E (ix2 r l) = e (ix2 (n r) l))

include h he in
theorem cot (r : Fin 512) (l : Fin 1024) : k1_pay4 E WO (ix2 r l) = dm wo e (n r) l := by
  unfold k1_pay4; pointwise [he, h.w]; rfl

include h he in
theorem cot_a (r : Fin 512) (j : Fin 1024) : k1_pay7 E WO p1 p2 (ix2 r j) = dya p wo e (n r) j := by
  unfold k1_pay7; pointwise [cot h he, gate_a h]; rfl

include h he in
theorem cot_b (r : Fin 512) (j : Fin 1024) : k1_pay8 E WO p3 p4 (ix2 r j) = dyb p wo e (n r) j := by
  unfold k1_pay8; pointwise [cot h he, gate_b h]; rfl

include h he in
theorem cot_gate_a (Y : Vec Ideal S512x1024 .bf16) (hy : ∀ (r : Fin 512) (j : Fin 1024), Y (ix2 r j) = ya a wa (n r) j) (r : Fin 512)
    (j : Fin 1024) : k1_pay9 E WO p1 p2 Y (ix2 r j) = dza p a wa wo e (n r) j := by
  unfold k1_pay9; pointwise [cot h he, gate_a h, hy]; rfl

include h he in
theorem cot_gate_b (Y : Vec Ideal S512x1024 .bf16) (hy : ∀ (r : Fin 512) (j : Fin 1024), Y (ix2 r j) = yb b wb (n r) j) (r : Fin 512)
    (j : Fin 1024) : k1_pay1 (k1_pay4 E WO) (k1_pay6 p3 p4) Y (ix2 r j) = dzb p b wb wo e (n r) j := by
  unfold k1_pay1; pointwise [cot h he, gate_b h, hy]; rfl

include h he in
theorem cot_row_a (hwa : ∀ (k : Fin 1280) (j : Fin 1024), WA (ix3 0 k j) = wa (ix2 k j)) (r : Fin 512) (k : Fin 1280) :
    k1_pay2 (k1_pay7 E WO p1 p2) WA (ix2 r k) = ∑ j : Fin 1024, dya p wo e (n r) j * wa (ix2 k j) := by
  unfold k1_pay2; pointwise [cot_a h he, hwa]

include h he in
theorem cot_row_b (hwb : ∀ k j : Fin 1024, WB (ix3 0 k j) = wb (ix2 k j)) (r : Fin 512) (k : Fin 1024) :
    k1_pay3 (k1_pay8 E WO p3 p4) WB (ix2 r k) = ∑ j : Fin 1024, dyb p wo e (n r) j * wb (ix2 k j) := by
  unfold k1_pay3; pointwise [cot_b h he, hwb]

end Backward

end Cert.MergeBlock

end
-- ==== Proof.MergeRun.lean ====
/- The run of the merge's forward and backward calls: what every array holds when both calls are done. -/
module

public import proofs.«01_k».proof.Proof.Gen.MergeKernelIdeal.Frame

@[expose] public section

set_option maxRecDepth 16384

noncomputable section

namespace Cert.MergeKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every array at the contents that the second call leaves and
    every signal counter at zero. -/
theorem run_last : θ_run defs (onTc (τ := τ) (main (F := F))) ⟨m, fun _ => 0, ρ⟩ (fun r =>
    (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

end Cert.MergeKernelIdeal.Gen

end
-- ==== Proof.MergeKernelValue.lean ====
/- The arrays that the merge's two calls leave. -/
module

public import proofs.«01_k».proof.Proof.MergeBlock
public import proofs.«01_k».proof.Proof.MergeRun
public import proofs.«01_k».proof.Proof.Halves

@[expose] public section

noncomputable section

namespace Cert.MergeValue

open Cert.MergeKernelIdeal Cert.MergeKernelIdeal.Gen Idealize.ShloMosaic Idealize.ShloMosaic.TcCoe
open Idealize.ShloMosaic.Pipeline (Dat)
open scoped BigOperators

variable (m : (ℓ : Loc nD τ sig) → Buf (Elt Ideal) ℓ) (ρ : Dev nD → PrngReg)

/-! ## The blocks are blocks of the arguments -/

theorem idx0_0 : ∀ t : Fin cfg0.N, win0_0.index t = ![t.val, 0] := (by decide +kernel : ∀ t : Fin grid0.N, _)
theorem idx0_1 : ∀ t : Fin cfg0.N, win0_1.index t = ![t.val, 9] := (by decide +kernel : ∀ t : Fin grid0.N, _)
theorem idx0_2 : ∀ t : Fin cfg0.N, win0_2.index t = ![t.val, 10] := (by decide +kernel : ∀ t : Fin grid0.N, _)
theorem idx0_3 : ∀ t : Fin cfg0.N, win0_3.index t = ![t.val, 11] := (by decide +kernel : ∀ t : Fin grid0.N, _)
theorem idx0_4 : ∀ t : Fin cfg0.N, win0_4.index t = ![t.val, 12] := (by decide +kernel : ∀ t : Fin grid0.N, _)
theorem idx0_5 : ∀ t : Fin cfg0.N, win0_5.index t = ![t.val, 0] := (by decide +kernel : ∀ t : Fin grid0.N, _)
theorem idx0_6 : ∀ t : Fin cfg0.N, win0_6.index t = ![t.val, 0] := (by decide +kernel : ∀ t : Fin grid0.N, _)
theorem idx0_7 : ∀ t : Fin cfg0.N, win0_7.index t = ![0, 0, 0] := (by decide +kernel : ∀ t : Fin grid0.N, _)
theorem idx0_8 : ∀ t : Fin cfg0.N, win0_8.index t = ![0, 0, 0] := (by decide +kernel : ∀ t : Fin grid0.N, _)
theorem idx0_9 : ∀ t : Fin cfg0.N, win0_9.index t = ![0, 0, 0] := (by decide +kernel : ∀ t : Fin grid0.N, _)
theorem idx0_10 : ∀ t : Fin cfg0.N, win0_10.index t = ![0, 0] := (by decide +kernel : ∀ t : Fin grid0.N, _)
theorem idx0_11 : ∀ t : Fin cfg0.N, win0_11.index t = ![t.val, 0] := (by decide +kernel : ∀ t : Fin grid0.N, _)
theorem idx0_12 : ∀ t : Fin cfg0.N, win0_12.index t = ![t.val, 0] := (by decide +kernel : ∀ t : Fin grid0.N, _)
theorem idx0_13 : ∀ t : Fin cfg0.N, win0_13.index t = ![t.val, 0] := (by decide +kernel : ∀ t : Fin grid0.N, _)
theorem idx0_14 : ∀ t : Fin cfg0.N, win0_14.index t = ![t.val, 0] := (by decide +kernel : ∀ t : Fin grid0.N, _)
theorem idx0_15 : ∀ t : Fin cfg0.N, win0_15.index t = ![t.val, 0] := (by decide +kernel : ∀ t : Fin grid0.N, _)

theorem idx1_0 : ∀ t : Fin cfg1.N, win1_0.index t = ![t.val, 0] := (by decide +kernel : ∀ t : Fin grid1.N, _)
theorem idx1_1 : ∀ t : Fin cfg1.N, win1_1.index t = ![t.val, 9] := (by decide +kernel : ∀ t : Fin grid1.N, _)
theorem idx1_2 : ∀ t : Fin cfg1.N, win1_2.index t = ![t.val, 10] := (by decide +kernel : ∀ t : Fin grid1.N, _)
theorem idx1_3 : ∀ t : Fin cfg1.N, win1_3.index t = ![t.val, 11] := (by decide +kernel : ∀ t : Fin grid1.N, _)
theorem idx1_4 : ∀ t : Fin cfg1.N, win1_4.index t = ![t.val, 12] := (by decide +kernel : ∀ t : Fin grid1.N, _)
theorem idx1_5 : ∀ t : Fin cfg1.N, win1_5.index t = ![t.val, 0] := (by decide +kernel : ∀ t : Fin grid1.N, _)
theorem idx1_6 : ∀ t : Fin cfg1.N, win1_6.index t = ![t.val, 0] := (by decide +kernel : ∀ t : Fin grid1.N, _)
theorem idx1_7 : ∀ t : Fin cfg1.N, win1_7.index t = ![0, 0, 0] := (by decide +kernel : ∀ t : Fin grid1.N, _)
theorem idx1_8 : ∀ t : Fin cfg1.N, win1_8.index t = ![0, 0, 0] := (by decide +kernel : ∀ t : Fin grid1.N, _)
theorem idx1_9 : ∀ t : Fin cfg1.N, win1_9.index t = ![0, 0, 0] := (by decide +kernel : ∀ t : Fin grid1.N, _)
theorem idx1_10 : ∀ t : Fin cfg1.N, win1_10.index t = ![t.val, 0] := (by decide +kernel : ∀ t : Fin grid1.N, _)
theorem idx1_11 : ∀ t : Fin cfg1.N, win1_11.index t = ![t.val, 0] := (by decide +kernel : ∀ t : Fin grid1.N, _)
theorem idx1_12 : ∀ t : Fin cfg1.N, win1_12.index t = ![t.val, 0] := (by decide +kernel : ∀ t : Fin grid1.N, _)
theorem idx1_13 : ∀ t : Fin cfg1.N, win1_13.index t = ![t.val, 0] := (by decide +kernel : ∀ t : Fin grid1.N, _)
theorem idx1_14 : ∀ t : Fin cfg1.N, win1_14.index t = ![t.val, 0] := (by decide +kernel : ∀ t : Fin grid1.N, _)

/-- The arguments of core `c`. -/
abbrev argX (c : Dev nD) : S4096x1024.Idx → EReal := m ((c : Thread nD τ).loc main_arg0)
abbrev argP (c : Dev nD) : S4096x6656.Idx → EReal := m ((c : Thread nD τ).loc main_arg1)
abbrev argA (c : Dev nD) : S4096x1280.Idx → EReal := m ((c : Thread nD τ).loc main_arg2)
abbrev argB (c : Dev nD) : S4096x1024.Idx → EReal := m ((c : Thread nD τ).loc main_arg3)
abbrev argWa (c : Dev nD) : S1280x1024.Idx → EReal := m ((c : Thread nD τ).loc main_arg4)
abbrev argWb (c : Dev nD) : S1024x1024.Idx → EReal := m ((c : Thread nD τ).loc main_arg5)
abbrev argWo (c : Dev nD) : S1024x1024.Idx → EReal := m ((c : Thread nD τ).loc main_arg6)
abbrev argG (c : Dev nD) : S1024.Idx → EReal := m ((c : Thread nD τ).loc main_arg7)
abbrev argE (c : Dev nD) : S4096x1024.Idx → EReal := m ((c : Thread nD τ).loc main_arg8)

/-- Row `r` of block `t`, in the array. -/
def rowOf (t : ℕ) (r : Fin 512) : Fin 4096 := Fin.ofNat 4096 (t * 512 + r.val)

theorem rowOf_val {t : ℕ} (h : t < 8) (r : Fin 512) : (rowOf t r).val = t * 512 + r.val := Nat.mod_eq_of_lt (by omega)

theorem lt0 (t : Fin cfg0.N) : t.val < 8 := N_0 ▸ t.isLt
theorem lt1 (t : Fin cfg1.N) : t.val < 8 := N_1 ▸ t.isLt

/-! ### What the host leaves for the calls -/

theorem V1_arg (c : Dev nD) (b : Ref sig .tc) (h : b ∉ hostOps0_W) : V1 m ρ c b = m ((c : Thread nD τ).loc b) := W1_of m ρ c b h
theorem V2_arg (c : Dev nD) (b : Ref sig .tc) (h : b ∈ argRefs) : V2 m ρ c b = m ((c : Thread nD τ).loc b) := W2_args m ρ c b h

theorem V1_wa (c : Dev nD) : V1 m ρ c main_v1 = broadcastInDim S1x1280x1024 ![1, 2] bcast_S1280x1024_S1x1280x1024_1_2
    (truncf .bf16 (argWa m c : FVec Ideal S1280x1024 .f32) bitsLt_bf16_f32 : FVec Ideal S1280x1024 .bf16) := by
  unfold V1 W1
  simp only [hostOps0]
  after_results

theorem V1_wb (c : Dev nD) : V1 m ρ c main_v3 = broadcastInDim S1x1024x1024 ![1, 2] bcast_S1024x1024_S1x1024x1024_1_2
    (truncf .bf16 (argWb m c : FVec Ideal S1024x1024 .f32) bitsLt_bf16_f32 : FVec Ideal S1024x1024 .bf16) := by
  unfold V1 W1
  simp only [hostOps0]
  after_results

theorem V1_wo (c : Dev nD) : V1 m ρ c main_v5 = broadcastInDim S1x1024x1024 ![1, 2] bcast_S1024x1024_S1x1024x1024_1_2
    (truncf .bf16 (argWo m c : FVec Ideal S1024x1024 .f32) bitsLt_bf16_f32 : FVec Ideal S1024x1024 .bf16) := by
  unfold V1 W1
  simp only [hostOps0]
  after_results

theorem V1_g (c : Dev nD) : V1 m ρ c main_v6 = shapeCast S1x1024 (argG m c : FVec Ideal S1024 .f32) shapeCasts_S1024_S1x1024 := by
  unfold V1 W1
  simp only [hostOps0]
  after_results
  rfl

/-- The forward call leaves its operands alone. -/
theorem V2_in (c : Dev nD) (b : Ref sig .tc) (h : ∀ w : Fin cfg0.W, Pipeline.arrRef spec0 w = b → (cfg0.win w).isOut = false) :
    V2 m ρ c b = V1 m ρ c b := W2_of m ρ c b h

/-! ### The forward call's blocks -/

theorem holds0 (c : Dev nD) (t : Fin cfg0.N) : MergeBlock.Holds (rowOf t.val) (argP m c) (argWo m c) (iblk0 (V1 m ρ) c 1 t) (iblk0 (V1 m ρ) c 2 t)
    (iblk0 (V1 m ρ) c 3 t) (iblk0 (V1 m ρ) c 4 t) (iblk0 (V1 m ρ) c 9 t) where
  z1 := fun r j => by rw [← show V1 m ρ c main_arg1 = argP m c from V1_arg m ρ c _ (by decide)]; blk_ext [iblk0, idx0_1 t, rowOf_val (lt0 t)]
  z2 := fun r j => by rw [← show V1 m ρ c main_arg1 = argP m c from V1_arg m ρ c _ (by decide)]; blk_ext [iblk0, idx0_2 t, rowOf_val (lt0 t)]
  z3 := fun r j => by rw [← show V1 m ρ c main_arg1 = argP m c from V1_arg m ρ c _ (by decide)]; blk_ext [iblk0, idx0_3 t, rowOf_val (lt0 t)]
  z4 := fun r j => by rw [← show V1 m ρ c main_arg1 = argP m c from V1_arg m ρ c _ (by decide)]; blk_ext [iblk0, idx0_4 t, rowOf_val (lt0 t)]
  w := fun k j => by
    have e : iblk0 (V1 m ρ) c 9 t (ix3 0 k j) = V1 m ρ c main_v5 (ix3 0 k j) := by blk_ext [iblk0, idx0_9 t]
    rw [e, V1_wo]; pointwise

theorem blk0_x (c : Dev nD) (t : Fin cfg0.N) (r : Fin 512) (l : Fin 1024) : iblk0 (V1 m ρ) c 0 t (ix2 r l) = argX m c (ix2 (rowOf t.val r) l) := by
  rw [← show V1 m ρ c main_arg0 = argX m c from V1_arg m ρ c _ (by decide)]; blk_ext [iblk0, idx0_0 t, rowOf_val (lt0 t)]

theorem blk0_a (c : Dev nD) (t : Fin cfg0.N) (r : Fin 512) (k : Fin 1280) : iblk0 (V1 m ρ) c 5 t (ix2 r k) = argA m c (ix2 (rowOf t.val r) k) := by
  rw [← show V1 m ρ c main_arg2 = argA m c from V1_arg m ρ c _ (by decide)]; blk_ext [iblk0, idx0_5 t, rowOf_val (lt0 t)]

theorem blk0_b (c : Dev nD) (t : Fin cfg0.N) (r : Fin 512) (k : Fin 1024) : iblk0 (V1 m ρ) c 6 t (ix2 r k) = argB m c (ix2 (rowOf t.val r) k) := by
  rw [← show V1 m ρ c main_arg3 = argB m c from V1_arg m ρ c _ (by decide)]; blk_ext [iblk0, idx0_6 t, rowOf_val (lt0 t)]

theorem blk0_wa (c : Dev nD) (t : Fin cfg0.N) (k : Fin 1280) (j : Fin 1024) : iblk0 (V1 m ρ) c 7 t (ix3 0 k j) = argWa m c (ix2 k j) := by
  have e : iblk0 (V1 m ρ) c 7 t (ix3 0 k j) = V1 m ρ c main_v1 (ix3 0 k j) := by blk_ext [iblk0, idx0_7 t]
  rw [e, V1_wa]; pointwise

theorem blk0_wb (c : Dev nD) (t : Fin cfg0.N) (k j : Fin 1024) : iblk0 (V1 m ρ) c 8 t (ix3 0 k j) = argWb m c (ix2 k j) := by
  have e : iblk0 (V1 m ρ) c 8 t (ix3 0 k j) = V1 m ρ c main_v3 (ix3 0 k j) := by blk_ext [iblk0, idx0_8 t]
  rw [e, V1_wb]; pointwise

theorem blk0_g (c : Dev nD) (t : Fin cfg0.N) (l : Fin 1024) : iblk0 (V1 m ρ) c 10 t (ix2 0 l) = LossRef.gain (argG m c) l := by
  have e : iblk0 (V1 m ρ) c 10 t (ix2 0 l) = V1 m ρ c main_v6 (ix2 0 l) := by blk_ext [iblk0, idx0_10 t]
  rw [e, V1_g]; unfold LossRef.gain; pointwise

/-! ### The forward call's arrays -/

/-- The stream. -/
theorem final0_11 (c : Dev nD) : (dat0 (V1 m ρ) c).arrAt 11 cfg0.N = MergeReferenceIdeal.Read.val_main_v29 (F := Ideal) (argX m c) (argP m c) (argA m c) (argB m c) (argWa m c) (argWb m c) (argWo m c) := by
  refine (dat0 (V1 m ρ) c).arrAt_eq_of_covers 11 _ (by decide +kernel) fun t hf y => ?_
  blk_simp
  rw [after0_11]
  obtain ⟨r, l, rfl⟩ : ∃ (r : Fin 512) (l : Fin 1024), y = ix2 r l := ⟨y 0, y 1, (ValueIdx.eq_ix2 y)⟩
  have e : (win0_11.blk t).view.emb (ix2 r l) = ix2 (rowOf t.val r) l := by blk_ext [idx0_11 t, rowOf_val (lt0 t)]
  rw [e, MergeRef.v29_at]
  unfold out0_11
  frame_out
  exact MergeBlock.stream (holds0 m ρ c t) (blk0_x m ρ c t) (blk0_a m ρ c t) (blk0_b m ρ c t) (blk0_wa m ρ c t) (blk0_wb m ρ c t) r l

/-- The recurrent branch's output. -/
theorem final0_12 (c : Dev nD) : (dat0 (V1 m ρ) c).arrAt 12 cfg0.N = MergeReferenceIdeal.Read.val_main_v53 (F := Ideal) (argA m c) (argWa m c) := by
  refine (dat0 (V1 m ρ) c).arrAt_eq_of_covers 12 _ (by decide +kernel) fun t hf y => ?_
  blk_simp
  rw [after0_12]
  obtain ⟨r, l, rfl⟩ : ∃ (r : Fin 512) (l : Fin 1024), y = ix2 r l := ⟨y 0, y 1, (ValueIdx.eq_ix2 y)⟩
  have e : (win0_12.blk t).view.emb (ix2 r l) = ix2 (rowOf t.val r) l := by blk_ext [idx0_12 t, rowOf_val (lt0 t)]
  rw [e, MergeRef.ya_at]
  unfold out0_12
  frame_out
  exact MergeBlock.out_a (blk0_a m ρ c t) (blk0_wa m ρ c t) r l

/-- The spatial branch's output. -/
theorem final0_13 (c : Dev nD) : (dat0 (V1 m ρ) c).arrAt 13 cfg0.N = MergeReferenceIdeal.Read.val_main_v54 (F := Ideal) (argB m c) (argWb m c) := by
  refine (dat0 (V1 m ρ) c).arrAt_eq_of_covers 13 _ (by decide +kernel) fun t hf y => ?_
  blk_simp
  rw [after0_13]
  obtain ⟨r, l, rfl⟩ : ∃ (r : Fin 512) (l : Fin 1024), y = ix2 r l := ⟨y 0, y 1, (ValueIdx.eq_ix2 y)⟩
  have e : (win0_13.blk t).view.emb (ix2 r l) = ix2 (rowOf t.val r) l := by blk_ext [idx0_13 t, rowOf_val (lt0 t)]
  rw [e, MergeRef.yb_at]
  unfold out0_13
  frame_out
  exact MergeBlock.out_b (blk0_b m ρ c t) (blk0_wb m ρ c t) r l

/-- The gated sum. -/
theorem final0_14 (c : Dev nD) : (dat0 (V1 m ρ) c).arrAt 14 cfg0.N = MergeReferenceIdeal.Read.val_main_v55 (F := Ideal) (argP m c) (argA m c) (argB m c) (argWa m c) (argWb m c) := by
  refine (dat0 (V1 m ρ) c).arrAt_eq_of_covers 14 _ (by decide +kernel) fun t hf y => ?_
  blk_simp
  rw [after0_14]
  obtain ⟨r, l, rfl⟩ : ∃ (r : Fin 512) (l : Fin 1024), y = ix2 r l := ⟨y 0, y 1, (ValueIdx.eq_ix2 y)⟩
  have e : (win0_14.blk t).view.emb (ix2 r l) = ix2 (rowOf t.val r) l := by blk_ext [idx0_14 t, rowOf_val (lt0 t)]
  rw [e, MergeRef.mg_at]
  unfold out0_14
  frame_out
  exact MergeBlock.merged (holds0 m ρ c t) (blk0_a m ρ c t) (blk0_b m ρ c t) (blk0_wa m ρ c t) (blk0_wb m ρ c t) r l

/-- The normed stream. -/
theorem final0_15 (c : Dev nD) : (dat0 (V1 m ρ) c).arrAt 15 cfg0.N = MergeReferenceIdeal.Read.val_main_v56 (F := Ideal) (argX m c) (argP m c) (argA m c) (argB m c) (argWa m c) (argWb m c) (argWo m c) (argG m c) := by
  refine (dat0 (V1 m ρ) c).arrAt_eq_of_covers 15 _ (by decide +kernel) fun t hf y => ?_
  blk_simp
  rw [after0_15]
  obtain ⟨r, l, rfl⟩ : ∃ (r : Fin 512) (l : Fin 1024), y = ix2 r l := ⟨y 0, y 1, (ValueIdx.eq_ix2 y)⟩
  have e : (win0_15.blk t).view.emb (ix2 r l) = ix2 (rowOf t.val r) l := by blk_ext [idx0_15 t, rowOf_val (lt0 t)]
  rw [e, MergeRef.h2_at]
  unfold out0_15
  frame_out
  refine (MergeBlock.normed (blk0_g m ρ c t) _ r l).trans ?_
  have h := fun k => MergeBlock.stream (holds0 m ρ c t) (blk0_x m ρ c t) (blk0_a m ρ c t) (blk0_b m ρ c t) (blk0_wa m ρ c t) (blk0_wb m ρ c t) r k
  rw [funext h, h]

/-! ### The backward call's blocks -/

theorem holds1 (c : Dev nD) (t : Fin cfg1.N) : MergeBlock.Holds (rowOf t.val) (argP m c) (argWo m c) (iblk1 (V2 m ρ) c 1 t) (iblk1 (V2 m ρ) c 2 t)
    (iblk1 (V2 m ρ) c 3 t) (iblk1 (V2 m ρ) c 4 t) (iblk1 (V2 m ρ) c 9 t) where
  z1 := fun r j => by rw [← show V2 m ρ c main_arg1 = argP m c from V2_arg m ρ c _ (by decide)]; blk_ext [iblk1, idx1_1 t, rowOf_val (lt1 t)]
  z2 := fun r j => by rw [← show V2 m ρ c main_arg1 = argP m c from V2_arg m ρ c _ (by decide)]; blk_ext [iblk1, idx1_2 t, rowOf_val (lt1 t)]
  z3 := fun r j => by rw [← show V2 m ρ c main_arg1 = argP m c from V2_arg m ρ c _ (by decide)]; blk_ext [iblk1, idx1_3 t, rowOf_val (lt1 t)]
  z4 := fun r j => by rw [← show V2 m ρ c main_arg1 = argP m c from V2_arg m ρ c _ (by decide)]; blk_ext [iblk1, idx1_4 t, rowOf_val (lt1 t)]
  w := fun k j => by
    have e : iblk1 (V2 m ρ) c 9 t (ix3 0 k j) = V2 m ρ c main_v5 (ix3 0 k j) := by blk_ext [iblk1, idx1_9 t]
    rw [e, V2_in m ρ c main_v5 (by decide +kernel), V1_wo]; pointwise

theorem blk1_e (c : Dev nD) (t : Fin cfg1.N) (r : Fin 512) (l : Fin 1024) : iblk1 (V2 m ρ) c 0 t (ix2 r l) = argE m c (ix2 (rowOf t.val r) l) := by
  rw [← show V2 m ρ c main_arg8 = argE m c from V2_arg m ρ c _ (by decide)]; blk_ext [iblk1, idx1_0 t, rowOf_val (lt1 t)]

theorem blk1_ya (c : Dev nD) (t : Fin cfg1.N) (r : Fin 512) (j : Fin 1024) :
    iblk1 (V2 m ρ) c 5 t (ix2 r j) = MergeRef.ya (argA m c) (argWa m c) (rowOf t.val r) j := by
  rw [← MergeRef.ya_at, ← final0_12 m ρ c, hF0 m ρ c 12]; blk_ext [iblk1, idx1_5 t, rowOf_val (lt1 t)]

theorem blk1_yb (c : Dev nD) (t : Fin cfg1.N) (r : Fin 512) (j : Fin 1024) :
    iblk1 (V2 m ρ) c 6 t (ix2 r j) = MergeRef.yb (argB m c) (argWb m c) (rowOf t.val r) j := by
  rw [← MergeRef.yb_at, ← final0_13 m ρ c, hF0 m ρ c 13]; blk_ext [iblk1, idx1_6 t, rowOf_val (lt1 t)]

theorem blk1_wa (c : Dev nD) (t : Fin cfg1.N) (k : Fin 1280) (j : Fin 1024) : iblk1 (V2 m ρ) c 7 t (ix3 0 k j) = argWa m c (ix2 k j) := by
  have e : iblk1 (V2 m ρ) c 7 t (ix3 0 k j) = V2 m ρ c main_v1 (ix3 0 k j) := by blk_ext [iblk1, idx1_7 t]
  rw [e, V2_in m ρ c main_v1 (by decide +kernel), V1_wa]; pointwise

theorem blk1_wb (c : Dev nD) (t : Fin cfg1.N) (k j : Fin 1024) : iblk1 (V2 m ρ) c 8 t (ix3 0 k j) = argWb m c (ix2 k j) := by
  have e : iblk1 (V2 m ρ) c 8 t (ix3 0 k j) = V2 m ρ c main_v3 (ix3 0 k j) := by blk_ext [iblk1, idx1_8 t]
  rw [e, V2_in m ρ c main_v3 (by decide +kernel), V1_wb]; pointwise

/-! ### The backward call's arrays -/

/-- The recurrent output's cotangent. -/
theorem final1_10 (c : Dev nD) : (dat1 (V2 m ρ) c).arrAt 10 cfg1.N = MergeReferenceIdeal.Read.val_main_v57 (F := Ideal) (argP m c) (argWo m c) (argE m c) := by
  refine (dat1 (V2 m ρ) c).arrAt_eq_of_covers 10 _ (by decide +kernel) fun t hf y => ?_
  blk_simp
  rw [after1_10]
  obtain ⟨r, l, rfl⟩ : ∃ (r : Fin 512) (l : Fin 1024), y = ix2 r l := ⟨y 0, y 1, (ValueIdx.eq_ix2 y)⟩
  have e : (win1_10.blk t).view.emb (ix2 r l) = ix2 (rowOf t.val r) l := by blk_ext [idx1_10 t, rowOf_val (lt1 t)]
  rw [e, MergeRef.dya_at]
  unfold out1_10
  frame_out
  exact MergeBlock.cot_a (holds1 m ρ c t) (blk1_e m ρ c t) r l

/-- The spatial output's cotangent. -/
theorem final1_11 (c : Dev nD) : (dat1 (V2 m ρ) c).arrAt 11 cfg1.N = MergeReferenceIdeal.Read.val_main_v58 (F := Ideal) (argP m c) (argWo m c) (argE m c) := by
  refine (dat1 (V2 m ρ) c).arrAt_eq_of_covers 11 _ (by decide +kernel) fun t hf y => ?_
  blk_simp
  rw [after1_11]
  obtain ⟨r, l, rfl⟩ : ∃ (r : Fin 512) (l : Fin 1024), y = ix2 r l := ⟨y 0, y 1, (ValueIdx.eq_ix2 y)⟩
  have e : (win1_11.blk t).view.emb (ix2 r l) = ix2 (rowOf t.val r) l := by blk_ext [idx1_11 t, rowOf_val (lt1 t)]
  rw [e, MergeRef.dyb_at]
  unfold out1_11
  frame_out
  exact MergeBlock.cot_b (holds1 m ρ c t) (blk1_e m ρ c t) r l

/-- The gates' cotangents. -/
theorem final1_12 (c : Dev nD) : (dat1 (V2 m ρ) c).arrAt 12 cfg1.N = MergeReferenceIdeal.Read.val_main_v59 (F := Ideal) (argP m c) (argA m c) (argB m c) (argWa m c) (argWb m c) (argWo m c) (argE m c) := by
  refine (dat1 (V2 m ρ) c).arrAt_eq_of_covers 12 _ (by decide +kernel) fun t hf y => ?_
  blk_simp
  rw [after1_12]
  obtain ⟨r, l, rfl⟩ : ∃ (r : Fin 512) (l : Fin 2048), y = ix2 r l := ⟨y 0, y 1, (ValueIdx.eq_ix2 y)⟩
  have e : (win1_12.blk t).view.emb (ix2 r l) = ix2 (rowOf t.val r) l := by blk_ext [idx1_12 t, rowOf_val (lt1 t)]
  rw [e, MergeRef.dz_at]
  unfold out1_12
  frame_out
  by_cases hl : l.val < 1024
  · rw [dif_pos hl]
    exact (Halves.left_half _ _ _ _ _ r ⟨l.val, hl⟩).trans (MergeBlock.cot_gate_a (holds1 m ρ c t) (blk1_e m ρ c t) _ (blk1_ya m ρ c t) r _)
  · rw [dif_neg hl]
    obtain ⟨k, rfl⟩ : ∃ k : Fin 1024, l = (⟨1024 + k.val, Nat.add_lt_add_left k.isLt 1024⟩ : Fin 2048) :=
      ⟨⟨l.val - 1024, by have := l.isLt; omega⟩, Fin.ext (by simp only; omega)⟩
    refine (Halves.right_half _ _ _ r k).trans ?_
    refine (MergeBlock.cot_gate_b (holds1 m ρ c t) (blk1_e m ρ c t) _ (blk1_yb m ρ c t) r _).trans ?_
    exact congrArg _ (Fin.ext (by simp))

/-- The cotangents of the recurrent branch's rows. -/
theorem final1_13 (c : Dev nD) : (dat1 (V2 m ρ) c).arrAt 13 cfg1.N = MergeReferenceIdeal.Read.val_main_v60 (F := Ideal) (argP m c) (argWa m c) (argWo m c) (argE m c) := by
  refine (dat1 (V2 m ρ) c).arrAt_eq_of_covers 13 _ (by decide +kernel) fun t hf y => ?_
  blk_simp
  rw [after1_13]
  obtain ⟨r, l, rfl⟩ : ∃ (r : Fin 512) (l : Fin 1280), y = ix2 r l := ⟨y 0, y 1, (ValueIdx.eq_ix2 y)⟩
  have e : (win1_13.blk t).view.emb (ix2 r l) = ix2 (rowOf t.val r) l := by blk_ext [idx1_13 t, rowOf_val (lt1 t)]
  rw [e, MergeRef.dap_at]
  unfold out1_13
  frame_out
  exact MergeBlock.cot_row_a (holds1 m ρ c t) (blk1_e m ρ c t) (blk1_wa m ρ c t) r l

/-- The cotangents of the spatial branch's rows. -/
theorem final1_14 (c : Dev nD) : (dat1 (V2 m ρ) c).arrAt 14 cfg1.N = MergeReferenceIdeal.Read.val_main_v61 (F := Ideal) (argP m c) (argWb m c) (argWo m c) (argE m c) := by
  refine (dat1 (V2 m ρ) c).arrAt_eq_of_covers 14 _ (by decide +kernel) fun t hf y => ?_
  blk_simp
  rw [after1_14]
  obtain ⟨r, l, rfl⟩ : ∃ (r : Fin 512) (l : Fin 1024), y = ix2 r l := ⟨y 0, y 1, (ValueIdx.eq_ix2 y)⟩
  have e : (win1_14.blk t).view.emb (ix2 r l) = ix2 (rowOf t.val r) l := by blk_ext [idx1_14 t, rowOf_val (lt1 t)]
  rw [e, MergeRef.dbp_at]
  unfold out1_14
  frame_out
  exact MergeBlock.cot_row_b (holds1 m ρ c t) (blk1_e m ρ c t) (blk1_wb m ρ c t) r l

end Cert.MergeValue

end
-- ==== Proof.MergeClaims.lean ====
/- The claims about the merge, forward and backward: the frames of the two calls at both readings, the reference's frame, and
   the equation of the ten results (the stream, the branches' outputs, the gated sum and the normed stream; the cotangents of
   the branches' outputs, of the gates and of the branches' rows). -/
module

public import proofs.«01_k».proof.Defs
public import proofs.«01_k».proof.Proof.Gen.MergeKernel.Frame
public import proofs.«01_k».proof.Proof.MergeKernelValue

@[expose] public section

noncomputable section

namespace Cert.MergeClaims

open Idealize.ShloMosaic Idealize.SL.Sem

/-- The kernel runs, keeps its arguments and leaves no signal pending: at bit patterns, and at extended reals. -/
theorem frame_k : Cert.quiescent_MergeKernel := fun m ρ _ => Cert.MergeKernel.Gen.frame m ρ
theorem frame_ki : Cert.quiescent_MergeKernelIdeal := fun m ρ _ => Cert.MergeKernelIdeal.Gen.frame m ρ

/-- The reference runs, keeps its arguments and leaves no signal pending. -/
theorem frame_r : Cert.quiescent_MergeReferenceIdeal := fun m ρ _ =>
  (θ_run Cert.MergeReferenceIdeal.defs _ _).mono
    (fun r h => ⟨fun c => (h c).2.2.2.2.2.2.2.2.2.2, sem_eq_zero_of_no_sems (by decide) r.2⟩)
    (Cert.MergeReferenceIdeal.Value.run (F := Ideal) m ρ)

section Results

open Cert.MergeKernelIdeal Cert.MergeKernelIdeal.Gen Idealize.ShloMosaic.TcCoe

variable (m : (ℓ : Loc nD τ sig) → Buf (Elt Ideal) ℓ) (ρ : Dev nD → PrngReg)

/-- What the forward call leaves is still there at the end. -/
theorem kept (c : Dev nD) (w : Fin cfg0.W)
    (h : ∀ v : Fin cfg1.W, Pipeline.arrRef spec1 v = Pipeline.arrRef spec0 w → (cfg1.win v).isOut = false) :
    W3 m ρ c (Proc.devRef .tc (Pipeline.arrRef spec0 w)) = (dat0 (V1 m ρ) c).arrAt w cfg0.N :=
  (W3_of m ρ c _ h).trans (W2_arr m ρ c w)

end Results

set_option maxHeartbeats 1000000 in
open Cert.MergeReferenceIdeal.Read Cert.MergeKernelIdeal Cert.MergeKernelIdeal.Gen in
/-- On agreeing arguments the kernel's ten result arrays are the reference's. -/
theorem algebraic : Cert.algebraic_MergeKernelIdeal_MergeReferenceIdeal := by
  intro m g m' g' _ hagree
  refine ⟨fun c => W3 m g c (Proc.devRef .tc main_v7_0), fun c => W3 m g c (Proc.devRef .tc main_v7_1), fun c => W3 m g c (Proc.devRef .tc main_v7_2), fun c => W3 m g c (Proc.devRef .tc main_v7_3), fun c => W3 m g c (Proc.devRef .tc main_v7_4), fun c => W3 m g c (Proc.devRef .tc main_v8_0), fun c => W3 m g c (Proc.devRef .tc main_v8_1), fun c => W3 m g c (Proc.devRef .tc main_v8_2), fun c => W3 m g c (Proc.devRef .tc main_v8_3), fun c => W3 m g c (Proc.devRef .tc main_v8_4), ?_, ?_⟩
  · refine (θ_run defs _ _).mono (fun _ h => fun c => ⟨h.1 c _ (mem_uc main_v7_0 (by decide)),
      h.1 c _ (mem_uc main_v7_1 (by decide)),
      h.1 c _ (mem_uc main_v7_2 (by decide)),
      h.1 c _ (mem_uc main_v7_3 (by decide)),
      h.1 c _ (mem_uc main_v7_4 (by decide)),
      h.1 c _ (mem_uc main_v8_0 (by decide)),
      h.1 c _ (mem_uc main_v8_1 (by decide)),
      h.1 c _ (mem_uc main_v8_2 (by decide)),
      h.1 c _ (mem_uc main_v8_3 (by decide)),
      h.1 c _ (mem_uc main_v8_4 (by decide)),
      (h.1 c _ (mem_uc main_arg0 (by decide))).trans (W3_main_arg0 m g c),
      (h.1 c _ (mem_uc main_arg1 (by decide))).trans (W3_main_arg1 m g c),
      (h.1 c _ (mem_uc main_arg2 (by decide))).trans (W3_main_arg2 m g c),
      (h.1 c _ (mem_uc main_arg3 (by decide))).trans (W3_main_arg3 m g c),
      (h.1 c _ (mem_uc main_arg4 (by decide))).trans (W3_main_arg4 m g c),
      (h.1 c _ (mem_uc main_arg5 (by decide))).trans (W3_main_arg5 m g c),
      (h.1 c _ (mem_uc main_arg6 (by decide))).trans (W3_main_arg6 m g c),
      (h.1 c _ (mem_uc main_arg7 (by decide))).trans (W3_main_arg7 m g c),
      (h.1 c _ (mem_uc main_arg8 (by decide))).trans (W3_main_arg8 m g c)⟩) (run_last m g)
  refine (θ_run Cert.MergeReferenceIdeal.defs _ _).mono (fun _ h c => ?_)
    (Cert.MergeReferenceIdeal.Value.run (F := Ideal) m' g')
  obtain ⟨h0, h1, h2, h3, h4, h5, h6, h7, h8⟩ := hagree c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩
  · rw [val_main_v29_eq, h0, h1, h2, h3, h4, h5, h6]
    exact ((kept m g c 11 (by decide +kernel)).trans (MergeValue.final0_11 m g c)).symm
  · rw [h2, h4]
    exact (val_main_v53_eq ..).trans ((kept m g c 12 (by decide +kernel)).trans (MergeValue.final0_12 m g c)).symm
  · rw [h3, h5]
    exact (val_main_v54_eq ..).trans ((kept m g c 13 (by decide +kernel)).trans (MergeValue.final0_13 m g c)).symm
  · rw [h1, h2, h3, h4, h5]
    exact (val_main_v55_eq ..).trans ((kept m g c 14 (by decide +kernel)).trans (MergeValue.final0_14 m g c)).symm
  · rw [val_main_v56_eq, h0, h1, h2, h3, h4, h5, h6, h7]
    exact ((kept m g c 15 (by decide +kernel)).trans (MergeValue.final0_15 m g c)).symm
  · rw [h1, h6, h8]
    exact (val_main_v57_eq ..).trans ((W3_arr m g c 10).trans (MergeValue.final1_10 m g c)).symm
  · rw [h1, h6, h8]
    exact (val_main_v58_eq ..).trans ((W3_arr m g c 11).trans (MergeValue.final1_11 m g c)).symm
  · rw [h1, h2, h3, h4, h5, h6, h8]
    exact (val_main_v59_eq ..).trans ((W3_arr m g c 12).trans (MergeValue.final1_12 m g c)).symm
  · rw [h1, h4, h6, h8]
    exact (val_main_v60_eq ..).trans ((W3_arr m g c 13).trans (MergeValue.final1_13 m g c)).symm
  · rw [h1, h5, h6, h8]
    exact (val_main_v61_eq ..).trans ((W3_arr m g c 14).trans (MergeValue.final1_14 m g c)).symm

end Cert.MergeClaims

end
-- ==== Proof.FfnReferenceValue.lean ====
/- What the feed-forward layer's reference computes, forward and backward, row by row. -/
module

public import proofs.«01_k».proof.Proof.Gen.FfnReferenceIdeal.Read
public import proofs.«01_k».proof.Proof.NormRow
public import proofs.«01_k».proof.Proof.LossReferenceValue
public import proofs.«01_k».proof.Proof.Indices

@[expose] public section

noncomputable section

namespace Cert.FfnRef

open Cert.FfnReferenceIdeal Cert.FfnReferenceIdeal.Read Idealize.ShloMosaic Cert.LossRef
open scoped BigOperators

variable (x : S4096x1024.Idx → EReal) (g : S1024.Idx → EReal) (wu : S1024x4096.Idx → EReal) (wd e : S4096x1024.Idx → EReal)

/-- Row `n` of the normed stream. -/
def nrm (n : Fin 4096) (k : Fin 1024) : EReal := row x n k * LossRow.rs (row x n) * gain g k
/-- The hidden row before its activation. -/
def pre (n j : Fin 4096) : EReal := ∑ k : Fin 1024, nrm x g n k * wu (ix2 k j)
/-- The squared rectified hidden row. -/
def act (n j : Fin 4096) : EReal := max (pre x g wu n j) 0 * max (pre x g wu n j) 0
/-- The stream with the layer added. -/
def out (n : Fin 4096) (l : Fin 1024) : EReal := x (ix2 n l) + ∑ j : Fin 4096, act x g wu n j * wd (ix2 j l)
/-- The activation's cotangent and the hidden row's. -/
def dact (n j : Fin 4096) : EReal := ∑ l : Fin 1024, e (ix2 n l) * wd (ix2 j l)
def dpre (n j : Fin 4096) : EReal := dact wd e n j * (((2 : ℝ) : EReal) * max (pre x g wu n j) 0)
/-- The normed row's cotangent. -/
def dh (n : Fin 4096) (k : Fin 1024) : EReal := ∑ j : Fin 4096, dpre x g wu wd e n j * wu (ix2 k j)
/-- The same, scaled by the gain. -/
def dn (n : Fin 4096) (k : Fin 1024) : EReal := dh x g wu wd e n k * gain g k

/-! ## The hidden columns in four quarters -/

/-- Column `j` of quarter `q`. -/
def col (q : Fin 4) (j : Fin 1024) : Fin 4096 := ⟨q.val * 1024 + j.val, by omega⟩

theorem sum_col (f : Fin 4096 → EReal) : ∑ j, f j = (∑ j, f (col 0 j)) + (∑ j, f (col 1 j)) + (∑ j, f (col 2 j)) + ∑ j, f (col 3 j) := by
  rw [← Fin.sum_univ_four (fun q => ∑ j, f (col q j))]
  exact (Fin.sum_mul_add_fin (S := 4) (n := 1024) f).symm

/-! ## The values -/

theorem v6_at (i : S4096x1.Idx) : val_main_v6 (F := Ideal) x i = LossRow.den (row x (i 0)) := by
  simp only [val_main_v6_apply, val_main_v5_apply, val_main_cst_1_apply, val_main_v4_apply, val_main_v3_apply, val_main_cst_0_apply,
    val_main_v2_apply, val_main_v1_apply, val_main_cst_apply, val_main_v0_apply]
  pointwise [Consts.c1024, Consts.eps_eq, at_row x]
  rfl

theorem v7_at (i : S4096x1.Idx) : val_main_v7 (F := Ideal) x i = LossRow.rs (row x (i 0)) := by
  simp only [val_main_v7_apply, v6_at]; rfl

theorem v12_at (i : S4096x1024.Idx) : val_main_v12 (F := Ideal) x i = row x (i 0) (i 1) * LossRow.rs (row x (i 0)) := by
  simp only [val_main_v12_apply, val_main_v11_apply, v7_at, at_row x]; rfl

theorem v15_at (n : Fin 4096) (k : Fin 1024) : val_main_v15 (F := Ideal) x g (ix2 n k) = nrm x g n k := by
  simp only [val_main_v15_apply, val_main_v14_apply, val_main_v13_apply, v12_at, at_gain g]; rfl

theorem v16_at (n j : Fin 4096) : val_main_v16 (F := Ideal) x g wu (ix2 n j) = pre x g wu n j := by
  unfold val_main_v16; pointwise [v15_at]; rfl

theorem v17_at (n j : Fin 4096) : val_main_v17 (F := Ideal) x g wu (ix2 n j) = max (pre x g wu n j) 0 := by
  simp only [val_main_v17_apply, val_main_call0_v0_apply, val_main_call0_cst_apply, v16_at]; pointwise

theorem v24_at (n : Fin 4096) (l : Fin 1024) : val_main_v51 (F := Ideal) x g wu wd (ix2 n l) = out x g wu wd n l := by
  rw [val_main_v51_apply]
  unfold val_main_v24 val_main_v21
  pointwise [v17_at]
  rfl

theorem v25_at (n j : Fin 4096) : val_main_v25 (F := Ideal) wd e (ix2 n j) = dact wd e n j := by
  unfold val_main_v25; pointwise; rfl

theorem v28_at (n j : Fin 4096) : val_main_v28 (F := Ideal) x g wu wd e (ix2 n j) = dpre x g wu wd e n j := by
  simp only [val_main_v28_apply, val_main_v27_apply, val_main_cst_6_apply, val_main_v26_apply, val_main_v23_apply, val_main_v22_apply,
    val_main_cst_5_apply, val_main_v19_apply, val_main_v18_apply, val_main_cst_3_apply, v25_at, v17_at, v16_at]
  pointwise [Consts.cTwo]
  unfold dpre
  by_cases h : 0 < pre x g wu n j
  · rw [if_pos h]
  · rw [if_neg h, max_eq_right (not_lt.mp h), mul_zero, mul_zero]

theorem v29_at (n : Fin 4096) (k : Fin 1024) : val_main_v29 (F := Ideal) x g wu wd e (ix2 n k) = dh x g wu wd e n k := by
  unfold val_main_v29; pointwise [v28_at]; rfl

theorem v34_at (n : Fin 4096) (k : Fin 1024) : val_main_v34 (F := Ideal) x g wu wd e (ix2 n k) = dn x g wu wd e n k := by
  simp only [val_main_v34_apply, val_main_v33_apply, val_main_v13_apply, v29_at, at_gain g]; rfl

theorem v44_at (n : Fin 4096) : val_main_v44 (F := Ideal) x g wu wd e (ix1 n) = NormRow.tail (row x n) (dn x g wu wd e n) := by
  simp only [val_main_v44_apply, val_main_cst_11_apply]
  pointwise
  rw [Fin.sum_univ_one]
  simp only [val_main_v43_apply, val_main_v42_apply, val_main_v41_apply, val_main_v38_apply, val_main_v37_apply, val_main_v36_apply,
    val_main_v10_apply, val_main_v9_apply, val_main_v8_apply, v6_at, v7_at, val_main_cst_2_apply, val_main_cst_9_apply,
    val_main_cst_10_apply]
  pointwise [Consts.c1024, Consts.cNegHalf]
  unfold NormRow.tail
  refine congrArg (fun s : EReal => Ideal.div (s * _) _) ?_
  exact Finset.sum_congr rfl fun k _ => congrArg₂ (· * ·) (congrArg x (ix2_eq _ n k (by simp) rfl))
    ((congrArg _ (ix2_eq _ n k (by simp) rfl)).trans (v34_at x g wu wd e n k))

/-- The gradient in the stream. -/
theorem dx_at (n : Fin 4096) (l : Fin 1024) : val_main_v50 (F := Ideal) x g wu wd e (ix2 n l)
    = e (ix2 n l) + NormRow.dx (row x n) (dn x g wu wd e n) l := by
  refine Eq.trans ?_ (congrArg (e (ix2 n l) + ·) (zero_add (NormRow.dx (row x n) (dn x g wu wd e n) l)))
  rw [NormRow.add_dx, zero_add]
  simp only [val_main_v50_apply, val_main_v49_apply, val_main_v48_apply, val_main_v47_apply, val_main_v46_apply, val_main_v45_apply,
    val_main_v40_apply, val_main_v39_apply, v34_at, v7_at]
  have h : val_main_v44 (F := Ideal) x g wu wd e (idx_main_v45 (ix2 n l)) = NormRow.tail (row x n) (dn x g wu wd e n) :=
    (congrArg _ (ix1_eq _ n rfl)).trans (v44_at x g wu wd e n)
  rw [h]
  rfl

/-- The gradient in the gain. -/
theorem dg_at (q : Fin 1) (l : Fin 1024) : val_main_v54 (F := Ideal) x g wu wd e (ix2 q l)
    = ∑ n : Fin 4096, dh x g wu wd e n l * (row x n l * LossRow.rs (row x n)) := by
  simp only [val_main_v54_apply, val_main_v35_apply, val_main_v32_apply, val_main_v31_apply, val_main_v30_apply, v12_at,
    val_main_cst_7_apply, val_main_cst_8_apply]
  pointwise
  rw [Fin.sum_univ_one]
  refine Finset.sum_congr rfl fun n _ => ?_
  refine (mul_comm _ _).trans (congrArg₂ (· * ·) ((congrArg _ (ix2_eq _ n l rfl (by simp))).trans (v29_at x g wu wd e n l)) ?_)
  exact congrArg (fun y : S4096x1024.Idx => row x (y 0) (y 1) * LossRow.rs (row x (y 0))) (ix2_eq _ n l rfl (by simp))

theorem pre_at (n j : Fin 4096) : val_main_v52 (F := Ideal) x g wu (ix2 n j) = pre x g wu n j := by
  rw [val_main_v52_apply]; exact v16_at x g wu n j

theorem dp_at (n j : Fin 4096) : val_main_v53 (F := Ideal) x g wu wd e (ix2 n j) = dpre x g wu wd e n j := by
  rw [val_main_v53_apply]; exact v28_at x g wu wd e n j

theorem dx_cast_at (n : Fin 4096) (l : Fin 1024) : val_main_v56 (F := Ideal) x g wu wd e (ix2 n l)
    = e (ix2 n l) + NormRow.dx (row x n) (dn x g wu wd e n) l := by
  rw [val_main_v56_apply]; exact dx_at x g wu wd e n l

end Cert.FfnRef

end
-- ==== Proof.FfnBlock.lean ====
/- What one block of 512 rows of the feed-forward layer computes, forward and backward, as the reference's rows. -/
module

public import proofs.«01_k».proof.Proof.Gen.FfnKernelIdeal.Frame
public import proofs.«01_k».proof.Proof.FfnReferenceValue
public import Idealize.ShloMosaic.Lib.Pipeline.ValueKit
public import Idealize.ShloMosaic.Lib.Pointwise

@[expose] public section

noncomputable section

namespace Cert.FfnBlock

open Cert.FfnKernelIdeal Cert.FfnKernelIdeal.Gen Idealize.ShloMosaic FfnRef
open scoped BigOperators

variable {n : Fin 512 → Fin 4096} {x : S4096x1024.Idx → EReal} {g : S1024.Idx → EReal} {wu : S1024x4096.Idx → EReal}
  {wd e : S4096x1024.Idx → EReal}

/-- A block of the first weights is quarter `q` of their columns; a block of the second is quarter `q` of their rows. -/
def Up (wu : S1024x4096.Idx → EReal) (q : Fin 4) (U : Vec Ideal S1x1x1024x1024 .bf16) : Prop :=
  ∀ k j : Fin 1024, U (ix4 0 0 k j) = wu (ix2 k (col q j))
def Down (wd : S4096x1024.Idx → EReal) (q : Fin 4) (D : Vec Ideal S1x1024x1024 .bf16) : Prop :=
  ∀ j l : Fin 1024, D (ix3 0 j l) = wd (ix2 (col q j) l)

variable {q : Fin 4} {U U0 U1 U2 U3 : Vec Ideal S1x1x1024x1024 .bf16} {D D0 D1 D2 D3 : Vec Ideal S1x1024x1024 .bf16}

/-! ## Forward: `H` the normed rows, `X` the stream's -/

section Forward

variable {H : Vec Ideal S512x1024 .bf16} {X : Vec Ideal S512x1024 .f32} (hH : ∀ (r : Fin 512) (k : Fin 1024), H (ix2 r k) = nrm x g (n r) k)
  (hX : ∀ (r : Fin 512) (l : Fin 1024), X (ix2 r l) = x (ix2 (n r) l))

include hH in
theorem up7 (hU : Up wu q U) (r : Fin 512) (j : Fin 1024) : k0_pay7 H U (ix2 r j) = pre x g wu (n r) (col q j) := by
  unfold k0_pay7 k0_pay6; pointwise [hH, hU _ _]; rfl
include hH in
theorem up9 (hU : Up wu q U) (r : Fin 512) (j : Fin 1024) : k0_pay9 H U (ix2 r j) = pre x g wu (n r) (col q j) := by
  unfold k0_pay9 k0_pay6; pointwise [hH, hU _ _]; rfl
include hH in
theorem up1 (hU : Up wu q U) (r : Fin 512) (j : Fin 1024) : k0_pay1 (k0_pay6 H) U (ix2 r j) = pre x g wu (n r) (col q j) := by
  unfold k0_pay1 k0_pay6; pointwise [hH, hU _ _]; rfl
include hH in
theorem up3 (hU : Up wu q U) (r : Fin 512) (j : Fin 1024) : k0_pay3 (k0_pay6 H) U (ix2 r j) = pre x g wu (n r) (col q j) := by
  unfold k0_pay3 k0_pay6; pointwise [hH, hU _ _]; rfl

include hH hX in
theorem half (h0 : Up wu 0 U0) (h1 : Up wu 1 U1) (d0 : Down wd 0 D0) (d1 : Down wd 1 D1) (r : Fin 512) (l : Fin 1024) :
    k0_pay11 H X U0 D0 U1 D1 (ix2 r l) = x (ix2 (n r) l) + (∑ j, act x g wu (n r) (col 0 j) * wd (ix2 (col 0 j) l))
      + ∑ j, act x g wu (n r) (col 1 j) * wd (ix2 (col 1 j) l) := by
  unfold k0_pay11
  pointwise [up7 hH h0, up9 hH h1, hX, d0 _ _, d1 _ _]
  rfl

include hH hX in
/-- The layer's output. -/
theorem out_at (h0 : Up wu 0 U0) (h1 : Up wu 1 U1) (h2 : Up wu 2 U2) (h3 : Up wu 3 U3) (d0 : Down wd 0 D0) (d1 : Down wd 1 D1)
    (d2 : Down wd 2 D2) (d3 : Down wd 3 D3) (r : Fin 512) (l : Fin 1024) :
    k0_pay5 (k0_pay6 H) (k0_pay11 H X U0 D0 U1 D1) U2 D2 U3 D3 (ix2 r l) = out x g wu wd (n r) l := by
  unfold k0_pay5
  pointwise [half hH hX h0 h1 d0 d1, up1 hH h2, up3 hH h3, d2 _ _, d3 _ _]
  rw [out, sum_col fun j => act x g wu (n r) j * wd (ix2 j l)]
  simp only [add_assoc]
  rfl

end Forward

/-! ## Backward: `E` the output's cotangent, `P0` … `P3` the quarters of the hidden rows as the forward call leaves them -/

section Backward

variable {E X : Vec Ideal S512x1024 .f32} {P P0 P1 P2 P3 : Vec Ideal S512x1024 .bf16} {G : Vec Ideal S1x1024 .f32}
  (hE : ∀ (r : Fin 512) (l : Fin 1024), E (ix2 r l) = e (ix2 (n r) l))

/-- The hidden rows' columns of quarter `q`. -/
def Hid (x : S4096x1024.Idx → EReal) (g : S1024.Idx → EReal) (wu : S1024x4096.Idx → EReal) (n : Fin 512 → Fin 4096) (q : Fin 4)
    (P : Vec Ideal S512x1024 .bf16) : Prop := ∀ (r : Fin 512) (j : Fin 1024), P (ix2 r j) = pre x g wu (n r) (col q j)

include hE in
theorem d6 (hd : Down wd q D) (hp : Hid x g wu n q P) (r : Fin 512) (j : Fin 1024) :
    k1_pay6 E D P (ix2 r j) = dpre x g wu wd e (n r) (col q j) := by
  unfold k1_pay6 k1_pay5; pointwise [hE, hd _ _, hp _ _, Consts.cTwo]; rfl
include hE in
theorem d9 (hd : Down wd q D) (hp : Hid x g wu n q P) (r : Fin 512) (j : Fin 1024) :
    k1_pay9 (k1_pay8 E D) P (ix2 r j) = dpre x g wu wd e (n r) (col q j) := by
  unfold k1_pay9 k1_pay8 k1_pay5; pointwise [hE, hd _ _, hp _ _, Consts.cTwo]; rfl
include hE in
theorem d10 (hd : Down wd q D) (hp : Hid x g wu n q P) (r : Fin 512) (j : Fin 1024) :
    k1_pay10 (k1_pay5 E) D P (ix2 r j) = dpre x g wu wd e (n r) (col q j) := by
  unfold k1_pay10 k1_pay5; pointwise [hE, hd _ _, hp _ _, Consts.cTwo]; rfl
include hE in
theorem d12 (hd : Down wd q D) (hp : Hid x g wu n q P) (r : Fin 512) (j : Fin 1024) :
    k1_pay12 (k1_pay5 E) D P (ix2 r j) = dpre x g wu wd e (n r) (col q j) := by
  unfold k1_pay12 k1_pay5; pointwise [hE, hd _ _, hp _ _, Consts.cTwo]; rfl

include hE in
/-- The normed row's cotangent, quarter after quarter. -/
theorem dh_at (h0 : Up wu 0 U0) (h1 : Up wu 1 U1) (h2 : Up wu 2 U2) (h3 : Up wu 3 U3) (d0 : Down wd 0 D0) (d1 : Down wd 1 D1)
    (e2 : Down wd 2 D2) (d3 : Down wd 3 D3) (p0 : Hid x g wu n 0 P0) (p1 : Hid x g wu n 1 P1) (p2 : Hid x g wu n 2 P2)
    (p3 : Hid x g wu n 3 P3) (r : Fin 512) (k : Fin 1024) :
    k1_pay13 (k1_pay5 E) (k1_pay11 (k1_pay5 E) (k1_pay7 E D0 P0 U0) (k1_pay8 E D1) P1 U1 D2 P2 U2) D3 P3 U3 (ix2 r k)
      = dh x g wu wd e (n r) k := by
  unfold k1_pay13 k1_pay11 k1_pay7
  pointwise [d6 hE d0 p0, d9 hE d1 p1, d10 hE e2 p2, d12 hE d3 p3, h0 _ _, h1 _ _, h2 _ _, h3 _ _]
  rw [dh, sum_col fun j => dpre x g wu wd e (n r) j * wu (ix2 k j)]

variable (v4 : FVec Ideal S512x1024 .bf16) (v57 : FVec Ideal S512x1024 .f32) (v58 : Vec Ideal S1x1024x1024 .bf16) (v61 : Vec Ideal S512x1024 .bf16)
  (v71 : Vec Ideal S1x1x1024x1024 .bf16)

/-- The gradient in the stream, from the normed row's cotangent. -/
theorem dx_of (r : Fin 512) (l : Fin 1024) :
    k1_pay1 E (k1_pay14 X) (k1_pay16 v4 v57 v58 v61 v71 G) (k1_pay17 v4 v57 v58 v61 v71 X G) (ix2 r l)
      = E (ix2 r l) + NormRow.dx (fun k => X (ix2 r k)) (fun k => k1_pay13 v4 v57 v58 v61 v71 (ix2 r k) * G (ix2 0 k)) l := by
  unfold k1_pay1 k1_pay17 k1_pay16 k1_pay15 k1_pay14
  generalize k1_pay13 v4 v57 v58 v61 v71 = M
  pointwise [Consts.c1024, Consts.eps_eq]
  rfl

/-- What a block adds to the gain's gradient. -/
theorem dg_of (p : Vec Ideal S1x1024 .f32) (i : Fin 1) (l : Fin 1024) :
    k1_pay3 (k1_pay13 v4 v57 v58 v61 v71) (k1_pay15 X) p (ix2 i l)
      = p (ix2 i l) + ∑ r : Fin 512, k1_pay13 v4 v57 v58 v61 v71 (ix2 r l) * (X (ix2 r l) * LossRow.rs fun k => X (ix2 r k)) := by
  unfold k1_pay3 k1_pay15 k1_pay14
  generalize k1_pay13 v4 v57 v58 v61 v71 = M
  pointwise [Consts.c1024, Consts.eps_eq]
  rfl

end Backward

end Cert.FfnBlock

end
-- ==== Proof.FfnRun.lean ====
/- The run of the feed-forward layer's forward and backward calls: what every array holds when both calls are done. -/
module

public import proofs.«01_k».proof.Proof.Gen.FfnKernelIdeal.Frame

@[expose] public section

set_option maxRecDepth 16384

noncomputable section

namespace Cert.FfnKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every array at the contents that the second call leaves and
    every signal counter at zero. -/
theorem run_last : θ_run defs (onTc (τ := τ) (main (F := F))) ⟨m, fun _ => 0, ρ⟩ (fun r =>
    (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.FfnKernelIdeal.Gen

end
-- ==== Proof.FfnKernelValue.lean ====
/- The arrays that the feed-forward layer's two calls leave. -/
module

public import proofs.«01_k».proof.Proof.FfnBlock
public import proofs.«01_k».proof.Proof.FfnRun
public import proofs.«01_k».proof.Proof.Halves

@[expose] public section

noncomputable section

namespace Cert.FfnValue

open Cert.FfnKernelIdeal Cert.FfnKernelIdeal.Gen Idealize.ShloMosaic Idealize.ShloMosaic.TcCoe FfnRef FfnBlock
open Idealize.ShloMosaic.Pipeline (Dat)
open scoped BigOperators

variable (m : (ℓ : Loc nD τ sig) → Buf (Elt Ideal) ℓ) (ρ : Dev nD → PrngReg)

/-! ## The blocks are blocks of the arguments -/

theorem idx0_0 : ∀ t : Fin cfg0.N, win0_0.index t = ![t.val, 0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![0, 0, 0, 0] := (by decide +kernel : ∀ t : Fin grid0.N, _)
theorem idx0_3 : ∀ t : Fin cfg0.N, win0_3.index t = ![0, 0, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![t.val, 0] := (by decide +kernel : ∀ t : Fin grid0.N, _)

theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![t.val, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0, 0, 0] := (by decide +kernel : ∀ t : Fin grid1.N, _)
theorem idx1_5 : ∀ t : Fin cfg1.N, win1_5.index t = ![0, 0, 0] := (by decide +kernel : ∀ t : Fin grid1.N, _)
theorem idx1_6 : ∀ t : Fin cfg1.N, win1_6.index t = ![t.val, 0] := (by decide +kernel : ∀ t : Fin grid1.N, _)
theorem idx1_7 : ∀ t : Fin cfg1.N, win1_7.index t = ![t.val, 0] := (by decide +kernel : ∀ t : Fin grid1.N, _)
theorem idx1_8 : ∀ t : Fin cfg1.N, win1_8.index t = ![0, 0] := (by decide +kernel : ∀ t : Fin grid1.N, _)
theorem idx1_9 : ∀ t : Fin cfg1.N, win1_9.index t = ![t.val, 0] := (by decide +kernel : ∀ t : Fin grid1.N, _)
theorem idx1_10 : ∀ t : Fin cfg1.N, win1_10.index t = ![t.val, 0] := (by decide +kernel : ∀ t : Fin grid1.N, _)

/-- The arguments of core `c`. -/
abbrev argX (c : Dev nD) : S4096x1024.Idx → EReal := m ((c : Thread nD τ).loc main_arg0)
abbrev argG (c : Dev nD) : S1024.Idx → EReal := m ((c : Thread nD τ).loc main_arg1)
abbrev argU (c : Dev nD) : S1024x4096.Idx → EReal := m ((c : Thread nD τ).loc main_arg2)
abbrev argD (c : Dev nD) : S4096x1024.Idx → EReal := m ((c : Thread nD τ).loc main_arg3)
abbrev argE (c : Dev nD) : S4096x1024.Idx → EReal := m ((c : Thread nD τ).loc main_arg4)

/-- Row `r` of block `t`, in the array. -/
def rowOf (t : ℕ) (r : Fin 512) : Fin 4096 := Fin.ofNat 4096 (t * 512 + r.val)

theorem rowOf_val {t : ℕ} (h : t < 8) (r : Fin 512) : (rowOf t r).val = t * 512 + r.val := Nat.mod_eq_of_lt (by omega)

theorem lt0 (t : Fin cfg0.N) : t.val < 8 := N_0 ▸ t.isLt
theorem lt1 (t : Fin cfg1.N) : t.val < 8 := N_1 ▸ t.isLt

/-! ### What the host leaves for the calls -/

theorem V1_arg (c : Dev nD) (b : Ref sig .tc) (h : b ∈ argRefs) : V1 m ρ c b = m ((c : Thread nD τ).loc b) := W1_args m ρ c b h
theorem V3_arg (c : Dev nD) (b : Ref sig .tc) (h : b ∈ argRefs) : V3 m ρ c b = m ((c : Thread nD τ).loc b) := W3_args m ρ c b h

theorem V1_u (c : Dev nD) : V1 m ρ c main_v3 = broadcastInDim S1x4x1024x1024 ![1, 2, 3] bcast_S4x1024x1024_S1x4x1024x1024_1_2_3
    (truncf .bf16 (transpose S4x1024x1024 [1, 0, 2] (shapeCast S1024x4x1024 (argU m c) shapeCasts_S1024x4096_S1024x4x1024)
      transposes_S1024x4x1024_S4x1024x1024_1_0_2) bitsLt_bf16_f32 : FVec Ideal S4x1024x1024 .bf16) := by
  unfold V1 W1
  simp only [hostOps0]
  after_results
  rfl

theorem V1_d (c : Dev nD) : V1 m ρ c main_v5 = broadcastInDim S1x4096x1024 ![1, 2] bcast_S4096x1024_S1x4096x1024_1_2
    (truncf .bf16 (argD m c : FVec Ideal S4096x1024 .f32) bitsLt_bf16_f32 : FVec Ideal S4096x1024 .bf16) := by
  unfold V1 W1
  simp only [hostOps0]
  after_results

theorem V1_h (c : Dev nD) : V1 m ρ c main_v19
    = (truncf .bf16 (FfnReferenceIdeal.Read.val_main_v15 (F := Ideal) (argX m c) (argG m c)) bitsLt_bf16_f32 : FVec Ideal S4096x1024 .bf16) := by
  unfold V1 W1
  simp only [hostOps0]
  after_results
  rfl

theorem V3_g (c : Dev nD) : V3 m ρ c main_v21 = shapeCast S1x1024 (argG m c : FVec Ideal S1024 .f32) shapeCasts_S1024_S1x1024 := by
  rw [← show W2 m ρ c (Proc.devRef .tc main_arg1) = argG m c from W2_args m ρ c _ (by decide)]
  unfold V3 W3
  simp only [hostOps1]
  after_results
  rfl

/-- What the forward call finds is still there for the backward call, its results apart. -/
theorem V3_in (c : Dev nD) (b : Ref sig .tc) (h : ∀ w : Fin cfg0.W, Pipeline.arrRef spec0 w = b → (cfg0.win w).isOut = false)
    (h' : b ∉ hostOps1_W) : V3 m ρ c b = V1 m ρ c b := (W3_of m ρ c b h').trans (W2_of m ρ c b h)

/-! ### The forward call's blocks -/

theorem blk0_x (c : Dev nD) (t : Fin cfg0.N) (r : Fin 512) (l : Fin 1024) : iblk0 (V1 m ρ) c 0 t (ix2 r l) = argX m c (ix2 (rowOf t.val r) l) := by
  rw [← show V1 m ρ c main_arg0 = argX m c from V1_arg m ρ c _ (by decide)]; blk_ext [iblk0, idx0_0 t, rowOf_val (lt0 t)]

theorem blk0_h (c : Dev nD) (t : Fin cfg0.N) (r : Fin 512) (k : Fin 1024) :
    iblk0 (V1 m ρ) c 1 t (ix2 r k) = nrm (argX m c) (argG m c) (rowOf t.val r) k := by
  have e : iblk0 (V1 m ρ) c 1 t (ix2 r k) = V1 m ρ c main_v19 (ix2 (rowOf t.val r) k) := by blk_ext [iblk0, idx0_1 t, rowOf_val (lt0 t)]
  rw [e, V1_h]; exact v15_at _ _ _ _

theorem host_u (c : Dev nD) (q : Fin 4) (k j : Fin 1024) : V1 m ρ c main_v3 (ix4 0 q k j) = argU m c (ix2 k (col q j)) := by
  rw [V1_u]; pointwise; rfl

theorem host_d (c : Dev nD) (j : Fin 4096) (l : Fin 1024) : V1 m ρ c main_v5 (ix3 0 j l) = argD m c (ix2 j l) := by
  rw [V1_d]; pointwise

theorem up0 (c : Dev nD) (t : Fin cfg0.N) (q : Fin 4) (o : ℕ) (ho : o = q.val) (inb) :
    Up (argU m c) q (View.ld (iblk0 (V1 m ρ) c 2 t) (Rect.unit ![0, o, 0, 0] ![1, 1, 1024, 1024] inb)) := by
  intro k j
  have e : iblk0 (V1 m ρ) c 2 t (ix4 0 q k j) = V1 m ρ c main_v3 (ix4 0 q k j) := by
    blk_ext [iblk0, idx0_2 t]
  rw [← host_u m ρ c, ← e]
  refine View.ld_unit_apply_of _ _ _ _ _ _ fun a => ?_
  match a with
  | ⟨0, _⟩ => rfl
  | ⟨1, _⟩ => exact ho.symm
  | ⟨2, _⟩ => exact (Nat.zero_add _).symm
  | ⟨3, _⟩ => exact (Nat.zero_add _).symm

theorem down0 (c : Dev nD) (t : Fin cfg0.N) (q : Fin 4) (o : ℕ) (ho : o = q.val * 1024) (inb) :
    Down (argD m c) q (View.ld (iblk0 (V1 m ρ) c 3 t) (Rect.unit ![0, o, 0] ![1, 1024, 1024] inb)) := by
  intro j l
  have e : iblk0 (V1 m ρ) c 3 t (ix3 0 (col q j) l) = V1 m ρ c main_v5 (ix3 0 (col q j) l) := by
    blk_ext [iblk0, idx0_3 t]
  rw [← host_d m ρ c, ← e]
  subst ho
  refine View.ld_unit_apply_of _ _ _ _ _ _ fun a => ?_
  match a with
  | ⟨0, _⟩ => rfl
  | ⟨1, _⟩ => rfl
  | ⟨2, _⟩ => exact (Nat.zero_add _).symm

/-! ### The forward call's arrays -/

/-- The stream with the layer added. -/
theorem final0_4 (c : Dev nD) : (dat0 (V1 m ρ) c).arrAt 4 cfg0.N = FfnReferenceIdeal.Read.val_main_v51 (F := Ideal) (argX m c) (argG m c) (argU m c) (argD m c) := by
  refine (dat0 (V1 m ρ) c).arrAt_eq_of_covers 4 _ (by decide +kernel) fun t hf y => ?_
  blk_simp
  rw [after0_4]
  obtain ⟨r, l, rfl⟩ : ∃ (r : Fin 512) (l : Fin 1024), y = ix2 r l := ⟨y 0, y 1, (ValueIdx.eq_ix2 y)⟩
  have e : (win0_4.blk t).view.emb (ix2 r l) = ix2 (rowOf t.val r) l := by blk_ext [idx0_4 t, rowOf_val (lt0 t)]
  rw [e, FfnRef.v24_at]
  unfold out0_4 k0_pay12
  frame_out
  exact FfnBlock.out_at (blk0_h m ρ c t) (blk0_x m ρ c t) (up0 m ρ c t 0 _ rfl _) (up0 m ρ c t 1 _ rfl _) (up0 m ρ c t 2 _ rfl _) (up0 m ρ c t 3 _ rfl _)
    (down0 m ρ c t 0 _ rfl _) (down0 m ρ c t 1 _ rfl _) (down0 m ρ c t 2 _ rfl _) (down0 m ρ c t 3 _ rfl _) r l

/-- Which quarter a hidden column is in, and where. -/
theorem col_cases (l : Fin 4096) : ∃ (q : Fin 4) (j : Fin 1024), l = col q j :=
  ⟨⟨l.val / 1024, by omega⟩, ⟨l.val % 1024, Nat.mod_lt _ (by omega)⟩, Fin.ext (by simp only [col]; omega)⟩

/-- Four stores side by side that hold the four quarters of a row. -/
theorem four_columns (f : Fin 512 → Fin 4096 → EReal) (P0 P1 P2 P3 : S512x1024.Idx → EReal) (h0 h1 h2 h3)
    (e0 : ∀ r j, P0 (ix2 r j) = f r (col 0 j)) (e1 : ∀ r j, P1 (ix2 r j) = f r (col 1 j)) (e2 : ∀ r j, P2 (ix2 r j) = f r (col 2 j))
    (e3 : ∀ r j, P3 (ix2 r j) = f r (col 3 j)) (r : Fin 512) (l : Fin 4096) :
    View.canon (Val := Elt Ideal) (s := S512x4096) (e := .bf16) [⟨Rect.unit ![0, 3072] ![512, 1024] h3, P3⟩, ⟨Rect.unit ![0, 2048] ![512, 1024] h2, P2⟩,
      ⟨Rect.unit ![0, 1024] ![512, 1024] h1, P1⟩, ⟨Rect.unit ![0, 0] ![512, 1024] h0, P0⟩] (ix2 r l) = f r l := by
  obtain ⟨q, j, rfl⟩ := col_cases l
  match q with
  | 0 =>
    rw [Halves.other_column _ _ _ _ _ _ (.inl (by simp only [col]; omega)), Halves.other_column _ _ _ _ _ _ (.inl (by simp only [col]; omega)),
      Halves.other_column _ _ _ _ _ _ (.inl (by simp only [col]; omega)), Halves.own_column _ _ _ _ _ _ j (by simp [col]), e0]
  | 1 =>
    rw [Halves.other_column _ _ _ _ _ _ (.inl (by simp only [col]; omega)), Halves.other_column _ _ _ _ _ _ (.inl (by simp only [col]; omega)),
      Halves.own_column _ _ _ _ _ _ j (by simp [col]), e1]
  | 2 =>
    rw [Halves.other_column _ _ _ _ _ _ (.inl (by simp only [col]; omega)), Halves.own_column _ _ _ _ _ _ j (by simp [col]), e2]
  | 3 => rw [Halves.own_column _ _ _ _ _ _ j (by simp [col]), e3]

/-- The hidden rows before their activation. -/
theorem final0_5 (c : Dev nD) : (dat0 (V1 m ρ) c).arrAt 5 cfg0.N = FfnReferenceIdeal.Read.val_main_v52 (F := Ideal) (argX m c) (argG m c) (argU m c) := by
  refine (dat0 (V1 m ρ) c).arrAt_eq_of_covers 5 _ (by decide +kernel) fun t hf y => ?_
  blk_simp
  rw [after0_5]
  obtain ⟨r, l, rfl⟩ : ∃ (r : Fin 512) (l : Fin 4096), y = ix2 r l := ⟨y 0, y 1, (ValueIdx.eq_ix2 y)⟩
  have e : (win0_5.blk t).view.emb (ix2 r l) = ix2 (rowOf t.val r) l := by blk_ext [idx0_5 t, rowOf_val (lt0 t)]
  rw [e, FfnRef.pre_at]
  unfold out0_5 k0_pay12
  frame_out
  exact four_columns (fun r => pre (argX m c) (argG m c) (argU m c) (rowOf t.val r)) _ _ _ _ _ _ _ _
    (fun r j => up7 (blk0_h m ρ c t) (up0 m ρ c t 0 _ rfl _) r j) (fun r j => up9 (blk0_h m ρ c t) (up0 m ρ c t 1 _ rfl _) r j)
    (fun r j => up1 (blk0_h m ρ c t) (up0 m ρ c t 2 _ rfl _) r j) (fun r j => up3 (blk0_h m ρ c t) (up0 m ρ c t 3 _ rfl _) r j) r l

/-! ### The backward call's blocks -/

theorem blk1_e (c : Dev nD) (t : Fin cfg1.N) (r : Fin 512) (l : Fin 1024) : iblk1 (V3 m ρ) c 0 t (ix2 r l) = argE m c (ix2 (rowOf t.val r) l) := by
  rw [← show V3 m ρ c main_arg4 = argE m c from V3_arg m ρ c _ (by decide)]; blk_ext [iblk1, idx1_0 t, rowOf_val (lt1 t)]

theorem blk1_x (c : Dev nD) (t : Fin cfg1.N) (r : Fin 512) : (fun k : Fin 1024 => iblk1 (V3 m ρ) c 2 t (ix2 r k)) = LossRef.row (argX m c) (rowOf t.val r) := by
  funext k
  unfold LossRef.row
  rw [← show V3 m ρ c main_arg0 = argX m c from V3_arg m ρ c _ (by decide)]; blk_ext [iblk1, idx1_2 t, rowOf_val (lt1 t)]

theorem blk1_g (c : Dev nD) (t : Fin cfg1.N) (l : Fin 1024) : iblk1 (V3 m ρ) c 3 t (ix2 0 l) = LossRef.gain (argG m c) l := by
  have e : iblk1 (V3 m ρ) c 3 t (ix2 0 l) = V3 m ρ c main_v21 (ix2 0 l) := by blk_ext [iblk1, idx1_3 t]
  rw [e, V3_g]; unfold LossRef.gain; pointwise

theorem blk1_pre (c : Dev nD) (t : Fin cfg1.N) (r : Fin 512) (j : Fin 4096) :
    iblk1 (V3 m ρ) c 1 t (ix2 r j) = pre (argX m c) (argG m c) (argU m c) (rowOf t.val r) j := by
  rw [← FfnRef.pre_at, ← final0_5 m ρ c, hF0 m ρ c 5, ← show V3 m ρ c main_v20_1 = V2 m ρ c main_v20_1 from W3_of m ρ c _ (by decide)]
  blk_ext [iblk1, idx1_1 t, rowOf_val (lt1 t)]

theorem hid1 (c : Dev nD) (t : Fin cfg1.N) (q : Fin 4) (o : ℕ) (ho : o = q.val * 1024) (inb) :
    Hid (argX m c) (argG m c) (argU m c) (rowOf t.val) q (View.ld (iblk1 (V3 m ρ) c 1 t) (Rect.unit ![0, o] ![512, 1024] inb)) := by
  intro r j
  rw [← blk1_pre m ρ c t]
  subst ho
  refine View.ld_unit_apply_of _ _ _ _ _ _ fun a => ?_
  match a with
  | ⟨0, _⟩ => exact (Nat.zero_add _).symm
  | ⟨1, _⟩ => rfl

theorem up1 (c : Dev nD) (t : Fin cfg1.N) (q : Fin 4) (o : ℕ) (ho : o = q.val) (inb) :
    Up (argU m c) q (View.ld (iblk1 (V3 m ρ) c 4 t) (Rect.unit ![0, o, 0, 0] ![1, 1, 1024, 1024] inb)) := by
  intro k j
  have e : iblk1 (V3 m ρ) c 4 t (ix4 0 q k j) = V1 m ρ c main_v3 (ix4 0 q k j) := by
    rw [← V3_in m ρ c main_v3 (by decide +kernel) (by decide)]; blk_ext [iblk1, idx1_4 t]
  rw [← host_u m ρ c, ← e]
  refine View.ld_unit_apply_of _ _ _ _ _ _ fun a => ?_
  match a with
  | ⟨0, _⟩ => rfl
  | ⟨1, _⟩ => exact ho.symm
  | ⟨2, _⟩ => exact (Nat.zero_add _).symm
  | ⟨3, _⟩ => exact (Nat.zero_add _).symm

theorem down1 (c : Dev nD) (t : Fin cfg1.N) (q : Fin 4) (o : ℕ) (ho : o = q.val * 1024) (inb) :
    Down (argD m c) q (View.ld (iblk1 (V3 m ρ) c 5 t) (Rect.unit ![0, o, 0] ![1, 1024, 1024] inb)) := by
  intro j l
  have e : iblk1 (V3 m ρ) c 5 t (ix3 0 (col q j) l) = V1 m ρ c main_v5 (ix3 0 (col q j) l) := by
    rw [← V3_in m ρ c main_v5 (by decide +kernel) (by decide)]; blk_ext [iblk1, idx1_5 t]
  rw [← host_d m ρ c, ← e]
  subst ho
  refine View.ld_unit_apply_of _ _ _ _ _ _ fun a => ?_
  match a with
  | ⟨0, _⟩ => rfl
  | ⟨1, _⟩ => rfl
  | ⟨2, _⟩ => exact (Nat.zero_add _).symm

/-! ### The backward call's arrays -/

/-- The normed rows' cotangent, from the loads of a point. -/
theorem dhBlk (c : Dev nD) (t : Fin cfg1.N) (p0 p1 p2 p3 d0 d1 d2 d3 u0 u1 u2 u3) (r : Fin 512) (k : Fin 1024) :
    k1_pay13 (k1_pay5 (iblk1 (V3 m ρ) c 0 t))
      (k1_pay11 (k1_pay5 (iblk1 (V3 m ρ) c 0 t))
        (k1_pay7 (iblk1 (V3 m ρ) c 0 t) (View.ld (iblk1 (V3 m ρ) c 5 t) (Rect.unit ![0, 0, 0] ![1, 1024, 1024] d0))
          (View.ld (iblk1 (V3 m ρ) c 1 t) (Rect.unit ![0, 0] ![512, 1024] p0))
          (View.ld (iblk1 (V3 m ρ) c 4 t) (Rect.unit ![0, 0, 0, 0] ![1, 1, 1024, 1024] u0)))
        (k1_pay8 (iblk1 (V3 m ρ) c 0 t) (View.ld (iblk1 (V3 m ρ) c 5 t) (Rect.unit ![0, 1024, 0] ![1, 1024, 1024] d1)))
        (View.ld (iblk1 (V3 m ρ) c 1 t) (Rect.unit ![0, 1024] ![512, 1024] p1))
        (View.ld (iblk1 (V3 m ρ) c 4 t) (Rect.unit ![0, 1, 0, 0] ![1, 1, 1024, 1024] u1))
        (View.ld (iblk1 (V3 m ρ) c 5 t) (Rect.unit ![0, 2048, 0] ![1, 1024, 1024] d2))
        (View.ld (iblk1 (V3 m ρ) c 1 t) (Rect.unit ![0, 2048] ![512, 1024] p2))
        (View.ld (iblk1 (V3 m ρ) c 4 t) (Rect.unit ![0, 2, 0, 0] ![1, 1, 1024, 1024] u2)))
      (View.ld (iblk1 (V3 m ρ) c 5 t) (Rect.unit ![0, 3072, 0] ![1, 1024, 1024] d3))
      (View.ld (iblk1 (V3 m ρ) c 1 t) (Rect.unit ![0, 3072] ![512, 1024] p3))
      (View.ld (iblk1 (V3 m ρ) c 4 t) (Rect.unit ![0, 3, 0, 0] ![1, 1, 1024, 1024] u3)) (ix2 r k)
    = dh (argX m c) (argG m c) (argU m c) (argD m c) (argE m c) (rowOf t.val r) k :=
  dh_at (blk1_e m ρ c t) (up1 m ρ c t 0 _ rfl _) (up1 m ρ c t 1 _ rfl _) (up1 m ρ c t 2 _ rfl _) (up1 m ρ c t 3 _ rfl _)
    (down1 m ρ c t 0 _ rfl _) (down1 m ρ c t 1 _ rfl _) (down1 m ρ c t 2 _ rfl _) (down1 m ρ c t 3 _ rfl _)
    (hid1 m ρ c t 0 _ rfl _) (hid1 m ρ c t 1 _ rfl _) (hid1 m ρ c t 2 _ rfl _) (hid1 m ρ c t 3 _ rfl _) r k

/-- The gradient in a block's rows, from any normed rows' cotangent that is the reference's. -/
theorem dxBlk (c : Dev nD) (t : Fin cfg1.N) (v4 : FVec Ideal S512x1024 .bf16) (v57 : FVec Ideal S512x1024 .f32)
    (v58 : Vec Ideal S1x1024x1024 .bf16) (v61 : Vec Ideal S512x1024 .bf16) (v71 : Vec Ideal S1x1x1024x1024 .bf16)
    (hd : ∀ (r : Fin 512) (k : Fin 1024), k1_pay13 v4 v57 v58 v61 v71 (ix2 r k)
      = dh (argX m c) (argG m c) (argU m c) (argD m c) (argE m c) (rowOf t.val r) k) (r : Fin 512) (l : Fin 1024) :
    k1_pay1 (iblk1 (V3 m ρ) c 0 t) (k1_pay14 (iblk1 (V3 m ρ) c 2 t)) (k1_pay16 v4 v57 v58 v61 v71 (iblk1 (V3 m ρ) c 3 t))
        (k1_pay17 v4 v57 v58 v61 v71 (iblk1 (V3 m ρ) c 2 t) (iblk1 (V3 m ρ) c 3 t)) (ix2 r l)
      = argE m c (ix2 (rowOf t.val r) l) + NormRow.dx (LossRef.row (argX m c) (rowOf t.val r))
          (dn (argX m c) (argG m c) (argU m c) (argD m c) (argE m c) (rowOf t.val r)) l := by
  rw [dx_of, blk1_e, blk1_x]
  refine congrArg (argE m c _ + ·) ?_
  refine congrArg (fun D => NormRow.dx _ D l) (funext fun k => ?_)
  rw [hd, blk1_g]
  rfl

/-- The gradient in the stream. -/
theorem final1_6 (c : Dev nD) : (dat1 (V3 m ρ) c).arrAt 6 cfg1.N = FfnReferenceIdeal.Read.val_main_v50 (F := Ideal) (argX m c) (argG m c) (argU m c) (argD m c) (argE m c) := by
  refine (dat1 (V3 m ρ) c).arrAt_eq_of_covers 6 _ (by decide +kernel) fun t hf y => ?_
  blk_simp
  rw [after1_6]
  obtain ⟨r, l, rfl⟩ : ∃ (r : Fin 512) (l : Fin 1024), y = ix2 r l := ⟨y 0, y 1, (ValueIdx.eq_ix2 y)⟩
  have e : (win1_6.blk t).view.emb (ix2 r l) = ix2 (rowOf t.val r) l := by blk_ext [idx1_6 t, rowOf_val (lt1 t)]
  rw [e, FfnRef.dx_at]
  by_cases h : t.val % 8 = 0
  · rw [outsAt1_A (V3 m ρ) c t h]; frame_out; exact dxBlk m ρ c t _ _ _ _ _ (dhBlk m ρ c t _ _ _ _ _ _ _ _ _ _ _ _) r l
  · rw [outsAt1_B (V3 m ρ) c t h]; frame_out; exact dxBlk m ρ c t _ _ _ _ _ (dhBlk m ρ c t _ _ _ _ _ _ _ _ _ _ _ _) r l

/-- The hidden rows' cotangent. -/
theorem final1_7 (c : Dev nD) : (dat1 (V3 m ρ) c).arrAt 7 cfg1.N = FfnReferenceIdeal.Read.val_main_v53 (F := Ideal) (argX m c) (argG m c) (argU m c) (argD m c) (argE m c) := by
  refine (dat1 (V3 m ρ) c).arrAt_eq_of_covers 7 _ (by decide +kernel) fun t hf y => ?_
  blk_simp
  rw [after1_7]
  obtain ⟨r, l, rfl⟩ : ∃ (r : Fin 512) (l : Fin 4096), y = ix2 r l := ⟨y 0, y 1, (ValueIdx.eq_ix2 y)⟩
  have e : (win1_7.blk t).view.emb (ix2 r l) = ix2 (rowOf t.val r) l := by blk_ext [idx1_7 t, rowOf_val (lt1 t)]
  rw [e, FfnRef.dp_at]
  by_cases h : t.val % 8 = 0
  · rw [outsAt1_A (V3 m ρ) c t h]; frame_out; exact four_columns (fun r => dpre (argX m c) (argG m c) (argU m c) (argD m c) (argE m c) (rowOf t.val r)) _ _ _ _ _ _ _ _
      (d6 (blk1_e m ρ c t) (down1 m ρ c t 0 _ rfl _) (hid1 m ρ c t 0 _ rfl _)) (d9 (blk1_e m ρ c t) (down1 m ρ c t 1 _ rfl _) (hid1 m ρ c t 1 _ rfl _))
      (d10 (blk1_e m ρ c t) (down1 m ρ c t 2 _ rfl _) (hid1 m ρ c t 2 _ rfl _)) (d12 (blk1_e m ρ c t) (down1 m ρ c t 3 _ rfl _) (hid1 m ρ c t 3 _ rfl _)) r l
  · rw [outsAt1_B (V3 m ρ) c t h]; frame_out; exact four_columns (fun r => dpre (argX m c) (argG m c) (argU m c) (argD m c) (argE m c) (rowOf t.val r)) _ _ _ _ _ _ _ _
      (d6 (blk1_e m ρ c t) (down1 m ρ c t 0 _ rfl _) (hid1 m ρ c t 0 _ rfl _)) (d9 (blk1_e m ρ c t) (down1 m ρ c t 1 _ rfl _) (hid1 m ρ c t 1 _ rfl _))
      (d10 (blk1_e m ρ c t) (down1 m ρ c t 2 _ rfl _) (hid1 m ρ c t 2 _ rfl _)) (d12 (blk1_e m ρ c t) (down1 m ρ c t 3 _ rfl _) (hid1 m ρ c t 3 _ rfl _)) r l

/-- The output's cotangent, as the weights' gradients take it. -/
theorem final1_9 (c : Dev nD) : (dat1 (V3 m ρ) c).arrAt 9 cfg1.N = FfnReferenceIdeal.Read.val_main_v55 (F := Ideal) (argE m c) := by
  refine (dat1 (V3 m ρ) c).arrAt_eq_of_covers 9 _ (by decide +kernel) fun t hf y => ?_
  blk_simp
  rw [after1_9]
  obtain ⟨r, l, rfl⟩ : ∃ (r : Fin 512) (l : Fin 1024), y = ix2 r l := ⟨y 0, y 1, (ValueIdx.eq_ix2 y)⟩
  have e : (win1_9.blk t).view.emb (ix2 r l) = ix2 (rowOf t.val r) l := by blk_ext [idx1_9 t, rowOf_val (lt1 t)]
  rw [e, FfnReferenceIdeal.Read.val_main_v55_apply]
  by_cases h : t.val % 8 = 0
  · rw [outsAt1_A (V3 m ρ) c t h]; frame_out; exact blk1_e m ρ c t r l
  · rw [outsAt1_B (V3 m ρ) c t h]; frame_out; exact blk1_e m ρ c t r l

/-- The gradient in the stream, as the next calls take it. -/
theorem final1_10 (c : Dev nD) : (dat1 (V3 m ρ) c).arrAt 10 cfg1.N = FfnReferenceIdeal.Read.val_main_v56 (F := Ideal) (argX m c) (argG m c) (argU m c) (argD m c) (argE m c) := by
  refine (dat1 (V3 m ρ) c).arrAt_eq_of_covers 10 _ (by decide +kernel) fun t hf y => ?_
  blk_simp
  rw [after1_10]
  obtain ⟨r, l, rfl⟩ : ∃ (r : Fin 512) (l : Fin 1024), y = ix2 r l := ⟨y 0, y 1, (ValueIdx.eq_ix2 y)⟩
  have e : (win1_10.blk t).view.emb (ix2 r l) = ix2 (rowOf t.val r) l := by blk_ext [idx1_10 t, rowOf_val (lt1 t)]
  rw [e, FfnRef.dx_cast_at]
  by_cases h : t.val % 8 = 0
  · rw [outsAt1_A (V3 m ρ) c t h]; frame_out; exact dxBlk m ρ c t _ _ _ _ _ (dhBlk m ρ c t _ _ _ _ _ _ _ _ _ _ _ _) r l
  · rw [outsAt1_B (V3 m ρ) c t h]; frame_out; exact dxBlk m ρ c t _ _ _ _ _ (dhBlk m ρ c t _ _ _ _ _ _ _ _ _ _ _ _) r l

/-- Row `n`'s share of the gain's gradient. -/
def share (c : Dev nD) (l : Fin 1024) (n : Fin 4096) : EReal :=
  dh (argX m c) (argG m c) (argU m c) (argD m c) (argE m c) n l * (LossRef.row (argX m c) n l * LossRow.rs (LossRef.row (argX m c) n))

/-- What a point adds to the gain's gradient. -/
theorem dgBlk (c : Dev nD) (t : Fin cfg1.N) (v4 : FVec Ideal S512x1024 .bf16) (v57 : FVec Ideal S512x1024 .f32)
    (v58 : Vec Ideal S1x1024x1024 .bf16) (v61 : Vec Ideal S512x1024 .bf16) (v71 : Vec Ideal S1x1x1024x1024 .bf16)
    (hd : ∀ (r : Fin 512) (k : Fin 1024), k1_pay13 v4 v57 v58 v61 v71 (ix2 r k)
      = dh (argX m c) (argG m c) (argU m c) (argD m c) (argE m c) (rowOf t.val r) k) (p : Vec Ideal S1x1024 .f32) (i : Fin 1) (l : Fin 1024) :
    k1_pay3 (k1_pay13 v4 v57 v58 v61 v71) (k1_pay15 (iblk1 (V3 m ρ) c 2 t)) p (ix2 i l)
      = p (ix2 i l) + ∑ r : Fin 512, share m c l (rowOf t.val r) := by
  rw [dg_of]
  refine congrArg (p _ + ·) (Finset.sum_congr rfl fun r _ => ?_)
  rw [hd, blk1_x m ρ c t r, show iblk1 (V3 m ρ) c 2 t (ix2 r l) = _ from congrFun (blk1_x m ρ c t r) l]
  rfl

theorem out8 (c : Dev nD) (t : Fin cfg1.N) (ht : t.val + 1 = cfg1.N) (l : Fin 1024) : (outsAt1 (V3 m ρ) c t.val t.isLt).2.2.1 (ix2 0 l)
    = ∑ p : Fin cfg1.N, ∑ r : Fin 512, share m c l (rowOf p.val r) := by
  rw [Pipeline.eq_sum_fin_of_reset_step_apply_last (fun n h => fun l => (outsAt1 (V3 m ρ) c n h).2.2.1 (ix2 0 l)) 8 (fun _ => 0)
    (fun p l => ∑ r : Fin 512, share m c l (rowOf p.val r))
    (fun t h j => by
      rw [outsAt1_A (V3 m ρ) c t h]; frame_out
      refine (dgBlk m ρ c t _ _ _ _ _ (dhBlk m ρ c t _ _ _ _ _ _ _ _ _ _ _ _) _ 0 j).trans ?_; unfold_payloads; pointwise)
    (fun t h j => by
      rw [outsAt1_B (V3 m ρ) c t h]; frame_out
      exact dgBlk m ρ c t _ _ _ _ _ (dhBlk m ρ c t _ _ _ _ _ _ _ _ _ _ _ _) _ 0 j)
    (le_of_eq N_1) t ht l, zero_add]

/-- The blocks' shares are the rows' shares. -/
theorem sum_share (c : Dev nD) (l : Fin 1024) :
    ∑ p : Fin cfg1.N, ∑ r : Fin 512, share m c l (rowOf p.val r) = ∑ n : Fin 4096, share m c l n := by
  refine Eq.trans ?_ (Fin.sum_mul_add_fin (S := cfg1.N) (n := 512) (share m c l))
  refine Finset.sum_congr rfl fun p _ => Finset.sum_congr rfl fun r _ => congrArg (share m c l) (Fin.ext ?_)
  exact rowOf_val (lt1 p) r

/-- The gradient in the gain. -/
theorem final1_8 (c : Dev nD) : (dat1 (V3 m ρ) c).arrAt 8 cfg1.N = FfnReferenceIdeal.Read.val_main_v54 (F := Ideal)
    (argX m c) (argG m c) (argU m c) (argD m c) (argE m c) := by
  refine (dat1 (V3 m ρ) c).arrAt_eq_of_covers 8 _ (by decide +kernel) fun t hf y => ?_
  blk_simp
  rw [after1_8]
  obtain ⟨r, l, rfl⟩ : ∃ (r : Fin 1) (l : Fin 1024), y = ix2 r l := ⟨y 0, y 1, (ValueIdx.eq_ix2 y)⟩
  obtain rfl : r = 0 := Subsingleton.elim _ _
  have hN : cfg1.N = 8 := N_1
  have hl := (flush1_8 t).mp hf
  have e : (win1_8.blk t).view.emb (ix2 (0 : Fin 1) l) = ix2 0 l := by blk_ext [idx1_8 t]
  rw [out8 m ρ c t (by have := t.isLt; omega), e, FfnRef.dg_at]
  exact sum_share m c l

end Cert.FfnValue

end
-- ==== Proof.FfnClaims.lean ====
/- The claims about the feed-forward layer, forward and backward: the frames of the two calls at both readings, the reference's
   frame, and the equation of the seven results (the stream and the hidden rows; the gradient in the stream, the hidden rows'
   cotangent, the gain's gradient and the two casts). -/
module

public import proofs.«01_k».proof.Defs
public import proofs.«01_k».proof.Proof.Gen.FfnKernel.Frame
public import proofs.«01_k».proof.Proof.FfnKernelValue

@[expose] public section

noncomputable section

namespace Cert.FfnClaims

open Idealize.ShloMosaic Idealize.SL.Sem

/-- The kernel runs, keeps its arguments and leaves no signal pending: at bit patterns, and at extended reals. -/
theorem frame_k : Cert.quiescent_FfnKernel := fun m ρ _ => Cert.FfnKernel.Gen.frame m ρ
theorem frame_ki : Cert.quiescent_FfnKernelIdeal := fun m ρ _ => Cert.FfnKernelIdeal.Gen.frame m ρ

/-- The reference runs, keeps its arguments and leaves no signal pending. -/
theorem frame_r : Cert.quiescent_FfnReferenceIdeal := fun m ρ _ =>
  (θ_run Cert.FfnReferenceIdeal.defs _ _).mono
    (fun r h => ⟨fun c => (h c).2.2.2.2.2.2.2, sem_eq_zero_of_no_sems (by decide) r.2⟩)
    (Cert.FfnReferenceIdeal.Value.run (F := Ideal) m ρ)

section Results

open Cert.FfnKernelIdeal Cert.FfnKernelIdeal.Gen Idealize.ShloMosaic.TcCoe

variable (m : (ℓ : Loc nD τ sig) → Buf (Elt Ideal) ℓ) (ρ : Dev nD → PrngReg)

/-- What the forward call leaves is still there at the end. -/
theorem kept (c : Dev nD) (w : Fin cfg0.W)
    (h : ∀ v : Fin cfg1.W, Pipeline.arrRef spec1 v = Pipeline.arrRef spec0 w → (cfg1.win v).isOut = false)
    (h' : Pipeline.arrRef spec0 w ∉ hostOps1_W) :
    W4 m ρ c (Proc.devRef .tc (Pipeline.arrRef spec0 w)) = (dat0 (V1 m ρ) c).arrAt w cfg0.N :=
  ((W4_of m ρ c _ h).trans (W3_of m ρ c _ h')).trans (W2_arr m ρ c w)

end Results

set_option maxHeartbeats 1000000 in
open Cert.FfnReferenceIdeal.Read Cert.FfnKernelIdeal Cert.FfnKernelIdeal.Gen in
/-- On agreeing arguments the kernel's seven result arrays are the reference's. -/
theorem algebraic : Cert.algebraic_FfnKernelIdeal_FfnReferenceIdeal := by
  intro m g m' g' _ hagree
  refine ⟨fun c => W4 m g c (Proc.devRef .tc main_v20_0), fun c => W4 m g c (Proc.devRef .tc main_v20_1), fun c => W4 m g c (Proc.devRef .tc main_v22_0), fun c => W4 m g c (Proc.devRef .tc main_v22_1), fun c => W4 m g c (Proc.devRef .tc main_v22_2), fun c => W4 m g c (Proc.devRef .tc main_v22_3), fun c => W4 m g c (Proc.devRef .tc main_v22_4), ?_, ?_⟩
  · refine (θ_run defs _ _).mono (fun _ h => fun c => ⟨h.1 c _ (mem_uc main_v20_0 (by decide)),
      h.1 c _ (mem_uc main_v20_1 (by decide)),
      h.1 c _ (mem_uc main_v22_0 (by decide)),
      h.1 c _ (mem_uc main_v22_1 (by decide)),
      h.1 c _ (mem_uc main_v22_2 (by decide)),
      h.1 c _ (mem_uc main_v22_3 (by decide)),
      h.1 c _ (mem_uc main_v22_4 (by decide)),
      (h.1 c _ (mem_uc main_arg0 (by decide))).trans (W4_main_arg0 m g c),
      (h.1 c _ (mem_uc main_arg1 (by decide))).trans (W4_main_arg1 m g c),
      (h.1 c _ (mem_uc main_arg2 (by decide))).trans (W4_main_arg2 m g c),
      (h.1 c _ (mem_uc main_arg3 (by decide))).trans (W4_main_arg3 m g c),
      (h.1 c _ (mem_uc main_arg4 (by decide))).trans (W4_main_arg4 m g c)⟩) (run_last m g)
  refine (θ_run Cert.FfnReferenceIdeal.defs _ _).mono (fun _ h c => ?_)
    (Cert.FfnReferenceIdeal.Value.run (F := Ideal) m' g')
  obtain ⟨h0, h1, h2, h3, h4⟩ := hagree c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
  · rw [h0, h1, h2, h3]
    exact (val_main_v51_eq ..).trans ((kept m g c 4 (by decide +kernel) (by decide)).trans (FfnValue.final0_4 m g c)).symm
  · rw [h0, h1, h2]
    exact (val_main_v52_eq ..).trans ((kept m g c 5 (by decide +kernel) (by decide)).trans (FfnValue.final0_5 m g c)).symm
  · rw [val_main_v50_eq, h0, h1, h2, h3, h4]
    exact ((W4_arr m g c 6).trans (FfnValue.final1_6 m g c)).symm
  · rw [h0, h1, h2, h3, h4]
    exact (val_main_v53_eq ..).trans ((W4_arr m g c 7).trans (FfnValue.final1_7 m g c)).symm
  · rw [h0, h1, h2, h3, h4]
    exact (val_main_v54_eq ..).trans ((W4_arr m g c 8).trans (FfnValue.final1_8 m g c)).symm
  · rw [h4]
    exact (val_main_v55_eq ..).trans ((W4_arr m g c 9).trans (FfnValue.final1_9 m g c)).symm
  · rw [val_main_v56_eq, h0, h1, h2, h3, h4]
    exact ((W4_arr m g c 10).trans (FfnValue.final1_10 m g c)).symm

end Cert.FfnClaims

end
-- ==== Proof.SgufwdSpec.lean ====
/- The spatial gating unit's forward lines over the extended reals, entry by entry. -/
module

public import proofs.«01_k».proof.Proof.SguInput

@[expose] public section

noncomputable section

namespace Cert.Sgufwd

open Idealize.ShloMosaic

/-- GELU, with its tanh. -/
def gelu (x : EReal) : EReal :=
  x * (((1 / 2 : ℝ) : EReal) * (((1 : ℝ) : EReal) + Ideal.tanh ((Consts.geluC : EReal) * (x + (Consts.geluA : EReal) * (x * x * x)))))

/-- GELU with its products in the kernel's order. -/
theorem gelu_eq (x : EReal) :
    ((1 / 2 : ℝ) : EReal) * x * (((1 : ℝ) : EReal) + Ideal.tanh ((Consts.geluC : EReal) * (x + (Consts.geluA : EReal) * x * x * x))) = gelu x := by
  unfold gelu
  rw [mul_comm _ x, mul_assoc, mul_assoc (Consts.geluA : EReal), mul_assoc (Consts.geluA : EReal)]

/-- A row's mean, the row less its mean, the reciprocal deviation, and the normed row with gain and shift. -/
def mean (x : Fin 1024 → EReal) : EReal := Ideal.div (∑ k, x k) ((1024 : ℝ) : EReal)
def cen (x : Fin 1024 → EReal) (l : Fin 1024) : EReal := x l - mean x
def scale (x : Fin 1024 → EReal) : EReal := Ideal.rsqrt (Ideal.div (∑ k, cen x k * cen x k) ((1024 : ℝ) : EReal) + (Consts.eps : EReal))
def norm (x g b : Fin 1024 → EReal) (l : Fin 1024) : EReal := cen x l * scale x * g l + b l

/-- The arguments: the projection, the masked weights, the bias, the norm's gain and shift. -/
structure In where
  p : (⟨2, ![4096, 6656]⟩ : Shape).Idx → EReal
  w : (⟨3, ![8, 128, 128]⟩ : Shape).Idx → EReal
  bs : (⟨2, ![8, 128]⟩ : Shape).Idx → EReal
  g : (⟨1, ![1024]⟩ : Shape).Idx → EReal
  b : (⟨1, ![1024]⟩ : Shape).Idx → EReal

namespace In

open Cert.Sgu (row colU colV grp)

variable (I : In)

/-- The normed, activated second half, and its mix over the tokens of a block of 128. -/
def vn (n : Fin 4096) (l : Fin 1024) : EReal := norm (fun k => gelu (I.p (ix2 n (colV k)))) (fun k => I.g (ix1 k)) (fun k => I.b (ix1 k)) l
def mixed (q : Fin 32) (i : Fin 128) (l : Fin 1024) : EReal := (∑ k, I.w (ix3 (grp l) i k) * I.vn (row q k) l) + I.bs (ix2 (grp l) i)
/-- The unit's output. -/
def out (q : Fin 32) (i : Fin 128) (l : Fin 1024) : EReal := gelu (I.p (ix2 (row q i) (colU l))) * I.mixed q i l

end In

end Cert.Sgufwd

end
-- ==== Proof.SgufwdReferenceValue.lean ====
/- What the spatial gating unit's forward reference computes, entry by entry. -/
module

public import proofs.«01_k».proof.Proof.SgufwdSpec
public import proofs.«01_k».proof.Proof.Indices
public import proofs.«01_k».proof.Proof.Gen.SgufwdReferenceIdeal.Read

@[expose] public section

noncomputable section

namespace Cert.SgufwdRef

open Cert.SgufwdReferenceIdeal Cert.SgufwdReferenceIdeal.Read Idealize.ShloMosaic Cert.Sgu
open Cert.Sgufwd (gelu mean cen scale norm)

variable (p : (⟨2, ![4096, 6656]⟩ : Shape).Idx → EReal) (ws : (⟨3, ![8, 128, 128]⟩ : Shape).Idx → EReal)
  (bs : (⟨2, ![8, 128]⟩ : Shape).Idx → EReal) (g b : (⟨1, ![1024]⟩ : Shape).Idx → EReal)

/-- The arguments, the weights masked. -/
def input : Sgufwd.In := ⟨p, val_main_v62 (F := Ideal) ws, bs, g, b⟩

theorem v1_at (n : Fin 4096) (l : Fin 1024) : val_main_v1 (F := Ideal) p (ix2 n l) = p (ix2 n (colU l)) := by
  rw [val_main_v1_apply, val_main_v0_apply]
  exact congrArg p (ix2_eq _ n (colU l) (by show _ = n.val; simp) (by show _ = 2560 + l.val; simp [Nat.add_comm]))

theorem v2_at (n : Fin 4096) (l : Fin 1024) : val_main_v2 (F := Ideal) p (ix2 n l) = p (ix2 n (colV l)) := by
  rw [val_main_v2_apply, val_main_v0_apply]
  exact congrArg p (ix2_eq _ n (colV l) (by show _ = n.val; simp) (by show _ = 3584 + l.val; simp [Nat.add_comm]))

theorem v15_at (n : Fin 4096) (l : Fin 1024) : val_main_v15 (F := Ideal) p (ix2 n l) = gelu (p (ix2 n (colU l))) := by
  simp only [val_main_v15_apply, val_main_v14_apply, val_main_v13_apply, val_main_cst_2_apply, val_main_v12_apply, val_main_v11_apply, val_main_cst_1_apply,
    val_main_v10_apply, val_main_v9_apply, val_main_v8_apply, val_main_cst_0_apply, val_main_v7_apply, val_main_v6_apply, val_main_v5_apply, val_main_cst_apply,
    val_main_v4_apply, val_main_v3_apply, v1_at]
  pointwise [Consts.cGeluA, Consts.cGeluC, Consts.cHalf, Consts.cOne]
  rfl

theorem v28_at (n : Fin 4096) (l : Fin 1024) : val_main_v28 (F := Ideal) p (ix2 n l) = gelu (p (ix2 n (colV l))) := by
  simp only [val_main_v28_apply, val_main_v27_apply, val_main_v26_apply, val_main_cst_6_apply, val_main_v25_apply, val_main_v24_apply, val_main_cst_5_apply,
    val_main_v23_apply, val_main_v22_apply, val_main_v21_apply, val_main_cst_4_apply, val_main_v20_apply, val_main_v19_apply, val_main_v18_apply, val_main_cst_3_apply,
    val_main_v17_apply, val_main_v16_apply, v2_at]
  pointwise [Consts.cGeluA, Consts.cGeluC, Consts.cHalf, Consts.cOne]
  rfl

/-- The activated second half of a row. -/
abbrev act (n : Fin 4096) (k : Fin 1024) : EReal := gelu (p (ix2 n (colV k)))

theorem v32_at (n : Fin 4096) : val_main_v32 (F := Ideal) p (ix2 n 0) = mean (act p n) := by
  unfold val_main_v32 val_main_v31 val_main_v30 val_main_v29 val_main_cst_8
  pointwise [v28_at, val_main_cst_7_apply, Consts.cZero, Consts.c1024]
  rw [EReal.coe_zero, zero_add]
  rfl

theorem v34_at (n : Fin 4096) (l : Fin 1024) : val_main_v34 (F := Ideal) p (ix2 n l) = cen (act p n) l := by
  unfold val_main_v34 val_main_v33
  pointwise [v28_at, v32_at]
  rfl

theorem v42_at (n : Fin 4096) : val_main_v42 (F := Ideal) p (ix2 n 0) = scale (act p n) := by
  unfold val_main_v42 val_main_v41 val_main_v40 val_main_v39 val_main_v38 val_main_v37 val_main_v36 val_main_v35 val_main_cst_10 val_main_cst_11
  pointwise [v34_at, val_main_cst_9_apply, Consts.cZero, Consts.c1024, Consts.eps_eq]
  rw [EReal.coe_zero, zero_add]
  rfl

theorem v50_at (n : Fin 4096) (l : Fin 1024) : val_main_v50 (F := Ideal) p g b (ix2 n l) = (input p ws bs g b).vn n l := by
  unfold val_main_v50 val_main_v49 val_main_v48 val_main_v47 val_main_v46 val_main_v45 val_main_v44 val_main_v43
  pointwise [v34_at, v42_at]
  rfl

theorem v68_at (q : Fin 32) (i : Fin 128) (e : Fin 8) (k : Fin 128) :
    val_main_v68 (F := Ideal) p ws bs g b (ix4 q i e k) = (input p ws bs g b).mixed q i (col e k) := by
  have eb : val_main_v67 (F := Ideal) bs (ix4 q i e k) = bs (ix2 e i) := by
    rw [val_main_v67_apply, val_main_v66_apply, val_main_v65_apply]
    exact congrArg _ (ix2_eq _ e i rfl rfl)
  have em : val_main_v64 (F := Ideal) p ws g b (ix4 q i e k) = ∑ n, val_main_v62 (F := Ideal) ws (ix3 e i n) * (input p ws bs g b).vn (row q n) (col e k) := by
    rw [val_main_v64_apply, val_main_v63_apply]
    refine Finset.sum_congr rfl fun n _ => ?_
    rw [mul_comm]
    refine congrArg₂ _ (congrArg _ (ix3_eq _ e i n rfl rfl rfl)) ?_
    rw [val_main_v51_apply]
    refine (congrArg _ (ix2_eq _ (row q n) (col e k) ?_ ?_)).trans (v50_at p ws bs g b _ _)
    · show (((q.val * 128 + n.val) * 8 + e.val) * 128 + k.val) / 1024 = q.val * 128 + n.val; omega
    · show (((q.val * 128 + n.val) * 8 + e.val) * 128 + k.val) % 1024 = e.val * 128 + k.val; omega
  rw [val_main_v68_apply, eb, em]
  unfold Sgufwd.In.mixed
  rw [grp_col]
  rfl

/-- The reference's result. -/
theorem v71_at (q : Fin 32) (i : Fin 128) (l : Fin 1024) :
    val_main_v71 (F := Ideal) p ws bs g b (ix2 (row q i) l) = (input p ws bs g b).out q i l := by
  have e : val_main_v69 (F := Ideal) p ws bs g b (ix2 (row q i) l) = (input p ws bs g b).mixed q i l := by
    rw [val_main_v69_apply]
    refine (congrArg _ (ix4_eq _ q i (grp l) (lane l) ?_ ?_ ?_ ?_)).trans ((v68_at p ws bs g b _ _ _ _).trans (by rw [col_grp]))
    · show ((q.val * 128 + i.val) * 1024 + l.val) / 131072 = q.val; omega
    · show ((q.val * 128 + i.val) * 1024 + l.val) / 1024 % 128 = i.val; omega
    · show ((q.val * 128 + i.val) * 1024 + l.val) / 128 % 8 = l.val / 128; omega
    · show ((q.val * 128 + i.val) * 1024 + l.val) % 128 = l.val % 128; omega
  unfold val_main_v71 val_main_v70
  pointwise [v15_at, e]
  rfl

end Cert.SgufwdRef

end
-- ==== Proof.SgufwdKernelValue.lean ====
/- The spatial gating unit's forward kernel: one tile of four blocks of 128 tokens, and the whole result array. -/
module

public import proofs.«01_k».proof.Proof.SguPieces
public import proofs.«01_k».proof.Proof.SgufwdReferenceValue
public import proofs.«01_k».proof.Proof.Gen.SgufwdKernelIdeal.Value

@[expose] public section

noncomputable section

namespace Cert.SgufwdValue

open Cert.SgufwdKernelIdeal Cert.SgufwdKernelIdeal.Gen Idealize.ShloMosaic Idealize.ShloMosaic.TcCoe Cert.Sgu
open Cert.SguValue (br ln tr br_tr ln_tr tr_br cols_at rows_at mm_nn ld_group slice_tile)
open Cert.Sgufwd (gelu gelu_eq scale norm)

theorem nA : (Named.named (F := Idealize.ShloMosaic.Ideal) κ "gelu_a" (φ := .bf16) 0x3D37#16 : EReal) = (Consts.geluA : EReal) := by
  refine (IdealRules.named_const.ideal_named_scalar _ _ _ _ rfl).trans ?_
  unfold Consts.geluA; norm_num
theorem nC : (Named.named (F := Idealize.ShloMosaic.Ideal) κ "gelu_c" (φ := .bf16) 0x3F4C#16 : EReal) = (Consts.geluC : EReal) := by
  refine (IdealRules.named_const.ideal_named_scalar _ _ _ _ rfl).trans ?_
  unfold Consts.geluC; norm_num

theorem gelu_at (X : Vec Ideal S512x1024 .bf16) (r : Fin 512) (l : Fin 1024) : k0_pay1 X (ix2 r l) = gelu (X (ix2 r l)) := by
  rw [← gelu_eq]
  unfold k0_pay1
  pointwise [Consts.bHalf, Consts.bOne, nA, nC]

/-- A row's GELU. -/
abbrev act (X : Vec Ideal S512x1024 .bf16) (r : Fin 512) (k : Fin 1024) : EReal := gelu (X (ix2 r k))

theorem cen_at (X : Vec Ideal S512x1024 .bf16) (r : Fin 512) (l : Fin 1024) : k0_pay2 X (ix2 r l) = Sgufwd.cen (act X r) l := by
  unfold k0_pay2 Sgufwd.cen Sgufwd.mean act
  pointwise [Consts.bHalf, Consts.bOne, Consts.c1024, nA, nC]
  simp only [gelu_eq]

theorem var_at (X : Vec Ideal S512x1024 .bf16) (r : Fin 512) :
    k0_pay3 X (ix2 r 0) = Ideal.div (∑ k, Sgufwd.cen (act X r) k * Sgufwd.cen (act X r) k) ((1024 : ℝ) : EReal) + (Consts.eps : EReal) := by
  unfold k0_pay3
  pointwise [cen_at, Consts.c1024, Consts.eps_eq]

theorem vn_at (X : Vec Ideal S512x1024 .bf16) (g b : Vec Ideal S1x1024 .f32) (r : Fin 512) (l : Fin 1024) :
    k0_pay4 (k0_pay2 X) (k0_pay3 X) g b (ix2 r l) = norm (act X r) (fun k => g (ix2 0 k)) (fun k => b (ix2 0 k)) l := by
  unfold k0_pay4
  pointwise [cen_at, var_at]
  rfl

/-- A tile's arguments of the mix: the weights, the bias along the rows, the normed rows of four blocks of one launch. -/
structure Tile (I : Sgufwd.In) (Q : Fin 4 → Fin 32) (W : Vec Ideal S8x128x128 .bf16) (B : Vec Ideal S8x128x128 .f32)
    (Y : Vec Ideal S512x1024 .bf16) : Prop where
  hW : ∀ g i k, W (ix3 g i k) = I.w (ix3 g i k)
  hB : ∀ g i k, B (ix3 g i k) = I.bs (ix2 g i)
  hY : ∀ q i l, Y (ix2 (tr q i) l) = I.vn (row (Q q) i) l

/-- One group of one block, mixed. -/
theorem mix_piece {I : Sgufwd.In} {Q : Fin 4 → Fin 32} {W : Vec Ideal S8x128x128 .bf16} {B : Vec Ideal S8x128x128 .f32}
    {Y : Vec Ideal S512x1024 .bf16} (X : Tile I Q W B Y) (q : Fin 4) (g : Fin 8) (o0 o1 o2 : ℕ) (e0 : o0 = g.val) (e1 : o1 = q.val * 128)
    (e2 : o2 = g.val * 128) (hw hb) (hs : Shape.Slices S512x1024 ![o1, o2] S128x128) (c1 c2) (i k : Fin 128) :
    addf (F := Ideal) (φ := .f32) (matmul (φ₁ := .bf16) (φ₂ := .bf16) dot_S128x128_S128x128_S128x128_1_0_0_1_n_n none
        (shapeCast S128x128 (View.ld W (Rect.unit ![o0, 0, 0] ![1, 128, 128] hw)) c1)
        (extractStridedSlice S128x128 ![o1, o2] Y hs) (constant S128x128 .f32 0x00000000#32))
      (shapeCast S128x128 (View.ld B (Rect.unit ![o0, 0, 0] ![1, 128, 128] hb)) c2) (ix2 i k)
      = I.mixed (Q q) i (col g k) := by
  have e : ∀ f g : S128x128.Idx → EReal, addf (F := Ideal) (φ := .f32) f g (ix2 i k) = f (ix2 i k) + g (ix2 i k) := fun _ _ => rfl
  refine (e _ _).trans (congrArg₂ _ ((mm_nn _ _ i k).trans ?_) ((ld_group B g o0 e0 _ _ i k).trans ?_))
  · simp only [ld_group _ g o0 e0, slice_tile _ q g o1 o2 e1 e2, X.hW, X.hY, grp_col]
  · rw [X.hB, grp_col]

variable (m : (ℓ : Loc nD τ sig) → Buf (Elt Ideal) ℓ) (c : Dev nD)

/-- The arguments of core `c`. -/
abbrev aP := m ((c : Thread nD τ).loc main_arg0)
abbrev aW := m ((c : Thread nD τ).loc main_arg1)
abbrev aBs := m ((c : Thread nD τ).loc main_arg2)
abbrev aG := m ((c : Thread nD τ).loc main_arg3)
abbrev aB := m ((c : Thread nD τ).loc main_arg4)
def input : Sgufwd.In := SgufwdRef.input (aP m c) (aW m c) (aBs m c) (aG m c) (aB m c)

theorem idx0 : ∀ t : Fin cfg0.N, win0_0.index t = ![t.val, 1] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

/-- Block `q` of tile `t`. -/
def bq (t : Fin cfg0.N) (q : Fin 4) : Fin 32 := ⟨t.val * 4 + q.val, by have := t.isLt; have h : cfg0.N = 8 := N_0; omega⟩

/-- No part of the window over the projection is cut. -/
theorem X0_0_at (t : Fin cfg0.N) (r : Fin 512) (k : Fin 2560) :
    X0_0 m c t (ix2 r k) = aP m c (ix2 ⟨t.val * 512 + r.val, by have := t.isLt; have h : cfg0.N = 8 := N_0; omega⟩ ⟨2560 + k.val, by omega⟩) := by
  unfold X0_0 aP
  unfold Pipeline.Window.fill
  rw [dif_pos (moved0_0 t _)]
  blk_ext [iblk, V, idx0 t]

abbrev uT (t : Fin cfg0.N) : Vec Ideal S512x1024 .bf16 := View.ld (X0_0 m c t) (Rect.unit ![0, 0] ![512, 1024] inb_S512x2560_S512x1024_0_0)
abbrev vT (t : Fin cfg0.N) : Vec Ideal S512x1024 .bf16 := View.ld (X0_0 m c t) (Rect.unit ![0, 1024] ![512, 1024] inb_S512x2560_S512x1024_0_1024)

theorem blkU (t : Fin cfg0.N) (q : Fin 4) (i : Fin 128) (l : Fin 1024) : uT m c t (ix2 (tr q i) l) = aP m c (ix2 (row (bq t q) i) (colU l)) := by
  refine (View.ld_unit_apply_of _ _ _ _ _ (ix2 (tr q i) ⟨l.val, by omega⟩) fun a => ?_).trans ((X0_0_at m c t _ _).trans ?_)
  · match a with
    | ⟨0, _⟩ => exact (Nat.zero_add _).symm
    | ⟨1, _⟩ => exact (Nat.zero_add _).symm
  · congr 2
    exact Fin.ext (by simp only [tr, row, bq]; omega)

theorem blkV (t : Fin cfg0.N) (q : Fin 4) (i : Fin 128) (l : Fin 1024) : vT m c t (ix2 (tr q i) l) = aP m c (ix2 (row (bq t q) i) (colV l)) := by
  refine (View.ld_unit_apply_of _ _ _ _ _ (ix2 (tr q i) ⟨1024 + l.val, by omega⟩) fun a => ?_).trans ((X0_0_at m c t _ _).trans ?_)
  · match a with
    | ⟨0, _⟩ => exact (Nat.zero_add _).symm
    | ⟨1, _⟩ => rfl
  · congr 2
    · exact Fin.ext (by simp only [tr, row, bq]; omega)
    · exact Fin.ext (by simp only [colV]; omega)

theorem V14 : V m c main_v14 = shapeCast S1x1024 (aG m c) shapeCasts_S1024_S1x1024 := by
  unfold V
  simp only [List.flatten_cons, List.flatten_nil, List.append_nil, hostOps0, hostOps0_1, hostOps0_2, List.cons_append, List.nil_append]
  after_results
  rfl

theorem V15 : V m c main_v15 = shapeCast S1x1024 (aB m c) shapeCasts_S1024_S1x1024 := by
  unfold V
  simp only [List.flatten_cons, List.flatten_nil, List.append_nil, hostOps0, hostOps0_1, hostOps0_2, List.cons_append, List.nil_append]
  after_results
  rfl

theorem V13 : V m c main_v13 = broadcastInDim S8x128x128 ![0, 1, 2] bcast_S8x128x1_S8x128x128_0_1_2
    (broadcastInDim S8x128x1 ![0, 1] bcast_S8x128_S8x128x1_0_1 (aBs m c)) := by
  unfold V
  simp only [List.flatten_cons, List.flatten_nil, List.append_nil, hostOps0, hostOps0_1, hostOps0_2, List.cons_append, List.nil_append]
  after_results

/-- The kernel's masked weights are the reference's. -/
theorem V11 : V m c main_v11 = SgufwdReferenceIdeal.Read.val_main_v62 (F := Ideal) (aW m c) := by
  unfold V
  simp only [List.flatten_cons, List.flatten_nil, List.append_nil, hostOps0, hostOps0_1, hostOps0_2, List.cons_append, List.nil_append]
  after_results
  rfl

theorem blkG (t : Fin cfg0.N) (l : Fin 1024) : iblk m c 3 t (ix2 0 l) = aG m c (ix1 l) := by
  have e : iblk m c 3 t (ix2 0 l) = V m c main_v14 (ix2 0 l) := by blk_ext [iblk, idx3 t]
  rw [e, V14]
  pointwise

theorem blkB (t : Fin cfg0.N) (l : Fin 1024) : iblk m c 4 t (ix2 0 l) = aB m c (ix1 l) := by
  have e : iblk m c 4 t (ix2 0 l) = V m c main_v15 (ix2 0 l) := by blk_ext [iblk, idx4 t]
  rw [e, V15]
  pointwise

/-- The four blocks of grid point `t`. -/
theorem tile (t : Fin cfg0.N) : Tile (input m c) (bq t) (iblk m c 1 t) (iblk m c 2 t)
    (k0_pay4 (k0_pay2 (vT m c t)) (k0_pay3 (vT m c t)) (iblk m c 3 t) (iblk m c 4 t)) where
  hW g i k := by
    have e : iblk m c 1 t (ix3 g i k) = V m c main_v11 (ix3 g i k) := by blk_ext [iblk, idx1 t]
    rw [e, V11]
    rfl
  hB g i k := by
    have e : iblk m c 2 t (ix3 g i k) = V m c main_v13 (ix3 g i k) := by blk_ext [iblk, idx2 t]
    rw [e, V13]
    pointwise
    rfl
  hY q i l := by
    rw [vn_at]
    unfold act
    simp only [blkV, blkG, blkB]
    rfl

theorem gate_of (G : FVec Ideal S512x1024 .bf16) (M : FVec Ideal S512x1024 .f32) (k : S512x1024.Idx) (x y : EReal) (hG : G k = x) (hM : M k = y) :
    truncf (F := Ideal) .bf16 (mulf (extf .f32 G bitsLt_bf16_f32) M) bitsLt_bf16_f32 k = x * y := by
  rw [← hG, ← hM]; rfl

/-- Block 0 of the tile, mixed. -/
theorem block0 (t : Fin cfg0.N) (i : Fin 128) (l : Fin 1024) : kernelRun0_A.sl.v110 c (ms0_0 t) (hs0_0 t) (ms0_1 t) (hs0_1 t) (ms0_2 t) (hs0_2 t) (ms0_3 t) (hs0_3 t) (ms0_4 t) (hs0_4 t) (X0_0 m c t) (iblk m c 1 t) (iblk m c 2 t) (iblk m c 3 t) (iblk m c 4 t) (ix2 i l) = (input m c).mixed (bq t 0) i l := by
  have X := tile m c t
  frame_out
  exact cols_at _ _ _ _ _ _ _ _ concatenates_S128x128_S128x128_S128x128_S128x128_S128x128_S128x128_S128x128_S128x128_S128x1024_d1
    (fun i l => (input m c).mixed (bq t 0) i l)
    (mix_piece X 0 0 _ _ _ rfl rfl rfl (by decide) (by decide) (by decide) shapeCasts_S1x128x128_S128x128 shapeCasts_S1x128x128_S128x128)
    (mix_piece X 0 1 _ _ _ rfl rfl rfl (by decide) (by decide) (by decide) shapeCasts_S1x128x128_S128x128 shapeCasts_S1x128x128_S128x128)
    (mix_piece X 0 2 _ _ _ rfl rfl rfl (by decide) (by decide) (by decide) shapeCasts_S1x128x128_S128x128 shapeCasts_S1x128x128_S128x128)
    (mix_piece X 0 3 _ _ _ rfl rfl rfl (by decide) (by decide) (by decide) shapeCasts_S1x128x128_S128x128 shapeCasts_S1x128x128_S128x128)
    (mix_piece X 0 4 _ _ _ rfl rfl rfl (by decide) (by decide) (by decide) shapeCasts_S1x128x128_S128x128 shapeCasts_S1x128x128_S128x128)
    (mix_piece X 0 5 _ _ _ rfl rfl rfl (by decide) (by decide) (by decide) shapeCasts_S1x128x128_S128x128 shapeCasts_S1x128x128_S128x128)
    (mix_piece X 0 6 _ _ _ rfl rfl rfl (by decide) (by decide) (by decide) shapeCasts_S1x128x128_S128x128 shapeCasts_S1x128x128_S128x128)
    (mix_piece X 0 7 _ _ _ rfl rfl rfl (by decide) (by decide) (by decide) shapeCasts_S1x128x128_S128x128 shapeCasts_S1x128x128_S128x128) i l

/-- Block 1 of the tile, mixed. -/
theorem block1 (t : Fin cfg0.N) (i : Fin 128) (l : Fin 1024) : kernelRun0_A.sl.v167 c (ms0_0 t) (hs0_0 t) (ms0_1 t) (hs0_1 t) (ms0_2 t) (hs0_2 t) (ms0_3 t) (hs0_3 t) (ms0_4 t) (hs0_4 t) (X0_0 m c t) (iblk m c 1 t) (iblk m c 2 t) (iblk m c 3 t) (iblk m c 4 t) (ix2 i l) = (input m c).mixed (bq t 1) i l := by
  have X := tile m c t
  frame_out
  exact cols_at _ _ _ _ _ _ _ _ concatenates_S128x128_S128x128_S128x128_S128x128_S128x128_S128x128_S128x128_S128x128_S128x1024_d1
    (fun i l => (input m c).mixed (bq t 1) i l)
    (mix_piece X 1 0 _ _ _ rfl rfl rfl (by decide) (by decide) (by decide) shapeCasts_S1x128x128_S128x128 shapeCasts_S1x128x128_S128x128)
    (mix_piece X 1 1 _ _ _ rfl rfl rfl (by decide) (by decide) (by decide) shapeCasts_S1x128x128_S128x128 shapeCasts_S1x128x128_S128x128)
    (mix_piece X 1 2 _ _ _ rfl rfl rfl (by decide) (by decide) (by decide) shapeCasts_S1x128x128_S128x128 shapeCasts_S1x128x128_S128x128)
    (mix_piece X 1 3 _ _ _ rfl rfl rfl (by decide) (by decide) (by decide) shapeCasts_S1x128x128_S128x128 shapeCasts_S1x128x128_S128x128)
    (mix_piece X 1 4 _ _ _ rfl rfl rfl (by decide) (by decide) (by decide) shapeCasts_S1x128x128_S128x128 shapeCasts_S1x128x128_S128x128)
    (mix_piece X 1 5 _ _ _ rfl rfl rfl (by decide) (by decide) (by decide) shapeCasts_S1x128x128_S128x128 shapeCasts_S1x128x128_S128x128)
    (mix_piece X 1 6 _ _ _ rfl rfl rfl (by decide) (by decide) (by decide) shapeCasts_S1x128x128_S128x128 shapeCasts_S1x128x128_S128x128)
    (mix_piece X 1 7 _ _ _ rfl rfl rfl (by decide) (by decide) (by decide) shapeCasts_S1x128x128_S128x128 shapeCasts_S1x128x128_S128x128) i l

/-- Block 2 of the tile, mixed. -/
theorem block2 (t : Fin cfg0.N) (i : Fin 128) (l : Fin 1024) : kernelRun0_A.sl.v224 c (ms0_0 t) (hs0_0 t) (ms0_1 t) (hs0_1 t) (ms0_2 t) (hs0_2 t) (ms0_3 t) (hs0_3 t) (ms0_4 t) (hs0_4 t) (X0_0 m c t) (iblk m c 1 t) (iblk m c 2 t) (iblk m c 3 t) (iblk m c 4 t) (ix2 i l) = (input m c).mixed (bq t 2) i l := by
  have X := tile m c t
  frame_out
  exact cols_at _ _ _ _ _ _ _ _ concatenates_S128x128_S128x128_S128x128_S128x128_S128x128_S128x128_S128x128_S128x128_S128x1024_d1
    (fun i l => (input m c).mixed (bq t 2) i l)
    (mix_piece X 2 0 _ _ _ rfl rfl rfl (by decide) (by decide) (by decide) shapeCasts_S1x128x128_S128x128 shapeCasts_S1x128x128_S128x128)
    (mix_piece X 2 1 _ _ _ rfl rfl rfl (by decide) (by decide) (by decide) shapeCasts_S1x128x128_S128x128 shapeCasts_S1x128x128_S128x128)
    (mix_piece X 2 2 _ _ _ rfl rfl rfl (by decide) (by decide) (by decide) shapeCasts_S1x128x128_S128x128 shapeCasts_S1x128x128_S128x128)
    (mix_piece X 2 3 _ _ _ rfl rfl rfl (by decide) (by decide) (by decide) shapeCasts_S1x128x128_S128x128 shapeCasts_S1x128x128_S128x128)
    (mix_piece X 2 4 _ _ _ rfl rfl rfl (by decide) (by decide) (by decide) shapeCasts_S1x128x128_S128x128 shapeCasts_S1x128x128_S128x128)
    (mix_piece X 2 5 _ _ _ rfl rfl rfl (by decide) (by decide) (by decide) shapeCasts_S1x128x128_S128x128 shapeCasts_S1x128x128_S128x128)
    (mix_piece X 2 6 _ _ _ rfl rfl rfl (by decide) (by decide) (by decide) shapeCasts_S1x128x128_S128x128 shapeCasts_S1x128x128_S128x128)
    (mix_piece X 2 7 _ _ _ rfl rfl rfl (by decide) (by decide) (by decide) shapeCasts_S1x128x128_S128x128 shapeCasts_S1x128x128_S128x128) i l

/-- Block 3 of the tile, mixed. -/
theorem block3 (t : Fin cfg0.N) (i : Fin 128) (l : Fin 1024) : kernelRun0_A.sl.v281 c (ms0_0 t) (hs0_0 t) (ms0_1 t) (hs0_1 t) (ms0_2 t) (hs0_2 t) (ms0_3 t) (hs0_3 t) (ms0_4 t) (hs0_4 t) (X0_0 m c t) (iblk m c 1 t) (iblk m c 2 t) (iblk m c 3 t) (iblk m c 4 t) (ix2 i l) = (input m c).mixed (bq t 3) i l := by
  have X := tile m c t
  frame_out
  exact cols_at _ _ _ _ _ _ _ _ concatenates_S128x128_S128x128_S128x128_S128x128_S128x128_S128x128_S128x128_S128x128_S128x1024_d1
    (fun i l => (input m c).mixed (bq t 3) i l)
    (mix_piece X 3 0 _ _ _ rfl rfl rfl (by decide) (by decide) (by decide) shapeCasts_S1x128x128_S128x128 shapeCasts_S1x128x128_S128x128)
    (mix_piece X 3 1 _ _ _ rfl rfl rfl (by decide) (by decide) (by decide) shapeCasts_S1x128x128_S128x128 shapeCasts_S1x128x128_S128x128)
    (mix_piece X 3 2 _ _ _ rfl rfl rfl (by decide) (by decide) (by decide) shapeCasts_S1x128x128_S128x128 shapeCasts_S1x128x128_S128x128)
    (mix_piece X 3 3 _ _ _ rfl rfl rfl (by decide) (by decide) (by decide) shapeCasts_S1x128x128_S128x128 shapeCasts_S1x128x128_S128x128)
    (mix_piece X 3 4 _ _ _ rfl rfl rfl (by decide) (by decide) (by decide) shapeCasts_S1x128x128_S128x128 shapeCasts_S1x128x128_S128x128)
    (mix_piece X 3 5 _ _ _ rfl rfl rfl (by decide) (by decide) (by decide) shapeCasts_S1x128x128_S128x128 shapeCasts_S1x128x128_S128x128)
    (mix_piece X 3 6 _ _ _ rfl rfl rfl (by decide) (by decide) (by decide) shapeCasts_S1x128x128_S128x128 shapeCasts_S1x128x128_S128x128)
    (mix_piece X 3 7 _ _ _ rfl rfl rfl (by decide) (by decide) (by decide) shapeCasts_S1x128x128_S128x128 shapeCasts_S1x128x128_S128x128) i l

/-- What a tile writes. -/
theorem out5 (t : Fin cfg0.N) (q : Fin 4) (i : Fin 128) (l : Fin 1024) : outsAt0 m c t (ix2 (tr q i) l) = (input m c).out (bq t q) i l := by
  unfold outsAt0 out0_A_5 kernelRun0_A
  dsimp only
  simp (disch := decide) only [View.read_writes_junk_eq_canon, View.canon_cons_unit_lit']
  unfold kernelRun0_A.sl.r_3 k0_pay38
  refine gate_of _ _ _ _ _ ((?_ : kernelRun0_A.sl.r c (ms0_0 t) (hs0_0 t) (X0_0 m c t) (ix2 (tr q i) l) = _).trans (congrArg gelu (blkU m c t q i l))) ?_
  · frame_out
    exact gelu_at _ _ _
  refine (rows_at _ _ _ _ concatenates_S128x1024_S128x1024_S128x1024_S128x1024_S512x1024_d0
    (fun q i l => (input m c).mixed (bq t q) i l) (block0 m c t) (block1 m c t) (block2 m c t) (block3 m c t) _ l).trans (by rw [br_tr, ln_tr])

theorem idx5 : ∀ t : Fin cfg0.N, win0_5.index t = ![t.val, 0] := (by decide +kernel : ∀ t : Fin grid0.N, _)

/-- The result array is the reference's. -/
theorem final : (dats m 0 c).arrAt 5 cfg0.N = SgufwdReferenceIdeal.Read.val_main_v71 (F := Ideal) (aP m c) (aW m c) (aBs m c) (aG m c) (aB m c) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, (ValueIdx.eq_ix2 y)⟩
  have e : (win0_5.blk t).view.emb (ix2 r l) = ix2 (row (bq t (br r)) (ln r)) l := by blk_ext [idx5 t, row, bq, br, ln]
  have h := out5 m c t (br r) (ln r) l
  rw [tr_br] at h
  rw [e]
  exact h.trans (SgufwdRef.v71_at _ _ _ _ _ _ _ _).symm

end Cert.SgufwdValue

end
-- ==== Proof.SgufwdClaims.lean ====
/- The claims about the spatial gating unit's forward kernel: its frame at both readings, the reference's frame, and the
   equation of the result. -/
module

public import proofs.«01_k».proof.Defs
public import proofs.«01_k».proof.Proof.Gen.SgufwdKernel.Frame
public import proofs.«01_k».proof.Proof.SgufwdKernelValue

@[expose] public section

noncomputable section

namespace Cert.SgufwdClaims

open Idealize.ShloMosaic Idealize.SL.Sem Cert.SgufwdValue

/-- The kernel runs, keeps its arguments and leaves no signal pending: at bit patterns, and at extended reals. -/
theorem frame_k : Cert.quiescent_SgufwdKernel := fun m ρ _ => Cert.SgufwdKernel.Gen.frame m ρ
theorem frame_ki : Cert.quiescent_SgufwdKernelIdeal := fun m ρ _ => Cert.SgufwdKernelIdeal.Gen.frame m ρ

/-- The reference runs, keeps its arguments and leaves no signal pending. -/
theorem frame_r : Cert.quiescent_SgufwdReferenceIdeal := fun m ρ _ =>
  (θ_run Cert.SgufwdReferenceIdeal.defs _ _).mono
    (fun r h => ⟨fun c => (h c).2, sem_eq_zero_of_no_sems (by decide) r.2⟩)
    (Cert.SgufwdReferenceIdeal.Value.run (F := Ideal) m ρ)

/-- The constants of gelu are named for the reals they stand for. -/
theorem preserves : Cert.preserves_SgufwdKernel_SgufwdKernelIdeal :=
  ⟨IdealRules.named_const.statement _ _ _ _ _ (h := rfl), IdealRules.named_const.statement _ _ _ _ _ (h := rfl)⟩

open Cert.SgufwdReferenceIdeal.Read in
/-- On agreeing arguments the kernel's result array is the reference's. -/
theorem algebraic : Cert.algebraic_SgufwdKernelIdeal_SgufwdReferenceIdeal := by
  intro m g m' g' hpre hagree
  refine ⟨_, Cert.SgufwdKernelIdeal.Value.run_blocks m g, ?_⟩
  refine (θ_run Cert.SgufwdReferenceIdeal.defs _ _).mono (fun _ h c => ?_)
    (Cert.SgufwdReferenceIdeal.Value.run (F := Ideal) m' g')
  obtain ⟨h0, h1, h2, h3, h4⟩ := hagree c
  refine ⟨(h c).1.trans ?_, (h c).2⟩
  rw [val_main_v71_eq, h0, h1, h2, h3, h4]
  exact (final m c).symm

end Cert.SgufwdClaims

end
-- ==== Proof.RnnfwdSpec.lean ====
/- The forward lines of the recurrent branch over the extended reals: the causal convolution, the two gates, and the linear
   recurrence over the rows; with the laws by which the recurrence may be taken in runs of eight rows. -/
module

public import proofs.«01_k».proof.Proof.Reals
public import proofs.«01_k».proof.Proof.SgufwdSpec

@[expose] public section

noncomputable section

namespace Cert.Rnnfwd

open Idealize.ShloMosaic

/-- The least value under the kernel's reciprocal square root: the f32 nearest to 10⁻³⁶. -/
def tiny : ℝ := 11150373 * 2 ^ (-143 : ℤ)

theorem tiny_pos : 0 < tiny := by unfold tiny; positivity

theorem tiny_eq : Ideal.ofBits .f32 0x03AA2425#32 = (tiny : EReal) := by
  unfold tiny
  simp [Ideal.ofBits, Ideal.ieee, -EReal.coe_mul]

theorem cNegEight : Ideal.ofBits .f32 0xC1000000#32 = ((-8 : ℝ) : EReal) := by
  simp [Ideal.ofBits, Ideal.ieee, -EReal.coe_mul]; norm_num

/-- Channel `l` lies in head `head l`, lane `lane l`. -/
def head (l : Fin 1280) : Fin 20 := ⟨l.val / 64, by omega⟩
def lane (l : Fin 1280) : Fin 64 := ⟨l.val % 64, by omega⟩
def chan (h : Fin 20) (i : Fin 64) : Fin 1280 := ⟨h.val * 64 + i.val, by omega⟩

/-- The arguments: the projection, the convolution's taps and bias, the two gates' weights and biases, the softplus of the
    negated decay parameter. -/
structure In where
  p : (⟨2, ![4096, 6656]⟩ : Shape).Idx → EReal
  w : (⟨2, ![4, 1280]⟩ : Shape).Idx → EReal
  b : (⟨1, ![1280]⟩ : Shape).Idx → EReal
  wa : (⟨3, ![20, 64, 64]⟩ : Shape).Idx → EReal
  ba : (⟨2, ![20, 64]⟩ : Shape).Idx → EReal
  wx : (⟨3, ![20, 64, 64]⟩ : Shape).Idx → EReal
  bx : (⟨2, ![20, 64]⟩ : Shape).Idx → EReal
  sp : (⟨1, ![1280]⟩ : Shape).Idx → EReal

namespace In

variable (I : In)

/-- Row `n` of the branch's columns, and the row `d` before it: zero before the first. -/
def x (n : ℕ) (l : Fin 1280) : EReal := if h : n < 4096 then I.p (ix2 ⟨n, h⟩ ⟨l.val, by omega⟩) else 0
def back (d n : ℕ) (l : Fin 1280) : EReal := if d ≤ n then I.x (n - d) l else 0

/-- The causal convolution of width four. -/
def xr (n : ℕ) (l : Fin 1280) : EReal :=
  I.b (ix1 l) + I.back 3 n l * I.w (ix2 0 l) + I.back 2 n l * I.w (ix2 1 l) + I.back 1 n l * I.w (ix2 2 l) + I.back 0 n l * I.w (ix2 3 l)

/-- A gate: the logistic of a product with one 64 by 64 matrix a head. -/
def gate (w : (⟨3, ![20, 64, 64]⟩ : Shape).Idx → EReal) (b : (⟨2, ![20, 64]⟩ : Shape).Idx → EReal) (n : ℕ) (l : Fin 1280) : EReal :=
  Ideal.logistic ((∑ i : Fin 64, w (ix3 (head l) i (lane l)) * I.xr n (chan (head l) i)) + b (ix2 (head l) (lane l)))

/-- The decay's logarithm, the decay, and what enters the recurrence. -/
def loga (n : ℕ) (l : Fin 1280) : EReal := ((-8 : ℝ) : EReal) * I.gate I.wa I.ba n l * I.sp (ix1 l)
def a (n : ℕ) (l : Fin 1280) : EReal := Ideal.exp (I.loga n l)
def gap (n : ℕ) (l : Fin 1280) : EReal := -Ideal.expm1 (((2 : ℝ) : EReal) * I.loga n l)
def u (n : ℕ) (l : Fin 1280) : EReal := Ideal.sqrt (I.gap n l) * (I.gate I.wx I.bx n l * I.xr n l)

/-- The state after `n` rows. -/
def h : ℕ → Fin 1280 → EReal
  | 0, _ => 0
  | n + 1, l => I.a n l * h n l + I.u n l

/-- The branch's gated output. -/
def y (n : Fin 4096) (l : Fin 1280) : EReal := I.h (n.val + 1) l * Sgufwd.gelu (I.p (ix2 n ⟨1280 + l.val, by omega⟩))

end In

/-! ### The square root of the gap -/

theorem exp_nonneg (x : EReal) : 0 ≤ Ideal.exp x := by
  induction x using EReal.rec with
  | bot => exact le_refl _
  | coe r => rw [Ideal.exp_coe]; exact_mod_cast (Real.exp_pos r).le
  | top => exact le_top

theorem exp_ne_top {x : EReal} (h : (tiny : EReal) ≤ -Ideal.expm1 (((2 : ℝ) : EReal) * x)) : Ideal.exp x ≠ ⊤ := by
  induction x using EReal.rec with
  | bot => exact EReal.zero_ne_top
  | coe r => rw [Ideal.exp_coe]; exact EReal.coe_ne_top _
  | top =>
    rw [EReal.coe_mul_top_of_pos (by norm_num)] at h
    have e : -Ideal.expm1 ⊤ = ⊥ := by
      show -((⊤ : EReal) - 1) = ⊥
      rw [show (1 : EReal) = ((1 : ℝ) : EReal) from rfl, EReal.top_sub_coe, EReal.neg_top]
    rw [e] at h
    exact absurd (le_bot_iff.mp h) (EReal.coe_ne_bot _)

theorem tanh_gap (r : ℝ) : (0 - Real.tanh r) * (Real.exp r * Real.exp r + 1) = -(Real.exp (2 * r) - 1) := by
  rw [Real.tanh_eq_sinh_div_cosh, Real.sinh_eq, Real.cosh_eq, Real.exp_neg, two_mul, Real.exp_add]
  have := Real.exp_pos r
  field_simp
  ring

theorem sqrt_mul_inv (v : ℝ) (h : 0 < v) : v * (√v)⁻¹ = √v := by
  rw [← div_eq_mul_inv, Real.div_sqrt]

/-- The kernel's spelling of the square root: `1 - a²` as `-tanh (log a) (a² + 1)`, and its product with the reciprocal of
    its square root. -/
theorem root {x : EReal} (h : (tiny : EReal) ≤ -Ideal.expm1 (((2 : ℝ) : EReal) * x)) :
    ((0 : ℝ) - Ideal.tanh x) * (Ideal.exp x * Ideal.exp x + ((1 : ℝ) : EReal))
      * Ideal.rsqrt (max (((0 : ℝ) - Ideal.tanh x) * (Ideal.exp x * Ideal.exp x + ((1 : ℝ) : EReal))) (tiny : EReal))
      = Ideal.sqrt (-Ideal.expm1 (((2 : ℝ) : EReal) * x)) := by
  have key : ∀ v : ℝ, tiny ≤ v → (v : EReal) * Ideal.rsqrt (max (v : EReal) (tiny : EReal)) = Ideal.sqrt (v : EReal) := fun v hv => by
    have hp := tiny_pos.trans_le hv
    rw [max_eq_left (EReal.coe_le_coe_iff.mpr hv), Reals.rsqrt_real v hp, ← EReal.coe_mul, sqrt_mul_inv v hp]
    show _ = if v < 0 then ⊥ else ((√v : ℝ) : EReal)
    rw [if_neg hp.le.not_gt]
  have one : ((0 : ℝ) - (-1 : EReal)) * ((0 : EReal) * 0 + ((1 : ℝ) : EReal)) = ((1 : ℝ) : EReal) := by
    rw [show (-1 : EReal) = ((-1 : ℝ) : EReal) from by rw [EReal.coe_neg]; rfl, show (0 : EReal) = ((0 : ℝ) : EReal) from rfl]
    norm_cast
  induction x using EReal.rec with
  | bot =>
    have e : -Ideal.expm1 (((2 : ℝ) : EReal) * ⊥) = ((1 : ℝ) : EReal) := by
      rw [EReal.coe_mul_bot_of_pos (by norm_num)]
      show -((0 : EReal) - 1) = _
      rw [zero_sub, neg_neg]; rfl
    rw [e, show Ideal.tanh ⊥ = -1 from rfl, show Ideal.exp ⊥ = 0 from rfl, one]
    refine key 1 ?_
    unfold tiny; norm_num
  | coe r =>
    have e : -Ideal.expm1 (((2 : ℝ) : EReal) * (r : EReal)) = ((-(Real.exp (2 * r) - 1) : ℝ) : EReal) := by
      rw [← EReal.coe_mul]
      show -(Ideal.exp ((2 * r : ℝ) : EReal) - 1) = _
      rw [Ideal.exp_coe, EReal.coe_neg, EReal.coe_sub]; rfl
    rw [e] at h ⊢
    have e2 : ((0 : ℝ) - Ideal.tanh (r : EReal)) * (Ideal.exp (r : EReal) * Ideal.exp (r : EReal) + ((1 : ℝ) : EReal))
        = ((-(Real.exp (2 * r) - 1) : ℝ) : EReal) := by
      rw [Ideal.tanh_coe, Ideal.exp_coe, ← EReal.coe_sub, ← EReal.coe_mul, ← EReal.coe_add, ← EReal.coe_mul, tanh_gap]
    rw [e2]
    exact key _ (EReal.coe_le_coe_iff.mp h)
  | top => exact absurd rfl (exp_ne_top h)

/-! ### Runs of the recurrence -/

/-- Over the `d` rows that end at row `n`, the state is `B` plus `A` times the state before them. -/
structure Run (h : ℕ → EReal) (n d : ℕ) (A B : EReal) : Prop where
  nonneg : 0 ≤ A
  fin : A ≠ ⊤
  eq : h (n + 1) = B + A * h (n + 1 - d)

/-- Two runs one after the other. -/
theorem Run.join {h : ℕ → EReal} {n d n' d' k : ℕ} {A B A' B' : EReal} (R : Run h n d A B) (R' : Run h n' d' A' B')
    (hn : n' + 1 = n + 1 - d) (hk : n + 1 - k = n' + 1 - d') : Run h n k (A * A') (A * B' + B) where
  nonneg := mul_nonneg R.nonneg R'.nonneg
  fin := by
    have e : A = (A.toReal : EReal) := (EReal.coe_toReal R.fin (ne_of_gt (lt_of_lt_of_le EReal.bot_lt_zero R.nonneg))).symm
    have e' : A' = (A'.toReal : EReal) := (EReal.coe_toReal R'.fin (ne_of_gt (lt_of_lt_of_le EReal.bot_lt_zero R'.nonneg))).symm
    rw [e, e', ← EReal.coe_mul]
    exact EReal.coe_ne_top _
  eq := by
    rw [R.eq, ← hn, R'.eq, EReal.left_distrib_of_nonneg_of_ne_top R.nonneg R.fin, hk, mul_assoc, add_comm B, add_right_comm]

/-- One step of doubling: a run joined with the one before it where the block of eight rows still holds it. -/
theorem Run.double {h : ℕ → EReal} {n d : ℕ} {A B : EReal} (A' B' : EReal) (hd : 0 < d) (R : Run h n (min (n % 8 + 1) d) A B)
    (R' : d ≤ n % 8 → Run h (n - d) (min ((n - d) % 8 + 1) d) A' B') :
    Run h n (min (n % 8 + 1) (2 * d)) (A * (if d ≤ n % 8 then A' else ((1 : ℝ) : EReal))) (A * (if d ≤ n % 8 then B' else ((0 : ℝ) : EReal)) + B) := by
  by_cases c : d ≤ n % 8
  · rw [if_pos c, if_pos c]
    have e : (n - d) % 8 = n % 8 - d := by omega
    have l : d ≤ n := c.trans (Nat.mod_le _ _)
    refine R.join (R' c) ?_ ?_
    · omega
    · rw [e]; omega
  · rw [if_neg c, if_neg c, EReal.coe_one, mul_one, EReal.coe_zero, mul_zero, zero_add]
    have e : min (n % 8 + 1) (2 * d) = min (n % 8 + 1) d := by omega
    rw [e]; exact R

/-- One row. -/
theorem In.run_one (I : In) (n : ℕ) (l : Fin 1280) (hg : (tiny : EReal) ≤ I.gap n l) : Run (fun k => I.h k l) n 1 (I.a n l) (I.u n l) where
  nonneg := exp_nonneg _
  fin := exp_ne_top hg
  eq := add_comm _ _

end Cert.Rnnfwd

end
-- ==== Proof.RnnfwdBody.lean ====
/-
  The forward kernel of the recurrent branch, its body run once on any whole buffers: at the first tile, where the
  carried tail and state are cleared first, and at a later tile, where they hold what the tile before left.
-/
module

public import proofs.«01_k».proof.Proof.Gen.RnnfwdKernelIdeal.Frame
public import proofs.«01_k».proof.Proof.Gen.RnnfwdKernelIdeal.Skeleton
public import proofs.«01_k».proof.Proof.Gen.RnnfwdKernelIdeal.Loops
public import Idealize.ShloMosaic.Lib.Claim

@[expose] public section

set_option maxRecDepth 16384

noncomputable section

namespace Cert.Rnnfwd

open Cert.RnnfwdKernelIdeal Cert.RnnfwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Whether the point is the first: the body's own test. -/
abbrev First (i : grid0.Coords) : Prop :=
  (Scalar.cmpi .ne (Scalar.extui (Scalar.cmpi .eq (BitVec.ofNat 32 (i 0).val) 0#32)) 0#32) = 1#1

theorem first_iff : ∀ t : Fin cfg0.N, First (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [First, e0]
    word_cmp
   : ∀ t : Fin grid0.N, First (grid0.coords t) ↔ t.val = 0)

variable (c : Dev nD) (i : grid0.Coords)
  (arg1 : Memref sig .tc .vmem S512x2560 .bf16) (harg1 : arg1.IsWhole)
  (arg2 : Memref sig .tc .vmem S5x256x256 .bf16) (harg2 : arg2.IsWhole)
  (arg3 : Memref sig .tc .vmem S5x256x256 .bf16) (harg3 : arg3.IsWhole)
  (arg4 : Memref sig .tc .vmem S1x1280 .f32) (harg4 : arg4.IsWhole)
  (arg5 : Memref sig .tc .vmem S1x1280 .f32) (harg5 : arg5.IsWhole)
  (arg6 : Memref sig .tc .vmem S1x1280 .f32) (harg6 : arg6.IsWhole)
  (arg7 : Memref sig .tc .vmem S4x1280 .f32) (harg7 : arg7.IsWhole)
  (arg8 : Memref sig .tc .vmem S1x1280 .f32) (harg8 : arg8.IsWhole)
  (arg9 : Memref sig .tc .vmem S512x1280 .bf16) (harg9 : arg9.IsWhole)
  (arg10 : Memref sig .tc .vmem S512x1280 .bf16) (harg10 : arg10.IsWhole)
  (arg11 : Memref sig .tc .vmem S512x1280 .bf16) (harg11 : arg11.IsWhole)
  (arg12 : Memref sig .tc .vmem S8x1280 .f32) (harg12 : arg12.IsWhole)
  (arg13 : Memref sig .tc .vmem S1x1280 .f32) (harg13 : arg13.IsWhole)
  (arg14 : Memref sig .tc .vmem S512x1280 .f32) (harg14 : arg14.IsWhole)
  (arg15 : Memref sig .tc .vmem S512x1280 .f32) (harg15 : arg15.IsWhole)
  (arg16 : Memref sig .tc .vmem S512x1280 .f32) (harg16 : arg16.IsWhole)
  (x0 : Vec F S512x2560 .bf16) (x1 : Vec F S5x256x256 .bf16) (x2 : Vec F S5x256x256 .bf16) (x3 : Vec F S1x1280 .f32) (x4 : Vec F S1x1280 .f32) (x5 : Vec F S1x1280 .f32) (x6 : Vec F S4x1280 .f32) (x7 : Vec F S1x1280 .f32)

set_option maxHeartbeats 4000000 in
/-- What the body leaves at the first tile, as the pieces it writes into each result and each carried buffer. -/
noncomputable def runFirst (hc : First i) (old : Vec F S512x1280 .f32) :
    Σ' (L8 : List (View.Piece (Elt F) S512x1280 .bf16)) (L9 : List (View.Piece (Elt F) S512x1280 .bf16)) (L10 : List (View.Piece (Elt F) S512x1280 .bf16)) (L11 : List (View.Piece (Elt F) S8x1280 .f32)),
      { L12 : List (View.Piece (Elt F) S1x1280 .f32) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare old
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ d, owns (c : Thread nD τ) arg14 fullShare d) ∗ (∃ d, owns (c : Thread nD τ) arg15 fullShare d) ∗ (∃ d, owns (c : Thread nD τ) arg16 fullShare d)) -∗ K ⟨⟩))
        ⊢ wp frame (wpE (defs₀ (F := F)) Variants.none c none) E
            (cc0_rnn_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_rnn_fwd_eq_skeleton]; unfold cc0_rnn_fwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg16.eq_unread hf15
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]
    · iexists _; iexists _; isplitr; swap; · iexact H13
      ipureintro; rfl
    isplitl [H14]
    · iexists _; iexists _; isplitr; swap; · iexact H14
      ipureintro; rfl
    iexists _; iexists _; isplitr; swap; · iexact H15
    ipureintro; rfl

set_option maxHeartbeats 4000000 in
/-- What the body leaves at a later tile, as the pieces it writes into each result and each carried buffer. -/
noncomputable def runLater (hc : ¬First i) (tail : Vec F S8x1280 .f32) (state : Vec F S1x1280 .f32) (old : Vec F S512x1280 .f32) :
    Σ' (L8 : List (View.Piece (Elt F) S512x1280 .bf16)) (L9 : List (View.Piece (Elt F) S512x1280 .bf16)) (L10 : List (View.Piece (Elt F) S512x1280 .bf16)) (L11 : List (View.Piece (Elt F) S8x1280 .f32)),
      { L12 : List (View.Piece (Elt F) S1x1280 .f32) // ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare tail ∗ owns (c : Thread nD τ) arg13 fullShare state ∗ (∃ d, owns (c : Thread nD τ) arg14 fullShare d) ∗ (∃ d, owns (c : Thread nD τ) arg15 fullShare d) ∗ owns (c : Thread nD τ) arg16 fullShare old
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ d, owns (c : Thread nD τ) arg14 fullShare d) ∗ (∃ d, owns (c : Thread nD τ) arg15 fullShare d) ∗ (∃ d, owns (c : Thread nD τ) arg16 fullShare d)) -∗ K ⟨⟩))
        ⊢ wp frame (wpE (defs₀ (F := F)) Variants.none c none) E
            (cc0_rnn_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_rnn_fwd_eq_skeleton]; unfold cc0_rnn_fwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, ⟨%d13, %f13, -, H13⟩, ⟨%d14, %f14, -, H14⟩, ⟨%f15, %hf15, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hf11; obtain rfl := harg13.eq_unread hf12; obtain rfl := harg16.eq_unread hf15
    sl_exec (disch := sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]
    · iexists _; iexists _; isplitr; swap; · iexact H13
      ipureintro; rfl
    isplitl [H14]
    · iexists _; iexists _; isplitr; swap; · iexact H14
      ipureintro; rfl
    iexists _; iexists _; isplitr; swap; · iexact H15
    ipureintro; rfl

end Cert.Rnnfwd

end
-- ==== Proof.RnnfwdLoop.lean ====
/-
  The loop of the forward kernel of the recurrent branch over a tile's 64 slabs of eight rows: the state before each
  slab, and the rows it leaves.
-/
module

public import proofs.«01_k».proof.Proof.RnnfwdBody
public import proofs.«01_k».proof.Proof.Indices
public import Idealize.ShloMosaic.Lib.Pipeline.ValueKit
public import Idealize.ShloMosaic.Lib.WritesUnit
public import Idealize.ShloMosaic.Lib.VecWindow

@[expose] public section

set_option maxRecDepth 16384

noncomputable section

namespace Cert.Rnnfwd

open Cert.RnnfwdKernelIdeal Cert.RnnfwdKernelIdeal.Gen
open Idealize.ShloMosaic Idealize.ShloMosaic.TcCoe Idealize.ShloMosaic.Tactic

variable {F : FTy → Type} [FloatOps F] [Named F]

/-- Slab `k` of a tile: its eight rows. -/
def slab (X : Vec F S512x1280 .f32) (k : ℕ) : Vec F S8x1280 .f32 :=
  fun y => X (ix2 ⟨8 * (k % 64) + (y 0).val, by have := (y 0).isLt; have : S8x1280.size 0 = 8 := rfl; omega⟩ ⟨(y 1).val, (y 1).isLt⟩)

/-- The state before slab `k`, the loop started from `init`. -/
def scanState (A B : Vec F S512x1280 .f32) (init : FVec F S8x1280 .f32) : ℕ → FVec F S8x1280 .f32
  | 0 => init
  | k + 1 => k0_pay38 (scanState A B init k) (slab B k) (slab A k)

/-- The rows the loop leaves: row `r` of slab `r / 8`. -/
def scanRows (A B : Vec F S512x1280 .f32) (init : FVec F S8x1280 .f32) : Vec F S512x1280 .f32 :=
  fun y => k0_pay37 (scanState A B init ((y 0).val / 8)) (slab B ((y 0).val / 8)) (slab A ((y 0).val / 8))
    (ix2 ⟨(y 0).val % 8, Nat.mod_lt _ (by decide)⟩ ⟨(y 1).val, (y 1).isLt⟩)

theorem trips_eq : k0_t1_loop.trips = 64 := by decide +kernel

/-- A load of slab `k` reads it. -/
theorem ld_slab (X : Vec F S512x1280 .f32) (k : Fin k0_t1_loop.trips) :
    View.ld X (Rect.unit (s := S512x1280) (k0_off1 k) S8x1280.size (k0_off1_inb k)) = slab X k.val := by
  have hk : k.val < 64 := Nat.lt_of_lt_of_eq k.isLt trips_eq
  funext y
  have h0 : (y 0).val < 8 := (y 0).isLt
  refine View.ld_unit_apply_of _ _ _ _ _ (ix2 ⟨8 * (k.val % 64) + (y 0).val, by omega⟩ ⟨(y 1).val, (y 1).isLt⟩) fun a => ?_
  have e0 : k0_off1 k 0 = 8 * k.val := congrFun (k0_off1_eq k) 0
  have e1 : k0_off1 k 1 = 0 := congrFun (k0_off1_eq k) 1
  match a with
  | ⟨0, _⟩ => show 8 * (k.val % 64) + (y 0).val = k0_off1 k 0 + (y 0).val; omega
  | ⟨1, _⟩ => show (y 1).val = k0_off1 k 1 + (y 1).val; omega

variable (c : Dev nD) (i : grid0.Coords)
  (arg1 : Memref sig .tc .vmem S512x2560 .bf16) (harg1 : arg1.IsWhole)
  (arg2 : Memref sig .tc .vmem S5x256x256 .bf16) (harg2 : arg2.IsWhole)
  (arg3 : Memref sig .tc .vmem S5x256x256 .bf16) (harg3 : arg3.IsWhole)
  (arg4 : Memref sig .tc .vmem S1x1280 .f32) (harg4 : arg4.IsWhole)
  (arg5 : Memref sig .tc .vmem S1x1280 .f32) (harg5 : arg5.IsWhole)
  (arg6 : Memref sig .tc .vmem S1x1280 .f32) (harg6 : arg6.IsWhole)
  (arg7 : Memref sig .tc .vmem S4x1280 .f32) (harg7 : arg7.IsWhole)
  (arg8 : Memref sig .tc .vmem S1x1280 .f32) (harg8 : arg8.IsWhole)
  (arg9 : Memref sig .tc .vmem S512x1280 .bf16) (harg9 : arg9.IsWhole)
  (arg10 : Memref sig .tc .vmem S512x1280 .bf16) (harg10 : arg10.IsWhole)
  (arg11 : Memref sig .tc .vmem S512x1280 .bf16) (harg11 : arg11.IsWhole)
  (arg12 : Memref sig .tc .vmem S8x1280 .f32) (harg12 : arg12.IsWhole)
  (arg13 : Memref sig .tc .vmem S1x1280 .f32) (harg13 : arg13.IsWhole)
  (arg14 : Memref sig .tc .vmem S512x1280 .f32) (harg14 : arg14.IsWhole)
  (arg15 : Memref sig .tc .vmem S512x1280 .f32) (harg15 : arg15.IsWhole)
  (arg16 : Memref sig .tc .vmem S512x1280 .f32) (harg16 : arg16.IsWhole)
  (v132 : Vec F S1x1280 .f32) (v135 : IVec S512x1280 32) (v145 : FVec F S512x1280 .f32) (v146 : FVec F S512x1280 .f32)
  (X14 : BufTy.Contents (Elt F) arg14.view.ty) (X15 : BufTy.Contents (Elt F) arg15.view.ty) (init : FVec F S8x1280 .f32)

theorem loop_step (k : Fin k0_t1_loop.trips) :
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v132 v135 v145 v146 X14 X15 init (k.val + 1)
      = (k0_pay38 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v132 v135 v145 v146 X14 X15 init k.val).1 (slab (arg15.view.read (Elt F) X15) k.val) (slab (arg14.view.read (Elt F) X14) k.val),
        ⟨Rect.unit (k0_off1 k) S8x1280.size (k0_off1_inb k),
          k0_pay37 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v132 v135 v145 v146 X14 X15 init k.val).1 (slab (arg15.view.read (Elt F) X15) k.val) (slab (arg14.view.read (Elt F) X14) k.val)⟩
          :: (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v132 v135 v145 v146 X14 X15 init k.val).2) := by
  rw [st_k0_t1_succ]
  unfold tripR_k0_t1 tripL_k0_t1 trip_k0_t1
  dsimp only
  rw [View.readAt_eq_ld, View.readAt_eq_ld, ld_slab, ld_slab]
  rfl

/-- After `k` slabs the carried state is `scanState`'s and the rows so far are `scanRows`'. -/
theorem loop_holds (k : ℕ) (hk : k ≤ 64) :
    (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v132 v135 v145 v146 X14 X15 init k).1 = scanState (arg14.view.read (Elt F) X14) (arg15.view.read (Elt F) X15) init k
      ∧ ∀ (f : BufTy.Contents (Elt F) arg16.view.ty) (y : S512x1280.Idx), (y 0).val < 8 * k →
          arg16.view.read (Elt F) (arg16.view.writes (Elt F) f (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v132 v135 v145 v146 X14 X15 init k).2) y
            = scanRows (arg14.view.read (Elt F) X14) (arg15.view.read (Elt F) X15) init y := by
  induction k with
  | zero => exact ⟨rfl, fun f y h => absurd h (by omega)⟩
  | succ k ih =>
    obtain ⟨ih1, ih2⟩ := ih (by omega)
    have e := loop_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v132 v135 v145 v146 X14 X15 init ⟨k, by rw [trips_eq]; omega⟩
    dsimp only at e
    rw [e]
    refine ⟨by rw [ih1]; rfl, fun f y h => ?_⟩
    dsimp only
    rw [View.read_writes_cons_unit (off' := ![8 * k, 0]) (heq := k0_off1_eq _)]
    split
    · next hy =>
      have h0 := hy 0
      have h0' : 8 * k ≤ (y 0).val ∧ (y 0).val < 8 * k + 8 := h0
      have hq : (y 0).val / 8 = k := by omega
      unfold scanRows
      rw [hq, ih1]
      congr 1
      funext a
      apply Fin.ext
      match a with
      | ⟨0, _⟩ => show (y 0).val - 8 * k = (y 0).val % 8; omega
      | ⟨1, _⟩ => show (y 1).val - 0 = (y 1).val; omega
    · next hy =>
      refine ih2 f y ?_
      by_contra hge
      refine hy fun a => ?_
      match a with
      | ⟨0, _⟩ => show 8 * k ≤ (y 0).val ∧ (y 0).val < 8 * k + 8; omega
      | ⟨1, _⟩ => exact ⟨Nat.zero_le _, by show (y 1).val < 0 + 1280; have := (y 1).isLt; have : S512x1280.size 1 = 1280 := rfl; omega⟩

/-- What a load of the whole buffer reads after the loop. -/
theorem loop_read (f : BufTy.Contents (Elt F) arg16.view.ty) (n : ℕ) (hn : n = 64) :
    arg16.view.read (Elt F) (arg16.view.writes (Elt F) f (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v132 v135 v145 v146 X14 X15 init n).2)
      = scanRows (arg14.view.read (Elt F) X14) (arg15.view.read (Elt F) X15) init := by
  subst hn
  funext y
  exact (loop_holds c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v132 v135 v145 v146 X14 X15 init 64 (le_refl _)).2 f y (by have := (y 0).isLt; have : S512x1280.size 0 = 512 := rfl; omega)

/-- The state the loop hands on. -/
theorem loop_holds_state (n : ℕ) (hn : n = 64) :
    (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v132 v135 v145 v146 X14 X15 init n).1 = scanState (arg14.view.read (Elt F) X14) (arg15.view.read (Elt F) X15) init 64 := by
  subst hn
  exact (loop_holds c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v132 v135 v145 v146 X14 X15 init 64 (le_refl _)).1

end Cert.Rnnfwd

end
-- ==== Proof.RnnfwdOut.lean ====
/-
  What one run of the forward kernel's body of the recurrent branch leaves, as functions of the tile's inputs, the
  carried tail and the carried state.
-/
module

public import proofs.«01_k».proof.Proof.RnnfwdLoop
public import proofs.«01_k».proof.Proof.Indices
public import Idealize.ShloMosaic.Lib.Pipeline.ValueKit
public import Idealize.ShloMosaic.Lib.WritesUnit
public import Idealize.ShloMosaic.Lib.VecWindow

@[expose] public section

set_option maxRecDepth 16384

noncomputable section

namespace Cert.Rnnfwd

open Cert.RnnfwdKernelIdeal Cert.RnnfwdKernelIdeal.Gen
open Idealize.ShloMosaic Idealize.ShloMosaic.TcCoe Idealize.ShloMosaic.Tactic

variable {F : FTy → Type} [FloatOps F] [Named F]

/-- The branch's half of the tile, and the gate's. -/
def leftOf (x0 : Vec F S512x2560 .bf16) : Vec F S512x1280 .bf16 := View.ld x0 (Rect.unit (s := S512x2560) ![0, 0] S512x1280.size inb_S512x2560_S512x1280_0_0)
def rightOf (x0 : Vec F S512x2560 .bf16) : Vec F S512x1280 .bf16 := View.ld x0 (Rect.unit (s := S512x2560) ![0, 1280] S512x1280.size inb_S512x2560_S512x1280_0_1280)
/-- Row 0 of the convolution's weights. -/
def tap0 (x6 : Vec F S4x1280 .f32) : Vec F S1x1280 .f32 := View.ld x6 (Rect.unit (s := S4x1280) ![0, 0] S1x1280.size inb_S4x1280_S1x1280_0_0)
/-- Row 1 of the convolution's weights. -/
def tap1 (x6 : Vec F S4x1280 .f32) : Vec F S1x1280 .f32 := View.ld x6 (Rect.unit (s := S4x1280) ![1, 0] S1x1280.size inb_S4x1280_S1x1280_1_0)
/-- Row 2 of the convolution's weights. -/
def tap2 (x6 : Vec F S4x1280 .f32) : Vec F S1x1280 .f32 := View.ld x6 (Rect.unit (s := S4x1280) ![2, 0] S1x1280.size inb_S4x1280_S1x1280_2_0)
/-- Row 3 of the convolution's weights. -/
def tap3 (x6 : Vec F S4x1280 .f32) : Vec F S1x1280 .f32 := View.ld x6 (Rect.unit (s := S4x1280) ![3, 0] S1x1280.size inb_S4x1280_S1x1280_3_0)
/-- Group 0 of a gate's weights. -/
def grp0 (x : Vec F S5x256x256 .bf16) : Vec F S1x256x256 .bf16 := View.ld x (Rect.unit (s := S5x256x256) ![0, 0, 0] S1x256x256.size inb_S5x256x256_S1x256x256_0_0_0)
/-- Group 1 of a gate's weights. -/
def grp1 (x : Vec F S5x256x256 .bf16) : Vec F S1x256x256 .bf16 := View.ld x (Rect.unit (s := S5x256x256) ![1, 0, 0] S1x256x256.size inb_S5x256x256_S1x256x256_1_0_0)
/-- Group 2 of a gate's weights. -/
def grp2 (x : Vec F S5x256x256 .bf16) : Vec F S1x256x256 .bf16 := View.ld x (Rect.unit (s := S5x256x256) ![2, 0, 0] S1x256x256.size inb_S5x256x256_S1x256x256_2_0_0)
/-- Group 3 of a gate's weights. -/
def grp3 (x : Vec F S5x256x256 .bf16) : Vec F S1x256x256 .bf16 := View.ld x (Rect.unit (s := S5x256x256) ![3, 0, 0] S1x256x256.size inb_S5x256x256_S1x256x256_3_0_0)
/-- Group 4 of a gate's weights. -/
def grp4 (x : Vec F S5x256x256 .bf16) : Vec F S1x256x256 .bf16 := View.ld x (Rect.unit (s := S5x256x256) ![4, 0, 0] S1x256x256.size inb_S5x256x256_S1x256x256_4_0_0)

/-- The convolved rows of the tile, in the accumulator's format and in the products'. -/
def convOf (x0 : Vec F S512x2560 .bf16) (x6 : Vec F S4x1280 .f32) (x7 : Vec F S1x1280 .f32) (tail : Vec F S8x1280 .f32) : FVec F S512x1280 .f32 := k0_pay10 (k0_pay5 (leftOf x0)) tail (k0_pay6 (leftOf x0) tail x7 (tap3 x6) (tap2 x6)) (tap1 x6) (k0_pay8 (leftOf x0) tail) (k0_pay9 (leftOf x0)) (tap0 x6)
def convB (x0 : Vec F S512x2560 .bf16) (x6 : Vec F S4x1280 .f32) (x7 : Vec F S1x1280 .f32) (tail : Vec F S8x1280 .f32) : FVec F S512x1280 .bf16 := k0_pay13 (k0_pay5 (leftOf x0)) tail (k0_pay6 (leftOf x0) tail x7 (tap3 x6) (tap2 x6)) (tap1 x6) (k0_pay8 (leftOf x0) tail) (k0_pay9 (leftOf x0)) (tap0 x6)
/-- The convolved rows as stored. -/
def outXr (x0 : Vec F S512x2560 .bf16) (x6 : Vec F S4x1280 .f32) (x7 : Vec F S1x1280 .f32) (tail : Vec F S8x1280 .f32) : FVec F S512x1280 .bf16 := k0_pay12 (k0_pay5 (leftOf x0)) tail (k0_pay6 (leftOf x0) tail x7 (tap3 x6) (tap2 x6)) (tap1 x6) (k0_pay8 (leftOf x0) tail) (k0_pay9 (leftOf x0)) (tap0 x6)
/-- The gate of the decay. -/
def gateOf (x0 : Vec F S512x2560 .bf16) (x1 : Vec F S5x256x256 .bf16) (x3 : Vec F S1x1280 .f32) (x6 : Vec F S4x1280 .f32) (x7 : Vec F S1x1280 .f32) (tail : Vec F S8x1280 .f32) : FVec F S512x1280 .f32 :=
  k0_pay18 (convB x0 x6 x7 tail) (k0_pay14 (k0_pay5 (leftOf x0)) tail (k0_pay6 (leftOf x0) tail x7 (tap3 x6) (tap2 x6)) (tap1 x6) (k0_pay8 (leftOf x0) tail) (k0_pay9 (leftOf x0)) (tap0 x6) (grp0 x1)) (k0_pay15 (k0_pay5 (leftOf x0)) tail (k0_pay6 (leftOf x0) tail x7 (tap3 x6) (tap2 x6)) (tap1 x6) (k0_pay8 (leftOf x0) tail) (k0_pay9 (leftOf x0)) (tap0 x6) (grp1 x1)) (k0_pay16 (k0_pay5 (leftOf x0)) tail (k0_pay6 (leftOf x0) tail x7 (tap3 x6) (tap2 x6)) (tap1 x6) (k0_pay8 (leftOf x0) tail) (k0_pay9 (leftOf x0)) (tap0 x6) (grp2 x1)) (k0_pay17 (k0_pay5 (leftOf x0)) tail (k0_pay6 (leftOf x0) tail x7 (tap3 x6) (tap2 x6)) (tap1 x6) (k0_pay8 (leftOf x0) tail) (k0_pay9 (leftOf x0)) (tap0 x6)) (grp3 x1) (grp4 x1) x3
/-- The decays of pairs of rows, and what the pairs bring in. -/
def pairA (x0 : Vec F S512x2560 .bf16) (x1 : Vec F S5x256x256 .bf16) (x2 : Vec F S5x256x256 .bf16) (x3 : Vec F S1x1280 .f32) (x4 : Vec F S1x1280 .f32) (x5 : Vec F S1x1280 .f32) (x6 : Vec F S4x1280 .f32) (x7 : Vec F S1x1280 .f32) (tail : Vec F S8x1280 .f32) : FVec F S512x1280 .f32 := k0_pay29 (gateOf x0 x1 x3 x6 x7 tail) x5
def pairB (x0 : Vec F S512x2560 .bf16) (x1 : Vec F S5x256x256 .bf16) (x2 : Vec F S5x256x256 .bf16) (x3 : Vec F S1x1280 .f32) (x4 : Vec F S1x1280 .f32) (x5 : Vec F S1x1280 .f32) (x6 : Vec F S4x1280 .f32) (x7 : Vec F S1x1280 .f32) (tail : Vec F S8x1280 .f32) : FVec F S512x1280 .f32 :=
  k0_pay28 (convOf x0 x6 x7 tail) (gateOf x0 x1 x3 x6 x7 tail) (k0_pay19 (convB x0 x6 x7 tail) (grp0 x2)) (k0_pay20 (convB x0 x6 x7 tail) (grp1 x2)) (k0_pay21 (convB x0 x6 x7 tail) (grp2 x2)) (k0_pay22 (convB x0 x6 x7 tail) (grp3 x2)) (k0_pay23 (convB x0 x6 x7 tail)) (grp4 x2) x4 x5
/-- The decays of the rows of a slab up to each, and what those rows bring in. -/
def slabA (x0 : Vec F S512x2560 .bf16) (x1 : Vec F S5x256x256 .bf16) (x2 : Vec F S5x256x256 .bf16) (x3 : Vec F S1x1280 .f32) (x4 : Vec F S1x1280 .f32) (x5 : Vec F S1x1280 .f32) (x6 : Vec F S4x1280 .f32) (x7 : Vec F S1x1280 .f32) (tail : Vec F S8x1280 .f32) : FVec F S512x1280 .f32 := k0_pay33 k0_pay26 (pairA x0 x1 x2 x3 x4 x5 x6 x7 tail)
def slabB (x0 : Vec F S512x2560 .bf16) (x1 : Vec F S5x256x256 .bf16) (x2 : Vec F S5x256x256 .bf16) (x3 : Vec F S1x1280 .f32) (x4 : Vec F S1x1280 .f32) (x5 : Vec F S1x1280 .f32) (x6 : Vec F S4x1280 .f32) (x7 : Vec F S1x1280 .f32) (tail : Vec F S8x1280 .f32) : FVec F S512x1280 .f32 := k0_pay34 k0_pay26 (pairB x0 x1 x2 x3 x4 x5 x6 x7 tail) (pairA x0 x1 x2 x3 x4 x5 x6 x7 tail)
/-- The states of the tile's rows. -/
def rowsOf (x0 : Vec F S512x2560 .bf16) (x1 : Vec F S5x256x256 .bf16) (x2 : Vec F S5x256x256 .bf16) (x3 : Vec F S1x1280 .f32) (x4 : Vec F S1x1280 .f32) (x5 : Vec F S1x1280 .f32) (x6 : Vec F S4x1280 .f32) (x7 : Vec F S1x1280 .f32) (tail : Vec F S8x1280 .f32) (state : Vec F S1x1280 .f32) : Vec F S512x1280 .f32 :=
  scanRows (slabA x0 x1 x2 x3 x4 x5 x6 x7 tail) (slabB x0 x1 x2 x3 x4 x5 x6 x7 tail) (k0_pay35 state)
/-- The state after the tile's last row. -/
def newState (x0 : Vec F S512x2560 .bf16) (x1 : Vec F S5x256x256 .bf16) (x2 : Vec F S5x256x256 .bf16) (x3 : Vec F S1x1280 .f32) (x4 : Vec F S1x1280 .f32) (x5 : Vec F S1x1280 .f32) (x6 : Vec F S4x1280 .f32) (x7 : Vec F S1x1280 .f32) (tail : Vec F S8x1280 .f32) (state : Vec F S1x1280 .f32) : FVec F S1x1280 .f32 :=
  k0_pay39 (scanState (slabA x0 x1 x2 x3 x4 x5 x6 x7 tail) (slabB x0 x1 x2 x3 x4 x5 x6 x7 tail) (k0_pay35 state) 64)
/-- The tile's last eight rows. -/
def newTail (x0 : Vec F S512x2560 .bf16) : FVec F S8x1280 .f32 := k0_pay11 (k0_pay5 (leftOf x0))
def outHr (x0 : Vec F S512x2560 .bf16) (x1 : Vec F S5x256x256 .bf16) (x2 : Vec F S5x256x256 .bf16) (x3 : Vec F S1x1280 .f32) (x4 : Vec F S1x1280 .f32) (x5 : Vec F S1x1280 .f32) (x6 : Vec F S4x1280 .f32) (x7 : Vec F S1x1280 .f32) (tail : Vec F S8x1280 .f32) (state : Vec F S1x1280 .f32) : FVec F S512x1280 .bf16 := k0_pay1 (rowsOf x0 x1 x2 x3 x4 x5 x6 x7 tail state)
def outY (x0 : Vec F S512x2560 .bf16) (x1 : Vec F S5x256x256 .bf16) (x2 : Vec F S5x256x256 .bf16) (x3 : Vec F S1x1280 .f32) (x4 : Vec F S1x1280 .f32) (x5 : Vec F S1x1280 .f32) (x6 : Vec F S4x1280 .f32) (x7 : Vec F S1x1280 .f32) (tail : Vec F S8x1280 .f32) (state : Vec F S1x1280 .f32) : FVec F S512x1280 .bf16 := k0_pay2 (rightOf x0) (rowsOf x0 x1 x2 x3 x4 x5 x6 x7 tail state)

variable {e : EltTy}
/-! A load of a whole buffer, and a store over all of it. -/
theorem load_512 (v : View sig .tc .vmem S512x1280 e) (f : v.ty.Contents (Elt F)) {off : Fin 2 → ℕ} (inb : ∀ a, off a + ![512, 1280] a ≤ S512x1280.size a) :
    v.readAt (Elt F) (Rect.unit (s := S512x1280) off ![512, 1280] inb).toLoadRect f = v.read (Elt F) f := View.readAt_full v f inb
theorem store_512 (v : View sig .tc .vmem S512x1280 e) (f : v.ty.Contents (Elt F)) {off : Fin 2 → ℕ} (inb : ∀ a, off a + ![512, 1280] a ≤ S512x1280.size a) (w : Vec F S512x1280 e) (L : List (View.Piece (Elt F) S512x1280 e)) :
    v.read (Elt F) (v.writes (Elt F) f (⟨Rect.unit (s := S512x1280) off ![512, 1280] inb, w⟩ :: L)) = w := View.read_writes_full v f inb w L
theorem cov_512 (v : View sig .tc .vmem S512x1280 e) {off : Fin 2 → ℕ} (inb : ∀ a, off a + ![512, 1280] a ≤ S512x1280.size a) {off' : Fin 2 → ℕ} (inb' : ∀ a, off' a + ![512, 1280] a ≤ S512x1280.size a) (w : Vec F S512x1280 e) (L : List (View.Piece (Elt F) S512x1280 e)) :
    v.readCov (⟨Rect.unit (s := S512x1280) off ![512, 1280] inb, w⟩ :: L) (Rect.unit (s := S512x1280) off' ![512, 1280] inb').toLoadRect = w := View.readCov_full v inb' inb w L
theorem load_8 (v : View sig .tc .vmem S8x1280 e) (f : v.ty.Contents (Elt F)) {off : Fin 2 → ℕ} (inb : ∀ a, off a + ![8, 1280] a ≤ S8x1280.size a) :
    v.readAt (Elt F) (Rect.unit (s := S8x1280) off ![8, 1280] inb).toLoadRect f = v.read (Elt F) f := View.readAt_full v f inb
theorem store_8 (v : View sig .tc .vmem S8x1280 e) (f : v.ty.Contents (Elt F)) {off : Fin 2 → ℕ} (inb : ∀ a, off a + ![8, 1280] a ≤ S8x1280.size a) (w : Vec F S8x1280 e) (L : List (View.Piece (Elt F) S8x1280 e)) :
    v.read (Elt F) (v.writes (Elt F) f (⟨Rect.unit (s := S8x1280) off ![8, 1280] inb, w⟩ :: L)) = w := View.read_writes_full v f inb w L
theorem cov_8 (v : View sig .tc .vmem S8x1280 e) {off : Fin 2 → ℕ} (inb : ∀ a, off a + ![8, 1280] a ≤ S8x1280.size a) {off' : Fin 2 → ℕ} (inb' : ∀ a, off' a + ![8, 1280] a ≤ S8x1280.size a) (w : Vec F S8x1280 e) (L : List (View.Piece (Elt F) S8x1280 e)) :
    v.readCov (⟨Rect.unit (s := S8x1280) off ![8, 1280] inb, w⟩ :: L) (Rect.unit (s := S8x1280) off' ![8, 1280] inb').toLoadRect = w := View.readCov_full v inb' inb w L
theorem load_1 (v : View sig .tc .vmem S1x1280 e) (f : v.ty.Contents (Elt F)) {off : Fin 2 → ℕ} (inb : ∀ a, off a + ![1, 1280] a ≤ S1x1280.size a) :
    v.readAt (Elt F) (Rect.unit (s := S1x1280) off ![1, 1280] inb).toLoadRect f = v.read (Elt F) f := View.readAt_full v f inb
theorem store_1 (v : View sig .tc .vmem S1x1280 e) (f : v.ty.Contents (Elt F)) {off : Fin 2 → ℕ} (inb : ∀ a, off a + ![1, 1280] a ≤ S1x1280.size a) (w : Vec F S1x1280 e) (L : List (View.Piece (Elt F) S1x1280 e)) :
    v.read (Elt F) (v.writes (Elt F) f (⟨Rect.unit (s := S1x1280) off ![1, 1280] inb, w⟩ :: L)) = w := View.read_writes_full v f inb w L
theorem cov_1 (v : View sig .tc .vmem S1x1280 e) {off : Fin 2 → ℕ} (inb : ∀ a, off a + ![1, 1280] a ≤ S1x1280.size a) {off' : Fin 2 → ℕ} (inb' : ∀ a, off' a + ![1, 1280] a ≤ S1x1280.size a) (w : Vec F S1x1280 e) (L : List (View.Piece (Elt F) S1x1280 e)) :
    v.readCov (⟨Rect.unit (s := S1x1280) off ![1, 1280] inb, w⟩ :: L) (Rect.unit (s := S1x1280) off' ![1, 1280] inb').toLoadRect = w := View.readCov_full v inb' inb w L

variable (c : Dev nD) (i : grid0.Coords)
  (arg1 : Memref sig .tc .vmem S512x2560 .bf16) (harg1 : arg1.IsWhole)
  (arg2 : Memref sig .tc .vmem S5x256x256 .bf16) (harg2 : arg2.IsWhole)
  (arg3 : Memref sig .tc .vmem S5x256x256 .bf16) (harg3 : arg3.IsWhole)
  (arg4 : Memref sig .tc .vmem S1x1280 .f32) (harg4 : arg4.IsWhole)
  (arg5 : Memref sig .tc .vmem S1x1280 .f32) (harg5 : arg5.IsWhole)
  (arg6 : Memref sig .tc .vmem S1x1280 .f32) (harg6 : arg6.IsWhole)
  (arg7 : Memref sig .tc .vmem S4x1280 .f32) (harg7 : arg7.IsWhole)
  (arg8 : Memref sig .tc .vmem S1x1280 .f32) (harg8 : arg8.IsWhole)
  (arg9 : Memref sig .tc .vmem S512x1280 .bf16) (harg9 : arg9.IsWhole)
  (arg10 : Memref sig .tc .vmem S512x1280 .bf16) (harg10 : arg10.IsWhole)
  (arg11 : Memref sig .tc .vmem S512x1280 .bf16) (harg11 : arg11.IsWhole)
  (arg12 : Memref sig .tc .vmem S8x1280 .f32) (harg12 : arg12.IsWhole)
  (arg13 : Memref sig .tc .vmem S1x1280 .f32) (harg13 : arg13.IsWhole)
  (arg14 : Memref sig .tc .vmem S512x1280 .f32) (harg14 : arg14.IsWhole)
  (arg15 : Memref sig .tc .vmem S512x1280 .f32) (harg15 : arg15.IsWhole)
  (arg16 : Memref sig .tc .vmem S512x1280 .f32) (harg16 : arg16.IsWhole)
  (x0 : Vec F S512x2560 .bf16) (x1 : Vec F S5x256x256 .bf16) (x2 : Vec F S5x256x256 .bf16) (x3 : Vec F S1x1280 .f32) (x4 : Vec F S1x1280 .f32) (x5 : Vec F S1x1280 .f32) (x6 : Vec F S4x1280 .f32) (x7 : Vec F S1x1280 .f32)

theorem later_xr (hc : ¬First i) (tail : Vec F S8x1280 .f32) (state : Vec F S1x1280 .f32) (old : Vec F S512x1280 .f32) (f : BufTy.Contents (Elt F) arg9.view.ty) :
    arg9.view.read (Elt F) (arg9.view.writes (Elt F) f (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc tail state old).1) = outXr x0 x6 x7 tail := by
  unfold runLater
  dsimp only
  simp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19, runLater.sl.r_20, runLater.sl.r_21, runLater.sl.r_22, runLater.sl.v183, runLater.sl.H8_1, runLater.sl.H11_1, runLater.sl.H13_1, runLater.sl.H14_1, load_512, load_8, load_1, cov_512, cov_8, cov_1, store_512, store_8, store_1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rfl

theorem later_hr (hc : ¬First i) (tail : Vec F S8x1280 .f32) (state : Vec F S1x1280 .f32) (old : Vec F S512x1280 .f32) (f : BufTy.Contents (Elt F) arg10.view.ty) :
    arg10.view.read (Elt F) (arg10.view.writes (Elt F) f (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc tail state old).2.1) = outHr x0 x1 x2 x3 x4 x5 x6 x7 tail state := by
  unfold runLater
  dsimp only
  rw [View.read_writes_full]
  simp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19, runLater.sl.r_20, runLater.sl.r_21, runLater.sl.r_22, runLater.sl.v183, runLater.sl.H8_1, runLater.sl.H11_1, runLater.sl.H13_1, runLater.sl.H14_1, load_512, load_8, load_1, cov_512, cov_8, cov_1]
  rw [loop_read (hn := trips_eq)]
  simp only [load_512, load_8, load_1, cov_512, cov_8, cov_1, store_512, store_8, store_1, harg16.read_unread]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rfl

theorem later_y (hc : ¬First i) (tail : Vec F S8x1280 .f32) (state : Vec F S1x1280 .f32) (old : Vec F S512x1280 .f32) (f : BufTy.Contents (Elt F) arg11.view.ty) :
    arg11.view.read (Elt F) (arg11.view.writes (Elt F) f (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc tail state old).2.2.1) = outY x0 x1 x2 x3 x4 x5 x6 x7 tail state := by
  unfold runLater
  dsimp only
  rw [View.read_writes_full]
  simp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19, runLater.sl.r_20, runLater.sl.r_21, runLater.sl.r_22, runLater.sl.v183, runLater.sl.H8_1, runLater.sl.H11_1, runLater.sl.H13_1, runLater.sl.H14_1, load_512, load_8, load_1, cov_512, cov_8, cov_1]
  rw [loop_read (hn := trips_eq)]
  simp only [load_512, load_8, load_1, cov_512, cov_8, cov_1, store_512, store_8, store_1, harg16.read_unread]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rfl

theorem later_tail (hc : ¬First i) (tail : Vec F S8x1280 .f32) (state : Vec F S1x1280 .f32) (old : Vec F S512x1280 .f32) (f : BufTy.Contents (Elt F) arg12.view.ty) :
    arg12.view.read (Elt F) (arg12.view.writes (Elt F) f (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc tail state old).2.2.2.1) = newTail x0 := by
  unfold runLater
  dsimp only
  simp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19, runLater.sl.r_20, runLater.sl.r_21, runLater.sl.r_22, runLater.sl.v183, runLater.sl.H8_1, runLater.sl.H11_1, runLater.sl.H13_1, runLater.sl.H14_1, load_512, load_8, load_1, cov_512, cov_8, cov_1, store_512, store_8, store_1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rfl

theorem later_state (hc : ¬First i) (tail : Vec F S8x1280 .f32) (state : Vec F S1x1280 .f32) (old : Vec F S512x1280 .f32) (f : BufTy.Contents (Elt F) arg13.view.ty) :
    arg13.view.read (Elt F) (arg13.view.writes (Elt F) f (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc tail state old).2.2.2.2.1) = newState x0 x1 x2 x3 x4 x5 x6 x7 tail state := by
  unfold runLater
  dsimp only
  rw [View.read_writes_full]
  simp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.r_18, runLater.sl.r_19, runLater.sl.r_20, runLater.sl.r_21, runLater.sl.r_22, runLater.sl.v183, runLater.sl.H8_1, runLater.sl.H11_1, runLater.sl.H13_1, runLater.sl.H14_1, load_512, load_8, load_1, cov_512, cov_8, cov_1]
  rw [loop_holds_state (hn := trips_eq)]
  simp only [load_512, load_8, load_1, cov_512, cov_8, cov_1, store_512, store_8, store_1, harg16.read_unread]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rfl

theorem first_xr (hc : First i) (old : Vec F S512x1280 .f32) (f : BufTy.Contents (Elt F) arg9.view.ty) :
    arg9.view.read (Elt F) (arg9.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc old).1) = outXr x0 x6 x7 k0_pay3 := by
  unfold runFirst
  dsimp only
  simp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.v183, runFirst.sl.H8_1, runFirst.sl.H11_1, runFirst.sl.H13_1, runFirst.sl.H14_1, runFirst.sl.H11_2, runFirst.sl.H12_1, runFirst.sl.v6, runFirst.sl.v132, load_512, load_8, load_1, cov_512, cov_8, cov_1, store_512, store_8, store_1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rfl

theorem first_hr (hc : First i) (old : Vec F S512x1280 .f32) (f : BufTy.Contents (Elt F) arg10.view.ty) :
    arg10.view.read (Elt F) (arg10.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc old).2.1) = outHr x0 x1 x2 x3 x4 x5 x6 x7 k0_pay3 k0_pay4 := by
  unfold runFirst
  dsimp only
  rw [View.read_writes_full]
  simp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.v183, runFirst.sl.H8_1, runFirst.sl.H11_1, runFirst.sl.H13_1, runFirst.sl.H14_1, runFirst.sl.H11_2, runFirst.sl.H12_1, runFirst.sl.v6, runFirst.sl.v132, load_512, load_8, load_1, cov_512, cov_8, cov_1]
  rw [loop_read (hn := trips_eq)]
  simp only [load_512, load_8, load_1, cov_512, cov_8, cov_1, store_512, store_8, store_1, harg16.read_unread]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rfl

theorem first_y (hc : First i) (old : Vec F S512x1280 .f32) (f : BufTy.Contents (Elt F) arg11.view.ty) :
    arg11.view.read (Elt F) (arg11.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc old).2.2.1) = outY x0 x1 x2 x3 x4 x5 x6 x7 k0_pay3 k0_pay4 := by
  unfold runFirst
  dsimp only
  rw [View.read_writes_full]
  simp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.v183, runFirst.sl.H8_1, runFirst.sl.H11_1, runFirst.sl.H13_1, runFirst.sl.H14_1, runFirst.sl.H11_2, runFirst.sl.H12_1, runFirst.sl.v6, runFirst.sl.v132, load_512, load_8, load_1, cov_512, cov_8, cov_1]
  rw [loop_read (hn := trips_eq)]
  simp only [load_512, load_8, load_1, cov_512, cov_8, cov_1, store_512, store_8, store_1, harg16.read_unread]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rfl

theorem first_tail (hc : First i) (old : Vec F S512x1280 .f32) (f : BufTy.Contents (Elt F) arg12.view.ty) :
    arg12.view.read (Elt F) (arg12.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc old).2.2.2.1) = newTail x0 := by
  unfold runFirst
  dsimp only
  simp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.v183, runFirst.sl.H8_1, runFirst.sl.H11_1, runFirst.sl.H13_1, runFirst.sl.H14_1, runFirst.sl.H11_2, runFirst.sl.H12_1, runFirst.sl.v6, runFirst.sl.v132, load_512, load_8, load_1, cov_512, cov_8, cov_1, store_512, store_8, store_1]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rfl

theorem first_state (hc : First i) (old : Vec F S512x1280 .f32) (f : BufTy.Contents (Elt F) arg13.view.ty) :
    arg13.view.read (Elt F) (arg13.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc old).2.2.2.2.1) = newState x0 x1 x2 x3 x4 x5 x6 x7 k0_pay3 k0_pay4 := by
  unfold runFirst
  dsimp only
  rw [View.read_writes_full]
  simp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.v183, runFirst.sl.H8_1, runFirst.sl.H11_1, runFirst.sl.H13_1, runFirst.sl.H14_1, runFirst.sl.H11_2, runFirst.sl.H12_1, runFirst.sl.v6, runFirst.sl.v132, load_512, load_8, load_1, cov_512, cov_8, cov_1]
  rw [loop_holds_state (hn := trips_eq)]
  simp only [load_512, load_8, load_1, cov_512, cov_8, cov_1, store_512, store_8, store_1, harg16.read_unread]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread]
  rfl

end Cert.Rnnfwd

end
-- ==== Proof.RnnfwdTile.lean ====
/- One tile of the recurrent branch's kernel, read at its entries: the shifts, the convolution, the two gates, the slabs of
   eight rows and the states. -/
module

public import proofs.«01_k».proof.Proof.RnnfwdSpec
public import proofs.«01_k».proof.Proof.RnnfwdOut
public import proofs.«01_k».proof.Proof.Indices
public import Idealize.ShloMosaic.Lib.Pointwise
public import Idealize.ShloMosaic.Lib.WordCmp

@[expose] public section

set_option maxRecDepth 8192

noncomputable section

namespace Cert.Rnnfwd

open Idealize.ShloMosaic Cert.RnnfwdKernelIdeal Cert.RnnfwdKernelIdeal.Gen

/-- What a tile reads: the projection's rows `512 s` on, the eight rows before them, the taps and the bias. -/
structure Tile (I : In) (s : ℕ) (x0 : FVec Ideal S512x2560 .bf16) (x6 : FVec Ideal S4x1280 .f32) (x7 : FVec Ideal S1x1280 .f32) (tail : FVec Ideal S8x1280 .f32) : Prop where
  left : ∀ (r : Fin 512) (l : Fin 1280), leftOf (F := Ideal) x0 (ix2 r l) = I.x (512 * s + r.val) l
  tail : ∀ (r : Fin 8) (l : Fin 1280), tail (ix2 r l) = I.back 8 (512 * s + r.val) l
  w : ∀ (k : Fin 4) (l : Fin 1280), x6 (ix2 k l) = I.w (ix2 k l)
  b : ∀ l : Fin 1280, x7 (ix2 0 l) = I.b (ix1 l)

variable {I : In} {s : ℕ} {x0 : FVec Ideal S512x2560 .bf16} {x6 : FVec Ideal S4x1280 .f32} {x7 : FVec Ideal S1x1280 .f32} {tail : FVec Ideal S8x1280 .f32}

/-- Rows from the tile or from the rows before it. -/
theorem Tile.back (T : Tile I s x0 x6 x7 tail) (d : ℕ) (hd : d < 8) (r : Fin 512) (l : Fin 1280) :
    I.back d (512 * s + r.val) l = if r.val < d then tail (ix2 ⟨(8 + r.val - d) % 8, Nat.mod_lt _ (by norm_num)⟩ l) else leftOf (F := Ideal) x0 (ix2 ⟨r.val - d, by omega⟩ l) := by
  by_cases c : r.val < d
  · rw [if_pos c, T.tail]
    unfold In.back
    have e : (8 + r.val - d) % 8 = 8 + r.val - d := Nat.mod_eq_of_lt (by omega)
    by_cases k : d ≤ 512 * s + r.val
    · rw [if_pos k, if_pos (by show 8 ≤ 512 * s + (8 + r.val - d) % 8; omega)]
      congr 1
      show _ = 512 * s + (8 + r.val - d) % 8 - 8
      omega
    · rw [if_neg k, if_neg (by show ¬ 8 ≤ 512 * s + (8 + r.val - d) % 8; omega)]
  · rw [if_neg c, T.left]
    unfold In.back
    rw [if_pos (by omega)]
    congr 1
    show _ = 512 * s + (r.val - d)
    omega

theorem select_iff {α : Type} (c : BitVec 1) (p : Prop) [Decidable p] (h : c = 1#1 ↔ p) (a b : α) : Scalar.select c a b = if p then a else b := by
  unfold Scalar.select
  exact if_congr h rfl rfl

theorem slt1 : ∀ r : Fin 8, IntOp.cmpi CmpIPredicate.slt (BitVec.ofNat 32 r.val) 1#32 = 1#1 ↔ r.val < 1 := by decide +kernel
theorem slt2 : ∀ r : Fin 8, IntOp.cmpi CmpIPredicate.slt (BitVec.ofNat 32 r.val) 2#32 = 1#1 ↔ r.val < 2 := by decide +kernel
theorem slt3 : ∀ r : Fin 8, IntOp.cmpi CmpIPredicate.slt (BitVec.ofNat 32 r.val) 3#32 = 1#1 ↔ r.val < 3 := by decide +kernel

/-- The first eight rows of a shifted tile. -/
theorem Tile.head (T : Tile I s x0 x6 x7 tail) (d : ℕ) (hd : d < 8) (r : Fin 8) (l : Fin 1280) (c : BitVec 1) (hc : c = 1#1 ↔ r.val < d)
    (p1 : (r.val + 8 - d) % 8 < 8) (p2 : (r.val + 512 - d) % 512 < 512) :
    Scalar.select c (tail (ix2 ⟨(r.val + 8 - d) % 8, p1⟩ l)) (leftOf (F := Ideal) x0 (ix2 ⟨(r.val + 512 - d) % 512, p2⟩ l)) = I.back d (512 * s + r.val) l := by
  have e := T.back d hd ⟨r.val, by omega⟩ l
  rw [e, select_iff c _ hc]
  by_cases k : r.val < d
  · rw [if_pos k, if_pos k]
    refine congrArg tail (ix2_eq _ _ _ ?_ rfl)
    show (r.val + 8 - d) % 8 = (8 + r.val - d) % 8
    rw [Nat.add_comm]
  · rw [if_neg k, if_neg k]
    refine congrArg (leftOf (F := Ideal) x0) (ix2_eq _ _ _ ?_ rfl)
    show (r.val + 512 - d) % 512 = r.val - d
    omega

/-- The other rows of a shifted tile. -/
theorem Tile.rest (T : Tile I s x0 x6 x7 tail) (d : ℕ) (hd : d < 8) (r : Fin 504) (l : Fin 1280) (p2 : (8 + r.val + 512 - d) % 512 < 512) :
    leftOf (F := Ideal) x0 (ix2 ⟨(8 + r.val + 512 - d) % 512, p2⟩ l) = I.back d (512 * s + (r.val + 8)) l := by
  have e := T.back d hd ⟨r.val + 8, by omega⟩ l
  rw [e, if_neg (by show ¬ r.val + 8 < d; omega)]
  refine congrArg (leftOf (F := Ideal) x0) (ix2_eq _ _ _ ?_ rfl)
  show (8 + r.val + 512 - d) % 512 = r.val + 8 - d
  omega

theorem Tile.pay6 (T : Tile I s x0 x6 x7 tail) (r : Fin 512) (l : Fin 1280) :
    k0_pay6 (F := Ideal) (leftOf (F := Ideal) x0) tail x7 (tap3 (F := Ideal) x6) (tap2 (F := Ideal) x6) (ix2 r l) = I.b (ix1 l) + I.w (ix2 3 l) * I.back 0 (512 * s + r.val) l + I.w (ix2 2 l) * I.back 1 (512 * s + r.val) l := by
  have e0 : I.back 0 (512 * s + r.val) l = leftOf (F := Ideal) x0 (ix2 r l) := (T.left r l).symm
  rw [e0, ← T.w, ← T.w, ← T.b]
  unfold k0_pay6 k0_pay5 tap3 tap2
  pointwise
  by_cases c : r.val < 8
  · rw [dif_pos c, T.head 1 (by norm_num) ⟨r.val, c⟩ l _ (slt1 ⟨r.val, c⟩)]
  · rw [dif_neg c, T.rest 1 (by norm_num) ⟨r.val - 8, by omega⟩ l]
    rw [show r.val - 8 + 8 = r.val by omega]

theorem Tile.pay8 (T : Tile I s x0 x6 x7 tail) (r : Fin 8) (l : Fin 1280) :
    k0_pay8 (F := Ideal) (leftOf (F := Ideal) x0) tail (ix2 r l) = I.back 2 (512 * s + r.val) l := by
  unfold k0_pay8 k0_pay7 k0_pay5
  pointwise
  exact T.head 2 (by norm_num) r l _ (slt2 r) _ _

theorem Tile.pay9 (T : Tile I s x0 x6 x7 tail) (r : Fin 504) (l : Fin 1280) :
    k0_pay9 (F := Ideal) (leftOf (F := Ideal) x0) (ix2 r l) = I.back 2 (512 * s + (r.val + 8)) l := by
  unfold k0_pay9 k0_pay7 k0_pay5
  pointwise
  exact T.rest 2 (by norm_num) r l _

/-- The convolution. -/
theorem Tile.conv (T : Tile I s x0 x6 x7 tail) (r : Fin 512) (l : Fin 1280) : convOf (F := Ideal) x0 x6 x7 tail (ix2 r l) = I.xr (512 * s + r.val) l := by
  unfold convOf k0_pay10 k0_pay5 tap1 tap0
  pointwise [T.pay6, T.pay8, T.pay9]
  rw [T.w, T.w]
  have e2 : (if h : r.val < 8 then I.back 2 (512 * s + r.val) l else I.back 2 (512 * s + (r.val - 8 + 8)) l) = I.back 2 (512 * s + r.val) l := by
    by_cases c : r.val < 8
    · rw [dif_pos c]
    · rw [dif_neg c, show r.val - 8 + 8 = r.val by omega]
  rw [e2]
  refine Eq.trans (congrArg (fun z : EReal => I.b (ix1 l) + I.w (ix2 3 l) * I.back 0 (512 * s + r.val) l + I.w (ix2 2 l) * I.back 1 (512 * s + r.val) l + I.w (ix2 1 l) * I.back 2 (512 * s + r.val) l + I.w (ix2 0 l) * z) (?_ : _ = I.back 3 (512 * s + r.val) l)) ?_
  · by_cases c : r.val < 8
    · rw [dif_pos c, T.head 3 (by norm_num) ⟨r.val, c⟩ l _ (slt3 ⟨r.val, c⟩)]
    · rw [dif_neg c, T.rest 3 (by norm_num) ⟨r.val - 8, by omega⟩ l]
      rw [show r.val - 8 + 8 = r.val by omega]
  · unfold In.xr
    simp only [mul_comm (I.w _)]
    abel

theorem Tile.convB (T : Tile I s x0 x6 x7 tail) (r : Fin 512) (l : Fin 1280) : Rnnfwd.convB (F := Ideal) x0 x6 x7 tail (ix2 r l) = I.xr (512 * s + r.val) l := T.conv r l
theorem Tile.outXr (T : Tile I s x0 x6 x7 tail) (r : Fin 512) (l : Fin 1280) : Rnnfwd.outXr (F := Ideal) x0 x6 x7 tail (ix2 r l) = I.xr (512 * s + r.val) l := T.conv r l

/-! ### The gates -/

/-- A sum over a group's 256 channels that only one head's 64 enter. -/
theorem sum_head (f : Fin 256 → EReal) (j : Fin 4) (h0 : ∀ k : Fin 256, k.val / 64 ≠ j.val → f k = 0) :
    ∑ k, f k = ∑ i : Fin 64, f ⟨64 * j.val + i.val, by omega⟩ := by
  have e : ∑ k, f k = ∑ p : Fin 4 × Fin 64, f (finProdFinEquiv p) := (Equiv.sum_comp (finProdFinEquiv (m := 4) (n := 64)) f).symm
  rw [e, Fintype.sum_prod_type, Finset.sum_eq_single j]
  · refine Finset.sum_congr rfl fun i _ => congrArg f (Fin.ext ?_)
    show i.val + 64 * j.val = 64 * j.val + i.val
    omega
  · intro b _ hb
    refine Finset.sum_eq_zero fun i _ => h0 _ fun he => hb (Fin.ext ?_)
    have : (finProdFinEquiv (b, i) : Fin 256).val = i.val + 64 * b.val := rfl
    rw [this] at he
    omega
  · intro hj; exact absurd (Finset.mem_univ j) hj

/-- A gate's weights as the kernel holds them: the heads' matrices on the diagonal of five groups of four. -/
structure Gate (w : (⟨3, ![20, 64, 64]⟩ : Shape).Idx → EReal) (b : (⟨2, ![20, 64]⟩ : Shape).Idx → EReal) (W : FVec Ideal S5x256x256 .bf16) (bias : FVec Ideal S1x1280 .f32) : Prop where
  W : ∀ (g : Fin 5) (k q : Fin 256), W (ix3 g k q) = if k.val / 64 = q.val / 64 then w (ix3 ⟨4 * g.val + q.val / 64, by omega⟩ ⟨k.val % 64, by omega⟩ ⟨q.val % 64, by omega⟩) else 0
  b : ∀ l : Fin 1280, bias (ix2 0 l) = b (ix2 (Rnnfwd.head l) (lane l))

def col (g : Fin 5) (q : Fin 256) : Fin 1280 := ⟨256 * g.val + q.val, by omega⟩

/-- A head's product. -/
def prod (I : In) (w : (⟨3, ![20, 64, 64]⟩ : Shape).Idx → EReal) (n : ℕ) (l : Fin 1280) : EReal :=
  ∑ i : Fin 64, w (ix3 (Rnnfwd.head l) i (lane l)) * I.xr n (chan (Rnnfwd.head l) i)

theorem Gate.group {w b W bias} (G : Gate w b W bias) (I : In) (n : ℕ) (g : Fin 5) (q : Fin 256) :
    ∑ k : Fin 256, I.xr n (col g k) * W (ix3 g k q) = prod I w n (col g q) := by
  rw [sum_head _ ⟨q.val / 64, by omega⟩ fun k hk => by rw [G.W, if_neg hk, mul_zero]]
  refine Finset.sum_congr rfl fun i _ => ?_
  rw [G.W, if_pos (by show (64 * (q.val / 64) + i.val) / 64 = _; omega), mul_comm]
  refine congrArg₂ (fun a b : EReal => a * b) (congrArg w ?_) (congrArg (I.xr n) (Fin.ext ?_))
  · refine ix3_eq _ _ _ _ ?_ ?_ ?_
    · show 4 * g.val + q.val / 64 = (256 * g.val + q.val) / 64; omega
    · show (64 * (q.val / 64) + i.val) % 64 = i.val; omega
    · show q.val % 64 = (256 * g.val + q.val) % 64; omega
  · show 256 * g.val + (64 * (q.val / 64) + i.val) = (256 * g.val + q.val) / 64 * 64 + i.val
    omega

/-- Five groups of columns side by side. -/
theorem cols_at (v0 v1 v2 v3 v4 : FVec Ideal S512x256 .f32) (h) (f : Fin 512 → Fin 1280 → EReal)
    (h0 : ∀ i k, v0 (ix2 i k) = f i (col 0 k)) (h1 : ∀ i k, v1 (ix2 i k) = f i (col 1 k)) (h2 : ∀ i k, v2 (ix2 i k) = f i (col 2 k))
    (h3 : ∀ i k, v3 (ix2 i k) = f i (col 3 k)) (h4 : ∀ i k, v4 (ix2 i k) = f i (col 4 k)) (i : Fin 512) (l : Fin 1280) :
    concatenate S512x1280 1 [⟨S512x256, v0⟩, ⟨S512x256, v1⟩, ⟨S512x256, v2⟩, ⟨S512x256, v3⟩, ⟨S512x256, v4⟩] h (ix2 i l) = f i l := by
  refine (concatenate_ofFn_apply (t := S512x1280) (s₁ := S512x256) 1 (N := 5) ![v0, v1, v2, v3, v4] h rfl 256 rfl
    (ix2 i l) ⟨l.val / 256, by omega⟩ rfl (ix2 i ⟨l.val % 256, by omega⟩) rfl (fun b hb => ?_)).trans ?_
  · match b, hb with
    | ⟨0, _⟩, _ => rfl
    | ⟨1, _⟩, hb => exact absurd rfl hb
  · have key : ∀ g : Fin 5, ∀ k, (![v0, v1, v2, v3, v4] g) (ix2 i k) = f i (col g k) := by
      intro g k
      fin_cases g
      exacts [h0 i k, h1 i k, h2 i k, h3 i k, h4 i k]
    rw [key]
    exact congrArg (f i) (Fin.ext (by show 256 * (l.val / 256) + l.val % 256 = l.val; omega))

/-- The groups' weights, read of the array of the five. -/
theorem grp0_at (W : FVec Ideal S5x256x256 .bf16) (k q : Fin 256) : grp0 (F := Ideal) W (ix3 0 k q) = W (ix3 0 k q) := by
  unfold grp0
  refine View.ld_unit_apply_of _ _ _ _ _ _ fun a => ?_
  match a with
  | ⟨0, _⟩ => rfl
  | ⟨1, _⟩ => show k.val = 0 + k.val; omega
  | ⟨2, _⟩ => show q.val = 0 + q.val; omega
theorem grp1_at (W : FVec Ideal S5x256x256 .bf16) (k q : Fin 256) : grp1 (F := Ideal) W (ix3 0 k q) = W (ix3 1 k q) := by
  unfold grp1
  refine View.ld_unit_apply_of _ _ _ _ _ _ fun a => ?_
  match a with
  | ⟨0, _⟩ => rfl
  | ⟨1, _⟩ => show k.val = 0 + k.val; omega
  | ⟨2, _⟩ => show q.val = 0 + q.val; omega
theorem grp2_at (W : FVec Ideal S5x256x256 .bf16) (k q : Fin 256) : grp2 (F := Ideal) W (ix3 0 k q) = W (ix3 2 k q) := by
  unfold grp2
  refine View.ld_unit_apply_of _ _ _ _ _ _ fun a => ?_
  match a with
  | ⟨0, _⟩ => rfl
  | ⟨1, _⟩ => show k.val = 0 + k.val; omega
  | ⟨2, _⟩ => show q.val = 0 + q.val; omega
theorem grp3_at (W : FVec Ideal S5x256x256 .bf16) (k q : Fin 256) : grp3 (F := Ideal) W (ix3 0 k q) = W (ix3 3 k q) := by
  unfold grp3
  refine View.ld_unit_apply_of _ _ _ _ _ _ fun a => ?_
  match a with
  | ⟨0, _⟩ => rfl
  | ⟨1, _⟩ => show k.val = 0 + k.val; omega
  | ⟨2, _⟩ => show q.val = 0 + q.val; omega
theorem grp4_at (W : FVec Ideal S5x256x256 .bf16) (k q : Fin 256) : grp4 (F := Ideal) W (ix3 0 k q) = W (ix3 4 k q) := by
  unfold grp4
  refine View.ld_unit_apply_of _ _ _ _ _ _ fun a => ?_
  match a with
  | ⟨0, _⟩ => rfl
  | ⟨1, _⟩ => show k.val = 0 + k.val; omega
  | ⟨2, _⟩ => show q.val = 0 + q.val; omega

/-- One group's product. -/
theorem gate_piece {w b W bias} (G : Gate w b W bias) (I : In) (s : ℕ) (X : FVec Ideal S512x1280 .bf16) (hX : ∀ r l, X (ix2 r l) = I.xr (512 * s + r.val) l)
    (g : Fin 5) (o : ℕ) (ho : o = 256 * g.val) (hs : S512x1280.Slices ![0, o] S512x256) (W' : FVec Ideal S1x256x256 .bf16) (hW : ∀ k q, W' (ix3 0 k q) = W (ix3 g k q)) (r : Fin 512) (q : Fin 256) :
    matmul (F := Idealize.ShloMosaic.Ideal) (φ₁ := .bf16) (φ₂ := .bf16) dot_S512x256_S256x256_S512x256_1_0_0_1_n_n none (extractStridedSlice S512x256 ![0, o] X hs)
      (shapeCast S256x256 W' shapeCasts_S1x256x256_S256x256) (constant S512x256 .f32 0x00000000#32) (ix2 r q)
      = prod I w (512 * s + r.val) (col g q) := by
  subst ho
  rw [← G.group]
  pointwise [hW]
  refine Finset.sum_congr rfl fun k _ => ?_
  refine congrArg (fun z : EReal => z * _) ((hX r (col g k)).symm.trans ?_).symm
  rfl

theorem Tile.gate {w b W bias} (T : Tile I s x0 x6 x7 tail) (G : Gate w b W bias) (r : Fin 512) (l : Fin 1280) :
    gateOf (F := Ideal) x0 W bias x6 x7 tail (ix2 r l) = I.gate w b (512 * s + r.val) l := by
  have h0 : ∀ (r : Fin 512) (q : Fin 256), k0_pay14 (F := Ideal) (k0_pay5 (F := Ideal) (leftOf (F := Ideal) x0)) tail (k0_pay6 (F := Ideal) (leftOf (F := Ideal) x0) tail x7 (tap3 (F := Ideal) x6) (tap2 (F := Ideal) x6)) (tap1 (F := Ideal) x6) (k0_pay8 (F := Ideal) (leftOf (F := Ideal) x0) tail) (k0_pay9 (F := Ideal) (leftOf (F := Ideal) x0)) (tap0 (F := Ideal) x6) (grp0 (F := Ideal) W) (ix2 r q) = prod I w (512 * s + r.val) (col 0 q) := fun r q =>
    gate_piece G I s _ T.convB 0 0 rfl slices_S512x1280_o0_0_S512x256 _ (grp0_at W) r q
  have h1 : ∀ (r : Fin 512) (q : Fin 256), k0_pay15 (F := Ideal) (k0_pay5 (F := Ideal) (leftOf (F := Ideal) x0)) tail (k0_pay6 (F := Ideal) (leftOf (F := Ideal) x0) tail x7 (tap3 (F := Ideal) x6) (tap2 (F := Ideal) x6)) (tap1 (F := Ideal) x6) (k0_pay8 (F := Ideal) (leftOf (F := Ideal) x0) tail) (k0_pay9 (F := Ideal) (leftOf (F := Ideal) x0)) (tap0 (F := Ideal) x6) (grp1 (F := Ideal) W) (ix2 r q) = prod I w (512 * s + r.val) (col 1 q) := fun r q =>
    gate_piece G I s _ T.convB 1 256 rfl slices_S512x1280_o0_256_S512x256 _ (grp1_at W) r q
  have h2 : ∀ (r : Fin 512) (q : Fin 256), k0_pay16 (F := Ideal) (k0_pay5 (F := Ideal) (leftOf (F := Ideal) x0)) tail (k0_pay6 (F := Ideal) (leftOf (F := Ideal) x0) tail x7 (tap3 (F := Ideal) x6) (tap2 (F := Ideal) x6)) (tap1 (F := Ideal) x6) (k0_pay8 (F := Ideal) (leftOf (F := Ideal) x0) tail) (k0_pay9 (F := Ideal) (leftOf (F := Ideal) x0)) (tap0 (F := Ideal) x6) (grp2 (F := Ideal) W) (ix2 r q) = prod I w (512 * s + r.val) (col 2 q) := fun r q =>
    gate_piece G I s _ T.convB 2 512 rfl slices_S512x1280_o0_512_S512x256 _ (grp2_at W) r q
  have h3 : ∀ (r : Fin 512) (q : Fin 256), matmul (F := Idealize.ShloMosaic.Ideal) (φ₁ := .bf16) (φ₂ := .bf16) dot_S512x256_S256x256_S512x256_1_0_0_1_n_n none (k0_pay17 (F := Ideal) (k0_pay5 (F := Ideal) (leftOf (F := Ideal) x0)) tail (k0_pay6 (F := Ideal) (leftOf (F := Ideal) x0) tail x7 (tap3 (F := Ideal) x6) (tap2 (F := Ideal) x6)) (tap1 (F := Ideal) x6) (k0_pay8 (F := Ideal) (leftOf (F := Ideal) x0) tail) (k0_pay9 (F := Ideal) (leftOf (F := Ideal) x0)) (tap0 (F := Ideal) x6)) (shapeCast S256x256 (grp3 (F := Ideal) W) shapeCasts_S1x256x256_S256x256) (constant S512x256 .f32 0x00000000#32) (ix2 r q) = prod I w (512 * s + r.val) (col 3 q) := fun r q =>
    gate_piece G I s _ T.convB 3 768 rfl slices_S512x1280_o0_768_S512x256 _ (grp3_at W) r q
  have h4 : ∀ (r : Fin 512) (q : Fin 256), matmul (F := Idealize.ShloMosaic.Ideal) (φ₁ := .bf16) (φ₂ := .bf16) dot_S512x256_S256x256_S512x256_1_0_0_1_n_n none (extractStridedSlice S512x256 ![0, 1024] (Rnnfwd.convB (F := Ideal) x0 x6 x7 tail) slices_S512x1280_o0_1024_S512x256) (shapeCast S256x256 (grp4 (F := Ideal) W) shapeCasts_S1x256x256_S256x256) (constant S512x256 .f32 0x00000000#32) (ix2 r q) = prod I w (512 * s + r.val) (col 4 q) := fun r q =>
    gate_piece G I s _ T.convB 4 1024 rfl slices_S512x1280_o0_1024_S512x256 _ (grp4_at W) r q
  have hC := fun h => cols_at _ _ _ _ _ h (fun r l => prod I w (512 * s + r.val) l) h0 h1 h2 h3 h4 r l
  unfold gateOf k0_pay18
  have hD := hC concatenates_S512x256_S512x256_S512x256_S512x256_S512x256_S512x1280_d1
  generalize concatenate S512x1280 1 _ _ = C at hD ⊢
  pointwise [hD, G.b]
  rfl

/-! ### Slabs of eight rows -/

/-- A run of the recurrence up to a row of the tile. -/
abbrev RunAt (I : In) (s : ℕ) (l : Fin 1280) (r : Fin 512) (d : ℕ) (A B : EReal) : Prop := Run (fun k => I.h k l) (512 * s + r.val) (min ((512 * s + r.val) % 8 + 1) d) A B

theorem dbl {l : Fin 1280} {A B : Fin 512 → EReal} {d : ℕ} (hd : 0 < d) (R : ∀ r, RunAt I s l r d (A r) (B r)) (r : Fin 512) (c : BitVec 1) (hc : c = 1#1 ↔ d ≤ r.val % 8)
    (p : (r.val + 512 - d) % 512 < 512) :
    RunAt I s l r (2 * d) (A r * Scalar.select c (A ⟨(r.val + 512 - d) % 512, p⟩) ((1 : ℝ) : EReal))
      (A r * Scalar.select c (B ⟨(r.val + 512 - d) % 512, p⟩) ((0 : ℝ) : EReal) + B r) := by
  have e8 : (512 * s + r.val) % 8 = r.val % 8 := by omega
  rw [select_iff c _ hc, select_iff c _ hc, ← e8]
  refine Run.double _ _ hd (R r) fun k => ?_
  have e : (r.val + 512 - d) % 512 = r.val - d := by omega
  have e' : 512 * s + r.val - d = 512 * s + (r.val + 512 - d) % 512 := by omega
  rw [e']
  exact R ⟨(r.val + 512 - d) % 512, p⟩

theorem sge1 : ∀ r : Fin 512, IntOp.cmpi CmpIPredicate.sge (IntOp.andi (BitVec.ofNat 32 r.val) 7#32) 1#32 = 1#1 ↔ 1 ≤ r.val % 8 := by decide +kernel
theorem sge2 : ∀ r : Fin 512, IntOp.cmpi CmpIPredicate.sge (IntOp.andi (BitVec.ofNat 32 r.val) 7#32) 2#32 = 1#1 ↔ 2 ≤ r.val % 8 := by decide +kernel
theorem sge4 : ∀ r : Fin 512, IntOp.cmpi CmpIPredicate.sge (IntOp.andi (BitVec.ofNat 32 r.val) 7#32) 4#32 = 1#1 ↔ 4 ≤ r.val % 8 := by decide +kernel

/-- What a tile's gates read beside the tile: the weights, the biases and the row of softplus. -/
structure Gates (I : In) (x1 x2 : FVec Ideal S5x256x256 .bf16) (x3 x4 x5 : FVec Ideal S1x1280 .f32) : Prop where
  a : Gate I.wa I.ba x1 x3
  x : Gate I.wx I.bx x2 x4
  sp : ∀ l : Fin 1280, x5 (ix2 0 l) = I.sp (ix1 l)

variable {x1 x2 : FVec Ideal S5x256x256 .bf16} {x3 x4 x5 : FVec Ideal S1x1280 .f32}

theorem Tile.loga (T : Tile I s x0 x6 x7 tail) (G : Gates I x1 x2 x3 x4 x5) (r : Fin 512) (l : Fin 1280) :
    k0_pay24 (F := Ideal) (gateOf (F := Ideal) x0 x1 x3 x6 x7 tail) x5 (ix2 r l) = I.loga (512 * s + r.val) l := by
  unfold k0_pay24
  pointwise [T.gate G.a, G.sp, cNegEight]
  rfl

theorem Tile.a (T : Tile I s x0 x6 x7 tail) (G : Gates I x1 x2 x3 x4 x5) (r : Fin 512) (l : Fin 1280) :
    k0_pay25 (F := Ideal) (gateOf (F := Ideal) x0 x1 x3 x6 x7 tail) x5 (ix2 r l) = I.a (512 * s + r.val) l := by
  unfold k0_pay25
  pointwise [T.loga G]
  rfl

theorem Tile.pairA (T : Tile I s x0 x6 x7 tail) (G : Gates I x1 x2 x3 x4 x5) (r : Fin 512) (l : Fin 1280) (p) :
    Rnnfwd.pairA (F := Ideal) x0 x1 x2 x3 x4 x5 x6 x7 tail (ix2 r l)
      = I.a (512 * s + r.val) l * Scalar.select (IntOp.cmpi CmpIPredicate.sge (IntOp.andi (BitVec.ofNat 32 r.val) 7#32) 1#32) (I.a (512 * s + (⟨(r.val + 512 - 1) % 512, p⟩ : Fin 512).val) l) ((1 : ℝ) : EReal) := by
  unfold Rnnfwd.pairA k0_pay29 k0_pay27 k0_pay26
  pointwise [T.a G, Consts.cOne]

/-- The other gate. -/
theorem Tile.gateB (T : Tile I s x0 x6 x7 tail) (G : Gates I x1 x2 x3 x4 x5) (r : Fin 512) (l : Fin 1280) (h) :
    (concatenate S512x1280 1 [⟨S512x256, k0_pay19 (F := Ideal) (Rnnfwd.convB (F := Ideal) x0 x6 x7 tail) (grp0 (F := Ideal) x2)⟩,
      ⟨S512x256, k0_pay20 (F := Ideal) (Rnnfwd.convB (F := Ideal) x0 x6 x7 tail) (grp1 (F := Ideal) x2)⟩,
      ⟨S512x256, k0_pay21 (F := Ideal) (Rnnfwd.convB (F := Ideal) x0 x6 x7 tail) (grp2 (F := Ideal) x2)⟩,
      ⟨S512x256, k0_pay22 (F := Ideal) (Rnnfwd.convB (F := Ideal) x0 x6 x7 tail) (grp3 (F := Ideal) x2)⟩,
      ⟨S512x256, matmul (F := Idealize.ShloMosaic.Ideal) (φ₁ := .bf16) (φ₂ := .bf16) dot_S512x256_S256x256_S512x256_1_0_0_1_n_n none (k0_pay23 (F := Ideal) (Rnnfwd.convB (F := Ideal) x0 x6 x7 tail)) (shapeCast S256x256 (grp4 (F := Ideal) x2) shapeCasts_S1x256x256_S256x256) (constant S512x256 .f32 0x00000000#32)⟩] h : FVec Ideal S512x1280 .f32) (ix2 r l) = prod I I.wx (512 * s + r.val) l := by
  have h0 : ∀ (r : Fin 512) (q : Fin 256), k0_pay19 (F := Ideal) (Rnnfwd.convB (F := Ideal) x0 x6 x7 tail) (grp0 (F := Ideal) x2) (ix2 r q) = prod I I.wx (512 * s + r.val) (col 0 q) := fun r q =>
    gate_piece G.x I s _ T.convB 0 0 rfl slices_S512x1280_o0_0_S512x256 _ (grp0_at x2) r q
  have h1 : ∀ (r : Fin 512) (q : Fin 256), k0_pay20 (F := Ideal) (Rnnfwd.convB (F := Ideal) x0 x6 x7 tail) (grp1 (F := Ideal) x2) (ix2 r q) = prod I I.wx (512 * s + r.val) (col 1 q) := fun r q =>
    gate_piece G.x I s _ T.convB 1 256 rfl slices_S512x1280_o0_256_S512x256 _ (grp1_at x2) r q
  have h2 : ∀ (r : Fin 512) (q : Fin 256), k0_pay21 (F := Ideal) (Rnnfwd.convB (F := Ideal) x0 x6 x7 tail) (grp2 (F := Ideal) x2) (ix2 r q) = prod I I.wx (512 * s + r.val) (col 2 q) := fun r q =>
    gate_piece G.x I s _ T.convB 2 512 rfl slices_S512x1280_o0_512_S512x256 _ (grp2_at x2) r q
  have h3 : ∀ (r : Fin 512) (q : Fin 256), k0_pay22 (F := Ideal) (Rnnfwd.convB (F := Ideal) x0 x6 x7 tail) (grp3 (F := Ideal) x2) (ix2 r q) = prod I I.wx (512 * s + r.val) (col 3 q) := fun r q =>
    gate_piece G.x I s _ T.convB 3 768 rfl slices_S512x1280_o0_768_S512x256 _ (grp3_at x2) r q
  have h4 : ∀ (r : Fin 512) (q : Fin 256), matmul (F := Idealize.ShloMosaic.Ideal) (φ₁ := .bf16) (φ₂ := .bf16) dot_S512x256_S256x256_S512x256_1_0_0_1_n_n none (k0_pay23 (F := Ideal) (Rnnfwd.convB (F := Ideal) x0 x6 x7 tail)) (shapeCast S256x256 (grp4 (F := Ideal) x2) shapeCasts_S1x256x256_S256x256) (constant S512x256 .f32 0x00000000#32) (ix2 r q) = prod I I.wx (512 * s + r.val) (col 4 q) := fun r q =>
    gate_piece G.x I s _ T.convB 4 1024 rfl slices_S512x1280_o0_1024_S512x256 _ (grp4_at x2) r q
  exact cols_at _ _ _ _ _ h (fun r l => prod I I.wx (512 * s + r.val) l) h0 h1 h2 h3 h4 r l

theorem Tile.pairB (T : Tile I s x0 x6 x7 tail) (G : Gates I x1 x2 x3 x4 x5) (hg : ∀ (r : Fin 512) (l : Fin 1280), (tiny : EReal) ≤ I.gap (512 * s + r.val) l) (r : Fin 512) (l : Fin 1280) (p) :
    Rnnfwd.pairB (F := Ideal) x0 x1 x2 x3 x4 x5 x6 x7 tail (ix2 r l)
      = I.a (512 * s + r.val) l * Scalar.select (IntOp.cmpi CmpIPredicate.sge (IntOp.andi (BitVec.ofNat 32 r.val) 7#32) 1#32) (I.u (512 * s + (⟨(r.val + 512 - 1) % 512, p⟩ : Fin 512).val) l) ((0 : ℝ) : EReal)
        + I.u (512 * s + r.val) l := by
  have hC := fun r l => T.gateB G r l concatenates_S512x256_S512x256_S512x256_S512x256_S512x256_S512x1280_d1
  unfold Rnnfwd.pairB k0_pay28 k0_pay27 k0_pay26
  generalize concatenate S512x1280 1 _ _ = C at hC ⊢
  pointwise [T.a G, T.loga G, T.conv, hC, Consts.cOne, Consts.cZero, tiny_eq, G.x.b]
  have hu : ∀ n, (tiny : EReal) ≤ I.gap n l → ((0 : ℝ) - Ideal.tanh (I.loga n l)) * (I.a n l * I.a n l + ((1 : ℝ) : EReal))
      * Ideal.rsqrt (max (((0 : ℝ) - Ideal.tanh (I.loga n l)) * (I.a n l * I.a n l + ((1 : ℝ) : EReal))) (tiny : EReal))
      * (Ideal.logistic (prod I I.wx n l + I.bx (ix2 (Rnnfwd.head l) (lane l))) * I.xr n l) = I.u n l :=
    fun n h => congrArg (fun z : EReal => z * (Ideal.logistic (prod I I.wx n l + I.bx (ix2 (Rnnfwd.head l) (lane l))) * I.xr n l)) (root h)
  rw [hu _ (hg r l), hu _ (hg ⟨(r.val + 512 - 1) % 512, p⟩ l)]

/-- The slabs: runs of at most eight rows. -/
theorem Tile.slabs (T : Tile I s x0 x6 x7 tail) (G : Gates I x1 x2 x3 x4 x5) (hg : ∀ (r : Fin 512) (l : Fin 1280), (tiny : EReal) ≤ I.gap (512 * s + r.val) l) (r : Fin 512) (l : Fin 1280) :
    RunAt I s l r 8 (slabA (F := Ideal) x0 x1 x2 x3 x4 x5 x6 x7 tail (ix2 r l)) (slabB (F := Ideal) x0 x1 x2 x3 x4 x5 x6 x7 tail (ix2 r l)) := by
  have R1 : ∀ r : Fin 512, RunAt I s l r 1 (I.a (512 * s + r.val) l) (I.u (512 * s + r.val) l) := fun r => by
    have e : min ((512 * s + r.val) % 8 + 1) 1 = 1 := by omega
    show Run _ _ (min _ 1) _ _
    rw [e]
    exact I.run_one _ l (hg r l)
  have R2 : ∀ r : Fin 512, RunAt I s l r 2 (Rnnfwd.pairA (F := Ideal) x0 x1 x2 x3 x4 x5 x6 x7 tail (ix2 r l)) (Rnnfwd.pairB (F := Ideal) x0 x1 x2 x3 x4 x5 x6 x7 tail (ix2 r l)) := fun r => by
    rw [T.pairA G r l (Nat.mod_lt _ (by norm_num)), T.pairB G hg r l (Nat.mod_lt _ (by norm_num))]
    exact dbl (A := fun r => I.a (512 * s + r.val) l) (B := fun r => I.u (512 * s + r.val) l) (by norm_num) R1 r _ (sge1 r) _
  have R4 := fun r : Fin 512 => dbl (A := fun r => Rnnfwd.pairA (F := Ideal) x0 x1 x2 x3 x4 x5 x6 x7 tail (ix2 r l)) (B := fun r => Rnnfwd.pairB (F := Ideal) x0 x1 x2 x3 x4 x5 x6 x7 tail (ix2 r l)) (by norm_num) R2 r _ (sge2 r) (Nat.mod_lt _ (by norm_num))
  have R8 := dbl (A := fun r => _) (B := fun r => _) (by norm_num) R4 r _ (sge4 r) (Nat.mod_lt _ (by norm_num))
  unfold slabA slabB k0_pay33 k0_pay34 k0_pay31 k0_pay32 k0_pay30 k0_pay26
  generalize Rnnfwd.pairA (F := Ideal) x0 x1 x2 x3 x4 x5 x6 x7 tail = PA at R8 ⊢
  generalize Rnnfwd.pairB (F := Ideal) x0 x1 x2 x3 x4 x5 x6 x7 tail = PB at R8 ⊢
  pointwise [Consts.cOne, Consts.cZero]
  exact R8

/-! ### The states -/

theorem Tile.state_at (T : Tile I s x0 x6 x7 tail) (G : Gates I x1 x2 x3 x4 x5) (hg : ∀ (r : Fin 512) (l : Fin 1280), (tiny : EReal) ≤ I.gap (512 * s + r.val) l)
    (init : FVec Ideal S8x1280 .f32) (hi : ∀ (i : Fin 8) (l : Fin 1280), init (ix2 i l) = I.h (512 * s) l) :
    ∀ k, k ≤ 64 → ∀ (i : Fin 8) (l : Fin 1280), scanState (F := Ideal) (slabA (F := Ideal) x0 x1 x2 x3 x4 x5 x6 x7 tail) (slabB (F := Ideal) x0 x1 x2 x3 x4 x5 x6 x7 tail) init k (ix2 i l) = I.h (512 * s + 8 * k) l
  | 0, _, i, l => hi i l
  | k + 1, hk, i, l => by
    have ih := T.state_at G hg init hi k (Nat.le_of_succ_le hk) 7 l
    have R := (T.slabs G hg ⟨8 * (k % 64) + 7, by omega⟩ l).eq
    show k0_pay38 (F := Ideal) (scanState _ _ _ k) _ _ (ix2 i l) = _
    unfold k0_pay38 k0_pay36
    pointwise [ih]
    have e : 512 * s + (⟨8 * (k % 64) + 7, by omega⟩ : Fin 512).val + 1 = 512 * s + 8 * (k + 1) := by
      show 512 * s + (8 * (k % 64) + 7) + 1 = _
      omega
    have e' : 512 * s + (⟨8 * (k % 64) + 7, by omega⟩ : Fin 512).val + 1 - min ((512 * s + (⟨8 * (k % 64) + 7, by omega⟩ : Fin 512).val) % 8 + 1) 8 = 512 * s + 8 * k := by
      show 512 * s + (8 * (k % 64) + 7) + 1 - min ((512 * s + (8 * (k % 64) + 7)) % 8 + 1) 8 = _
      omega
    rw [e'] at R
    rw [← e]
    exact R.symm

theorem Tile.rows_at (T : Tile I s x0 x6 x7 tail) (G : Gates I x1 x2 x3 x4 x5) (hg : ∀ (r : Fin 512) (l : Fin 1280), (tiny : EReal) ≤ I.gap (512 * s + r.val) l)
    (state : FVec Ideal S1x1280 .f32) (hs : ∀ l : Fin 1280, state (ix2 0 l) = I.h (512 * s) l) (r : Fin 512) (l : Fin 1280) :
    rowsOf (F := Ideal) x0 x1 x2 x3 x4 x5 x6 x7 tail state (ix2 r l) = I.h (512 * s + r.val + 1) l := by
  have hi : ∀ (i : Fin 8) (l : Fin 1280), k0_pay35 (F := Ideal) state (ix2 i l) = I.h (512 * s) l := fun i l => by
    unfold k0_pay35
    pointwise [hs]
  have ih := T.state_at G hg _ hi (r.val / 8) (by omega) ⟨r.val % 8, by omega⟩ l
  have R := (T.slabs G hg r l).eq
  unfold rowsOf scanRows
  show k0_pay37 (F := Ideal) (scanState _ _ _ (r.val / 8)) _ _ (ix2 ⟨r.val % 8, _⟩ ⟨l.val, _⟩) = _
  unfold k0_pay37 k0_pay36
  pointwise [ih]
  have e' : 512 * s + r.val + 1 - min ((512 * s + r.val) % 8 + 1) 8 = 512 * s + 8 * (r.val / 8) := by omega
  rw [e'] at R
  refine Eq.trans ?_ R.symm
  have es : ∀ X : Vec Ideal S512x1280 .f32, slab (F := Ideal) X (r.val / 8) (ix2 ⟨r.val % 8, by omega⟩ l) = X (ix2 r l) := fun X => by
    unfold slab
    refine congrArg X (ix2_eq _ _ _ ?_ rfl)
    show 8 * (r.val / 8 % 64) + r.val % 8 = r.val
    omega
  exact congrArg₂ (fun a b : EReal => a + b * I.h (512 * s + 8 * (r.val / 8)) l) (es _) (es _)

theorem Tile.newState (T : Tile I s x0 x6 x7 tail) (G : Gates I x1 x2 x3 x4 x5) (hg : ∀ (r : Fin 512) (l : Fin 1280), (tiny : EReal) ≤ I.gap (512 * s + r.val) l)
    (state : FVec Ideal S1x1280 .f32) (hs : ∀ l : Fin 1280, state (ix2 0 l) = I.h (512 * s) l) (l : Fin 1280) :
    Rnnfwd.newState (F := Ideal) x0 x1 x2 x3 x4 x5 x6 x7 tail state (ix2 0 l) = I.h (512 * (s + 1)) l := by
  have hi : ∀ (i : Fin 8) (l : Fin 1280), k0_pay35 (F := Ideal) state (ix2 i l) = I.h (512 * s) l := fun i l => by
    unfold k0_pay35
    pointwise [hs]
  have ih := T.state_at G hg _ hi 64 (le_refl _) 0 l
  unfold Rnnfwd.newState k0_pay39
  pointwise [ih]
  rfl

theorem Tile.newTail (T : Tile I s x0 x6 x7 tail) (r : Fin 8) (l : Fin 1280) : Rnnfwd.newTail (F := Ideal) x0 (ix2 r l) = I.back 8 (512 * (s + 1) + r.val) l := by
  unfold Rnnfwd.newTail k0_pay11 k0_pay5 In.back
  pointwise [T.left]
  rw [if_pos (by omega)]
  congr 1
  omega

theorem Tile.outHr (T : Tile I s x0 x6 x7 tail) (G : Gates I x1 x2 x3 x4 x5) (hg : ∀ (r : Fin 512) (l : Fin 1280), (tiny : EReal) ≤ I.gap (512 * s + r.val) l)
    (state : FVec Ideal S1x1280 .f32) (hs : ∀ l : Fin 1280, state (ix2 0 l) = I.h (512 * s) l) (r : Fin 512) (l : Fin 1280) :
    Rnnfwd.outHr (F := Ideal) x0 x1 x2 x3 x4 x5 x6 x7 tail state (ix2 r l) = I.h (512 * s + r.val + 1) l := T.rows_at G hg state hs r l

/-- The kernel's named constants. -/
theorem nA : (Named.named (F := Idealize.ShloMosaic.Ideal) κ "gelu_a" (φ := .bf16) 0x3D37#16 : EReal) = (Consts.geluA : EReal) := by
  refine (IdealRules.named_const.ideal_named_scalar _ _ _ _ rfl).trans ?_
  unfold Consts.geluA; norm_num
theorem nC : (Named.named (F := Idealize.ShloMosaic.Ideal) κ "gelu_c" (φ := .bf16) 0x3F4C#16 : EReal) = (Consts.geluC : EReal) := by
  refine (IdealRules.named_const.ideal_named_scalar _ _ _ _ rfl).trans ?_
  unfold Consts.geluC; norm_num

theorem Tile.outY (T : Tile I s x0 x6 x7 tail) (G : Gates I x1 x2 x3 x4 x5) (hg : ∀ (r : Fin 512) (l : Fin 1280), (tiny : EReal) ≤ I.gap (512 * s + r.val) l)
    (state : FVec Ideal S1x1280 .f32) (hs : ∀ l : Fin 1280, state (ix2 0 l) = I.h (512 * s) l) (r : Fin 512) (l : Fin 1280) :
    Rnnfwd.outY (F := Ideal) x0 x1 x2 x3 x4 x5 x6 x7 tail state (ix2 r l) = I.h (512 * s + r.val + 1) l * Sgufwd.gelu (rightOf (F := Ideal) x0 (ix2 r l)) := by
  have hr := T.rows_at G hg state hs r l
  unfold Rnnfwd.outY k0_pay2
  generalize rowsOf (F := Ideal) x0 x1 x2 x3 x4 x5 x6 x7 tail state = H at hr ⊢
  pointwise [hr, Consts.bHalf, Consts.bOne, nA, nC]
  rw [Sgufwd.gelu_eq]

end Cert.Rnnfwd

end
-- ==== Proof.RnnfwdRun.lean ====
/-
  The launch of the forward kernel of the recurrent branch: the tail and the state carried from tile to tile, what each
  tile's run leaves, and the run of the whole program with its argument arrays unchanged.
-/
module

public import proofs.«01_k».proof.Proof.RnnfwdOut

@[expose] public section

set_option maxRecDepth 16384

noncomputable section

namespace Cert.Rnnfwd

open Cert.RnnfwdKernelIdeal Cert.RnnfwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The tail and the state before point `n`: both zero before the first. -/
def carried (c : Dev nD) : (n : ℕ) → n ≤ cfg0.N → FVec F S8x1280 .f32 × FVec F S1x1280 .f32
  | 0, _ => (k0_pay3, k0_pay4)
  | n + 1, hn =>
    let t : Fin cfg0.N := ⟨n, hn⟩
    let p := carried c n (Nat.le_of_succ_le hn)
    (newTail (X0_0 m c t), newState (X0_0 m c t) (iblk m c 1 t) (iblk m c 2 t) (iblk m c 3 t) (iblk m c 4 t) (iblk m c 5 t) (iblk m c 6 t) (iblk m c 7 t) p.1 p.2)

/-- The tail and the state before point `t`. -/
abbrev tailAt (c : Dev nD) (t : Fin cfg0.N) : FVec F S8x1280 .f32 := (carried m c t.val (Nat.le_of_lt t.isLt)).1
abbrev stateAt (c : Dev nD) (t : Fin cfg0.N) : FVec F S1x1280 .f32 := (carried m c t.val (Nat.le_of_lt t.isLt)).2

/-- What point `t` leaves in each result's buffer. -/
def xrAt (c : Dev nD) (t : Fin cfg0.N) : FVec F S512x1280 .bf16 := outXr (X0_0 m c t) (iblk m c 6 t) (iblk m c 7 t) (tailAt m c t)
def hrAt (c : Dev nD) (t : Fin cfg0.N) : FVec F S512x1280 .bf16 := outHr (X0_0 m c t) (iblk m c 1 t) (iblk m c 2 t) (iblk m c 3 t) (iblk m c 4 t) (iblk m c 5 t) (iblk m c 6 t) (iblk m c 7 t) (tailAt m c t) (stateAt m c t)
def yAt (c : Dev nD) (t : Fin cfg0.N) : FVec F S512x1280 .bf16 := outY (X0_0 m c t) (iblk m c 1 t) (iblk m c 2 t) (iblk m c 3 t) (iblk m c 4 t) (iblk m c 5 t) (iblk m c 6 t) (iblk m c 7 t) (tailAt m c t) (stateAt m c t)

theorem carried_succ (c : Dev nD) (t : Fin cfg0.N) :
    carried m c (t.val + 1) t.isLt = (newTail (X0_0 m c t), newState (X0_0 m c t) (iblk m c 1 t) (iblk m c 2 t) (iblk m c 3 t) (iblk m c 4 t) (iblk m c 5 t) (iblk m c 6 t) (iblk m c 7 t) (tailAt m c t) (stateAt m c t)) := rfl

theorem carried_zero (c : Dev nD) (t : Fin cfg0.N) (hz : t.val = 0) :
    carried m c t.val (Nat.le_of_lt t.isLt) = (k0_pay3, k0_pay4) := by
  obtain ⟨n, hn⟩ := t
  cases n with
  | zero => rfl
  | succ n => exact absurd hz (Nat.succ_ne_zero n)

abbrev scr0 : Memref sig .tc .vmem S8x1280 .f32 := Memref.whole cc0_scratch0
abbrev scr1 : Memref sig .tc .vmem S1x1280 .f32 := Memref.whole cc0_scratch1
abbrev scr2 : Memref sig .tc .vmem S512x1280 .f32 := Memref.whole cc0_scratch2
abbrev scr3 : Memref sig .tc .vmem S512x1280 .f32 := Memref.whole cc0_scratch3
abbrev scr4 : Memref sig .tc .vmem S512x1280 .f32 := Memref.whole cc0_scratch4

/-- Between points: the tail and the state at what the points so far left, the other buffers at anything. -/
def inv (c : Dev nD) : (n : ℕ) → n ≤ cfg0.N → sProp 𝕄
  | 0, _ => Pipeline.ΦA spec0 c
  | n + 1, hn => iprop((owns (c : Thread nD τ) scr0 fullShare (carried m c (n + 1) hn).1 ∗ owns (c : Thread nD τ) scr1 fullShare (carried m c (n + 1) hn).2 ∗ (∃ d, owns (c : Thread nD τ) scr2 fullShare d) ∗ (∃ d, owns (c : Thread nD τ) scr3 fullShare d) ∗ (∃ d, owns (c : Thread nD τ) scr4 fullShare d)) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) : inv m c (n + 1) hn = iprop((owns (c : Thread nD τ) scr0 fullShare (carried m c (n + 1) hn).1 ∗ owns (c : Thread nD τ) scr1 fullShare (carried m c (n + 1) hn).2 ∗ (∃ d, owns (c : Thread nD τ) scr2 fullShare d) ∗ (∃ d, owns (c : Thread nD τ) scr3 fullShare d) ∗ (∃ d, owns (c : Thread nD τ) scr4 fullShare d)) ∗ (∃ r, prngReg c r)) := rfl

theorem inv_pos (c : Dev nD) (n : ℕ) (h : n ≤ cfg0.N) (hz : n ≠ 0) : inv m c n h = iprop((owns (c : Thread nD τ) scr0 fullShare (carried m c n h).1 ∗ owns (c : Thread nD τ) scr1 fullShare (carried m c n h).2 ∗ (∃ d, owns (c : Thread nD τ) scr2 fullShare d) ∗ (∃ d, owns (c : Thread nD τ) scr3 fullShare d) ∗ (∃ d, owns (c : Thread nD τ) scr4 fullShare d)) ∗ (∃ r, prngReg c r)) := by
  cases n with
  | zero => exact absurd rfl hz
  | succ n => rfl

/-- The proof data: each input's buffer keeps its block, each result's ends at the point's value. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => xrAt m c t
    | ⟨9, _⟩ => hrAt m c t
    | ⟨10, _⟩ => yAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = xrAt m c t := by dsimp only [dats]
theorem after0_9 (c : Dev nD) (t : Fin cfg0.N) : (dats m 0 c).after 9 t = hrAt m c t := by dsimp only [dats]
theorem after0_10 (c : Dev nD) (t : Fin cfg0.N) : (dats m 0 c).after 10 t = yAt m c t := by dsimp only [dats]
theorem before0_0 (c : Dev nD) (t : Fin cfg0.N) (d) : (dats m 0 c).before 0 t d = X0_0 m c t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)
theorem leaves0 (c : Dev nD) (t : Fin cfg0.N) : (dats m 0 c).leavesExact 0 t = owns (c : Thread nD τ) (ms0 t) fullShare (X0_0 m c t) := by
  unfold Dat.leavesExact; rw [show cfg0.idle 0 (grid0.coords t) = false from rfl, after0_0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after0_1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after0_2]
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after0_3]
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after0_4]
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after0_5]
theorem leaves6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after0_6]
theorem leaves7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after0_7]
theorem leaves8 (c : Dev nD) (t : Fin cfg0.N) : (dats m 0 c).leavesExact 8 t = owns (c : Thread nD τ) (ms8 t) fullShare (xrAt m c t) := by
  unfold Dat.leavesExact; rw [show cfg0.idle 8 (grid0.coords t) = false from rfl, after0_8]
theorem leaves9 (c : Dev nD) (t : Fin cfg0.N) : (dats m 0 c).leavesExact 9 t = owns (c : Thread nD τ) (ms9 t) fullShare (hrAt m c t) := by
  unfold Dat.leavesExact; rw [show cfg0.idle 9 (grid0.coords t) = false from rfl, after0_9]
theorem leaves10 (c : Dev nD) (t : Fin cfg0.N) : (dats m 0 c).leavesExact 10 t = owns (c : Thread nD τ) (ms10 t) fullShare (yAt m c t) := by
  unfold Dat.leavesExact; rw [show cfg0.idle 10 (grid0.coords t) = false from rfl, after0_10]

theorem launched_eq (c : Dev nD) :
    (Pipeline.ΦA spec0 c : sProp 𝕄) = iprop(((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- A buffer stored to ends owned at what it reads. -/
theorem owns_of_writes {s : Shape} {e : EltTy} (c : Dev nD) (a : Memref sig .tc .vmem s e) (L : List (View.Piece (Elt F) s e)) (X : Vec F s e)
    (h : ∀ f, a.view.read (Elt F) (a.view.writes (Elt F) f L) = X) :
    iprop(∃ f, a.view.loc (c : Thread nD τ) ↦[a.view.set]{fullShare} a.view.writes (Elt F) f L) ⊢ (owns (c : Thread nD τ) a fullShare X : sProp 𝕄) := by
  iintro ⟨%f, H⟩
  unfold owns; iexists _; isplitr
  swap; · iexact H
  ipureintro; exact h f

/-- What the body starts from at point `t`, and what it leaves. -/
def pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)) ∗ (∃ d, owns (c : Thread nD τ) (ms10 t) fullShare ((dats m 0 c).before 10 t d)))
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)

set_option maxHeartbeats 8000000 in
/-- The body at the first point. -/
theorem sound_first (c : Dev nD) (t : Fin cfg0.N) (hz : t.val = 0) :
    pre m c t ⊢ wp frame (wpE (defs₀ (F := F)) Variants.none c none) Set.univ (bodyAt0 t) (fun _ => post m c t) := by
  unfold pre post bodyAt0
  simp only [before0_0, before0_1, before0_2, before0_3, before0_4, before0_5, before0_6, before0_7, leaves0, leaves1, leaves2, leaves3, leaves4, leaves5, leaves6, leaves7, leaves8, leaves9, leaves10]
  rw [show (dats m 0 c).owesAt () t.succ = (dats m 0 c).owesAt () t.castSucc from rfl]
  rw [show (dats m 0 c).Φ t.succ = inv m c (t.val + 1) t.isLt from rfl, inv_succ, carried_succ]
  rw [inv_castSucc, inv_zero m c _ _ hz, launched_eq]
  have e0 : tailAt m c t = k0_pay3 := by unfold tailAt; rw [carried_zero m c t hz]
  have e1 : stateAt m c t = k0_pay4 := by unfold stateAt; rw [carried_zero m c t hz]
  unfold xrAt hrAt yAt
  rw [e0, e1]
  iintro ⟨⟨⟨S0, S1, S2, S3, ⟨%o, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scr0 (Memref.isWhole_whole _) scr1 (Memref.isWhole_whole _) scr2 (Memref.isWhole_whole _) scr3 (Memref.isWhole_whole _) scr4 (Memref.isWhole_whole _) (X0_0 m c t) (iblk m c 1 t) (iblk m c 2 t) (iblk m c 3 t) (iblk m c 4 t) (iblk m c 5 t) (iblk m c 6 t) (iblk m c 7 t) ((first_iff t).mpr hz) o).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, S0, S1, S2, S3, S4⟩
  isplitl [S0 S1 S2 S3 S4 Hg]
  · isplitl [S0 S1 S2 S3 S4]
    · isplitl [S0]; · iapply (owns_of_writes c _ _ _ fun f => first_tail c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scr0 (Memref.isWhole_whole _) scr1 (Memref.isWhole_whole _) scr2 (Memref.isWhole_whole _) scr3 (Memref.isWhole_whole _) scr4 (Memref.isWhole_whole _) (X0_0 m c t) (iblk m c 1 t) (iblk m c 2 t) (iblk m c 3 t) (iblk m c 4 t) (iblk m c 5 t) (iblk m c 6 t) (iblk m c 7 t) ((first_iff t).mpr hz) o f); iexact S0
      isplitl [S1]; · iapply (owns_of_writes c _ _ _ fun f => first_state c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scr0 (Memref.isWhole_whole _) scr1 (Memref.isWhole_whole _) scr2 (Memref.isWhole_whole _) scr3 (Memref.isWhole_whole _) scr4 (Memref.isWhole_whole _) (X0_0 m c t) (iblk m c 1 t) (iblk m c 2 t) (iblk m c 3 t) (iblk m c 4 t) (iblk m c 5 t) (iblk m c 6 t) (iblk m c 7 t) ((first_iff t).mpr hz) o f); iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (owns_of_writes c _ _ _ fun f => first_xr c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scr0 (Memref.isWhole_whole _) scr1 (Memref.isWhole_whole _) scr2 (Memref.isWhole_whole _) scr3 (Memref.isWhole_whole _) scr4 (Memref.isWhole_whole _) (X0_0 m c t) (iblk m c 1 t) (iblk m c 2 t) (iblk m c 3 t) (iblk m c 4 t) (iblk m c 5 t) (iblk m c 6 t) (iblk m c 7 t) ((first_iff t).mpr hz) o f); iexact H8
  isplitl [H9]; · iapply (owns_of_writes c _ _ _ fun f => first_hr c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scr0 (Memref.isWhole_whole _) scr1 (Memref.isWhole_whole _) scr2 (Memref.isWhole_whole _) scr3 (Memref.isWhole_whole _) scr4 (Memref.isWhole_whole _) (X0_0 m c t) (iblk m c 1 t) (iblk m c 2 t) (iblk m c 3 t) (iblk m c 4 t) (iblk m c 5 t) (iblk m c 6 t) (iblk m c 7 t) ((first_iff t).mpr hz) o f); iexact H9
  iapply (owns_of_writes c _ _ _ fun f => first_y c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scr0 (Memref.isWhole_whole _) scr1 (Memref.isWhole_whole _) scr2 (Memref.isWhole_whole _) scr3 (Memref.isWhole_whole _) scr4 (Memref.isWhole_whole _) (X0_0 m c t) (iblk m c 1 t) (iblk m c 2 t) (iblk m c 3 t) (iblk m c 4 t) (iblk m c 5 t) (iblk m c 6 t) (iblk m c 7 t) ((first_iff t).mpr hz) o f); iexact H10

set_option maxHeartbeats 8000000 in
/-- The body at a later point. -/
theorem sound_later (c : Dev nD) (t : Fin cfg0.N) (hz : t.val ≠ 0) :
    pre m c t ⊢ wp frame (wpE (defs₀ (F := F)) Variants.none c none) Set.univ (bodyAt0 t) (fun _ => post m c t) := by
  unfold pre post bodyAt0
  simp only [before0_0, before0_1, before0_2, before0_3, before0_4, before0_5, before0_6, before0_7, leaves0, leaves1, leaves2, leaves3, leaves4, leaves5, leaves6, leaves7, leaves8, leaves9, leaves10]
  rw [show (dats m 0 c).owesAt () t.succ = (dats m 0 c).owesAt () t.castSucc from rfl]
  rw [show (dats m 0 c).Φ t.succ = inv m c (t.val + 1) t.isLt from rfl, inv_succ, carried_succ]
  rw [inv_castSucc, inv_pos m c _ _ hz]
  unfold xrAt hrAt yAt
  iintro ⟨⟨⟨S0, S1, S2, S3, ⟨%o, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scr0 (Memref.isWhole_whole _) scr1 (Memref.isWhole_whole _) scr2 (Memref.isWhole_whole _) scr3 (Memref.isWhole_whole _) scr4 (Memref.isWhole_whole _) (X0_0 m c t) (iblk m c 1 t) (iblk m c 2 t) (iblk m c 3 t) (iblk m c 4 t) (iblk m c 5 t) (iblk m c 6 t) (iblk m c 7 t) (fun h => hz ((first_iff t).mp h)) (tailAt m c t) (stateAt m c t) o).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, S0, S1, S2, S3, S4⟩
  isplitl [S0 S1 S2 S3 S4 Hg]
  · isplitl [S0 S1 S2 S3 S4]
    · isplitl [S0]; · iapply (owns_of_writes c _ _ _ fun f => later_tail c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scr0 (Memref.isWhole_whole _) scr1 (Memref.isWhole_whole _) scr2 (Memref.isWhole_whole _) scr3 (Memref.isWhole_whole _) scr4 (Memref.isWhole_whole _) (X0_0 m c t) (iblk m c 1 t) (iblk m c 2 t) (iblk m c 3 t) (iblk m c 4 t) (iblk m c 5 t) (iblk m c 6 t) (iblk m c 7 t) (fun h => hz ((first_iff t).mp h)) (tailAt m c t) (stateAt m c t) o f); iexact S0
      isplitl [S1]; · iapply (owns_of_writes c _ _ _ fun f => later_state c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scr0 (Memref.isWhole_whole _) scr1 (Memref.isWhole_whole _) scr2 (Memref.isWhole_whole _) scr3 (Memref.isWhole_whole _) scr4 (Memref.isWhole_whole _) (X0_0 m c t) (iblk m c 1 t) (iblk m c 2 t) (iblk m c 3 t) (iblk m c 4 t) (iblk m c 5 t) (iblk m c 6 t) (iblk m c 7 t) (fun h => hz ((first_iff t).mp h)) (tailAt m c t) (stateAt m c t) o f); iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (owns_of_writes c _ _ _ fun f => later_xr c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scr0 (Memref.isWhole_whole _) scr1 (Memref.isWhole_whole _) scr2 (Memref.isWhole_whole _) scr3 (Memref.isWhole_whole _) scr4 (Memref.isWhole_whole _) (X0_0 m c t) (iblk m c 1 t) (iblk m c 2 t) (iblk m c 3 t) (iblk m c 4 t) (iblk m c 5 t) (iblk m c 6 t) (iblk m c 7 t) (fun h => hz ((first_iff t).mp h)) (tailAt m c t) (stateAt m c t) o f); iexact H8
  isplitl [H9]; · iapply (owns_of_writes c _ _ _ fun f => later_hr c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scr0 (Memref.isWhole_whole _) scr1 (Memref.isWhole_whole _) scr2 (Memref.isWhole_whole _) scr3 (Memref.isWhole_whole _) scr4 (Memref.isWhole_whole _) (X0_0 m c t) (iblk m c 1 t) (iblk m c 2 t) (iblk m c 3 t) (iblk m c 4 t) (iblk m c 5 t) (iblk m c 6 t) (iblk m c 7 t) (fun h => hz ((first_iff t).mp h)) (tailAt m c t) (stateAt m c t) o f); iexact H9
  iapply (owns_of_writes c _ _ _ fun f => later_y c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scr0 (Memref.isWhole_whole _) scr1 (Memref.isWhole_whole _) scr2 (Memref.isWhole_whole _) scr3 (Memref.isWhole_whole _) scr4 (Memref.isWhole_whole _) (X0_0 m c t) (iblk m c 1 t) (iblk m c 2 t) (iblk m c 3 t) (iblk m c 4 t) (iblk m c 5 t) (iblk m c 6 t) (iblk m c 7 t) (fun h => hz ((first_iff t).mp h)) (tailAt m c t) (stateAt m c t) o f); iexact H10

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  by_cases hz : t.val = 0
  · exact triple_restated (sound_first m c t hz) rfl .rfl fun _ => .rfl
  · exact triple_restated (sound_later m c t hz) rfl .rfl fun _ => .rfl

theorem enters (c : Dev nD) : Pipeline.ΦA spec0 c ⊢ (dats m 0 c).Φ 0 := by
  rw [show (dats m 0 c).Φ 0 = inv m c 0 (Nat.zero_le _) from rfl, inv_zero m c 0 _ rfl]

theorem leaves (c : Dev nD) : (dats m 0 c).Φ (Fin.last cfg0.N) ⊢ Pipeline.ΦA spec0 c := by
  have hN : cfg0.N = 8 := N_0
  rw [show (dats m 0 c).Φ (Fin.last cfg0.N) = inv m c cfg0.N (le_refl _) from rfl, inv_pos m c _ _ (by omega), launched_eq]
  iintro ⟨⟨S0, S1, S2, S3, S4⟩, Hg⟩
  isplitl [S0 S1 S2 S3 S4]
  · isplitl [S0]; · iexists _; iexact S0
    isplitl [S1]; · iexists _; iexact S1
    isplitl [S2]; · iexact S2
    isplitl [S3]; · iexact S3
    iexact S4
  iexact Hg

set_option backward.isDefEq.respectTransparency.types false in
/-- Every execution of the program ends, with the arrays as the proof data say and every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enters m) (hout := leaves m)

/-- The argument arrays end unchanged, every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Rnnfwd

end
-- ==== Proof.RnnfwdReferenceValue.lean ====
/- The reference of the recurrent branch's forward lines, read at its entries: what it computes before its scan over the
   rows, the scan by induction, and its three results. -/
module

public import proofs.«01_k».proof.Proof.RnnfwdSpec
public import proofs.«01_k».proof.Proof.Indices
public import proofs.«01_k».proof.Proof.Gen.RnnfwdReferenceIdeal.Step
public import proofs.«01_k».proof.Proof.Gen.RnnfwdReferenceIdeal.Run
public import Idealize.ShloMosaic.Lib.Pointwise

@[expose] public section

set_option maxRecDepth 8192

noncomputable section

namespace Cert.RnnfwdRef

open Idealize.ShloMosaic Cert.RnnfwdReferenceIdeal Cert.RnnfwdReferenceIdeal.Gen Cert.RnnfwdReferenceIdeal.Step Cert.Rnnfwd

variable (x0 : FVec Ideal S4096x6656 .bf16) (x1 : FVec Ideal S4x1280 .f32) (x2 : FVec Ideal S1280 .f32) (x3 : FVec Ideal S20x64x64 .f32)
  (x4 : FVec Ideal S20x64 .f32) (x5 : FVec Ideal S20x64x64 .f32) (x6 : FVec Ideal S20x64 .f32) (x7 : FVec Ideal S1280 .f32)

/-- The arguments as the specification takes them. -/
def input : In := ⟨x0, x1, x2, x3, x4, x5, x6, A_main_v50 (F := Ideal) x0 x1 x2 x3 x4 x5 x6 x7⟩

/-- The padded rows, `d` rows back: one of the convolution's four terms. -/
theorem pad_at (d o : ℕ) (ho : o + d = 3) (hs : Shape.Slices S4099x1280 ![o, 0] S4096x1280) (n : Fin 4096) (l : Fin 1280) :
    extractStridedSlice S4096x1280 ![o, 0] (A_main_v3 (F := Ideal) x0 x1 x2 x3 x4 x5 x6 x7) hs (ix2 n l) = (input x0 x1 x2 x3 x4 x5 x6 x7).back d n.val l := by
  unfold A_main_v3 A_main_v1 A_main_v0 K_main_v2 K_main_cst In.back In.x
  pointwise
  have hn := n.isLt
  by_cases c : d ≤ n.val
  · rw [if_pos c, dif_neg (by omega), dif_pos (by omega : n.val - d < 4096)]
    show x0 _ = x0 _
    congr 1
    refine ix2_eq _ _ _ ?_ ?_
    · show o + n.val - 3 = n.val - d; omega
    · rfl
  · rw [if_neg c, dif_pos (by omega)]

theorem conv_at (n : Fin 4096) (l : Fin 1280) : A_main_v33 (F := Ideal) x0 x1 x2 x3 x4 x5 x6 x7 (ix2 n l) = (input x0 x1 x2 x3 x4 x5 x6 x7).xr n.val l := by
  unfold A_main_v33 A_main_v32 A_main_v31 A_main_v30 A_main_v29 A_main_v28 A_main_v27 A_main_v26 A_main_v25 A_main_v24 A_main_v23 A_main_v22 A_main_v21 A_main_v20 A_main_v19 A_main_v18 A_main_v17 A_main_v16 A_main_v15 A_main_v14 A_main_v13 A_main_v12 A_main_v11 A_main_v10 A_main_v9 A_main_v8 A_main_v7 A_main_v6 A_main_v5 A_main_v4 In.xr
  pointwise [pad_at _ _ _ _ _ _ _ _ 3 0 rfl, pad_at _ _ _ _ _ _ _ _ 2 1 rfl, pad_at _ _ _ _ _ _ _ _ 1 2 rfl, pad_at _ _ _ _ _ _ _ _ 0 3 rfl]
  rfl

theorem gate_r (n : Fin 4096) (l : Fin 1280) : A_main_v46 (F := Ideal) x0 x1 x2 x3 x4 x5 x6 x7 (ix2 n l) = (input x0 x1 x2 x3 x4 x5 x6 x7).gate x3 x4 n.val l := by
  unfold A_main_v46 A_main_v45 A_main_v43 A_main_v41 A_main_v40 A_main_v39 A_main_v38 A_main_v37 A_main_v36 A_main_v35 A_main_v34 K_main_v44 K_main_v42 K_main_cst_1 K_main_cst_0
  pointwise [conv_at, Consts.cOne]
  rfl

theorem gate_i (n : Fin 4096) (l : Fin 1280) : A_main_v66 (F := Ideal) x0 x1 x2 x3 x4 x5 x6 x7 (ix2 n l) = (input x0 x1 x2 x3 x4 x5 x6 x7).gate x5 x6 n.val l := by
  unfold A_main_v66 A_main_v65 A_main_v63 A_main_v61 A_main_v60 A_main_v59 A_main_v58 A_main_v57 A_main_v56 A_main_v55 A_main_v54 K_main_v64 K_main_v62 K_main_cst_4 K_main_cst_3
  pointwise [conv_at, Consts.cOne]
  rfl

theorem loga_at (n : Fin 4096) (l : Fin 1280) : A_main_v53 (F := Ideal) x0 x1 x2 x3 x4 x5 x6 x7 (ix2 n l) = (input x0 x1 x2 x3 x4 x5 x6 x7).loga n.val l := by
  unfold A_main_v53 A_main_v52 A_main_v51 A_main_v48 K_main_v47 K_main_cst_2
  pointwise [gate_r, cNegEight]
  rfl

theorem a_at (n : Fin 4096) (l : Fin 1280) : A_main_v67 (F := Ideal) x0 x1 x2 x3 x4 x5 x6 x7 (ix2 n l) = (input x0 x1 x2 x3 x4 x5 x6 x7).a n.val l := by
  unfold A_main_v67
  pointwise [loga_at]
  rfl

theorem u_at (n : Fin 4096) (l : Fin 1280) : A_main_v74 (F := Ideal) x0 x1 x2 x3 x4 x5 x6 x7 (ix2 n l) = (input x0 x1 x2 x3 x4 x5 x6 x7).u n.val l := by
  unfold A_main_v74 A_main_v73 A_main_v72 A_main_v71 A_main_v70 A_main_v69 K_main_v68 K_main_cst_5
  pointwise [loga_at, gate_i, conv_at, Consts.cTwo]
  rfl

end Cert.RnnfwdRef

end
-- ==== Proof.RnnfwdScan.lean ====
/- The reference's scan over the 4096 rows: what its state holds before each row, and so its three results. -/
module

public import proofs.«01_k».proof.Proof.RnnfwdReferenceValue

@[expose] public section

set_option maxRecDepth 8192

noncomputable section

namespace Cert.RnnfwdRef

open Idealize.ShloMosaic Idealize.ShloMosaic.StableHlo Idealize.SL Cert.RnnfwdReferenceIdeal Cert.RnnfwdReferenceIdeal.Gen Cert.RnnfwdReferenceIdeal.Step Cert.RnnfwdReferenceIdeal.Value Cert.Rnnfwd

variable (m : (ℓ : Loc nD τ sig) → Buf (Elt Ideal) ℓ) (c : Dev nD)

/-- A device's arguments. -/
def args : In := input (m ((c.tc : Thread nD τ).loc main_arg0)) (m ((c.tc : Thread nD τ).loc main_arg1)) (m ((c.tc : Thread nD τ).loc main_arg2)) (m ((c.tc : Thread nD τ).loc main_arg3))
  (m ((c.tc : Thread nD τ).loc main_arg4)) (m ((c.tc : Thread nD τ).loc main_arg5)) (m ((c.tc : Thread nD τ).loc main_arg6)) (m ((c.tc : Thread nD τ).loc main_arg7))

/-- The loop's buffers at their types: decays, what enters, the row's number, the state, the rows so far. -/
def decays (V : Valuation τ sig (Elt Ideal)) : FVec Ideal S4096x1280 .f32 := V (Proc.devRef .tc main_v77_0)
def enters (V : Valuation τ sig (Elt Ideal)) : FVec Ideal S4096x1280 .f32 := V (Proc.devRef .tc main_v77_1)
def count (V : Valuation τ sig (Elt Ideal)) : IVec S_ 32 := V (Proc.devRef .tc main_v77_2)
def state (V : Valuation τ sig (Elt Ideal)) : FVec Ideal S1280 .f32 := V (Proc.devRef .tc main_v77_3)
def rows (V : Valuation τ sig (Elt Ideal)) : FVec Ideal S4096x1280 .f32 := V (Proc.devRef .tc main_v77_4)

/-- Where the row the loop reads and writes starts. -/
def start (V : Valuation τ sig (Elt Ideal)) : Fin 2 → ℤ :=
  fun k => (((![V (Proc.devRef .tc main_v77_2), constantI S_ 32 0#32] : Fin 2 → (⟨S_, .i32⟩ : BufTy).Contents (Elt Ideal))) k (Shape.Idx.first h_S_)).toInt

/-- What the loop holds before row `j`. -/
structure At (I : In) (V : Valuation τ sig (Elt Ideal)) (j : ℕ) : Prop where
  decays : ∀ (n : Fin 4096) (l : Fin 1280), decays V (ix2 n l) = I.a n.val l
  enters : ∀ (n : Fin 4096) (l : Fin 1280), enters V (ix2 n l) = I.u n.val l
  count : count V = fun _ => BitVec.ofNat 32 j
  state : ∀ l : Fin 1280, state V (ix1 l) = I.h j l
  rows : ∀ (n : Fin 4096) (l : Fin 1280), n.val < j → rows V (ix2 n l) = I.h (n.val + 1) l

theorem row_of (x : FVec Ideal S4096x1280 .f32) (st : Fin 2 → ℤ) (j : Fin 4096) (h0 : st 0 = j.val) (h1 : st 1 = 0)
    (h : S4096x1280.Slices (fun _ => 0) S1x1280) (l : Fin 1280) :
    Host.dynamicSlice S1x1280 x st h (ix2 0 l) = x (ix2 j l) := by
  rw [Host.dynamicSlice_apply]
  have c0 : Host.clampedStart S4096x1280 S1x1280 h.1 st 0 = j.val := Host.clampedStart_of_le h.1 st 0 j.val h0 (by have := j.isLt; show j.val + 1 ≤ 4096; omega)
  have c1 : Host.clampedStart S4096x1280 S1x1280 h.1 st 1 = 0 := Host.clampedStart_of_le h.1 st 1 0 h1 (by show 0 + 1280 ≤ 1280; omega)
  refine congrArg x (ix2_eq _ _ _ ?_ ?_)
  · show Host.clampedStart S4096x1280 S1x1280 h.1 st 0 + 0 = j.val; rw [c0]; omega
  · show Host.clampedStart S4096x1280 S1x1280 h.1 st 1 + l.val = l.val; rw [c1]; omega

theorem row_put (x : FVec Ideal S4096x1280 .f32) (r : FVec Ideal S1x1280 .f32) (st : Fin 2 → ℤ) (j : Fin 4096) (h0 : st 0 = j.val) (h1 : st 1 = 0)
    (h : S4096x1280.Slices (fun _ => 0) S1x1280) (n : Fin 4096) (l : Fin 1280) :
    Host.dynamicUpdateSlice x r st h (ix2 n l) = if n.val = j.val then r (ix2 0 l) else x (ix2 n l) := by
  rw [Host.dynamicUpdateSlice_apply]
  have c0 : Host.clampedStart S4096x1280 S1x1280 h.1 st 0 = j.val := Host.clampedStart_of_le h.1 st 0 j.val h0 (by have := j.isLt; show j.val + 1 ≤ 4096; omega)
  have c1 : Host.clampedStart S4096x1280 S1x1280 h.1 st 1 = 0 := Host.clampedStart_of_le h.1 st 1 0 h1 (by show 0 + 1280 ≤ 1280; omega)
  by_cases e : n.val = j.val
  · rw [if_pos e, dif_pos]
    · refine congrArg r (ix2_eq _ _ _ ?_ ?_)
      · show n.val - Host.clampedStart S4096x1280 S1x1280 h.1 st 0 = 0; rw [c0]; omega
      · show l.val - Host.clampedStart S4096x1280 S1x1280 h.1 st 1 = l.val; rw [c1]; omega
    · intro a
      match a with
      | ⟨0, _⟩ =>
        show Host.clampedStart S4096x1280 S1x1280 h.1 st 0 ≤ n.val ∧ n.val < Host.clampedStart S4096x1280 S1x1280 h.1 st 0 + 1
        rw [c0]; omega
      | ⟨1, _⟩ =>
        show Host.clampedStart S4096x1280 S1x1280 h.1 st 1 ≤ l.val ∧ l.val < Host.clampedStart S4096x1280 S1x1280 h.1 st 1 + 1280
        rw [c1]; have := l.isLt; omega
  · rw [if_neg e, dif_neg]
    intro hin
    have := hin 0
    have : Host.clampedStart S4096x1280 S1x1280 h.1 st 0 ≤ n.val ∧ n.val < Host.clampedStart S4096x1280 S1x1280 h.1 st 0 + 1 := this
    rw [c0] at this; omega

theorem toInt_row (j : ℕ) (hj : j < 4096) : (BitVec.ofNat 32 j).toInt = j := by
  rw [BitVec.toInt_eq_toNat_of_lt] <;> rw [BitVec.toNat_ofNat, Nat.mod_eq_of_lt] <;> omega

/-- The state after one more row. -/
theorem next_state (I : In) (V : Valuation τ sig (Elt Ideal)) (j : Fin 4096) (A : At I V j.val) (l : Fin 1280) :
    (res_main_while0b_v134 V : FVec Ideal S1280 .f32) (ix1 l) = I.h (j.val + 1) l := by
  have e0 : start V 0 = j.val := by
    show (count V (Shape.Idx.first h_S_)).toInt = _
    rw [A.count]; exact toInt_row _ j.isLt
  have s0 : ∀ x : FVec Ideal S4096x1280 .f32, shapeCast S1280 (Host.dynamicSlice S1x1280 x (start V) sliceFits_S4096x1280_S1x1280) shapeCasts_S1x1280_S1280 (ix1 l) = x (ix2 j l) := by
    intro x
    refine Eq.trans ?_ (row_of x (start V) j e0 rfl sliceFits_S4096x1280_S1x1280 l)
    pointwise
  unfold res_main_while0b_v134
  show (_ : EReal) * state V (ix1 l) + _ = _
  rw [A.state]
  show (_ : EReal) * _ + _ = I.a j.val l * I.h j.val l + I.u j.val l
  rw [← A.decays, ← A.enters]
  exact congrArg₂ (fun a b : EReal => a * I.h j.val l + b) (s0 (decays V)) (s0 (enters V))

theorem at_step (I : In) (V : Valuation τ sig (Elt Ideal)) (j : Fin 4096) (A : At I V j.val) : At I (STEP V) (j.val + 1) where
  decays n l := by unfold decays; rw [STEP_main_v77_0]; exact A.decays n l
  enters n l := by unfold enters; rw [STEP_main_v77_1]; exact A.enters n l
  count := by
    unfold count; rw [STEP_main_v77_2]; unfold step_main_v77_2
    show addi (count V) (constantI S_ 32 1#32) = _
    rw [A.count]
    funext i
    show BitVec.ofNat 32 j.val + 1#32 = BitVec.ofNat 32 (j.val + 1)
    simp only [BitVec.ofNat_add]
  state l := by unfold state; rw [STEP_main_v77_3]; exact next_state I V j A l
  rows n l hn := by
    unfold rows; rw [STEP_main_v77_4]; unfold Value.step_main_v77_4
    have e0 : start V 0 = j.val := by
      show (count V (Shape.Idx.first h_S_)).toInt = _
      rw [A.count]; exact toInt_row _ j.isLt
    refine (row_put (rows V) _ (start V) j e0 rfl updateFits_S4096x1280_S1x1280 n l).trans ?_
    by_cases e : n.val = j.val
    · rw [if_pos e, e]
      refine Eq.trans ?_ (next_state I V j A l)
      pointwise
    · rw [if_neg e]; exact A.rows n l (by omega)

set_option maxRecDepth 65536 in
set_option maxHeartbeats 500000 in
theorem entry_decays : decays (entryContents preI m c) = A_main_v67 (F := Ideal) (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) := by
  unfold decays
  simp only [entryContents, afterL_cons, afterL_nil]; after_reads_simp
  rfl

set_option maxRecDepth 65536 in
set_option maxHeartbeats 500000 in
theorem entry_enters : enters (entryContents preI m c) = A_main_v74 (F := Ideal) (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) := by
  unfold enters
  simp only [entryContents, afterL_cons, afterL_nil]; after_reads_simp
  rfl

theorem at_entry : At (args m c) (entryContents preI m c) 0 where
  decays n l := by rw [entry_decays]; exact a_at _ _ _ _ _ _ _ _ n l
  enters n l := by rw [entry_enters]; exact u_at _ _ _ _ _ _ _ _ n l
  count := ctr_entry m c
  state l := by
    have e : state (entryContents preI m c) = K_main_v75 (F := Ideal) := by
      unfold state
      simp only [entryContents, afterL_cons, afterL_nil]; after_reads_simp
      rfl
    rw [e]; unfold K_main_v75 K_main_cst_6
    pointwise [Consts.cZero]
    rfl
  rows n l hn := absurd hn (Nat.not_lt_zero _)

theorem at_rows : ∀ k, k ≤ 4096 → At (args m c) (STEP^[k] (entryContents preI m c)) k
  | 0, _ => at_entry m c
  | k + 1, hk => by
    rw [Function.iterate_succ_apply']
    exact at_step _ _ ⟨k, hk⟩ (at_rows k (Nat.le_of_succ_le hk))

/-- The last valuation, and the three results. -/
def last : Valuation τ sig (Elt Ideal) := STEP^[4096] (entryContents preI m c)

set_option maxRecDepth 65536 in
theorem out_xr (n : Fin 4096) (l : Fin 1280) : (out_main_v128 (last m c) : FVec Ideal S4096x1280 .bf16) (ix2 n l) = (args m c).xr n.val l := by
  have e : out_main_v128 (last m c) = (truncf .bf16 (A_main_v33 (F := Ideal) ((last m c) (Proc.devRef .tc main_arg0)) ((last m c) (Proc.devRef .tc main_arg1)) ((last m c) (Proc.devRef .tc main_arg2))
      ((last m c) (Proc.devRef .tc main_arg3)) ((last m c) (Proc.devRef .tc main_arg4)) ((last m c) (Proc.devRef .tc main_arg5)) ((last m c) (Proc.devRef .tc main_arg6)) ((last m c) (Proc.devRef .tc main_arg7)) : FVec Ideal S4096x1280 .f32) bitsLt_bf16_f32 : FVec Ideal S4096x1280 .bf16) := rfl
  rw [e]
  unfold last
  rw [iter_main_arg0, iter_main_arg1, iter_main_arg2, iter_main_arg3, iter_main_arg4, iter_main_arg5, iter_main_arg6, iter_main_arg7]
  exact conv_at _ _ _ _ _ _ _ _ n l

/-- The states of any valuation. -/
theorem out_h_of (V : Valuation τ sig (Elt Ideal)) (n : Fin 4096) (l : Fin 1280) :
    (out_main_v129 V : FVec Ideal S4096x1280 .bf16) (ix2 n l) = rows V (ix2 n l) := rfl

theorem last_rows (n : Fin 4096) (l : Fin 1280) : rows (last m c) (ix2 n l) = (args m c).h (n.val + 1) l := by
  unfold last
  exact (at_rows m c 4096 (le_refl _)).rows n l n.isLt

theorem out_h (n : Fin 4096) (l : Fin 1280) : (out_main_v129 (last m c) : FVec Ideal S4096x1280 .bf16) (ix2 n l) = (args m c).h (n.val + 1) l := by
  rw [out_h_of, last_rows]

/-- The gated output of any valuation. -/
theorem out_y_of (V : Valuation τ sig (Elt Ideal)) (n : Fin 4096) (l : Fin 1280) :
    (out_main_v130 V : FVec Ideal S4096x1280 .bf16) (ix2 n l)
      = rows V (ix2 n l) * Sgufwd.gelu ((V (Proc.devRef .tc main_arg0) : FVec Ideal S4096x6656 .bf16) (ix2 n ⟨1280 + l.val, by omega⟩)) := by
  unfold out_main_v130 Sgufwd.gelu rows
  pointwise [Consts.cHalf, Consts.cOne, Consts.cGeluC, Consts.cGeluA]

theorem out_y (n : Fin 4096) (l : Fin 1280) : (out_main_v130 (last m c) : FVec Ideal S4096x1280 .bf16) (ix2 n l) = (args m c).y n l := by
  rw [out_y_of]
  have e0 : (last m c) (Proc.devRef .tc main_arg0) = m ((c.tc : Thread nD τ).loc main_arg0) := iter_main_arg0 m c 4096
  rw [last_rows, e0]
  rfl

end Cert.RnnfwdRef

end
-- ==== Proof.RnnfwdKernelValue.lean ====
/- The recurrent branch's kernel over its eight tiles: what its windows read, the tail and the state it carries from tile to
   tile, and its three results against the reference's. -/
module

public import proofs.«01_k».proof.Proof.RnnfwdTile
public import proofs.«01_k».proof.Proof.RnnfwdRun
public import proofs.«01_k».proof.Proof.RnnfwdScan
public import proofs.«01_k».proof.Pre_rnn_gap

@[expose] public section

set_option maxRecDepth 8192

noncomputable section

namespace Cert.Rnnfwd

open Idealize.ShloMosaic Idealize.ShloMosaic.TcCoe Cert.RnnfwdKernelIdeal Cert.RnnfwdKernelIdeal.Gen

variable (m : (ℓ : Loc nD τ sig) → Buf (Elt Ideal) ℓ) (c : Dev nD)

abbrev arg0 : FVec Ideal S4096x6656 .bf16 := m ((c.tc : Thread nD τ).loc main_arg0)
abbrev arg1 : FVec Ideal S4x1280 .f32 := m ((c.tc : Thread nD τ).loc main_arg1)
abbrev arg2 : FVec Ideal S1280 .f32 := m ((c.tc : Thread nD τ).loc main_arg2)
abbrev arg3 : FVec Ideal S20x64x64 .f32 := m ((c.tc : Thread nD τ).loc main_arg3)
abbrev arg4 : FVec Ideal S20x64 .f32 := m ((c.tc : Thread nD τ).loc main_arg4)
abbrev arg5 : FVec Ideal S20x64x64 .f32 := m ((c.tc : Thread nD τ).loc main_arg5)
abbrev arg6 : FVec Ideal S20x64 .f32 := m ((c.tc : Thread nD τ).loc main_arg6)
abbrev arg7 : FVec Ideal S1280 .f32 := m ((c.tc : Thread nD τ).loc main_arg7)

/-- A device's arguments, as the reference takes them. -/
def kargs : In := RnnfwdRef.input (arg0 m c) (arg1 m c) (arg2 m c) (arg3 m c) (arg4 m c) (arg5 m c) (arg6 m c) (arg7 m c)

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

/-- Row `r` of tile `t`. -/
def rowOf (t : Fin cfg0.N) (r : Fin 512) : Fin 4096 := ⟨512 * t.val + r.val, by have := t.isLt; have h : cfg0.N = 8 := N_0; omega⟩

/-- No part of the window over the projection is cut. -/
theorem X0_0_at (t : Fin cfg0.N) (r : Fin 512) (k : Fin 2560) : X0_0 m c t (ix2 r k) = arg0 m c (ix2 (rowOf t r) ⟨k.val, by omega⟩) := by
  unfold X0_0 arg0
  unfold Pipeline.Window.fill
  rw [dif_pos (moved0_0 t _)]
  blk_ext [iblk, V, idx0 t, rowOf]

theorem V28 : V m c main_v28 = shapeCast S1x1280 (arg4 m c) shapeCasts_S20x64_S1x1280 := by
  unfold V
  simp only [List.flatten_cons, List.flatten_nil, List.append_nil, hostOps0, hostOps0_1, hostOps0_2, List.cons_append, List.nil_append]
  after_results
  rfl
theorem V29 : V m c main_v29 = shapeCast S1x1280 (arg6 m c) shapeCasts_S20x64_S1x1280 := by
  unfold V
  simp only [List.flatten_cons, List.flatten_nil, List.append_nil, hostOps0, hostOps0_1, hostOps0_2, List.cons_append, List.nil_append]
  after_results
  rfl
theorem V33 : V m c main_v33 = shapeCast S1x1280 (arg2 m c) shapeCasts_S1280_S1x1280 := by
  unfold V
  simp only [List.flatten_cons, List.flatten_nil, List.append_nil, hostOps0, hostOps0_1, hostOps0_2, List.cons_append, List.nil_append]
  after_results
  rfl
theorem V32 : V m c main_v32 = shapeCast S1x1280 (RnnfwdReferenceIdeal.Step.A_main_v50 (F := Ideal) (arg0 m c) (arg1 m c) (arg2 m c) (arg3 m c) (arg4 m c) (arg5 m c) (arg6 m c) (arg7 m c)) shapeCasts_S1280_S1x1280 := by
  unfold V
  simp only [List.flatten_cons, List.flatten_nil, List.append_nil, hostOps0, hostOps0_1, hostOps0_2, List.cons_append, List.nil_append]
  after_results
  rfl
/-- An entry of the four by four identity matrix. -/
theorem same_block : ∀ j k : Fin 4, IntOp.cmpi CmpIPredicate.eq (IntOp.addi (BitVec.ofNat 32 j.val) 0#32) (BitVec.ofNat 32 k.val) = if j.val = k.val then 1#1 else 0#1 := by decide +kernel

theorem bit_one : FloatOps.uitofp (F := Ideal) FTy.f32 (1#1 : BitVec 1) = (1 : EReal) := by
  show (((1#1 : BitVec 1).toNat : ℝ) : EReal) = 1
  norm_num
theorem bit_zero : FloatOps.uitofp (F := Ideal) FTy.f32 (0#1 : BitVec 1) = (0 : EReal) := by
  show (((0#1 : BitVec 1).toNat : ℝ) : EReal) = 0
  norm_num

/-- An entry of a block-diagonal matrix: a block times an entry of the identity. -/
theorem diagonal_entry (a b : EReal) (k q : Fin 256) (h : k.val / 64 = q.val / 64 → a = b) :
    a * FloatOps.uitofp (F := Ideal) FTy.f32 (IntOp.cmpi CmpIPredicate.eq (IntOp.addi (BitVec.ofNat 32 (k.val / 64)) 0#32) (BitVec.ofNat 32 (q.val / 64))) = if k.val / 64 = q.val / 64 then b else 0 := by
  have e := same_block ⟨k.val / 64, by omega⟩ ⟨q.val / 64, by omega⟩
  have e' : IntOp.cmpi CmpIPredicate.eq (IntOp.addi (BitVec.ofNat 32 (k.val / 64)) 0#32) (BitVec.ofNat 32 (q.val / 64)) = if k.val / 64 = q.val / 64 then 1#1 else 0#1 := e
  rw [e']
  by_cases p : k.val / 64 = q.val / 64
  · rw [if_pos p, if_pos p, bit_one, mul_one, h p]
  · rw [if_neg p, if_neg p, bit_zero, mul_zero]

/-- The gates' matrices, four heads to a block. -/
theorem V13 (g : Fin 5) (k q : Fin 256) : V m c main_v13 (ix3 g k q) = if k.val / 64 = q.val / 64 then arg3 m c (ix3 ⟨4 * g.val + q.val / 64, by omega⟩ ⟨k.val % 64, by omega⟩ ⟨q.val % 64, by omega⟩) else (0 : EReal) := by
  unfold V
  simp only [List.flatten_cons, List.flatten_nil, List.append_nil, hostOps0, hostOps0_1, hostOps0_2, List.cons_append, List.nil_append]
  after_results
  pointwise
  refine diagonal_entry _ _ k q (fun h => ?_)
  show arg3 m c _ = arg3 m c _
  congr 1
  refine ix3_eq _ _ _ _ ?_ rfl rfl
  show g.val * 4 + k.val / 64 = 4 * g.val + q.val / 64
  omega
theorem V27 (g : Fin 5) (k q : Fin 256) : V m c main_v27 (ix3 g k q) = if k.val / 64 = q.val / 64 then arg5 m c (ix3 ⟨4 * g.val + q.val / 64, by omega⟩ ⟨k.val % 64, by omega⟩ ⟨q.val % 64, by omega⟩) else (0 : EReal) := by
  unfold V
  simp only [List.flatten_cons, List.flatten_nil, List.append_nil, hostOps0, hostOps0_1, hostOps0_2, List.cons_append, List.nil_append]
  after_results
  pointwise
  refine diagonal_entry _ _ k q (fun h => ?_)
  show arg5 m c _ = arg5 m c _
  congr 1
  refine ix3_eq _ _ _ _ ?_ rfl rfl
  show g.val * 4 + k.val / 64 = 4 * g.val + q.val / 64
  omega

/-! ### The windows -/

theorem eight (t : Fin cfg0.N) : t.val < 8 := by have := t.isLt; have h : cfg0.N = 8 := N_0; omega

theorem gate_a (t : Fin cfg0.N) : Gate (kargs m c).wa (kargs m c).ba (iblk m c 1 t) (iblk m c 3 t) where
  W g k q := by
    have e : iblk m c 1 t (ix3 g k q) = V m c main_v13 (ix3 g k q) := by blk_ext [iblk, idx1 t]
    rw [e, V13]; rfl
  b l := by
    have e : iblk m c 3 t (ix2 0 l) = V m c main_v28 (ix2 0 l) := by blk_ext [iblk, idx3 t]
    rw [e, V28]; pointwise; rfl

theorem gate_x (t : Fin cfg0.N) : Gate (kargs m c).wx (kargs m c).bx (iblk m c 2 t) (iblk m c 4 t) where
  W g k q := by
    have e : iblk m c 2 t (ix3 g k q) = V m c main_v27 (ix3 g k q) := by blk_ext [iblk, idx2 t]
    rw [e, V27]; rfl
  b l := by
    have e : iblk m c 4 t (ix2 0 l) = V m c main_v29 (ix2 0 l) := by blk_ext [iblk, idx4 t]
    rw [e, V29]; pointwise; rfl

theorem gates (t : Fin cfg0.N) : Gates (kargs m c) (iblk m c 1 t) (iblk m c 2 t) (iblk m c 3 t) (iblk m c 4 t) (iblk m c 5 t) where
  a := gate_a m c t
  x := gate_x m c t
  sp l := by
    have e : iblk m c 5 t (ix2 0 l) = V m c main_v32 (ix2 0 l) := by blk_ext [iblk, idx5 t]
    rw [e, V32]; pointwise; rfl

theorem left (t : Fin cfg0.N) (r : Fin 512) (l : Fin 1280) : leftOf (F := Ideal) (X0_0 m c t) (ix2 r l) = (kargs m c).x (512 * t.val + r.val) l := by
  have h := eight t
  unfold leftOf
  refine (View.ld_unit_apply_of _ _ _ _ _ (ix2 r ⟨l.val, by omega⟩) fun a => ?_).trans ((X0_0_at m c t r ⟨l.val, by omega⟩).trans ?_)
  · match a with
    | 0 => show r.val = 0 + r.val; omega
    | 1 => show l.val = 0 + l.val; omega
  unfold In.x
  rw [dif_pos (by omega)]
  rfl

theorem right (t : Fin cfg0.N) (r : Fin 512) (l : Fin 1280) : rightOf (F := Ideal) (X0_0 m c t) (ix2 r l) = (kargs m c).p (ix2 (rowOf t r) ⟨1280 + l.val, by omega⟩) := by
  unfold rightOf
  refine (View.ld_unit_apply_of _ _ _ _ _ (ix2 r ⟨1280 + l.val, by omega⟩) fun a => ?_).trans (X0_0_at m c t r ⟨1280 + l.val, by omega⟩)
  match a with
  | 0 => show r.val = 0 + r.val; omega
  | 1 => rfl

theorem tile (t : Fin cfg0.N) (h : ∀ (r : Fin 8) (l : Fin 1280), tailAt m c t (ix2 r l) = (kargs m c).back 8 (512 * t.val + r.val) l) :
    Tile (kargs m c) t.val (X0_0 m c t) (iblk m c 6 t) (iblk m c 7 t) (tailAt m c t) where
  left := left m c t
  tail := h
  w k l := by blk_ext [iblk, V, idx6 t]
  b l := by
    have e : iblk m c 7 t (ix2 0 l) = V m c main_v33 (ix2 0 l) := by blk_ext [iblk, idx7 t]
    rw [e, V33]; pointwise; rfl

/-! ### What is carried -/

variable (hg : ∀ (n : Fin 4096) (l : Fin 1280), (tiny : EReal) ≤ (kargs m c).gap n.val l)

include hg in
theorem carried_at : ∀ (n : ℕ) (h : n ≤ cfg0.N),
    (∀ (r : Fin 8) (l : Fin 1280), (carried m c n h).1 (ix2 r l) = (kargs m c).back 8 (512 * n + r.val) l) ∧ ∀ l : Fin 1280, (carried m c n h).2 (ix2 0 l) = (kargs m c).h (512 * n) l := by
  intro n
  induction n with
  | zero =>
    intro h
    refine ⟨fun r l => ?_, fun l => ?_⟩
    · show k0_pay3 (F := Ideal) (ix2 r l) = _
      unfold In.back
      rw [if_neg (by omega)]
      unfold k0_pay3
      pointwise [Consts.cZero]
      rfl
    · show k0_pay4 (F := Ideal) (ix2 0 l) = (0 : EReal)
      unfold k0_pay4
      pointwise [Consts.cZero]
      rfl
  | succ n ih =>
    intro h
    obtain ⟨h1, h2⟩ := ih (Nat.le_of_succ_le h)
    let t : Fin cfg0.N := ⟨n, h⟩
    have T := tile m c t h1
    have hn := eight t
    refine ⟨fun r l => ?_, fun l => ?_⟩
    · exact T.newTail r l
    · exact T.newState (gates m c t) (fun r l => hg ⟨512 * n + r.val, by have := r.isLt; have : n < 8 := hn; omega⟩ l) _ h2 l

include hg in
theorem tile_at (t : Fin cfg0.N) : Tile (kargs m c) t.val (X0_0 m c t) (iblk m c 6 t) (iblk m c 7 t) (tailAt m c t) :=
  tile m c t (carried_at m c hg t.val (Nat.le_of_lt t.isLt)).1

include hg in
theorem state_at (t : Fin cfg0.N) (l : Fin 1280) : stateAt m c t (ix2 0 l) = (kargs m c).h (512 * t.val) l :=
  (carried_at m c hg t.val (Nat.le_of_lt t.isLt)).2 l

include hg in
theorem gap_at (t : Fin cfg0.N) (r : Fin 512) (l : Fin 1280) : (tiny : EReal) ≤ (kargs m c).gap (512 * t.val + r.val) l := hg (rowOf t r) l

/-! ### The results -/

/-- The convolution, the state and the gated output, as arrays. -/
def resXr (I : In) : S4096x1280.Idx → EReal := fun y => I.xr (y 0).val (y 1)
def resH (I : In) : S4096x1280.Idx → EReal := fun y => I.h ((y 0).val + 1) (y 1)
def resY (I : In) : S4096x1280.Idx → EReal := fun y => I.y (y 0) (y 1)

theorem resXr_at (I : In) (t : Fin cfg0.N) (r : Fin 512) (l : Fin 1280) : resXr I (ix2 (rowOf t r) l) = I.xr (512 * t.val + r.val) l := rfl
theorem resH_at (I : In) (t : Fin cfg0.N) (r : Fin 512) (l : Fin 1280) : resH I (ix2 (rowOf t r) l) = I.h (512 * t.val + r.val + 1) l := rfl
theorem resY_at (I : In) (t : Fin cfg0.N) (r : Fin 512) (l : Fin 1280) :
    resY I (ix2 (rowOf t r) l) = I.h (512 * t.val + r.val + 1) l * Sgufwd.gelu (I.p (ix2 (rowOf t r) ⟨1280 + l.val, by omega⟩)) := rfl

include hg in
theorem final_xr : (dats m 0 c).arrAt 8 cfg0.N = resXr (kargs m c) := by
  refine (dats m 0 c).arrAt_eq_of_covers 8 _ (by decide +kernel) fun t hf y => ?_
  blk_simp
  rw [after0_8]
  obtain ⟨r, l, rfl⟩ : ∃ (r : Fin 512) (l : Fin 1280), y = ix2 r l := ⟨y 0, y 1, (ValueIdx.eq_ix2 y)⟩
  have e : (win0_8.blk t).view.emb (ix2 r l) = ix2 (rowOf t r) l := by blk_ext [idx8 t, rowOf]
  rw [e, resXr_at]
  exact (tile_at m c hg t).outXr r l

include hg in
theorem final_h : (dats m 0 c).arrAt 9 cfg0.N = resH (kargs m c) := by
  refine (dats m 0 c).arrAt_eq_of_covers 9 _ (by decide +kernel) fun t hf y => ?_
  blk_simp
  rw [after0_9]
  obtain ⟨r, l, rfl⟩ : ∃ (r : Fin 512) (l : Fin 1280), y = ix2 r l := ⟨y 0, y 1, (ValueIdx.eq_ix2 y)⟩
  have e : (win0_9.blk t).view.emb (ix2 r l) = ix2 (rowOf t r) l := by blk_ext [idx9 t, rowOf]
  rw [e, resH_at]
  exact (tile_at m c hg t).outHr (gates m c t) (gap_at m c hg t) _ (state_at m c hg t) r l

include hg in
theorem final_y : (dats m 0 c).arrAt 10 cfg0.N = resY (kargs m c) := by
  refine (dats m 0 c).arrAt_eq_of_covers 10 _ (by decide +kernel) fun t hf y => ?_
  blk_simp
  rw [after0_10]
  obtain ⟨r, l, rfl⟩ : ∃ (r : Fin 512) (l : Fin 1280), y = ix2 r l := ⟨y 0, y 1, (ValueIdx.eq_ix2 y)⟩
  have e : (win0_10.blk t).view.emb (ix2 r l) = ix2 (rowOf t r) l := by blk_ext [idx10 t, rowOf]
  rw [e, resY_at]
  refine ((tile_at m c hg t).outY (gates m c t) (gap_at m c hg t) _ (state_at m c hg t) r l).trans ?_
  rw [right]

end Cert.Rnnfwd

end
-- ==== Proof.RnnfwdClaims.lean ====
/- The claims about the recurrent branch's forward lines: the frames of the call at both readings and of the reference, and the
   equation of the three results (the convolution, the state, the gated output) where no gap is below the kernel's bound. -/
module

public import proofs.«01_k».proof.Defs
public import proofs.«01_k».proof.Proof.Gen.RnnfwdKernel
public import proofs.«01_k».proof.Proof.RnnfwdKernelValue

@[expose] public section

set_option maxRecDepth 8192

noncomputable section

namespace Cert.RnnfwdClaims

open Idealize.ShloMosaic Idealize.SL.Sem Cert.Rnnfwd

instance pre_facts : Cert.Pre_rnn_gap.Facts where
  bitsLt_bf16_f32 := by decide
  slices_S4096x6656_S4096x1280_0_0 := by decide
  bcast_S_S3x1280 := by decide
  concatenates_S3x1280_S4096x1280_S4099x1280_d0 := by decide
  slices_S4099x1280_S4096x1280_0_0 := by decide
  slices_S4x1280_S1x1280_0_0 := by decide
  shapeCasts_S1x1280_S1280 := by decide
  bcast_S1280_S1x1280_1 := by decide
  bcast_S1x1280_S4096x1280_0_1 := by decide
  slices_S4099x1280_S4096x1280_1_0 := by decide
  slices_S4x1280_S1x1280_1_0 := by decide
  slices_S4099x1280_S4096x1280_2_0 := by decide
  slices_S4x1280_S1x1280_2_0 := by decide
  slices_S4099x1280_S4096x1280_3_0 := by decide
  slices_S4x1280_S1x1280_3_0 := by decide
  shapeCasts_S4096x1280_S4096x20x64 := by decide
  transposes_S20x64x4096_S4096x20x64_2_0_1 := by decide
  bcast_S20x64_S1x20x64_1_2 := by decide
  bcast_S1x20x64_S4096x20x64_0_1_2 := by decide
  bcast_S_S4096x20x64 := by decide
  shapeCasts_S4096x20x64_S4096x1280 := by decide
  bcast_S_S4096x1280 := by decide
  bcast_S_S1280 := by decide
  dot_S20x64x64_S4096x20x64_S20x64x4096_1_2_2_0_0_1_wf := by decide

/-- At bit patterns a named constant is the pattern it was printed with. -/
local instance named_bits : Named Bits where
  named _ _ {φ} bits := FloatOps.ofBits φ bits

section AtBits

open Cert.RnnfwdKernelIdeal Cert.RnnfwdKernelIdeal.Gen Idealize.ShloMosaic.TcCoe

/-- The frame of the kernel with named constants, at bit patterns. -/
def AtBits : Prop := ∀ (m : (ℓ : Loc nD τ sig) → Buf (Elt Bits) ℓ) (ρ : Dev nD → PrngReg), True →
  θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem at_bits : AtBits := fun m ρ _ => run_frame (F := Bits) m ρ

end AtBits

/-- With the patterns for the names it is the kernel as printed. -/
theorem same_program : AtBits = Cert.quiescent_RnnfwdKernel := by sl_kernel_rfl

/-- The kernel runs, keeps its arguments and leaves no signal pending: at bit patterns, and at extended reals. -/
theorem frame_k : Cert.quiescent_RnnfwdKernel := same_program ▸ at_bits
theorem frame_ki : Cert.quiescent_RnnfwdKernelIdeal := fun m ρ _ => run_frame (F := Ideal) m ρ

/-- The reference runs, keeps its arguments and leaves no signal pending. -/
theorem frame_r : Cert.quiescent_RnnfwdReferenceIdeal := fun m ρ _ =>
  (θ_run Cert.RnnfwdReferenceIdeal.defs _ _).mono
    (fun r h => ⟨fun c => (h c).2.2.2, sem_eq_zero_of_no_sems (by decide) r.2⟩)
    (Cert.RnnfwdReferenceIdeal.Value.run (F := Ideal) m ρ)

/-- The frames hold under the precondition, too. -/
theorem frame_ki_gap : Cert.quiescent_RnnfwdKernelIdeal_pre_rnn_gap := fun m ρ _ => frame_ki m ρ trivial
theorem frame_r_gap : Cert.quiescent_RnnfwdReferenceIdeal_pre_rnn_gap := fun m ρ _ => frame_r m ρ trivial

/-- The constants of gelu are named for the reals they stand for. -/
theorem preserves : Cert.preserves_RnnfwdKernel_RnnfwdKernelIdeal :=
  ⟨IdealRules.named_const.statement _ _ _ _ _ (h := rfl), IdealRules.named_const.statement _ _ _ _ _ (h := rfl)⟩

section Gap

open Cert.RnnfwdReferenceIdeal Cert.RnnfwdReferenceIdeal.Gen Cert.RnnfwdReferenceIdeal.Step

variable (x0 : FVec Ideal S4096x6656 .bf16) (x1 : FVec Ideal S4x1280 .f32) (x2 : FVec Ideal S1280 .f32) (x3 : FVec Ideal S20x64x64 .f32)
  (x4 : FVec Ideal S20x64 .f32) (x5 : FVec Ideal S20x64x64 .f32) (x6 : FVec Ideal S20x64 .f32) (x7 : FVec Ideal S1280 .f32)

/-- What stands under the reference's square root. -/
theorem gap_at (n : Fin 4096) (l : Fin 1280) : A_main_v71 (F := Ideal) x0 x1 x2 x3 x4 x5 x6 x7 (ix2 n l) = (RnnfwdRef.input x0 x1 x2 x3 x4 x5 x6 x7).gap n.val l := by
  unfold A_main_v71 A_main_v70 A_main_v69 K_main_v68 K_main_cst_5
  pointwise [RnnfwdRef.loga_at, Consts.cTwo]
  rfl

/-- The precondition's operations are the reference's, up to its comparison. -/
theorem pre_eq : Cert.Pre_rnn_gap.fn (F := Ideal) x0 x1 x2 x3 x4 x5 x6 x7
    = cmpf .oge (A_main_v71 (F := Ideal) x0 x1 x2 x3 x4 x5 x6 x7)
        (broadcastInDim Cert.Pre_rnn_gap.S4096x1280 ![] Cert.Pre_rnn_gap.Facts.bcast_S_S4096x1280 (constant (F := Ideal) Cert.Pre_rnn_gap.S_ .f32 0x03AA2425#32)) := rfl

theorem of_bit {x y : EReal} (h : FloatOps.cmpf (F := Ideal) (φ := .f32) .oge x y = 1#1) : y ≤ x := by
  have h' : BitVec.ofBool (decide (y ≤ x)) = 1#1 := h
  refine of_not_not fun hn => ?_
  rw [decide_eq_false hn] at h'
  exact absurd h' (by decide)

/-- What the precondition says: no gap is below the bound. -/
theorem gap_of_pre (h : Cert.Pre_rnn_gap.fn (F := Ideal) x0 x1 x2 x3 x4 x5 x6 x7 = fun _ => 1#1) (n : Fin 4096) (l : Fin 1280) :
    (tiny : EReal) ≤ (RnnfwdRef.input x0 x1 x2 x3 x4 x5 x6 x7).gap n.val l := by
  rw [pre_eq] at h
  have e := congrFun h (ix2 n l)
  pointwise [gap_at] at e
  have e' := of_bit e
  rw [tiny_eq] at e'
  exact e'

end Gap

section Results

open Cert.RnnfwdReferenceIdeal

variable (m : (ℓ : Loc nD τ sig) → Buf (Elt Ideal) ℓ) (c : Dev nD)

/-- The reference's three arrays. -/
theorem ref_xr : (Value.out_main_v128 (RnnfwdRef.last m c) : FVec Ideal S4096x1280 .bf16) = resXr (RnnfwdRef.args m c) := by
  funext y
  rw [ValueIdx.eq_ix2 y]
  exact RnnfwdRef.out_xr m c (y 0) (y 1)
theorem ref_h : (Value.out_main_v129 (RnnfwdRef.last m c) : FVec Ideal S4096x1280 .bf16) = resH (RnnfwdRef.args m c) := by
  funext y
  rw [ValueIdx.eq_ix2 y]
  exact RnnfwdRef.out_h m c (y 0) (y 1)
theorem ref_y : (Value.out_main_v130 (RnnfwdRef.last m c) : FVec Ideal S4096x1280 .bf16) = resY (RnnfwdRef.args m c) := by
  funext y
  rw [ValueIdx.eq_ix2 y]
  exact RnnfwdRef.out_y m c (y 0) (y 1)

end Results

open Cert.RnnfwdKernelIdeal Cert.RnnfwdKernelIdeal.Gen in
/-- On agreeing arguments the kernel's three result arrays are the reference's. -/
theorem algebraic : Cert.algebraic_RnnfwdKernelIdeal_RnnfwdReferenceIdeal_pre_rnn_gap := by
  intro m g m' g' hpre hagree
  have hg : ∀ (c : Dev nD) (n : Fin 4096) (l : Fin 1280), (tiny : EReal) ≤ (kargs m c).gap n.val l := fun c n l => gap_of_pre _ _ _ _ _ _ _ _ (hpre c) n l
  have ea : ∀ c : Dev nD, RnnfwdRef.args m' c = kargs m c := fun c => by
    obtain ⟨h0, h1, h2, h3, h4, h5, h6, h7⟩ := hagree c
    unfold RnnfwdRef.args kargs arg0 arg1 arg2 arg3 arg4 arg5 arg6 arg7
    rw [h0, h1, h2, h3, h4, h5, h6, h7]
  refine ⟨fun c => resXr (kargs m c), fun c => resH (kargs m c), fun c => resY (kargs m c), ?_, ?_⟩
  · refine (θ_run defs _ _).mono (fun r h c => ?_) (θ_run_and (run_main m g) (run_frame m g))
    obtain ⟨⟨hp, _⟩, hf, _⟩ := h
    exact ⟨(hp.out_eq c 8).trans (final_xr m c (hg c)), (hp.out_eq c 9).trans (final_h m c (hg c)), (hp.out_eq c 10).trans (final_y m c (hg c)), hf c⟩
  · refine (θ_run Cert.RnnfwdReferenceIdeal.defs _ _).mono (fun r h c => ?_) (Cert.RnnfwdReferenceIdeal.Value.run (F := Ideal) m' g')
    obtain ⟨h0, h1, h2, hf⟩ := h c
    refine ⟨h0.trans ?_, h1.trans ?_, h2.trans ?_, hf⟩
    · exact (ref_xr m' c).trans (congrArg resXr (ea c))
    · exact (ref_h m' c).trans (congrArg resH (ea c))
    · exact (ref_y m' c).trans (congrArg resY (ea c))

end Cert.RnnfwdClaims

end
-- ==== Proof.NormKernelValue.lean ====
/- The forward norm's kernel: one tile of 1024 rows, and the whole result array. -/
module

public import proofs.«01_k».proof.Proof.LossRow
public import proofs.«01_k».proof.Proof.Indices
public import proofs.«01_k».proof.Proof.Gen.NormKernelIdeal.Value
public import proofs.«01_k».proof.Proof.Gen.NormReferenceIdeal.Read

@[expose] public section

noncomputable section

namespace Cert.NormValue

open Cert.NormKernelIdeal Cert.NormKernelIdeal.Gen Idealize.ShloMosaic Idealize.ShloMosaic.TcCoe

/-- A row's normed entry. -/
def entry (X : Fin 1024 → EReal) (g : EReal) (l : Fin 1024) : EReal := X l * LossRow.rs X * g

theorem pay (X : Vec Ideal S1024x1024 .f32) (G : Vec Ideal S1x1024 .f32) (r : Fin 1024) (l : Fin 1024) :
    k0_pay1 X G (ix2 r l) = entry (fun k => X (ix2 r k)) (G (ix2 0 l)) l := by
  unfold k0_pay1
  pointwise [Consts.c1024, Consts.eps_eq]
  rfl

theorem ref_at (x : FVec Ideal NormReferenceIdeal.S4096x1024 .f32) (g : FVec Ideal NormReferenceIdeal.S1024 .f32) (n : Fin 4096) (l : Fin 1024) :
    NormReferenceIdeal.Read.val_main_v13 (F := Ideal) x g (ix2 n l) = entry (fun k => x (ix2 n k)) (g (ix1 l)) l := by
  unfold NormReferenceIdeal.Read.val_main_v13 NormReferenceIdeal.Read.val_main_v12 NormReferenceIdeal.Read.val_main_v11
    NormReferenceIdeal.Read.val_main_v10 NormReferenceIdeal.Read.val_main_v9 NormReferenceIdeal.Read.val_main_v8
    NormReferenceIdeal.Read.val_main_v7 NormReferenceIdeal.Read.val_main_v6 NormReferenceIdeal.Read.val_main_v5
    NormReferenceIdeal.Read.val_main_v4 NormReferenceIdeal.Read.val_main_v3 NormReferenceIdeal.Read.val_main_v2
    NormReferenceIdeal.Read.val_main_v1 NormReferenceIdeal.Read.val_main_v0 NormReferenceIdeal.Read.val_main_cst
    NormReferenceIdeal.Read.val_main_cst_0 NormReferenceIdeal.Read.val_main_cst_1
  pointwise [Consts.c1024, Consts.eps_eq]
  rfl

variable (m : (ℓ : Loc nD τ sig) → Buf (Elt Ideal) ℓ) (c : Dev nD)

abbrev aX : FVec Ideal S4096x1024 .f32 := m ((c.tc : Thread nD τ).loc main_arg0)
abbrev aG : FVec Ideal S1024 .f32 := m ((c.tc : Thread nD τ).loc main_arg1)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- Row `r` of tile `t`. -/
def rowOf (t : Fin cfg0.N) (r : Fin 1024) : Fin 4096 := ⟨t.val * 1024 + r.val, by have := t.isLt; have h : cfg0.N = 4 := N_0; omega⟩

theorem blkX (t : Fin cfg0.N) (r : Fin 1024) (k : Fin 1024) : iblk m c 0 t (ix2 r k) = aX m c (ix2 (rowOf t r) k) := by
  blk_ext [iblk, V, idx0 t, rowOf]

theorem blkG (t : Fin cfg0.N) (k : Fin 1024) : iblk m c 1 t (ix2 0 k) = aG m c (ix1 k) := by
  blk_ext! [iblk, V, idx1 t]

theorem final : (dats m 0 c).arrAt 2 cfg0.N = NormReferenceIdeal.Read.val_main_v13 (F := Ideal) (aX m c) (aG m c) := by
  refine (dats m 0 c).arrAt_eq_of_covers 2 _ (by decide +kernel) fun t hf y => ?_
  blk_simp
  rw [after0_2]
  obtain ⟨r, l, rfl⟩ : ∃ (r : Fin 1024) (l : Fin 1024), y = ix2 r l := ⟨y 0, y 1, (ValueIdx.eq_ix2 y)⟩
  have e : (win0_2.blk t).view.emb (ix2 r l) = ix2 (rowOf t r) l := by blk_ext [idx2 t, rowOf]
  rw [e, ref_at]
  frame_out
  rw [pay, blkG]
  simp only [blkX]

end Cert.NormValue

end
-- ==== Proof.NormClaims.lean ====
/- The claims about the first norm's kernel: its frame at both readings, the reference's frame, and the equation of the
   result. -/
module

public import proofs.«01_k».proof.Defs
public import proofs.«01_k».proof.Proof.Gen.NormKernel.Frame
public import proofs.«01_k».proof.Proof.NormKernelValue

@[expose] public section

noncomputable section

namespace Cert.NormClaims

open Idealize.ShloMosaic Idealize.SL.Sem Cert.NormValue

/-- The kernel runs, keeps its arguments and leaves no signal pending: at bit patterns, and at extended reals. -/
theorem frame_k : Cert.quiescent_NormKernel := fun m ρ _ => Cert.NormKernel.Gen.frame m ρ
theorem frame_ki : Cert.quiescent_NormKernelIdeal := fun m ρ _ => Cert.NormKernelIdeal.Gen.frame m ρ

/-- The reference runs, keeps its arguments and leaves no signal pending. -/
theorem frame_r : Cert.quiescent_NormReferenceIdeal := fun m ρ _ =>
  (θ_run Cert.NormReferenceIdeal.defs _ _).mono
    (fun r h => ⟨fun c => (h c).2, sem_eq_zero_of_no_sems (by decide) r.2⟩)
    (Cert.NormReferenceIdeal.Value.run (F := Ideal) m ρ)

open Cert.NormReferenceIdeal.Read in
/-- On agreeing arguments the kernel's result array is the reference's. -/
theorem algebraic : Cert.algebraic_NormKernelIdeal_NormReferenceIdeal := by
  intro m g m' g' hpre hagree
  refine ⟨_, Cert.NormKernelIdeal.Value.run_blocks m g, ?_⟩
  refine (θ_run Cert.NormReferenceIdeal.defs _ _).mono (fun _ h c => ?_)
    (Cert.NormReferenceIdeal.Value.run (F := Ideal) m' g')
  obtain ⟨h0, h1⟩ := hagree c
  refine ⟨(h c).1.trans ?_, (h c).2⟩
  rw [val_main_v13_eq, h0, h1]
  exact (final m c).symm

end Cert.NormClaims

end
-- ==== Proof.InpfwdKernelValue.lean ====
/- The input projection's kernel: one tile of 1024 rows by a quarter of the columns, and the whole result array. -/
module

public import proofs.«01_k».proof.Proof.Consts
public import proofs.«01_k».proof.Proof.Indices
public import proofs.«01_k».proof.Proof.Gen.InpfwdKernelIdeal.Value
public import proofs.«01_k».proof.Proof.Gen.InpfwdReferenceIdeal.Read

@[expose] public section

noncomputable section

namespace Cert.InpfwdValue

open Cert.InpfwdKernelIdeal Cert.InpfwdKernelIdeal.Gen Idealize.ShloMosaic Idealize.ShloMosaic.TcCoe
open scoped BigOperators

theorem pay (H : Vec Ideal S1024x1024 .bf16) (W : Vec Ideal S1x1x1024x1664 .bf16) (r : Fin 1024) (l : Fin 1664) :
    k0_pay1 H W (ix2 r l) = ∑ k : Fin 1024, H (ix2 r k) * W (ix4 0 0 k l) := by
  unfold k0_pay1
  pointwise [Consts.cZero]
  simp

theorem ref_at (h : FVec Ideal InpfwdReferenceIdeal.S4096x1024 .bf16) (w : FVec Ideal InpfwdReferenceIdeal.S1024x6656 .f32) (n : Fin 4096) (l : Fin 6656) :
    InpfwdReferenceIdeal.Read.val_main_v2 (F := Ideal) h w (ix2 n l) = ∑ k : Fin 1024, h (ix2 n k) * w (ix2 k l) := by
  unfold InpfwdReferenceIdeal.Read.val_main_v2 InpfwdReferenceIdeal.Read.val_main_v1 InpfwdReferenceIdeal.Read.val_main_v0
  pointwise

variable (m : (ℓ : Loc nD τ sig) → Buf (Elt Ideal) ℓ) (c : Dev nD)

abbrev aH : FVec Ideal S4096x1024 .bf16 := m ((c.tc : Thread nD τ).loc main_arg0)
abbrev aW : FVec Ideal S1024x6656 .f32 := m ((c.tc : Thread nD τ).loc main_arg1)

theorem idx0 : ∀ t : Fin cfg0.N, win0_0.index t = ![t.val % 4, 0] := (by decide +kernel : ∀ t : Fin grid0.N, _)
theorem idx1 : ∀ t : Fin cfg0.N, win0_1.index t = ![0, t.val / 4, 0, 0] := (by decide +kernel : ∀ t : Fin grid0.N, _)
theorem idx2 : ∀ t : Fin cfg0.N, win0_2.index t = ![t.val % 4, t.val / 4] := (by decide +kernel : ∀ t : Fin grid0.N, _)

/-- Row `r` of point `t`'s tile, and its quarter's column `l`. -/
def rowOf (t : Fin cfg0.N) (r : Fin 1024) : Fin 4096 := ⟨t.val % 4 * 1024 + r.val, by omega⟩
def quarter (t : Fin cfg0.N) : Fin 4 := ⟨t.val / 4, by have := t.isLt; have h : cfg0.N = 16 := N_0; omega⟩
def colOf (t : Fin cfg0.N) (l : Fin 1664) : Fin 6656 := ⟨t.val / 4 * 1664 + l.val, by have := t.isLt; have h : cfg0.N = 16 := N_0; omega⟩

theorem blkH (t : Fin cfg0.N) (r k : Fin 1024) : iblk m c 0 t (ix2 r k) = aH m c (ix2 (rowOf t r) k) := by
  blk_ext [iblk, V, idx0 t, rowOf]

/-- The weights as the call takes them: quarter after quarter. -/
theorem quarters : V m c main_v3 = broadcastInDim S1x4x1024x1664 ![1, 2, 3] bcast_S4x1024x1664_S1x4x1024x1664_1_2_3
    (truncf .bf16 (transpose S4x1024x1664 [1, 0, 2] (shapeCast S1024x4x1664 (aW m c) shapeCasts_S1024x6656_S1024x4x1664)
      transposes_S1024x4x1664_S4x1024x1664_1_0_2) bitsLt_bf16_f32 : FVec Ideal S4x1024x1664 .bf16) := by
  unfold V
  simp only [List.flatten_cons, List.flatten_nil, List.append_nil, hostOps0, List.cons_append, List.nil_append]
  after_results
  rfl

theorem blkW (t : Fin cfg0.N) (k : Fin 1024) (l : Fin 1664) : iblk m c 1 t (ix4 0 0 k l) = aW m c (ix2 k (colOf t l)) := by
  have e : iblk m c 1 t (ix4 0 0 k l) = V m c main_v3 (ix4 0 (quarter t) k l) := by blk_ext [iblk, idx1 t, quarter]
  rw [e, quarters]
  pointwise
  rfl

theorem final : (dats m 0 c).arrAt 2 cfg0.N = InpfwdReferenceIdeal.Read.val_main_v2 (F := Ideal) (aH m c) (aW m c) := by
  refine (dats m 0 c).arrAt_eq_of_covers 2 _ (by decide +kernel) fun t hf y => ?_
  blk_simp
  rw [after0_2]
  obtain ⟨r, l, rfl⟩ : ∃ (r : Fin 1024) (l : Fin 1664), y = ix2 r l := ⟨y 0, y 1, (ValueIdx.eq_ix2 y)⟩
  have e : (win0_2.blk t).view.emb (ix2 r l) = ix2 (rowOf t r) (colOf t l) := by blk_ext [idx2 t, rowOf, colOf]
  rw [e, ref_at]
  frame_out
  rw [pay]
  simp only [blkH, blkW]

end Cert.InpfwdValue

end
-- ==== Proof.InpfwdClaims.lean ====
/- The claims about the input projection's kernel: its frame at both readings, the reference's frame, and the equation of the
   result. -/
module

public import proofs.«01_k».proof.Defs
public import proofs.«01_k».proof.Proof.Gen.InpfwdKernel.Frame
public import proofs.«01_k».proof.Proof.InpfwdKernelValue

@[expose] public section

noncomputable section

namespace Cert.InpfwdClaims

open Idealize.ShloMosaic Idealize.SL.Sem Cert.InpfwdValue

/-- The kernel runs, keeps its arguments and leaves no signal pending: at bit patterns, and at extended reals. -/
theorem frame_k : Cert.quiescent_InpfwdKernel := fun m ρ _ => Cert.InpfwdKernel.Gen.frame m ρ
theorem frame_ki : Cert.quiescent_InpfwdKernelIdeal := fun m ρ _ => Cert.InpfwdKernelIdeal.Gen.frame m ρ

/-- The reference runs, keeps its arguments and leaves no signal pending. -/
theorem frame_r : Cert.quiescent_InpfwdReferenceIdeal := fun m ρ _ =>
  (θ_run Cert.InpfwdReferenceIdeal.defs _ _).mono
    (fun r h => ⟨fun c => (h c).2, sem_eq_zero_of_no_sems (by decide) r.2⟩)
    (Cert.InpfwdReferenceIdeal.Value.run (F := Ideal) m ρ)

open Cert.InpfwdReferenceIdeal.Read in
/-- On agreeing arguments the kernel's result array is the reference's. -/
theorem algebraic : Cert.algebraic_InpfwdKernelIdeal_InpfwdReferenceIdeal := by
  intro m g m' g' hpre hagree
  refine ⟨_, Cert.InpfwdKernelIdeal.Value.run_blocks m g, ?_⟩
  refine (θ_run Cert.InpfwdReferenceIdeal.defs _ _).mono (fun _ h c => ?_)
    (Cert.InpfwdReferenceIdeal.Value.run (F := Ideal) m' g')
  obtain ⟨h0, h1⟩ := hagree c
  refine ⟨(h c).1.trans ?_, (h c).2⟩
  rw [val_main_v2_eq, h0, h1]
  exact (final m c).symm

end Cert.InpfwdClaims

end
-- ==== Proof.lean ====
/- The certificate's claims, assembled from the modules that prove them. -/
module

public import proofs.«01_k».proof.Defs
public import proofs.«01_k».proof.Proof.LossClaims
public import proofs.«01_k».proof.Proof.SguClaims
public import proofs.«01_k».proof.Proof.InprojClaims
public import proofs.«01_k».proof.Proof.MergeClaims
public import proofs.«01_k».proof.Proof.FfnClaims
public import proofs.«01_k».proof.Proof.SgufwdClaims
public import proofs.«01_k».proof.Proof.RnnfwdClaims
public import proofs.«01_k».proof.Proof.NormClaims
public import proofs.«01_k».proof.Proof.InpfwdClaims
public import proofs.«01_k».proof.Proof.Gen.RnnfwdReferenceIdeal.Step

@[expose] public section

noncomputable section

namespace Cert.Proof

/-- Every claim of Defs.lean. -/
theorem claim : Cert.Claim :=
  ⟨Cert.LossKernel.Gen.facts, Cert.LossKernelIdeal.Gen.facts, Cert.LossReferenceIdeal.Gen.facts,
    Cert.SguKernel.Gen.facts, Cert.SguKernelIdeal.Gen.facts, Cert.SguReferenceIdeal.Gen.facts, Cert.InprojKernel.Gen.facts, Cert.InprojKernelIdeal.Gen.facts, Cert.InprojReferenceIdeal.Gen.facts,
    Cert.MergeKernel.Gen.facts, Cert.MergeKernelIdeal.Gen.facts, Cert.MergeReferenceIdeal.Gen.facts,
    Cert.FfnKernel.Gen.facts, Cert.FfnKernelIdeal.Gen.facts, Cert.FfnReferenceIdeal.Gen.facts,
    Cert.SgufwdKernel.Gen.facts, Cert.SgufwdKernelIdeal.Gen.facts, Cert.SgufwdReferenceIdeal.Gen.facts,
    Cert.RnnfwdKernel.Gen.facts, Cert.RnnfwdKernelIdeal.Gen.facts, Cert.RnnfwdReferenceIdeal.Gen.facts,
    Cert.NormKernel.Gen.facts, Cert.NormKernelIdeal.Gen.facts, Cert.NormReferenceIdeal.Gen.facts,
    Cert.InpfwdKernel.Gen.facts, Cert.InpfwdKernelIdeal.Gen.facts, Cert.InpfwdReferenceIdeal.Gen.facts,
    SguClaims.pre_facts, RnnfwdClaims.pre_facts,
    LossClaims.frame_k, LossClaims.frame_ki, LossClaims.frame_r,
    SguClaims.frame_k, SguClaims.frame_ki, SguClaims.frame_ki_finite, SguClaims.frame_r, SguClaims.frame_r_finite,
    InprojClaims.frame_k, InprojClaims.frame_ki, InprojClaims.frame_r,
    MergeClaims.frame_k, MergeClaims.frame_ki, MergeClaims.frame_r,
    FfnClaims.frame_k, FfnClaims.frame_ki, FfnClaims.frame_r,
    SgufwdClaims.frame_k, SgufwdClaims.frame_ki, SgufwdClaims.frame_r,
    RnnfwdClaims.frame_k, RnnfwdClaims.frame_ki, RnnfwdClaims.frame_ki_gap, RnnfwdClaims.frame_r, RnnfwdClaims.frame_r_gap,
    NormClaims.frame_k, NormClaims.frame_ki, NormClaims.frame_r,
    InpfwdClaims.frame_k, InpfwdClaims.frame_ki, InpfwdClaims.frame_r,
    trivial, LossClaims.algebraic,
    SguClaims.preserves, SguClaims.algebraic,
    trivial, InprojClaims.algebraic,
    trivial, MergeClaims.algebraic,
    trivial, FfnClaims.algebraic,
    SgufwdClaims.preserves, SgufwdClaims.algebraic,
    RnnfwdClaims.preserves, RnnfwdClaims.algebraic,
    trivial, NormClaims.algebraic,
    trivial, InpfwdClaims.algebraic⟩

end Cert.Proof

end
